-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_inp_finite [hPre_inp_finite : Cert.Pre_inp_finite.Facts] (m : (ℓ : Loc Cert.InProjIdeal.nD Cert.InProjIdeal.τ Cert.InProjIdeal.sig) → Buf (Elt Ideal) ℓ) : Prop :=
  ∀ c : Dev Cert.InProjIdeal.nD,
    (Cert.Pre_inp_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_inp_finite [hPre_inp_finite : Cert.Pre_inp_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_inp_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))) = (fun _ => 1#1)

def Pre_WFfnIn (m : (ℓ : Loc Cert.WFfnIn.nD Cert.WFfnIn.τ Cert.WFfnIn.sig) → Buf (Elt Bits) ℓ) : Prop :=
  True

def Pre_WFfnInIdeal (m : (ℓ : Loc Cert.WFfnInIdeal.nD Cert.WFfnInIdeal.τ Cert.WFfnInIdeal.sig) → Buf (Elt Ideal) ℓ) : Prop :=
  True

def Pre_WFfnInRefIdeal (m : (ℓ : Loc Cert.WFfnInRefIdeal.nD Cert.WFfnInRefIdeal.τ Cert.WFfnInRefIdeal.sig) → Buf (Elt Ideal) ℓ) : Prop :=
  True

def Pre_WFfnOut (m : (ℓ : Loc Cert.WFfnOut.nD Cert.WFfnOut.τ Cert.WFfnOut.sig) → Buf (Elt Bits) ℓ) : Prop :=
  True

def Pre_WFfnOutIdeal (m : (ℓ : Loc Cert.WFfnOutIdeal.nD Cert.WFfnOutIdeal.τ Cert.WFfnOutIdeal.sig) → Buf (Elt Ideal) ℓ) : Prop :=
  True

def Pre_WFfnOutRefIdeal (m : (ℓ : Loc Cert.WFfnOutRefIdeal.nD Cert.WFfnOutRefIdeal.τ Cert.WFfnOutRefIdeal.sig) → Buf (Elt Ideal) ℓ) : Prop :=
  True

def Pre_WGates (m : (ℓ : Loc Cert.WGates.nD Cert.WGates.τ Cert.WGates.sig) → Buf (Elt Bits) ℓ) : Prop :=
  True

def Pre_WGatesIdeal (m : (ℓ : Loc Cert.WGatesIdeal.nD Cert.WGatesIdeal.τ Cert.WGatesIdeal.sig) → Buf (Elt Ideal) ℓ) : Prop :=
  True

def Pre_WGatesRefIdeal (m : (ℓ : Loc Cert.WGatesRefIdeal.nD Cert.WGatesRefIdeal.τ Cert.WGatesRefIdeal.sig) → Buf (Elt Ideal) ℓ) : Prop :=
  True

def Pre_WBranches (m : (ℓ : Loc Cert.WBranches.nD Cert.WBranches.τ Cert.WBranches.sig) → Buf (Elt Bits) ℓ) : Prop :=
  True

def Pre_WBranchesIdeal (m : (ℓ : Loc Cert.WBranchesIdeal.nD Cert.WBranchesIdeal.τ Cert.WBranchesIdeal.sig) → Buf (Elt Ideal) ℓ) : Prop :=
  True

def Pre_WBranchesRefIdeal (m : (ℓ : Loc Cert.WBranchesRefIdeal.nD Cert.WBranchesRefIdeal.τ Cert.WBranchesRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WPleGate (m : (ℓ : Loc Cert.WPleGate.nD Cert.WPleGate.τ Cert.WPleGate.sig) → Buf (Elt Bits) ℓ) : Prop :=
  True

def Pre_WPleGateIdeal (m : (ℓ : Loc Cert.WPleGateIdeal.nD Cert.WPleGateIdeal.τ Cert.WPleGateIdeal.sig) → Buf (Elt Ideal) ℓ) : Prop :=
  True

def Pre_WPleGateRefIdeal (m : (ℓ : Loc Cert.WPleGateRefIdeal.nD Cert.WPleGateRefIdeal.τ Cert.WPleGateRefIdeal.sig) → Buf (Elt Ideal) ℓ) : Prop :=
  True

def Pre_WBranch (m : (ℓ : Loc Cert.WBranch.nD Cert.WBranch.τ Cert.WBranch.sig) → Buf (Elt Bits) ℓ) : Prop :=
  True

def Pre_WBranchIdeal (m : (ℓ : Loc Cert.WBranchIdeal.nD Cert.WBranchIdeal.τ Cert.WBranchIdeal.sig) → Buf (Elt Ideal) ℓ) : Prop :=
  True

def Pre_WBranchRefIdeal (m : (ℓ : Loc Cert.WBranchRefIdeal.nD Cert.WBranchRefIdeal.τ Cert.WBranchRefIdeal.sig) → Buf (Elt Ideal) ℓ) : Prop :=
  True

def Pre_WPleProj (m : (ℓ : Loc Cert.WPleProj.nD Cert.WPleProj.τ Cert.WPleProj.sig) → Buf (Elt Bits) ℓ) : Prop :=
  True

def Pre_WPleProjIdeal (m : (ℓ : Loc Cert.WPleProjIdeal.nD Cert.WPleProjIdeal.τ Cert.WPleProjIdeal.sig) → Buf (Elt Ideal) ℓ) : Prop :=
  True

def Pre_WPleProjRefIdeal (m : (ℓ : Loc Cert.WPleProjRefIdeal.nD Cert.WPleProjRefIdeal.τ Cert.WPleProjRefIdeal.sig) → Buf (Elt Ideal) ℓ) : Prop :=
  True

def Pre_DFfnOut (m : (ℓ : Loc Cert.DFfnOut.nD Cert.DFfnOut.τ Cert.DFfnOut.sig) → Buf (Elt Bits) ℓ) : Prop :=
  True

def Pre_DFfnOutIdeal (m : (ℓ : Loc Cert.DFfnOutIdeal.nD Cert.DFfnOutIdeal.τ Cert.DFfnOutIdeal.sig) → Buf (Elt Ideal) ℓ) : Prop :=
  True

def Pre_DFfnOutRefIdeal (m : (ℓ : Loc Cert.DFfnOutRefIdeal.nD Cert.DFfnOutRefIdeal.τ Cert.DFfnOutRefIdeal.sig) → Buf (Elt Ideal) ℓ) : Prop :=
  True

def Pre_DOutProj (m : (ℓ : Loc Cert.DOutProj.nD Cert.DOutProj.τ Cert.DOutProj.sig) → Buf (Elt Bits) ℓ) : Prop :=
  True

def Pre_DOutProjIdeal (m : (ℓ : Loc Cert.DOutProjIdeal.nD Cert.DOutProjIdeal.τ Cert.DOutProjIdeal.sig) → Buf (Elt Ideal) ℓ) : Prop :=
  True

def Pre_DOutProjRefIdeal (m : (ℓ : Loc Cert.DOutProjRefIdeal.nD Cert.DOutProjRefIdeal.τ Cert.DOutProjRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdFfnIn (m : (ℓ : Loc Cert.FwdFfnIn.nD Cert.FwdFfnIn.τ Cert.FwdFfnIn.sig) → Buf (Elt Bits) ℓ) : Prop :=
  True

def Pre_FwdFfnInIdeal (m : (ℓ : Loc Cert.FwdFfnInIdeal.nD Cert.FwdFfnInIdeal.τ Cert.FwdFfnInIdeal.sig) → Buf (Elt Ideal) ℓ) : Prop :=
  True

def Pre_FwdFfnInRefIdeal (m : (ℓ : Loc Cert.FwdFfnInRefIdeal.nD Cert.FwdFfnInRefIdeal.τ Cert.FwdFfnInRefIdeal.sig) → Buf (Elt Ideal) ℓ) : Prop :=
  True

def Pre_FwdFfnOut (m : (ℓ : Loc Cert.FwdFfnOut.nD Cert.FwdFfnOut.τ Cert.FwdFfnOut.sig) → Buf (Elt Bits) ℓ) : Prop :=
  True

def Pre_FwdFfnOutIdeal (m : (ℓ : Loc Cert.FwdFfnOutIdeal.nD Cert.FwdFfnOutIdeal.τ Cert.FwdFfnOutIdeal.sig) → Buf (Elt Ideal) ℓ) : Prop :=
  True

def Pre_FwdFfnOutRefIdeal (m : (ℓ : Loc Cert.FwdFfnOutRefIdeal.nD Cert.FwdFfnOutRefIdeal.τ Cert.FwdFfnOutRefIdeal.sig) → Buf (Elt Ideal) ℓ) : Prop :=
  True

def Pre_FwdGate (m : (ℓ : Loc Cert.FwdGate.nD Cert.FwdGate.τ Cert.FwdGate.sig) → Buf (Elt Bits) ℓ) : Prop :=
  True

def Pre_FwdGateIdeal (m : (ℓ : Loc Cert.FwdGateIdeal.nD Cert.FwdGateIdeal.τ Cert.FwdGateIdeal.sig) → Buf (Elt Ideal) ℓ) : Prop :=
  True

def Pre_FwdGateRefIdeal (m : (ℓ : Loc Cert.FwdGateRefIdeal.nD Cert.FwdGateRefIdeal.τ Cert.FwdGateRefIdeal.sig) → Buf (Elt Ideal) ℓ) : Prop :=
  True

def Pre_FwdPleOut (m : (ℓ : Loc Cert.FwdPleOut.nD Cert.FwdPleOut.τ Cert.FwdPleOut.sig) → Buf (Elt Bits) ℓ) : Prop :=
  True

def Pre_FwdPleOutIdeal (m : (ℓ : Loc Cert.FwdPleOutIdeal.nD Cert.FwdPleOutIdeal.τ Cert.FwdPleOutIdeal.sig) → Buf (Elt Ideal) ℓ) : Prop :=
  True

def Pre_FwdPleOutRefIdeal (m : (ℓ : Loc Cert.FwdPleOutRefIdeal.nD Cert.FwdPleOutRefIdeal.τ Cert.FwdPleOutRefIdeal.sig) → Buf (Elt Ideal) ℓ) : Prop :=
  True

def Pre_FwdMerge (m : (ℓ : Loc Cert.FwdMerge.nD Cert.FwdMerge.τ Cert.FwdMerge.sig) → Buf (Elt Bits) ℓ) : Prop :=
  True

def Pre_FwdMergeIdeal (m : (ℓ : Loc Cert.FwdMergeIdeal.nD Cert.FwdMergeIdeal.τ Cert.FwdMergeIdeal.sig) → Buf (Elt Ideal) ℓ) : Prop :=
  True

def Pre_FwdMergeRefIdeal (m : (ℓ : Loc Cert.FwdMergeRefIdeal.nD Cert.FwdMergeRefIdeal.τ Cert.FwdMergeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FwdConv (m : (ℓ : Loc Cert.FwdConv.nD Cert.FwdConv.τ Cert.FwdConv.sig) → Buf (Elt Bits) ℓ) : Prop :=
  True

def Pre_FwdConvIdeal (m : (ℓ : Loc Cert.FwdConvIdeal.nD Cert.FwdConvIdeal.τ Cert.FwdConvIdeal.sig) → Buf (Elt Ideal) ℓ) : Prop :=
  True

def Pre_FwdConvRefIdeal (m : (ℓ : Loc Cert.FwdConvRefIdeal.nD Cert.FwdConvRefIdeal.τ Cert.FwdConvRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjIdeal_pre_inp_finite [hInProjIdeal : Cert.InProjIdeal.Facts] [hPre_inp_finite : Cert.Pre_inp_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_inp_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_InProjRefIdeal_pre_inp_finite [hInProjRefIdeal : Cert.InProjRefIdeal.Facts] [hPre_inp_finite : Cert.Pre_inp_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_inp_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_WFfnIn [hWFfnIn : Cert.WFfnIn.Facts] : Prop :=
  ∀ (m : (ℓ : Loc Cert.WFfnIn.nD Cert.WFfnIn.τ Cert.WFfnIn.sig) → Buf (Elt Bits) ℓ) (g : Dev Cert.WFfnIn.nD → PrngReg), Pre_WFfnIn m →
    θ_run (Cert.WFfnIn.defs (F := Bits)) (onTc (τ := Cert.WFfnIn.τ) (Cert.WFfnIn.main (F := Bits))) ⟨m, fun _ => 0, g⟩ (fun r => (∀ c : Dev Cert.WFfnIn.nD,
      r.2.mem ((c.tc : Thread Cert.WFfnIn.nD Cert.WFfnIn.τ).loc Cert.WFfnIn.main_arg0) = m ((c.tc : Thread Cert.WFfnIn.nD Cert.WFfnIn.τ).loc Cert.WFfnIn.main_arg0)
      ∧ r.2.mem ((c.tc : Thread Cert.WFfnIn.nD Cert.WFfnIn.τ).loc Cert.WFfnIn.main_arg1) = m ((c.tc : Thread Cert.WFfnIn.nD Cert.WFfnIn.τ).loc Cert.WFfnIn.main_arg1))
      ∧ r.2.sem = fun _ => 0)

def quiescent_WFfnInIdeal [hWFfnInIdeal : Cert.WFfnInIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg), Pre_WFfnInIdeal m →
    θ_run (Cert.WFfnInIdeal.defs (F := Ideal)) (onTc (τ := Cert.WFfnInIdeal.τ) (Cert.WFfnInIdeal.main (F := Ideal))) ⟨m, fun _ => 0, g⟩ (fun r => (∀ c : Dev Cert.WFfnInIdeal.nD,
      r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
      ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ r.2.sem = fun _ => 0)

def quiescent_WFfnInRefIdeal [hWFfnInRefIdeal : Cert.WFfnInRefIdeal.Facts] : Prop :=
  ∀ (m : (ℓ : Loc Cert.WFfnInRefIdeal.nD Cert.WFfnInRefIdeal.τ Cert.WFfnInRefIdeal.sig) → Buf (Elt Ideal) ℓ) (g : Dev Cert.WFfnInRefIdeal.nD → PrngReg), Pre_WFfnInRefIdeal m →
    θ_run (Cert.WFfnInRefIdeal.defs (F := Ideal)) (onTc (τ := Cert.WFfnInRefIdeal.τ) (Cert.WFfnInRefIdeal.main (F := Ideal))) ⟨m, fun _ => 0, g⟩ (fun r => (∀ c : Dev Cert.WFfnInRefIdeal.nD,
      r.2.mem ((c.tc : Thread Cert.WFfnInRefIdeal.nD Cert.WFfnInRefIdeal.τ).loc Cert.WFfnInRefIdeal.main_arg0) = m ((c.tc : Thread Cert.WFfnInRefIdeal.nD Cert.WFfnInRefIdeal.τ).loc Cert.WFfnInRefIdeal.main_arg0)
      ∧ r.2.mem ((c.tc : Thread Cert.WFfnInRefIdeal.nD Cert.WFfnInRefIdeal.τ).loc Cert.WFfnInRefIdeal.main_arg1) = m ((c.tc : Thread Cert.WFfnInRefIdeal.nD Cert.WFfnInRefIdeal.τ).loc Cert.WFfnInRefIdeal.main_arg1))
      ∧ r.2.sem = fun _ => 0)

def quiescent_WFfnOut [hWFfnOut : Cert.WFfnOut.Facts] : Prop :=
  ∀ (m : (ℓ : Loc Cert.WFfnOut.nD Cert.WFfnOut.τ Cert.WFfnOut.sig) → Buf (Elt Bits) ℓ) (g : Dev Cert.WFfnOut.nD → PrngReg), Pre_WFfnOut m →
    θ_run (Cert.WFfnOut.defs (F := Bits)) (onTc (τ := Cert.WFfnOut.τ) (Cert.WFfnOut.main (F := Bits))) ⟨m, fun _ => 0, g⟩ (fun r => (∀ c : Dev Cert.WFfnOut.nD,
      r.2.mem ((c.tc : Thread Cert.WFfnOut.nD Cert.WFfnOut.τ).loc Cert.WFfnOut.main_arg0) = m ((c.tc : Thread Cert.WFfnOut.nD Cert.WFfnOut.τ).loc Cert.WFfnOut.main_arg0)
      ∧ r.2.mem ((c.tc : Thread Cert.WFfnOut.nD Cert.WFfnOut.τ).loc Cert.WFfnOut.main_arg1) = m ((c.tc : Thread Cert.WFfnOut.nD Cert.WFfnOut.τ).loc Cert.WFfnOut.main_arg1))
      ∧ r.2.sem = fun _ => 0)

def quiescent_WFfnOutIdeal [hWFfnOutIdeal : Cert.WFfnOutIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg), Pre_WFfnOutIdeal m →
    θ_run (Cert.WFfnOutIdeal.defs (F := Ideal)) (onTc (τ := Cert.WFfnOutIdeal.τ) (Cert.WFfnOutIdeal.main (F := Ideal))) ⟨m, fun _ => 0, g⟩ (fun r => (∀ c : Dev Cert.WFfnOutIdeal.nD,
      r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
      ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ r.2.sem = fun _ => 0)

def quiescent_WFfnOutRefIdeal [hWFfnOutRefIdeal : Cert.WFfnOutRefIdeal.Facts] : Prop :=
  ∀ (m : (ℓ : Loc Cert.WFfnOutRefIdeal.nD Cert.WFfnOutRefIdeal.τ Cert.WFfnOutRefIdeal.sig) → Buf (Elt Ideal) ℓ) (g : Dev Cert.WFfnOutRefIdeal.nD → PrngReg), Pre_WFfnOutRefIdeal m →
    θ_run (Cert.WFfnOutRefIdeal.defs (F := Ideal)) (onTc (τ := Cert.WFfnOutRefIdeal.τ) (Cert.WFfnOutRefIdeal.main (F := Ideal))) ⟨m, fun _ => 0, g⟩ (fun r => (∀ c : Dev Cert.WFfnOutRefIdeal.nD,
      r.2.mem ((c.tc : Thread Cert.WFfnOutRefIdeal.nD Cert.WFfnOutRefIdeal.τ).loc Cert.WFfnOutRefIdeal.main_arg0) = m ((c.tc : Thread Cert.WFfnOutRefIdeal.nD Cert.WFfnOutRefIdeal.τ).loc Cert.WFfnOutRefIdeal.main_arg0)
      ∧ r.2.mem ((c.tc : Thread Cert.WFfnOutRefIdeal.nD Cert.WFfnOutRefIdeal.τ).loc Cert.WFfnOutRefIdeal.main_arg1) = m ((c.tc : Thread Cert.WFfnOutRefIdeal.nD Cert.WFfnOutRefIdeal.τ).loc Cert.WFfnOutRefIdeal.main_arg1))
      ∧ r.2.sem = fun _ => 0)

def quiescent_WGates [hWGates : Cert.WGates.Facts] : Prop :=
  ∀ (m : (ℓ : Loc Cert.WGates.nD Cert.WGates.τ Cert.WGates.sig) → Buf (Elt Bits) ℓ) (g : Dev Cert.WGates.nD → PrngReg), Pre_WGates m →
    θ_run (Cert.WGates.defs (F := Bits)) (onTc (τ := Cert.WGates.τ) (Cert.WGates.main (F := Bits))) ⟨m, fun _ => 0, g⟩ (fun r => (∀ c : Dev Cert.WGates.nD,
      r.2.mem ((c.tc : Thread Cert.WGates.nD Cert.WGates.τ).loc Cert.WGates.main_arg0) = m ((c.tc : Thread Cert.WGates.nD Cert.WGates.τ).loc Cert.WGates.main_arg0)
      ∧ r.2.mem ((c.tc : Thread Cert.WGates.nD Cert.WGates.τ).loc Cert.WGates.main_arg1) = m ((c.tc : Thread Cert.WGates.nD Cert.WGates.τ).loc Cert.WGates.main_arg1)
      ∧ r.2.mem ((c.tc : Thread Cert.WGates.nD Cert.WGates.τ).loc Cert.WGates.main_arg2) = m ((c.tc : Thread Cert.WGates.nD Cert.WGates.τ).loc Cert.WGates.main_arg2)
      ∧ r.2.mem ((c.tc : Thread Cert.WGates.nD Cert.WGates.τ).loc Cert.WGates.main_arg3) = m ((c.tc : Thread Cert.WGates.nD Cert.WGates.τ).loc Cert.WGates.main_arg3))
      ∧ r.2.sem = fun _ => 0)

def quiescent_WGatesIdeal [hWGatesIdeal : Cert.WGatesIdeal.Facts] : Prop :=
  ∀ (m : (ℓ : Loc Cert.WGatesIdeal.nD Cert.WGatesIdeal.τ Cert.WGatesIdeal.sig) → Buf (Elt Ideal) ℓ) (g : Dev Cert.WGatesIdeal.nD → PrngReg), Pre_WGatesIdeal m →
    θ_run (Cert.WGatesIdeal.defs (F := Ideal)) (onTc (τ := Cert.WGatesIdeal.τ) (Cert.WGatesIdeal.main (F := Ideal))) ⟨m, fun _ => 0, g⟩ (fun r => (∀ c : Dev Cert.WGatesIdeal.nD,
      r.2.mem ((c.tc : Thread Cert.WGatesIdeal.nD Cert.WGatesIdeal.τ).loc Cert.WGatesIdeal.main_arg0) = m ((c.tc : Thread Cert.WGatesIdeal.nD Cert.WGatesIdeal.τ).loc Cert.WGatesIdeal.main_arg0)
      ∧ r.2.mem ((c.tc : Thread Cert.WGatesIdeal.nD Cert.WGatesIdeal.τ).loc Cert.WGatesIdeal.main_arg1) = m ((c.tc : Thread Cert.WGatesIdeal.nD Cert.WGatesIdeal.τ).loc Cert.WGatesIdeal.main_arg1)
      ∧ r.2.mem ((c.tc : Thread Cert.WGatesIdeal.nD Cert.WGatesIdeal.τ).loc Cert.WGatesIdeal.main_arg2) = m ((c.tc : Thread Cert.WGatesIdeal.nD Cert.WGatesIdeal.τ).loc Cert.WGatesIdeal.main_arg2)
      ∧ r.2.mem ((c.tc : Thread Cert.WGatesIdeal.nD Cert.WGatesIdeal.τ).loc Cert.WGatesIdeal.main_arg3) = m ((c.tc : Thread Cert.WGatesIdeal.nD Cert.WGatesIdeal.τ).loc Cert.WGatesIdeal.main_arg3))
      ∧ r.2.sem = fun _ => 0)

def quiescent_WGatesRefIdeal [hWGatesRefIdeal : Cert.WGatesRefIdeal.Facts] : Prop :=
  ∀ (m : (ℓ : Loc Cert.WGatesRefIdeal.nD Cert.WGatesRefIdeal.τ Cert.WGatesRefIdeal.sig) → Buf (Elt Ideal) ℓ) (g : Dev Cert.WGatesRefIdeal.nD → PrngReg), Pre_WGatesRefIdeal m →
    θ_run (Cert.WGatesRefIdeal.defs (F := Ideal)) (onTc (τ := Cert.WGatesRefIdeal.τ) (Cert.WGatesRefIdeal.main (F := Ideal))) ⟨m, fun _ => 0, g⟩ (fun r => (∀ c : Dev Cert.WGatesRefIdeal.nD,
      r.2.mem ((c.tc : Thread Cert.WGatesRefIdeal.nD Cert.WGatesRefIdeal.τ).loc Cert.WGatesRefIdeal.main_arg0) = m ((c.tc : Thread Cert.WGatesRefIdeal.nD Cert.WGatesRefIdeal.τ).loc Cert.WGatesRefIdeal.main_arg0)
      ∧ r.2.mem ((c.tc : Thread Cert.WGatesRefIdeal.nD Cert.WGatesRefIdeal.τ).loc Cert.WGatesRefIdeal.main_arg1) = m ((c.tc : Thread Cert.WGatesRefIdeal.nD Cert.WGatesRefIdeal.τ).loc Cert.WGatesRefIdeal.main_arg1)
      ∧ r.2.mem ((c.tc : Thread Cert.WGatesRefIdeal.nD Cert.WGatesRefIdeal.τ).loc Cert.WGatesRefIdeal.main_arg2) = m ((c.tc : Thread Cert.WGatesRefIdeal.nD Cert.WGatesRefIdeal.τ).loc Cert.WGatesRefIdeal.main_arg2)
      ∧ r.2.mem ((c.tc : Thread Cert.WGatesRefIdeal.nD Cert.WGatesRefIdeal.τ).loc Cert.WGatesRefIdeal.main_arg3) = m ((c.tc : Thread Cert.WGatesRefIdeal.nD Cert.WGatesRefIdeal.τ).loc Cert.WGatesRefIdeal.main_arg3))
      ∧ r.2.sem = fun _ => 0)

def quiescent_WBranches [hWBranches : Cert.WBranches.Facts] : Prop :=
  ∀ (m : (ℓ : Loc Cert.WBranches.nD Cert.WBranches.τ Cert.WBranches.sig) → Buf (Elt Bits) ℓ) (g : Dev Cert.WBranches.nD → PrngReg), Pre_WBranches m →
    θ_run (Cert.WBranches.defs (F := Bits)) (onTc (τ := Cert.WBranches.τ) (Cert.WBranches.main (F := Bits))) ⟨m, fun _ => 0, g⟩ (fun r => (∀ c : Dev Cert.WBranches.nD,
      r.2.mem ((c.tc : Thread Cert.WBranches.nD Cert.WBranches.τ).loc Cert.WBranches.main_arg0) = m ((c.tc : Thread Cert.WBranches.nD Cert.WBranches.τ).loc Cert.WBranches.main_arg0)
      ∧ r.2.mem ((c.tc : Thread Cert.WBranches.nD Cert.WBranches.τ).loc Cert.WBranches.main_arg1) = m ((c.tc : Thread Cert.WBranches.nD Cert.WBranches.τ).loc Cert.WBranches.main_arg1)
      ∧ r.2.mem ((c.tc : Thread Cert.WBranches.nD Cert.WBranches.τ).loc Cert.WBranches.main_arg2) = m ((c.tc : Thread Cert.WBranches.nD Cert.WBranches.τ).loc Cert.WBranches.main_arg2)
      ∧ r.2.mem ((c.tc : Thread Cert.WBranches.nD Cert.WBranches.τ).loc Cert.WBranches.main_arg3) = m ((c.tc : Thread Cert.WBranches.nD Cert.WBranches.τ).loc Cert.WBranches.main_arg3)
      ∧ r.2.mem ((c.tc : Thread Cert.WBranches.nD Cert.WBranches.τ).loc Cert.WBranches.main_arg4) = m ((c.tc : Thread Cert.WBranches.nD Cert.WBranches.τ).loc Cert.WBranches.main_arg4))
      ∧ r.2.sem = fun _ => 0)

def quiescent_WBranchesIdeal [hWBranchesIdeal : Cert.WBranchesIdeal.Facts] : Prop :=
  ∀ (m : (ℓ : Loc Cert.WBranchesIdeal.nD Cert.WBranchesIdeal.τ Cert.WBranchesIdeal.sig) → Buf (Elt Ideal) ℓ) (g : Dev Cert.WBranchesIdeal.nD → PrngReg), Pre_WBranchesIdeal m →
    θ_run (Cert.WBranchesIdeal.defs (F := Ideal)) (onTc (τ := Cert.WBranchesIdeal.τ) (Cert.WBranchesIdeal.main (F := Ideal))) ⟨m, fun _ => 0, g⟩ (fun r => (∀ c : Dev Cert.WBranchesIdeal.nD,
      r.2.mem ((c.tc : Thread Cert.WBranchesIdeal.nD Cert.WBranchesIdeal.τ).loc Cert.WBranchesIdeal.main_arg0) = m ((c.tc : Thread Cert.WBranchesIdeal.nD Cert.WBranchesIdeal.τ).loc Cert.WBranchesIdeal.main_arg0)
      ∧ r.2.mem ((c.tc : Thread Cert.WBranchesIdeal.nD Cert.WBranchesIdeal.τ).loc Cert.WBranchesIdeal.main_arg1) = m ((c.tc : Thread Cert.WBranchesIdeal.nD Cert.WBranchesIdeal.τ).loc Cert.WBranchesIdeal.main_arg1)
      ∧ r.2.mem ((c.tc : Thread Cert.WBranchesIdeal.nD Cert.WBranchesIdeal.τ).loc Cert.WBranchesIdeal.main_arg2) = m ((c.tc : Thread Cert.WBranchesIdeal.nD Cert.WBranchesIdeal.τ).loc Cert.WBranchesIdeal.main_arg2)
      ∧ r.2.mem ((c.tc : Thread Cert.WBranchesIdeal.nD Cert.WBranchesIdeal.τ).loc Cert.WBranchesIdeal.main_arg3) = m ((c.tc : Thread Cert.WBranchesIdeal.nD Cert.WBranchesIdeal.τ).loc Cert.WBranchesIdeal.main_arg3)
      ∧ r.2.mem ((c.tc : Thread Cert.WBranchesIdeal.nD Cert.WBranchesIdeal.τ).loc Cert.WBranchesIdeal.main_arg4) = m ((c.tc : Thread Cert.WBranchesIdeal.nD Cert.WBranchesIdeal.τ).loc Cert.WBranchesIdeal.main_arg4))
      ∧ r.2.sem = fun _ => 0)

def quiescent_WBranchesRefIdeal [hWBranchesRefIdeal : Cert.WBranchesRefIdeal.Facts] : Prop :=
  ∀ (m : (ℓ : Loc Cert.WBranchesRefIdeal.nD Cert.WBranchesRefIdeal.τ Cert.WBranchesRefIdeal.sig) → Buf (Elt Ideal) ℓ) (g : Dev Cert.WBranchesRefIdeal.nD → PrngReg), Pre_WBranchesRefIdeal m →
    θ_run (Cert.WBranchesRefIdeal.defs (F := Ideal)) (onTc (τ := Cert.WBranchesRefIdeal.τ) (Cert.WBranchesRefIdeal.main (F := Ideal))) ⟨m, fun _ => 0, g⟩ (fun r => (∀ c : Dev Cert.WBranchesRefIdeal.nD,
      r.2.mem ((c.tc : Thread Cert.WBranchesRefIdeal.nD Cert.WBranchesRefIdeal.τ).loc Cert.WBranchesRefIdeal.main_arg0) = m ((c.tc : Thread Cert.WBranchesRefIdeal.nD Cert.WBranchesRefIdeal.τ).loc Cert.WBranchesRefIdeal.main_arg0)
      ∧ r.2.mem ((c.tc : Thread Cert.WBranchesRefIdeal.nD Cert.WBranchesRefIdeal.τ).loc Cert.WBranchesRefIdeal.main_arg1) = m ((c.tc : Thread Cert.WBranchesRefIdeal.nD Cert.WBranchesRefIdeal.τ).loc Cert.WBranchesRefIdeal.main_arg1)
      ∧ r.2.mem ((c.tc : Thread Cert.WBranchesRefIdeal.nD Cert.WBranchesRefIdeal.τ).loc Cert.WBranchesRefIdeal.main_arg2) = m ((c.tc : Thread Cert.WBranchesRefIdeal.nD Cert.WBranchesRefIdeal.τ).loc Cert.WBranchesRefIdeal.main_arg2)
      ∧ r.2.mem ((c.tc : Thread Cert.WBranchesRefIdeal.nD Cert.WBranchesRefIdeal.τ).loc Cert.WBranchesRefIdeal.main_arg3) = m ((c.tc : Thread Cert.WBranchesRefIdeal.nD Cert.WBranchesRefIdeal.τ).loc Cert.WBranchesRefIdeal.main_arg3)
      ∧ r.2.mem ((c.tc : Thread Cert.WBranchesRefIdeal.nD Cert.WBranchesRefIdeal.τ).loc Cert.WBranchesRefIdeal.main_arg4) = m ((c.tc : Thread Cert.WBranchesRefIdeal.nD Cert.WBranchesRefIdeal.τ).loc Cert.WBranchesRefIdeal.main_arg4))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WPleGate [hWPleGate : Cert.WPleGate.Facts] : Prop :=
  ∀ (m : (ℓ : Loc Cert.WPleGate.nD Cert.WPleGate.τ Cert.WPleGate.sig) → Buf (Elt Bits) ℓ) (g : Dev Cert.WPleGate.nD → PrngReg), Pre_WPleGate m →
    θ_run (Cert.WPleGate.defs (F := Bits)) (onTc (τ := Cert.WPleGate.τ) (Cert.WPleGate.main (F := Bits))) ⟨m, fun _ => 0, g⟩ (fun r => (∀ c : Dev Cert.WPleGate.nD,
      r.2.mem ((c.tc : Thread Cert.WPleGate.nD Cert.WPleGate.τ).loc Cert.WPleGate.main_arg0) = m ((c.tc : Thread Cert.WPleGate.nD Cert.WPleGate.τ).loc Cert.WPleGate.main_arg0)
      ∧ r.2.mem ((c.tc : Thread Cert.WPleGate.nD Cert.WPleGate.τ).loc Cert.WPleGate.main_arg1) = m ((c.tc : Thread Cert.WPleGate.nD Cert.WPleGate.τ).loc Cert.WPleGate.main_arg1))
      ∧ r.2.sem = fun _ => 0)

def quiescent_WPleGateIdeal [hWPleGateIdeal : Cert.WPleGateIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg), Pre_WPleGateIdeal m →
    θ_run (Cert.WPleGateIdeal.defs (F := Ideal)) (onTc (τ := Cert.WPleGateIdeal.τ) (Cert.WPleGateIdeal.main (F := Ideal))) ⟨m, fun _ => 0, g⟩ (fun r => (∀ c : Dev Cert.WPleGateIdeal.nD,
      r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
      ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ r.2.sem = fun _ => 0)

def quiescent_WPleGateRefIdeal [hWPleGateRefIdeal : Cert.WPleGateRefIdeal.Facts] : Prop :=
  ∀ (m : (ℓ : Loc Cert.WPleGateRefIdeal.nD Cert.WPleGateRefIdeal.τ Cert.WPleGateRefIdeal.sig) → Buf (Elt Ideal) ℓ) (g : Dev Cert.WPleGateRefIdeal.nD → PrngReg), Pre_WPleGateRefIdeal m →
    θ_run (Cert.WPleGateRefIdeal.defs (F := Ideal)) (onTc (τ := Cert.WPleGateRefIdeal.τ) (Cert.WPleGateRefIdeal.main (F := Ideal))) ⟨m, fun _ => 0, g⟩ (fun r => (∀ c : Dev Cert.WPleGateRefIdeal.nD,
      r.2.mem ((c.tc : Thread Cert.WPleGateRefIdeal.nD Cert.WPleGateRefIdeal.τ).loc Cert.WPleGateRefIdeal.main_arg0) = m ((c.tc : Thread Cert.WPleGateRefIdeal.nD Cert.WPleGateRefIdeal.τ).loc Cert.WPleGateRefIdeal.main_arg0)
      ∧ r.2.mem ((c.tc : Thread Cert.WPleGateRefIdeal.nD Cert.WPleGateRefIdeal.τ).loc Cert.WPleGateRefIdeal.main_arg1) = m ((c.tc : Thread Cert.WPleGateRefIdeal.nD Cert.WPleGateRefIdeal.τ).loc Cert.WPleGateRefIdeal.main_arg1))
      ∧ r.2.sem = fun _ => 0)

def quiescent_WBranch [hWBranch : Cert.WBranch.Facts] : Prop :=
  ∀ (m : (ℓ : Loc Cert.WBranch.nD Cert.WBranch.τ Cert.WBranch.sig) → Buf (Elt Bits) ℓ) (g : Dev Cert.WBranch.nD → PrngReg), Pre_WBranch m →
    θ_run (Cert.WBranch.defs (F := Bits)) (onTc (τ := Cert.WBranch.τ) (Cert.WBranch.main (F := Bits))) ⟨m, fun _ => 0, g⟩ (fun r => (∀ c : Dev Cert.WBranch.nD,
      r.2.mem ((c.tc : Thread Cert.WBranch.nD Cert.WBranch.τ).loc Cert.WBranch.main_arg0) = m ((c.tc : Thread Cert.WBranch.nD Cert.WBranch.τ).loc Cert.WBranch.main_arg0)
      ∧ r.2.mem ((c.tc : Thread Cert.WBranch.nD Cert.WBranch.τ).loc Cert.WBranch.main_arg1) = m ((c.tc : Thread Cert.WBranch.nD Cert.WBranch.τ).loc Cert.WBranch.main_arg1))
      ∧ r.2.sem = fun _ => 0)

def quiescent_WBranchIdeal [hWBranchIdeal : Cert.WBranchIdeal.Facts] : Prop :=
  ∀ (m : (ℓ : Loc Cert.WBranchIdeal.nD Cert.WBranchIdeal.τ Cert.WBranchIdeal.sig) → Buf (Elt Ideal) ℓ) (g : Dev Cert.WBranchIdeal.nD → PrngReg), Pre_WBranchIdeal m →
    θ_run (Cert.WBranchIdeal.defs (F := Ideal)) (onTc (τ := Cert.WBranchIdeal.τ) (Cert.WBranchIdeal.main (F := Ideal))) ⟨m, fun _ => 0, g⟩ (fun r => (∀ c : Dev Cert.WBranchIdeal.nD,
      r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
      ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ r.2.sem = fun _ => 0)

def quiescent_WBranchRefIdeal [hWBranchRefIdeal : Cert.WBranchRefIdeal.Facts] : Prop :=
  ∀ (m : (ℓ : Loc Cert.WBranchRefIdeal.nD Cert.WBranchRefIdeal.τ Cert.WBranchRefIdeal.sig) → Buf (Elt Ideal) ℓ) (g : Dev Cert.WBranchRefIdeal.nD → PrngReg), Pre_WBranchRefIdeal m →
    θ_run (Cert.WBranchRefIdeal.defs (F := Ideal)) (onTc (τ := Cert.WBranchRefIdeal.τ) (Cert.WBranchRefIdeal.main (F := Ideal))) ⟨m, fun _ => 0, g⟩ (fun r => (∀ c : Dev Cert.WBranchRefIdeal.nD,
      r.2.mem ((c.tc : Thread Cert.WBranchRefIdeal.nD Cert.WBranchRefIdeal.τ).loc Cert.WBranchRefIdeal.main_arg0) = m ((c.tc : Thread Cert.WBranchRefIdeal.nD Cert.WBranchRefIdeal.τ).loc Cert.WBranchRefIdeal.main_arg0)
      ∧ r.2.mem ((c.tc : Thread Cert.WBranchRefIdeal.nD Cert.WBranchRefIdeal.τ).loc Cert.WBranchRefIdeal.main_arg1) = m ((c.tc : Thread Cert.WBranchRefIdeal.nD Cert.WBranchRefIdeal.τ).loc Cert.WBranchRefIdeal.main_arg1))
      ∧ r.2.sem = fun _ => 0)

def quiescent_WPleProj [hWPleProj : Cert.WPleProj.Facts] : Prop :=
  ∀ (m : (ℓ : Loc Cert.WPleProj.nD Cert.WPleProj.τ Cert.WPleProj.sig) → Buf (Elt Bits) ℓ) (g : Dev Cert.WPleProj.nD → PrngReg), Pre_WPleProj m →
    θ_run (Cert.WPleProj.defs (F := Bits)) (onTc (τ := Cert.WPleProj.τ) (Cert.WPleProj.main (F := Bits))) ⟨m, fun _ => 0, g⟩ (fun r => (∀ c : Dev Cert.WPleProj.nD,
      r.2.mem ((c.tc : Thread Cert.WPleProj.nD Cert.WPleProj.τ).loc Cert.WPleProj.main_arg0) = m ((c.tc : Thread Cert.WPleProj.nD Cert.WPleProj.τ).loc Cert.WPleProj.main_arg0)
      ∧ r.2.mem ((c.tc : Thread Cert.WPleProj.nD Cert.WPleProj.τ).loc Cert.WPleProj.main_arg1) = m ((c.tc : Thread Cert.WPleProj.nD Cert.WPleProj.τ).loc Cert.WPleProj.main_arg1))
      ∧ r.2.sem = fun _ => 0)

def quiescent_WPleProjIdeal [hWPleProjIdeal : Cert.WPleProjIdeal.Facts] : Prop :=
  ∀ (m : (ℓ : Loc Cert.WPleProjIdeal.nD Cert.WPleProjIdeal.τ Cert.WPleProjIdeal.sig) → Buf (Elt Ideal) ℓ) (g : Dev Cert.WPleProjIdeal.nD → PrngReg), Pre_WPleProjIdeal m →
    θ_run (Cert.WPleProjIdeal.defs (F := Ideal)) (onTc (τ := Cert.WPleProjIdeal.τ) (Cert.WPleProjIdeal.main (F := Ideal))) ⟨m, fun _ => 0, g⟩ (fun r => (∀ c : Dev Cert.WPleProjIdeal.nD,
      r.2.mem ((c.tc : Thread Cert.WPleProjIdeal.nD Cert.WPleProjIdeal.τ).loc Cert.WPleProjIdeal.main_arg0) = m ((c.tc : Thread Cert.WPleProjIdeal.nD Cert.WPleProjIdeal.τ).loc Cert.WPleProjIdeal.main_arg0)
      ∧ r.2.mem ((c.tc : Thread Cert.WPleProjIdeal.nD Cert.WPleProjIdeal.τ).loc Cert.WPleProjIdeal.main_arg1) = m ((c.tc : Thread Cert.WPleProjIdeal.nD Cert.WPleProjIdeal.τ).loc Cert.WPleProjIdeal.main_arg1))
      ∧ r.2.sem = fun _ => 0)

def quiescent_WPleProjRefIdeal [hWPleProjRefIdeal : Cert.WPleProjRefIdeal.Facts] : Prop :=
  ∀ (m : (ℓ : Loc Cert.WPleProjRefIdeal.nD Cert.WPleProjRefIdeal.τ Cert.WPleProjRefIdeal.sig) → Buf (Elt Ideal) ℓ) (g : Dev Cert.WPleProjRefIdeal.nD → PrngReg), Pre_WPleProjRefIdeal m →
    θ_run (Cert.WPleProjRefIdeal.defs (F := Ideal)) (onTc (τ := Cert.WPleProjRefIdeal.τ) (Cert.WPleProjRefIdeal.main (F := Ideal))) ⟨m, fun _ => 0, g⟩ (fun r => (∀ c : Dev Cert.WPleProjRefIdeal.nD,
      r.2.mem ((c.tc : Thread Cert.WPleProjRefIdeal.nD Cert.WPleProjRefIdeal.τ).loc Cert.WPleProjRefIdeal.main_arg0) = m ((c.tc : Thread Cert.WPleProjRefIdeal.nD Cert.WPleProjRefIdeal.τ).loc Cert.WPleProjRefIdeal.main_arg0)
      ∧ r.2.mem ((c.tc : Thread Cert.WPleProjRefIdeal.nD Cert.WPleProjRefIdeal.τ).loc Cert.WPleProjRefIdeal.main_arg1) = m ((c.tc : Thread Cert.WPleProjRefIdeal.nD Cert.WPleProjRefIdeal.τ).loc Cert.WPleProjRefIdeal.main_arg1))
      ∧ r.2.sem = fun _ => 0)

def quiescent_DFfnOut [hDFfnOut : Cert.DFfnOut.Facts] : Prop :=
  ∀ (m : (ℓ : Loc Cert.DFfnOut.nD Cert.DFfnOut.τ Cert.DFfnOut.sig) → Buf (Elt Bits) ℓ) (g : Dev Cert.DFfnOut.nD → PrngReg), Pre_DFfnOut m →
    θ_run (Cert.DFfnOut.defs (F := Bits)) (onTc (τ := Cert.DFfnOut.τ) (Cert.DFfnOut.main (F := Bits))) ⟨m, fun _ => 0, g⟩ (fun r => (∀ c : Dev Cert.DFfnOut.nD,
      r.2.mem ((c.tc : Thread Cert.DFfnOut.nD Cert.DFfnOut.τ).loc Cert.DFfnOut.main_arg0) = m ((c.tc : Thread Cert.DFfnOut.nD Cert.DFfnOut.τ).loc Cert.DFfnOut.main_arg0)
      ∧ r.2.mem ((c.tc : Thread Cert.DFfnOut.nD Cert.DFfnOut.τ).loc Cert.DFfnOut.main_arg1) = m ((c.tc : Thread Cert.DFfnOut.nD Cert.DFfnOut.τ).loc Cert.DFfnOut.main_arg1))
      ∧ r.2.sem = fun _ => 0)

def quiescent_DFfnOutIdeal [hDFfnOutIdeal : Cert.DFfnOutIdeal.Facts] : Prop :=
  ∀ (m : (ℓ : Loc Cert.DFfnOutIdeal.nD Cert.DFfnOutIdeal.τ Cert.DFfnOutIdeal.sig) → Buf (Elt Ideal) ℓ) (g : Dev Cert.DFfnOutIdeal.nD → PrngReg), Pre_DFfnOutIdeal m →
    θ_run (Cert.DFfnOutIdeal.defs (F := Ideal)) (onTc (τ := Cert.DFfnOutIdeal.τ) (Cert.DFfnOutIdeal.main (F := Ideal))) ⟨m, fun _ => 0, g⟩ (fun r => (∀ c : Dev Cert.DFfnOutIdeal.nD,
      r.2.mem ((c.tc : Thread Cert.DFfnOutIdeal.nD Cert.DFfnOutIdeal.τ).loc Cert.DFfnOutIdeal.main_arg0) = m ((c.tc : Thread Cert.DFfnOutIdeal.nD Cert.DFfnOutIdeal.τ).loc Cert.DFfnOutIdeal.main_arg0)
      ∧ r.2.mem ((c.tc : Thread Cert.DFfnOutIdeal.nD Cert.DFfnOutIdeal.τ).loc Cert.DFfnOutIdeal.main_arg1) = m ((c.tc : Thread Cert.DFfnOutIdeal.nD Cert.DFfnOutIdeal.τ).loc Cert.DFfnOutIdeal.main_arg1))
      ∧ r.2.sem = fun _ => 0)

def quiescent_DFfnOutRefIdeal [hDFfnOutRefIdeal : Cert.DFfnOutRefIdeal.Facts] : Prop :=
  ∀ (m : (ℓ : Loc Cert.DFfnOutRefIdeal.nD Cert.DFfnOutRefIdeal.τ Cert.DFfnOutRefIdeal.sig) → Buf (Elt Ideal) ℓ) (g : Dev Cert.DFfnOutRefIdeal.nD → PrngReg), Pre_DFfnOutRefIdeal m →
    θ_run (Cert.DFfnOutRefIdeal.defs (F := Ideal)) (onTc (τ := Cert.DFfnOutRefIdeal.τ) (Cert.DFfnOutRefIdeal.main (F := Ideal))) ⟨m, fun _ => 0, g⟩ (fun r => (∀ c : Dev Cert.DFfnOutRefIdeal.nD,
      r.2.mem ((c.tc : Thread Cert.DFfnOutRefIdeal.nD Cert.DFfnOutRefIdeal.τ).loc Cert.DFfnOutRefIdeal.main_arg0) = m ((c.tc : Thread Cert.DFfnOutRefIdeal.nD Cert.DFfnOutRefIdeal.τ).loc Cert.DFfnOutRefIdeal.main_arg0)
      ∧ r.2.mem ((c.tc : Thread Cert.DFfnOutRefIdeal.nD Cert.DFfnOutRefIdeal.τ).loc Cert.DFfnOutRefIdeal.main_arg1) = m ((c.tc : Thread Cert.DFfnOutRefIdeal.nD Cert.DFfnOutRefIdeal.τ).loc Cert.DFfnOutRefIdeal.main_arg1))
      ∧ r.2.sem = fun _ => 0)

def quiescent_DOutProj [hDOutProj : Cert.DOutProj.Facts] : Prop :=
  ∀ (m : (ℓ : Loc Cert.DOutProj.nD Cert.DOutProj.τ Cert.DOutProj.sig) → Buf (Elt Bits) ℓ) (g : Dev Cert.DOutProj.nD → PrngReg), Pre_DOutProj m →
    θ_run (Cert.DOutProj.defs (F := Bits)) (onTc (τ := Cert.DOutProj.τ) (Cert.DOutProj.main (F := Bits))) ⟨m, fun _ => 0, g⟩ (fun r => (∀ c : Dev Cert.DOutProj.nD,
      r.2.mem ((c.tc : Thread Cert.DOutProj.nD Cert.DOutProj.τ).loc Cert.DOutProj.main_arg0) = m ((c.tc : Thread Cert.DOutProj.nD Cert.DOutProj.τ).loc Cert.DOutProj.main_arg0)
      ∧ r.2.mem ((c.tc : Thread Cert.DOutProj.nD Cert.DOutProj.τ).loc Cert.DOutProj.main_arg1) = m ((c.tc : Thread Cert.DOutProj.nD Cert.DOutProj.τ).loc Cert.DOutProj.main_arg1))
      ∧ r.2.sem = fun _ => 0)

def quiescent_DOutProjIdeal [hDOutProjIdeal : Cert.DOutProjIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg), Pre_DOutProjIdeal m →
    θ_run (Cert.DOutProjIdeal.defs (F := Ideal)) (onTc (τ := Cert.DOutProjIdeal.τ) (Cert.DOutProjIdeal.main (F := Ideal))) ⟨m, fun _ => 0, g⟩ (fun r => (∀ c : Dev Cert.DOutProjIdeal.nD,
      r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
      ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1))
      ∧ r.2.sem = fun _ => 0)

def quiescent_DOutProjRefIdeal [hDOutProjRefIdeal : Cert.DOutProjRefIdeal.Facts] : Prop :=
  ∀ (m : (ℓ : Loc Cert.DOutProjRefIdeal.nD Cert.DOutProjRefIdeal.τ Cert.DOutProjRefIdeal.sig) → Buf (Elt Ideal) ℓ) (g : Dev Cert.DOutProjRefIdeal.nD → PrngReg), Pre_DOutProjRefIdeal m →
    θ_run (Cert.DOutProjRefIdeal.defs (F := Ideal)) (onTc (τ := Cert.DOutProjRefIdeal.τ) (Cert.DOutProjRefIdeal.main (F := Ideal))) ⟨m, fun _ => 0, g⟩ (fun r => (∀ c : Dev Cert.DOutProjRefIdeal.nD,
      r.2.mem ((c.tc : Thread Cert.DOutProjRefIdeal.nD Cert.DOutProjRefIdeal.τ).loc Cert.DOutProjRefIdeal.main_arg0) = m ((c.tc : Thread Cert.DOutProjRefIdeal.nD Cert.DOutProjRefIdeal.τ).loc Cert.DOutProjRefIdeal.main_arg0)
      ∧ r.2.mem ((c.tc : Thread Cert.DOutProjRefIdeal.nD Cert.DOutProjRefIdeal.τ).loc Cert.DOutProjRefIdeal.main_arg1) = m ((c.tc : Thread Cert.DOutProjRefIdeal.nD Cert.DOutProjRefIdeal.τ).loc Cert.DOutProjRefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_FwdFfnIn [hFwdFfnIn : Cert.FwdFfnIn.Facts] : Prop :=
  ∀ (m : (ℓ : Loc Cert.FwdFfnIn.nD Cert.FwdFfnIn.τ Cert.FwdFfnIn.sig) → Buf (Elt Bits) ℓ) (g : Dev Cert.FwdFfnIn.nD → PrngReg), Pre_FwdFfnIn m →
    θ_run (Cert.FwdFfnIn.defs (F := Bits)) (onTc (τ := Cert.FwdFfnIn.τ) (Cert.FwdFfnIn.main (F := Bits))) ⟨m, fun _ => 0, g⟩ (fun r => (∀ c : Dev Cert.FwdFfnIn.nD,
      r.2.mem ((c.tc : Thread Cert.FwdFfnIn.nD Cert.FwdFfnIn.τ).loc Cert.FwdFfnIn.main_arg0) = m ((c.tc : Thread Cert.FwdFfnIn.nD Cert.FwdFfnIn.τ).loc Cert.FwdFfnIn.main_arg0)
      ∧ r.2.mem ((c.tc : Thread Cert.FwdFfnIn.nD Cert.FwdFfnIn.τ).loc Cert.FwdFfnIn.main_arg1) = m ((c.tc : Thread Cert.FwdFfnIn.nD Cert.FwdFfnIn.τ).loc Cert.FwdFfnIn.main_arg1)
      ∧ r.2.mem ((c.tc : Thread Cert.FwdFfnIn.nD Cert.FwdFfnIn.τ).loc Cert.FwdFfnIn.main_arg2) = m ((c.tc : Thread Cert.FwdFfnIn.nD Cert.FwdFfnIn.τ).loc Cert.FwdFfnIn.main_arg2))
      ∧ r.2.sem = fun _ => 0)

def quiescent_FwdFfnInIdeal [hFwdFfnInIdeal : Cert.FwdFfnInIdeal.Facts] : Prop :=
  ∀ (m : (ℓ : Loc Cert.FwdFfnInIdeal.nD Cert.FwdFfnInIdeal.τ Cert.FwdFfnInIdeal.sig) → Buf (Elt Ideal) ℓ) (g : Dev Cert.FwdFfnInIdeal.nD → PrngReg), Pre_FwdFfnInIdeal m →
    θ_run (Cert.FwdFfnInIdeal.defs (F := Ideal)) (onTc (τ := Cert.FwdFfnInIdeal.τ) (Cert.FwdFfnInIdeal.main (F := Ideal))) ⟨m, fun _ => 0, g⟩ (fun r => (∀ c : Dev Cert.FwdFfnInIdeal.nD,
      r.2.mem ((c.tc : Thread Cert.FwdFfnInIdeal.nD Cert.FwdFfnInIdeal.τ).loc Cert.FwdFfnInIdeal.main_arg0) = m ((c.tc : Thread Cert.FwdFfnInIdeal.nD Cert.FwdFfnInIdeal.τ).loc Cert.FwdFfnInIdeal.main_arg0)
      ∧ r.2.mem ((c.tc : Thread Cert.FwdFfnInIdeal.nD Cert.FwdFfnInIdeal.τ).loc Cert.FwdFfnInIdeal.main_arg1) = m ((c.tc : Thread Cert.FwdFfnInIdeal.nD Cert.FwdFfnInIdeal.τ).loc Cert.FwdFfnInIdeal.main_arg1)
      ∧ r.2.mem ((c.tc : Thread Cert.FwdFfnInIdeal.nD Cert.FwdFfnInIdeal.τ).loc Cert.FwdFfnInIdeal.main_arg2) = m ((c.tc : Thread Cert.FwdFfnInIdeal.nD Cert.FwdFfnInIdeal.τ).loc Cert.FwdFfnInIdeal.main_arg2))
      ∧ r.2.sem = fun _ => 0)

def quiescent_FwdFfnInRefIdeal [hFwdFfnInRefIdeal : Cert.FwdFfnInRefIdeal.Facts] : Prop :=
  ∀ (m : (ℓ : Loc Cert.FwdFfnInRefIdeal.nD Cert.FwdFfnInRefIdeal.τ Cert.FwdFfnInRefIdeal.sig) → Buf (Elt Ideal) ℓ) (g : Dev Cert.FwdFfnInRefIdeal.nD → PrngReg), Pre_FwdFfnInRefIdeal m →
    θ_run (Cert.FwdFfnInRefIdeal.defs (F := Ideal)) (onTc (τ := Cert.FwdFfnInRefIdeal.τ) (Cert.FwdFfnInRefIdeal.main (F := Ideal))) ⟨m, fun _ => 0, g⟩ (fun r => (∀ c : Dev Cert.FwdFfnInRefIdeal.nD,
      r.2.mem ((c.tc : Thread Cert.FwdFfnInRefIdeal.nD Cert.FwdFfnInRefIdeal.τ).loc Cert.FwdFfnInRefIdeal.main_arg0) = m ((c.tc : Thread Cert.FwdFfnInRefIdeal.nD Cert.FwdFfnInRefIdeal.τ).loc Cert.FwdFfnInRefIdeal.main_arg0)
      ∧ r.2.mem ((c.tc : Thread Cert.FwdFfnInRefIdeal.nD Cert.FwdFfnInRefIdeal.τ).loc Cert.FwdFfnInRefIdeal.main_arg1) = m ((c.tc : Thread Cert.FwdFfnInRefIdeal.nD Cert.FwdFfnInRefIdeal.τ).loc Cert.FwdFfnInRefIdeal.main_arg1)
      ∧ r.2.mem ((c.tc : Thread Cert.FwdFfnInRefIdeal.nD Cert.FwdFfnInRefIdeal.τ).loc Cert.FwdFfnInRefIdeal.main_arg2) = m ((c.tc : Thread Cert.FwdFfnInRefIdeal.nD Cert.FwdFfnInRefIdeal.τ).loc Cert.FwdFfnInRefIdeal.main_arg2))
      ∧ r.2.sem = fun _ => 0)

def quiescent_FwdFfnOut [hFwdFfnOut : Cert.FwdFfnOut.Facts] : Prop :=
  ∀ (m : (ℓ : Loc Cert.FwdFfnOut.nD Cert.FwdFfnOut.τ Cert.FwdFfnOut.sig) → Buf (Elt Bits) ℓ) (g : Dev Cert.FwdFfnOut.nD → PrngReg), Pre_FwdFfnOut m →
    θ_run (Cert.FwdFfnOut.defs (F := Bits)) (onTc (τ := Cert.FwdFfnOut.τ) (Cert.FwdFfnOut.main (F := Bits))) ⟨m, fun _ => 0, g⟩ (fun r => (∀ c : Dev Cert.FwdFfnOut.nD,
      r.2.mem ((c.tc : Thread Cert.FwdFfnOut.nD Cert.FwdFfnOut.τ).loc Cert.FwdFfnOut.main_arg0) = m ((c.tc : Thread Cert.FwdFfnOut.nD Cert.FwdFfnOut.τ).loc Cert.FwdFfnOut.main_arg0)
      ∧ r.2.mem ((c.tc : Thread Cert.FwdFfnOut.nD Cert.FwdFfnOut.τ).loc Cert.FwdFfnOut.main_arg1) = m ((c.tc : Thread Cert.FwdFfnOut.nD Cert.FwdFfnOut.τ).loc Cert.FwdFfnOut.main_arg1)
      ∧ r.2.mem ((c.tc : Thread Cert.FwdFfnOut.nD Cert.FwdFfnOut.τ).loc Cert.FwdFfnOut.main_arg2) = m ((c.tc : Thread Cert.FwdFfnOut.nD Cert.FwdFfnOut.τ).loc Cert.FwdFfnOut.main_arg2))
      ∧ r.2.sem = fun _ => 0)

def quiescent_FwdFfnOutIdeal [hFwdFfnOutIdeal : Cert.FwdFfnOutIdeal.Facts] : Prop :=
  ∀ (m : (ℓ : Loc Cert.FwdFfnOutIdeal.nD Cert.FwdFfnOutIdeal.τ Cert.FwdFfnOutIdeal.sig) → Buf (Elt Ideal) ℓ) (g : Dev Cert.FwdFfnOutIdeal.nD → PrngReg), Pre_FwdFfnOutIdeal m →
    θ_run (Cert.FwdFfnOutIdeal.defs (F := Ideal)) (onTc (τ := Cert.FwdFfnOutIdeal.τ) (Cert.FwdFfnOutIdeal.main (F := Ideal))) ⟨m, fun _ => 0, g⟩ (fun r => (∀ c : Dev Cert.FwdFfnOutIdeal.nD,
      r.2.mem ((c.tc : Thread Cert.FwdFfnOutIdeal.nD Cert.FwdFfnOutIdeal.τ).loc Cert.FwdFfnOutIdeal.main_arg0) = m ((c.tc : Thread Cert.FwdFfnOutIdeal.nD Cert.FwdFfnOutIdeal.τ).loc Cert.FwdFfnOutIdeal.main_arg0)
      ∧ r.2.mem ((c.tc : Thread Cert.FwdFfnOutIdeal.nD Cert.FwdFfnOutIdeal.τ).loc Cert.FwdFfnOutIdeal.main_arg1) = m ((c.tc : Thread Cert.FwdFfnOutIdeal.nD Cert.FwdFfnOutIdeal.τ).loc Cert.FwdFfnOutIdeal.main_arg1)
      ∧ r.2.mem ((c.tc : Thread Cert.FwdFfnOutIdeal.nD Cert.FwdFfnOutIdeal.τ).loc Cert.FwdFfnOutIdeal.main_arg2) = m ((c.tc : Thread Cert.FwdFfnOutIdeal.nD Cert.FwdFfnOutIdeal.τ).loc Cert.FwdFfnOutIdeal.main_arg2))
      ∧ r.2.sem = fun _ => 0)

def quiescent_FwdFfnOutRefIdeal [hFwdFfnOutRefIdeal : Cert.FwdFfnOutRefIdeal.Facts] : Prop :=
  ∀ (m : (ℓ : Loc Cert.FwdFfnOutRefIdeal.nD Cert.FwdFfnOutRefIdeal.τ Cert.FwdFfnOutRefIdeal.sig) → Buf (Elt Ideal) ℓ) (g : Dev Cert.FwdFfnOutRefIdeal.nD → PrngReg), Pre_FwdFfnOutRefIdeal m →
    θ_run (Cert.FwdFfnOutRefIdeal.defs (F := Ideal)) (onTc (τ := Cert.FwdFfnOutRefIdeal.τ) (Cert.FwdFfnOutRefIdeal.main (F := Ideal))) ⟨m, fun _ => 0, g⟩ (fun r => (∀ c : Dev Cert.FwdFfnOutRefIdeal.nD,
      r.2.mem ((c.tc : Thread Cert.FwdFfnOutRefIdeal.nD Cert.FwdFfnOutRefIdeal.τ).loc Cert.FwdFfnOutRefIdeal.main_arg0) = m ((c.tc : Thread Cert.FwdFfnOutRefIdeal.nD Cert.FwdFfnOutRefIdeal.τ).loc Cert.FwdFfnOutRefIdeal.main_arg0)
      ∧ r.2.mem ((c.tc : Thread Cert.FwdFfnOutRefIdeal.nD Cert.FwdFfnOutRefIdeal.τ).loc Cert.FwdFfnOutRefIdeal.main_arg1) = m ((c.tc : Thread Cert.FwdFfnOutRefIdeal.nD Cert.FwdFfnOutRefIdeal.τ).loc Cert.FwdFfnOutRefIdeal.main_arg1)
      ∧ r.2.mem ((c.tc : Thread Cert.FwdFfnOutRefIdeal.nD Cert.FwdFfnOutRefIdeal.τ).loc Cert.FwdFfnOutRefIdeal.main_arg2) = m ((c.tc : Thread Cert.FwdFfnOutRefIdeal.nD Cert.FwdFfnOutRefIdeal.τ).loc Cert.FwdFfnOutRefIdeal.main_arg2))
      ∧ r.2.sem = fun _ => 0)

def quiescent_FwdGate [hFwdGate : Cert.FwdGate.Facts] : Prop :=
  ∀ (m : (ℓ : Loc Cert.FwdGate.nD Cert.FwdGate.τ Cert.FwdGate.sig) → Buf (Elt Bits) ℓ) (g : Dev Cert.FwdGate.nD → PrngReg), Pre_FwdGate m →
    θ_run (Cert.FwdGate.defs (F := Bits)) (onTc (τ := Cert.FwdGate.τ) (Cert.FwdGate.main (F := Bits))) ⟨m, fun _ => 0, g⟩ (fun r => (∀ c : Dev Cert.FwdGate.nD,
      r.2.mem ((c.tc : Thread Cert.FwdGate.nD Cert.FwdGate.τ).loc Cert.FwdGate.main_arg0) = m ((c.tc : Thread Cert.FwdGate.nD Cert.FwdGate.τ).loc Cert.FwdGate.main_arg0)
      ∧ r.2.mem ((c.tc : Thread Cert.FwdGate.nD Cert.FwdGate.τ).loc Cert.FwdGate.main_arg1) = m ((c.tc : Thread Cert.FwdGate.nD Cert.FwdGate.τ).loc Cert.FwdGate.main_arg1)
      ∧ r.2.mem ((c.tc : Thread Cert.FwdGate.nD Cert.FwdGate.τ).loc Cert.FwdGate.main_arg2) = m ((c.tc : Thread Cert.FwdGate.nD Cert.FwdGate.τ).loc Cert.FwdGate.main_arg2))
      ∧ r.2.sem = fun _ => 0)

def quiescent_FwdGateIdeal [hFwdGateIdeal : Cert.FwdGateIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg), Pre_FwdGateIdeal m →
    θ_run (Cert.FwdGateIdeal.defs (F := Ideal)) (onTc (τ := Cert.FwdGateIdeal.τ) (Cert.FwdGateIdeal.main (F := Ideal))) ⟨m, fun _ => 0, g⟩ (fun r => (∀ c : Dev Cert.FwdGateIdeal.nD,
      r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
      ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1)
      ∧ r.2.mem ((c.tc : Thread Cert.FwdGateIdeal.nD Cert.FwdGateIdeal.τ).loc Cert.FwdGateIdeal.main_arg2) = m ((c.tc : Thread Cert.FwdGateIdeal.nD Cert.FwdGateIdeal.τ).loc Cert.FwdGateIdeal.main_arg2))
      ∧ r.2.sem = fun _ => 0)

def quiescent_FwdGateRefIdeal [hFwdGateRefIdeal : Cert.FwdGateRefIdeal.Facts] : Prop :=
  ∀ (m : (ℓ : Loc Cert.FwdGateRefIdeal.nD Cert.FwdGateRefIdeal.τ Cert.FwdGateRefIdeal.sig) → Buf (Elt Ideal) ℓ) (g : Dev Cert.FwdGateRefIdeal.nD → PrngReg), Pre_FwdGateRefIdeal m →
    θ_run (Cert.FwdGateRefIdeal.defs (F := Ideal)) (onTc (τ := Cert.FwdGateRefIdeal.τ) (Cert.FwdGateRefIdeal.main (F := Ideal))) ⟨m, fun _ => 0, g⟩ (fun r => (∀ c : Dev Cert.FwdGateRefIdeal.nD,
      r.2.mem ((c.tc : Thread Cert.FwdGateRefIdeal.nD Cert.FwdGateRefIdeal.τ).loc Cert.FwdGateRefIdeal.main_arg0) = m ((c.tc : Thread Cert.FwdGateRefIdeal.nD Cert.FwdGateRefIdeal.τ).loc Cert.FwdGateRefIdeal.main_arg0)
      ∧ r.2.mem ((c.tc : Thread Cert.FwdGateRefIdeal.nD Cert.FwdGateRefIdeal.τ).loc Cert.FwdGateRefIdeal.main_arg1) = m ((c.tc : Thread Cert.FwdGateRefIdeal.nD Cert.FwdGateRefIdeal.τ).loc Cert.FwdGateRefIdeal.main_arg1)
      ∧ r.2.mem ((c.tc : Thread Cert.FwdGateRefIdeal.nD Cert.FwdGateRefIdeal.τ).loc Cert.FwdGateRefIdeal.main_arg2) = m ((c.tc : Thread Cert.FwdGateRefIdeal.nD Cert.FwdGateRefIdeal.τ).loc Cert.FwdGateRefIdeal.main_arg2))
      ∧ r.2.sem = fun _ => 0)

def quiescent_FwdPleOut [hFwdPleOut : Cert.FwdPleOut.Facts] : Prop :=
  ∀ (m : (ℓ : Loc Cert.FwdPleOut.nD Cert.FwdPleOut.τ Cert.FwdPleOut.sig) → Buf (Elt Bits) ℓ) (g : Dev Cert.FwdPleOut.nD → PrngReg), Pre_FwdPleOut m →
    θ_run (Cert.FwdPleOut.defs (F := Bits)) (onTc (τ := Cert.FwdPleOut.τ) (Cert.FwdPleOut.main (F := Bits))) ⟨m, fun _ => 0, g⟩ (fun r => (∀ c : Dev Cert.FwdPleOut.nD,
      r.2.mem ((c.tc : Thread Cert.FwdPleOut.nD Cert.FwdPleOut.τ).loc Cert.FwdPleOut.main_arg0) = m ((c.tc : Thread Cert.FwdPleOut.nD Cert.FwdPleOut.τ).loc Cert.FwdPleOut.main_arg0)
      ∧ r.2.mem ((c.tc : Thread Cert.FwdPleOut.nD Cert.FwdPleOut.τ).loc Cert.FwdPleOut.main_arg1) = m ((c.tc : Thread Cert.FwdPleOut.nD Cert.FwdPleOut.τ).loc Cert.FwdPleOut.main_arg1)
      ∧ r.2.mem ((c.tc : Thread Cert.FwdPleOut.nD Cert.FwdPleOut.τ).loc Cert.FwdPleOut.main_arg2) = m ((c.tc : Thread Cert.FwdPleOut.nD Cert.FwdPleOut.τ).loc Cert.FwdPleOut.main_arg2)
      ∧ r.2.mem ((c.tc : Thread Cert.FwdPleOut.nD Cert.FwdPleOut.τ).loc Cert.FwdPleOut.main_arg3) = m ((c.tc : Thread Cert.FwdPleOut.nD Cert.FwdPleOut.τ).loc Cert.FwdPleOut.main_arg3))
      ∧ r.2.sem = fun _ => 0)

def quiescent_FwdPleOutIdeal [hFwdPleOutIdeal : Cert.FwdPleOutIdeal.Facts] : Prop :=
  ∀ (m : (ℓ : Loc Cert.FwdPleOutIdeal.nD Cert.FwdPleOutIdeal.τ Cert.FwdPleOutIdeal.sig) → Buf (Elt Ideal) ℓ) (g : Dev Cert.FwdPleOutIdeal.nD → PrngReg), Pre_FwdPleOutIdeal m →
    θ_run (Cert.FwdPleOutIdeal.defs (F := Ideal)) (onTc (τ := Cert.FwdPleOutIdeal.τ) (Cert.FwdPleOutIdeal.main (F := Ideal))) ⟨m, fun _ => 0, g⟩ (fun r => (∀ c : Dev Cert.FwdPleOutIdeal.nD,
      r.2.mem ((c.tc : Thread Cert.FwdPleOutIdeal.nD Cert.FwdPleOutIdeal.τ).loc Cert.FwdPleOutIdeal.main_arg0) = m ((c.tc : Thread Cert.FwdPleOutIdeal.nD Cert.FwdPleOutIdeal.τ).loc Cert.FwdPleOutIdeal.main_arg0)
      ∧ r.2.mem ((c.tc : Thread Cert.FwdPleOutIdeal.nD Cert.FwdPleOutIdeal.τ).loc Cert.FwdPleOutIdeal.main_arg1) = m ((c.tc : Thread Cert.FwdPleOutIdeal.nD Cert.FwdPleOutIdeal.τ).loc Cert.FwdPleOutIdeal.main_arg1)
      ∧ r.2.mem ((c.tc : Thread Cert.FwdPleOutIdeal.nD Cert.FwdPleOutIdeal.τ).loc Cert.FwdPleOutIdeal.main_arg2) = m ((c.tc : Thread Cert.FwdPleOutIdeal.nD Cert.FwdPleOutIdeal.τ).loc Cert.FwdPleOutIdeal.main_arg2)
      ∧ r.2.mem ((c.tc : Thread Cert.FwdPleOutIdeal.nD Cert.FwdPleOutIdeal.τ).loc Cert.FwdPleOutIdeal.main_arg3) = m ((c.tc : Thread Cert.FwdPleOutIdeal.nD Cert.FwdPleOutIdeal.τ).loc Cert.FwdPleOutIdeal.main_arg3))
      ∧ r.2.sem = fun _ => 0)

def quiescent_FwdPleOutRefIdeal [hFwdPleOutRefIdeal : Cert.FwdPleOutRefIdeal.Facts] : Prop :=
  ∀ (m : (ℓ : Loc Cert.FwdPleOutRefIdeal.nD Cert.FwdPleOutRefIdeal.τ Cert.FwdPleOutRefIdeal.sig) → Buf (Elt Ideal) ℓ) (g : Dev Cert.FwdPleOutRefIdeal.nD → PrngReg), Pre_FwdPleOutRefIdeal m →
    θ_run (Cert.FwdPleOutRefIdeal.defs (F := Ideal)) (onTc (τ := Cert.FwdPleOutRefIdeal.τ) (Cert.FwdPleOutRefIdeal.main (F := Ideal))) ⟨m, fun _ => 0, g⟩ (fun r => (∀ c : Dev Cert.FwdPleOutRefIdeal.nD,
      r.2.mem ((c.tc : Thread Cert.FwdPleOutRefIdeal.nD Cert.FwdPleOutRefIdeal.τ).loc Cert.FwdPleOutRefIdeal.main_arg0) = m ((c.tc : Thread Cert.FwdPleOutRefIdeal.nD Cert.FwdPleOutRefIdeal.τ).loc Cert.FwdPleOutRefIdeal.main_arg0)
      ∧ r.2.mem ((c.tc : Thread Cert.FwdPleOutRefIdeal.nD Cert.FwdPleOutRefIdeal.τ).loc Cert.FwdPleOutRefIdeal.main_arg1) = m ((c.tc : Thread Cert.FwdPleOutRefIdeal.nD Cert.FwdPleOutRefIdeal.τ).loc Cert.FwdPleOutRefIdeal.main_arg1)
      ∧ r.2.mem ((c.tc : Thread Cert.FwdPleOutRefIdeal.nD Cert.FwdPleOutRefIdeal.τ).loc Cert.FwdPleOutRefIdeal.main_arg2) = m ((c.tc : Thread Cert.FwdPleOutRefIdeal.nD Cert.FwdPleOutRefIdeal.τ).loc Cert.FwdPleOutRefIdeal.main_arg2)
      ∧ r.2.mem ((c.tc : Thread Cert.FwdPleOutRefIdeal.nD Cert.FwdPleOutRefIdeal.τ).loc Cert.FwdPleOutRefIdeal.main_arg3) = m ((c.tc : Thread Cert.FwdPleOutRefIdeal.nD Cert.FwdPleOutRefIdeal.τ).loc Cert.FwdPleOutRefIdeal.main_arg3))
      ∧ r.2.sem = fun _ => 0)

def quiescent_FwdMerge [hFwdMerge : Cert.FwdMerge.Facts] : Prop :=
  ∀ (m : (ℓ : Loc Cert.FwdMerge.nD Cert.FwdMerge.τ Cert.FwdMerge.sig) → Buf (Elt Bits) ℓ) (g : Dev Cert.FwdMerge.nD → PrngReg), Pre_FwdMerge m →
    θ_run (Cert.FwdMerge.defs (F := Bits)) (onTc (τ := Cert.FwdMerge.τ) (Cert.FwdMerge.main (F := Bits))) ⟨m, fun _ => 0, g⟩ (fun r => (∀ c : Dev Cert.FwdMerge.nD,
      r.2.mem ((c.tc : Thread Cert.FwdMerge.nD Cert.FwdMerge.τ).loc Cert.FwdMerge.main_arg0) = m ((c.tc : Thread Cert.FwdMerge.nD Cert.FwdMerge.τ).loc Cert.FwdMerge.main_arg0)
      ∧ r.2.mem ((c.tc : Thread Cert.FwdMerge.nD Cert.FwdMerge.τ).loc Cert.FwdMerge.main_arg1) = m ((c.tc : Thread Cert.FwdMerge.nD Cert.FwdMerge.τ).loc Cert.FwdMerge.main_arg1)
      ∧ r.2.mem ((c.tc : Thread Cert.FwdMerge.nD Cert.FwdMerge.τ).loc Cert.FwdMerge.main_arg2) = m ((c.tc : Thread Cert.FwdMerge.nD Cert.FwdMerge.τ).loc Cert.FwdMerge.main_arg2)
      ∧ r.2.mem ((c.tc : Thread Cert.FwdMerge.nD Cert.FwdMerge.τ).loc Cert.FwdMerge.main_arg3) = m ((c.tc : Thread Cert.FwdMerge.nD Cert.FwdMerge.τ).loc Cert.FwdMerge.main_arg3)
      ∧ r.2.mem ((c.tc : Thread Cert.FwdMerge.nD Cert.FwdMerge.τ).loc Cert.FwdMerge.main_arg4) = m ((c.tc : Thread Cert.FwdMerge.nD Cert.FwdMerge.τ).loc Cert.FwdMerge.main_arg4)
      ∧ r.2.mem ((c.tc : Thread Cert.FwdMerge.nD Cert.FwdMerge.τ).loc Cert.FwdMerge.main_arg5) = m ((c.tc : Thread Cert.FwdMerge.nD Cert.FwdMerge.τ).loc Cert.FwdMerge.main_arg5)
      ∧ r.2.mem ((c.tc : Thread Cert.FwdMerge.nD Cert.FwdMerge.τ).loc Cert.FwdMerge.main_arg6) = m ((c.tc : Thread Cert.FwdMerge.nD Cert.FwdMerge.τ).loc Cert.FwdMerge.main_arg6))
      ∧ r.2.sem = fun _ => 0)

def quiescent_FwdMergeIdeal [hFwdMergeIdeal : Cert.FwdMergeIdeal.Facts] : Prop :=
  ∀ (m : (ℓ : Loc Cert.FwdMergeIdeal.nD Cert.FwdMergeIdeal.τ Cert.FwdMergeIdeal.sig) → Buf (Elt Ideal) ℓ) (g : Dev Cert.FwdMergeIdeal.nD → PrngReg), Pre_FwdMergeIdeal m →
    θ_run (Cert.FwdMergeIdeal.defs (F := Ideal)) (onTc (τ := Cert.FwdMergeIdeal.τ) (Cert.FwdMergeIdeal.main (F := Ideal))) ⟨m, fun _ => 0, g⟩ (fun r => (∀ c : Dev Cert.FwdMergeIdeal.nD,
      r.2.mem ((c.tc : Thread Cert.FwdMergeIdeal.nD Cert.FwdMergeIdeal.τ).loc Cert.FwdMergeIdeal.main_arg0) = m ((c.tc : Thread Cert.FwdMergeIdeal.nD Cert.FwdMergeIdeal.τ).loc Cert.FwdMergeIdeal.main_arg0)
      ∧ r.2.mem ((c.tc : Thread Cert.FwdMergeIdeal.nD Cert.FwdMergeIdeal.τ).loc Cert.FwdMergeIdeal.main_arg1) = m ((c.tc : Thread Cert.FwdMergeIdeal.nD Cert.FwdMergeIdeal.τ).loc Cert.FwdMergeIdeal.main_arg1)
      ∧ r.2.mem ((c.tc : Thread Cert.FwdMergeIdeal.nD Cert.FwdMergeIdeal.τ).loc Cert.FwdMergeIdeal.main_arg2) = m ((c.tc : Thread Cert.FwdMergeIdeal.nD Cert.FwdMergeIdeal.τ).loc Cert.FwdMergeIdeal.main_arg2)
      ∧ r.2.mem ((c.tc : Thread Cert.FwdMergeIdeal.nD Cert.FwdMergeIdeal.τ).loc Cert.FwdMergeIdeal.main_arg3) = m ((c.tc : Thread Cert.FwdMergeIdeal.nD Cert.FwdMergeIdeal.τ).loc Cert.FwdMergeIdeal.main_arg3)
      ∧ r.2.mem ((c.tc : Thread Cert.FwdMergeIdeal.nD Cert.FwdMergeIdeal.τ).loc Cert.FwdMergeIdeal.main_arg4) = m ((c.tc : Thread Cert.FwdMergeIdeal.nD Cert.FwdMergeIdeal.τ).loc Cert.FwdMergeIdeal.main_arg4)
      ∧ r.2.mem ((c.tc : Thread Cert.FwdMergeIdeal.nD Cert.FwdMergeIdeal.τ).loc Cert.FwdMergeIdeal.main_arg5) = m ((c.tc : Thread Cert.FwdMergeIdeal.nD Cert.FwdMergeIdeal.τ).loc Cert.FwdMergeIdeal.main_arg5)
      ∧ r.2.mem ((c.tc : Thread Cert.FwdMergeIdeal.nD Cert.FwdMergeIdeal.τ).loc Cert.FwdMergeIdeal.main_arg6) = m ((c.tc : Thread Cert.FwdMergeIdeal.nD Cert.FwdMergeIdeal.τ).loc Cert.FwdMergeIdeal.main_arg6))
      ∧ r.2.sem = fun _ => 0)

def quiescent_FwdMergeRefIdeal [hFwdMergeRefIdeal : Cert.FwdMergeRefIdeal.Facts] : Prop :=
  ∀ (m : (ℓ : Loc Cert.FwdMergeRefIdeal.nD Cert.FwdMergeRefIdeal.τ Cert.FwdMergeRefIdeal.sig) → Buf (Elt Ideal) ℓ) (g : Dev Cert.FwdMergeRefIdeal.nD → PrngReg), Pre_FwdMergeRefIdeal m →
    θ_run (Cert.FwdMergeRefIdeal.defs (F := Ideal)) (onTc (τ := Cert.FwdMergeRefIdeal.τ) (Cert.FwdMergeRefIdeal.main (F := Ideal))) ⟨m, fun _ => 0, g⟩ (fun r => (∀ c : Dev Cert.FwdMergeRefIdeal.nD,
      r.2.mem ((c.tc : Thread Cert.FwdMergeRefIdeal.nD Cert.FwdMergeRefIdeal.τ).loc Cert.FwdMergeRefIdeal.main_arg0) = m ((c.tc : Thread Cert.FwdMergeRefIdeal.nD Cert.FwdMergeRefIdeal.τ).loc Cert.FwdMergeRefIdeal.main_arg0)
      ∧ r.2.mem ((c.tc : Thread Cert.FwdMergeRefIdeal.nD Cert.FwdMergeRefIdeal.τ).loc Cert.FwdMergeRefIdeal.main_arg1) = m ((c.tc : Thread Cert.FwdMergeRefIdeal.nD Cert.FwdMergeRefIdeal.τ).loc Cert.FwdMergeRefIdeal.main_arg1)
      ∧ r.2.mem ((c.tc : Thread Cert.FwdMergeRefIdeal.nD Cert.FwdMergeRefIdeal.τ).loc Cert.FwdMergeRefIdeal.main_arg2) = m ((c.tc : Thread Cert.FwdMergeRefIdeal.nD Cert.FwdMergeRefIdeal.τ).loc Cert.FwdMergeRefIdeal.main_arg2)
      ∧ r.2.mem ((c.tc : Thread Cert.FwdMergeRefIdeal.nD Cert.FwdMergeRefIdeal.τ).loc Cert.FwdMergeRefIdeal.main_arg3) = m ((c.tc : Thread Cert.FwdMergeRefIdeal.nD Cert.FwdMergeRefIdeal.τ).loc Cert.FwdMergeRefIdeal.main_arg3)
      ∧ r.2.mem ((c.tc : Thread Cert.FwdMergeRefIdeal.nD Cert.FwdMergeRefIdeal.τ).loc Cert.FwdMergeRefIdeal.main_arg4) = m ((c.tc : Thread Cert.FwdMergeRefIdeal.nD Cert.FwdMergeRefIdeal.τ).loc Cert.FwdMergeRefIdeal.main_arg4)
      ∧ r.2.mem ((c.tc : Thread Cert.FwdMergeRefIdeal.nD Cert.FwdMergeRefIdeal.τ).loc Cert.FwdMergeRefIdeal.main_arg5) = m ((c.tc : Thread Cert.FwdMergeRefIdeal.nD Cert.FwdMergeRefIdeal.τ).loc Cert.FwdMergeRefIdeal.main_arg5)
      ∧ r.2.mem ((c.tc : Thread Cert.FwdMergeRefIdeal.nD Cert.FwdMergeRefIdeal.τ).loc Cert.FwdMergeRefIdeal.main_arg6) = m ((c.tc : Thread Cert.FwdMergeRefIdeal.nD Cert.FwdMergeRefIdeal.τ).loc Cert.FwdMergeRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_FwdConv [hFwdConv : Cert.FwdConv.Facts] : Prop :=
  ∀ (m : (ℓ : Loc Cert.FwdConv.nD Cert.FwdConv.τ Cert.FwdConv.sig) → Buf (Elt Bits) ℓ) (g : Dev Cert.FwdConv.nD → PrngReg), Pre_FwdConv m →
    θ_run (Cert.FwdConv.defs (F := Bits)) (onTc (τ := Cert.FwdConv.τ) (Cert.FwdConv.main (F := Bits))) ⟨m, fun _ => 0, g⟩ (fun r => (∀ c : Dev Cert.FwdConv.nD,
      r.2.mem ((c.tc : Thread Cert.FwdConv.nD Cert.FwdConv.τ).loc Cert.FwdConv.main_arg0) = m ((c.tc : Thread Cert.FwdConv.nD Cert.FwdConv.τ).loc Cert.FwdConv.main_arg0)
      ∧ r.2.mem ((c.tc : Thread Cert.FwdConv.nD Cert.FwdConv.τ).loc Cert.FwdConv.main_arg1) = m ((c.tc : Thread Cert.FwdConv.nD Cert.FwdConv.τ).loc Cert.FwdConv.main_arg1))
      ∧ r.2.sem = fun _ => 0)

def quiescent_FwdConvIdeal [hFwdConvIdeal : Cert.FwdConvIdeal.Facts] : Prop :=
  ∀ (m : (ℓ : Loc Cert.FwdConvIdeal.nD Cert.FwdConvIdeal.τ Cert.FwdConvIdeal.sig) → Buf (Elt Ideal) ℓ) (g : Dev Cert.FwdConvIdeal.nD → PrngReg), Pre_FwdConvIdeal m →
    θ_run (Cert.FwdConvIdeal.defs (F := Ideal)) (onTc (τ := Cert.FwdConvIdeal.τ) (Cert.FwdConvIdeal.main (F := Ideal))) ⟨m, fun _ => 0, g⟩ (fun r => (∀ c : Dev Cert.FwdConvIdeal.nD,
      r.2.mem ((c.tc : Thread Cert.FwdConvIdeal.nD Cert.FwdConvIdeal.τ).loc Cert.FwdConvIdeal.main_arg0) = m ((c.tc : Thread Cert.FwdConvIdeal.nD Cert.FwdConvIdeal.τ).loc Cert.FwdConvIdeal.main_arg0)
      ∧ r.2.mem ((c.tc : Thread Cert.FwdConvIdeal.nD Cert.FwdConvIdeal.τ).loc Cert.FwdConvIdeal.main_arg1) = m ((c.tc : Thread Cert.FwdConvIdeal.nD Cert.FwdConvIdeal.τ).loc Cert.FwdConvIdeal.main_arg1))
      ∧ r.2.sem = fun _ => 0)

def quiescent_FwdConvRefIdeal [hFwdConvRefIdeal : Cert.FwdConvRefIdeal.Facts] : Prop :=
  ∀ (m : (ℓ : Loc Cert.FwdConvRefIdeal.nD Cert.FwdConvRefIdeal.τ Cert.FwdConvRefIdeal.sig) → Buf (Elt Ideal) ℓ) (g : Dev Cert.FwdConvRefIdeal.nD → PrngReg), Pre_FwdConvRefIdeal m →
    θ_run (Cert.FwdConvRefIdeal.defs (F := Ideal)) (onTc (τ := Cert.FwdConvRefIdeal.τ) (Cert.FwdConvRefIdeal.main (F := Ideal))) ⟨m, fun _ => 0, g⟩ (fun r => (∀ c : Dev Cert.FwdConvRefIdeal.nD,
      r.2.mem ((c.tc : Thread Cert.FwdConvRefIdeal.nD Cert.FwdConvRefIdeal.τ).loc Cert.FwdConvRefIdeal.main_arg0) = m ((c.tc : Thread Cert.FwdConvRefIdeal.nD Cert.FwdConvRefIdeal.τ).loc Cert.FwdConvRefIdeal.main_arg0)
      ∧ r.2.mem ((c.tc : Thread Cert.FwdConvRefIdeal.nD Cert.FwdConvRefIdeal.τ).loc Cert.FwdConvRefIdeal.main_arg1) = m ((c.tc : Thread Cert.FwdConvRefIdeal.nD Cert.FwdConvRefIdeal.τ).loc Cert.FwdConvRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)) (v7 : (c : Dev Cert.MergeIdeal.nD) → Buf (Elt Ideal) ((c.tc : Thread Cert.MergeIdeal.nD Cert.MergeIdeal.τ).loc Cert.MergeIdeal.main_v0_7)) (v8 : (c : Dev Cert.MergeIdeal.nD) → Buf (Elt Ideal) ((c.tc : Thread Cert.MergeIdeal.nD Cert.MergeIdeal.τ).loc Cert.MergeIdeal.main_v0_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_v0_7) = v7 c
          ∧ r.2.mem ((c.tc : Thread Cert.MergeIdeal.nD Cert.MergeIdeal.τ).loc Cert.MergeIdeal.main_v0_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v89) = v0 c
          ∧ r.2.mem ((c.tc : Thread Cert.MergeRefIdeal.nD Cert.MergeRefIdeal.τ).loc Cert.MergeRefIdeal.main_v90) = v1 c
          ∧ r.2.mem ((c.tc : Thread Cert.MergeRefIdeal.nD Cert.MergeRefIdeal.τ).loc Cert.MergeRefIdeal.main_v91) = v2 c
          ∧ r.2.mem ((c.tc : Thread Cert.MergeRefIdeal.nD Cert.MergeRefIdeal.τ).loc Cert.MergeRefIdeal.main_v92) = v3 c
          ∧ r.2.mem ((c.tc : Thread Cert.MergeRefIdeal.nD Cert.MergeRefIdeal.τ).loc Cert.MergeRefIdeal.main_v93) = v4 c
          ∧ r.2.mem ((c.tc : Thread Cert.MergeRefIdeal.nD Cert.MergeRefIdeal.τ).loc Cert.MergeRefIdeal.main_v94) = v5 c
          ∧ r.2.mem ((c.tc : Thread Cert.MergeRefIdeal.nD Cert.MergeRefIdeal.τ).loc Cert.MergeRefIdeal.main_v95) = v6 c
          ∧ r.2.mem ((c.tc : Thread Cert.MergeRefIdeal.nD Cert.MergeRefIdeal.τ).loc Cert.MergeRefIdeal.main_v96) = v7 c
          ∧ r.2.mem ((c.tc : Thread Cert.MergeRefIdeal.nD Cert.MergeRefIdeal.τ).loc Cert.MergeRefIdeal.main_v97) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)) (v3 : (c : Dev Cert.FfnIdeal.nD) → Buf (Elt Ideal) ((c.tc : Thread Cert.FfnIdeal.nD Cert.FfnIdeal.τ).loc Cert.FfnIdeal.main_v0_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_v0_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_v40) = v1 c
          ∧ r.2.mem ((c.tc : Thread Cert.FfnRefIdeal.nD Cert.FfnRefIdeal.τ).loc Cert.FfnRefIdeal.main_v58) = v2 c
          ∧ r.2.mem ((c.tc : Thread Cert.FfnRefIdeal.nD Cert.FfnRefIdeal.τ).loc Cert.FfnRefIdeal.main_v60) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal_pre_inp_finite [hInProjIdeal : Cert.InProjIdeal.Facts] [hInProjRefIdeal : Cert.InProjRefIdeal.Facts] [hPre_inp_finite : Cert.Pre_inp_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_inp_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v51) = v0 c
          ∧ r.2.mem ((c.tc : Thread Cert.InProjRefIdeal.nD Cert.InProjRefIdeal.τ).loc Cert.InProjRefIdeal.main_v35) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)) (v2 : (c : Dev Cert.PleIdeal.nD) → Buf (Elt Ideal) ((c.tc : Thread Cert.PleIdeal.nD Cert.PleIdeal.τ).loc Cert.PleIdeal.main_v0_2)) (v3 : (c : Dev Cert.PleIdeal.nD) → Buf (Elt Ideal) ((c.tc : Thread Cert.PleIdeal.nD Cert.PleIdeal.τ).loc Cert.PleIdeal.main_v0_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_v0_2) = v2 c
          ∧ r.2.mem ((c.tc : Thread Cert.PleIdeal.nD Cert.PleIdeal.τ).loc Cert.PleIdeal.main_v0_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v59) = v0 c
          ∧ r.2.mem ((c.tc : Thread Cert.PleRefIdeal.nD Cert.PleRefIdeal.τ).loc Cert.PleRefIdeal.main_v43) = v1 c
          ∧ r.2.mem ((c.tc : Thread Cert.PleRefIdeal.nD Cert.PleRefIdeal.τ).loc Cert.PleRefIdeal.main_v60) = v2 c
          ∧ r.2.mem ((c.tc : Thread Cert.PleRefIdeal.nD Cert.PleRefIdeal.τ).loc Cert.PleRefIdeal.main_v61) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_WFfnIn_WFfnInIdeal : Prop :=
  True

def algebraic_WFfnInIdeal_WFfnInRefIdeal [hWFfnInIdeal : Cert.WFfnInIdeal.Facts] [hWFfnInRefIdeal : Cert.WFfnInRefIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg)
    (m' : (ℓ : Loc Cert.WFfnInRefIdeal.nD Cert.WFfnInRefIdeal.τ Cert.WFfnInRefIdeal.sig) → Buf (Elt Ideal) ℓ) (g' : Dev Cert.WFfnInRefIdeal.nD → PrngReg), Pre_WFfnInIdeal m →
    (∀ c : Dev Cert.WFfnInIdeal.nD,
      m' ((c.tc : Thread Cert.WFfnInRefIdeal.nD Cert.WFfnInRefIdeal.τ).loc Cert.WFfnInRefIdeal.main_arg0) = m ((c.tc : Thread Cert.WFfnInIdeal.nD Cert.WFfnInIdeal.τ).loc Cert.WFfnInIdeal.main_arg0)
      ∧ m' ((c.tc : Thread Cert.WFfnInRefIdeal.nD Cert.WFfnInRefIdeal.τ).loc Cert.WFfnInRefIdeal.main_arg1) = m ((c.tc : Thread Cert.WFfnInIdeal.nD Cert.WFfnInIdeal.τ).loc Cert.WFfnInIdeal.main_arg1)) →
    ∃ (v0 : (c : Dev Cert.WFfnInIdeal.nD) → Buf (Elt Ideal) ((c.tc : Thread Cert.WFfnInIdeal.nD Cert.WFfnInIdeal.τ).loc Cert.WFfnInIdeal.main_v0)),
      θ_run (Cert.WFfnInIdeal.defs (F := Ideal)) (onTc (τ := Cert.WFfnInIdeal.τ) (Cert.WFfnInIdeal.main (F := Ideal))) ⟨m, fun _ => 0, g⟩ (fun r => ∀ c : Dev Cert.WFfnInIdeal.nD,
          r.2.mem ((c.tc : Thread Cert.WFfnInIdeal.nD Cert.WFfnInIdeal.τ).loc Cert.WFfnInIdeal.main_v0) = v0 c
          ∧ r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
          ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ θ_run (Cert.WFfnInRefIdeal.defs (F := Ideal)) (onTc (τ := Cert.WFfnInRefIdeal.τ) (Cert.WFfnInRefIdeal.main (F := Ideal))) ⟨m', fun _ => 0, g'⟩ (fun r => ∀ c : Dev Cert.WFfnInRefIdeal.nD,
          r.2.mem ((c.tc : Thread Cert.WFfnInRefIdeal.nD Cert.WFfnInRefIdeal.τ).loc Cert.WFfnInRefIdeal.main_v7) = v0 c
          ∧ r.2.mem ((c.tc : Thread Cert.WFfnInRefIdeal.nD Cert.WFfnInRefIdeal.τ).loc Cert.WFfnInRefIdeal.main_arg0) = m' ((c.tc : Thread Cert.WFfnInRefIdeal.nD Cert.WFfnInRefIdeal.τ).loc Cert.WFfnInRefIdeal.main_arg0)
          ∧ r.2.mem ((c.tc : Thread Cert.WFfnInRefIdeal.nD Cert.WFfnInRefIdeal.τ).loc Cert.WFfnInRefIdeal.main_arg1) = m' ((c.tc : Thread Cert.WFfnInRefIdeal.nD Cert.WFfnInRefIdeal.τ).loc Cert.WFfnInRefIdeal.main_arg1))

def preserves_WFfnOut_WFfnOutIdeal : Prop :=
  True

def algebraic_WFfnOutIdeal_WFfnOutRefIdeal [hWFfnOutIdeal : Cert.WFfnOutIdeal.Facts] [hWFfnOutRefIdeal : Cert.WFfnOutRefIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg)
    (m' : (ℓ : Loc Cert.WFfnOutRefIdeal.nD Cert.WFfnOutRefIdeal.τ Cert.WFfnOutRefIdeal.sig) → Buf (Elt Ideal) ℓ) (g' : Dev Cert.WFfnOutRefIdeal.nD → PrngReg), Pre_WFfnOutIdeal m →
    (∀ c : Dev Cert.WFfnOutIdeal.nD,
      m' ((c.tc : Thread Cert.WFfnOutRefIdeal.nD Cert.WFfnOutRefIdeal.τ).loc Cert.WFfnOutRefIdeal.main_arg0) = m ((c.tc : Thread Cert.WFfnOutIdeal.nD Cert.WFfnOutIdeal.τ).loc Cert.WFfnOutIdeal.main_arg0)
      ∧ m' ((c.tc : Thread Cert.WFfnOutRefIdeal.nD Cert.WFfnOutRefIdeal.τ).loc Cert.WFfnOutRefIdeal.main_arg1) = m ((c.tc : Thread Cert.WFfnOutIdeal.nD Cert.WFfnOutIdeal.τ).loc Cert.WFfnOutIdeal.main_arg1)) →
    ∃ (v0 : (c : Dev Cert.WFfnOutIdeal.nD) → Buf (Elt Ideal) ((c.tc : Thread Cert.WFfnOutIdeal.nD Cert.WFfnOutIdeal.τ).loc Cert.WFfnOutIdeal.main_v0)),
      θ_run (Cert.WFfnOutIdeal.defs (F := Ideal)) (onTc (τ := Cert.WFfnOutIdeal.τ) (Cert.WFfnOutIdeal.main (F := Ideal))) ⟨m, fun _ => 0, g⟩ (fun r => ∀ c : Dev Cert.WFfnOutIdeal.nD,
          r.2.mem ((c.tc : Thread Cert.WFfnOutIdeal.nD Cert.WFfnOutIdeal.τ).loc Cert.WFfnOutIdeal.main_v0) = v0 c
          ∧ r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
          ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ θ_run (Cert.WFfnOutRefIdeal.defs (F := Ideal)) (onTc (τ := Cert.WFfnOutRefIdeal.τ) (Cert.WFfnOutRefIdeal.main (F := Ideal))) ⟨m', fun _ => 0, g'⟩ (fun r => ∀ c : Dev Cert.WFfnOutRefIdeal.nD,
          r.2.mem ((c.tc : Thread Cert.WFfnOutRefIdeal.nD Cert.WFfnOutRefIdeal.τ).loc Cert.WFfnOutRefIdeal.main_v6) = v0 c
          ∧ r.2.mem ((c.tc : Thread Cert.WFfnOutRefIdeal.nD Cert.WFfnOutRefIdeal.τ).loc Cert.WFfnOutRefIdeal.main_arg0) = m' ((c.tc : Thread Cert.WFfnOutRefIdeal.nD Cert.WFfnOutRefIdeal.τ).loc Cert.WFfnOutRefIdeal.main_arg0)
          ∧ r.2.mem ((c.tc : Thread Cert.WFfnOutRefIdeal.nD Cert.WFfnOutRefIdeal.τ).loc Cert.WFfnOutRefIdeal.main_arg1) = m' ((c.tc : Thread Cert.WFfnOutRefIdeal.nD Cert.WFfnOutRefIdeal.τ).loc Cert.WFfnOutRefIdeal.main_arg1))

def preserves_WGates_WGatesIdeal : Prop :=
  True

def algebraic_WGatesIdeal_WGatesRefIdeal [hWGatesIdeal : Cert.WGatesIdeal.Facts] [hWGatesRefIdeal : Cert.WGatesRefIdeal.Facts] : Prop :=
  ∀ (m : (ℓ : Loc Cert.WGatesIdeal.nD Cert.WGatesIdeal.τ Cert.WGatesIdeal.sig) → Buf (Elt Ideal) ℓ) (g : Dev Cert.WGatesIdeal.nD → PrngReg)
    (m' : (ℓ : Loc Cert.WGatesRefIdeal.nD Cert.WGatesRefIdeal.τ Cert.WGatesRefIdeal.sig) → Buf (Elt Ideal) ℓ) (g' : Dev Cert.WGatesRefIdeal.nD → PrngReg), Pre_WGatesIdeal m →
    (∀ c : Dev Cert.WGatesIdeal.nD,
      m' ((c.tc : Thread Cert.WGatesRefIdeal.nD Cert.WGatesRefIdeal.τ).loc Cert.WGatesRefIdeal.main_arg0) = m ((c.tc : Thread Cert.WGatesIdeal.nD Cert.WGatesIdeal.τ).loc Cert.WGatesIdeal.main_arg0)
      ∧ m' ((c.tc : Thread Cert.WGatesRefIdeal.nD Cert.WGatesRefIdeal.τ).loc Cert.WGatesRefIdeal.main_arg1) = m ((c.tc : Thread Cert.WGatesIdeal.nD Cert.WGatesIdeal.τ).loc Cert.WGatesIdeal.main_arg1)
      ∧ m' ((c.tc : Thread Cert.WGatesRefIdeal.nD Cert.WGatesRefIdeal.τ).loc Cert.WGatesRefIdeal.main_arg2) = m ((c.tc : Thread Cert.WGatesIdeal.nD Cert.WGatesIdeal.τ).loc Cert.WGatesIdeal.main_arg2)
      ∧ m' ((c.tc : Thread Cert.WGatesRefIdeal.nD Cert.WGatesRefIdeal.τ).loc Cert.WGatesRefIdeal.main_arg3) = m ((c.tc : Thread Cert.WGatesIdeal.nD Cert.WGatesIdeal.τ).loc Cert.WGatesIdeal.main_arg3)) →
    ∃ (v0 : (c : Dev Cert.WGatesIdeal.nD) → Buf (Elt Ideal) ((c.tc : Thread Cert.WGatesIdeal.nD Cert.WGatesIdeal.τ).loc Cert.WGatesIdeal.main_v0_0)) (v1 : (c : Dev Cert.WGatesIdeal.nD) → Buf (Elt Ideal) ((c.tc : Thread Cert.WGatesIdeal.nD Cert.WGatesIdeal.τ).loc Cert.WGatesIdeal.main_v0_1)) (v2 : (c : Dev Cert.WGatesIdeal.nD) → Buf (Elt Ideal) ((c.tc : Thread Cert.WGatesIdeal.nD Cert.WGatesIdeal.τ).loc Cert.WGatesIdeal.main_v0_2)),
      θ_run (Cert.WGatesIdeal.defs (F := Ideal)) (onTc (τ := Cert.WGatesIdeal.τ) (Cert.WGatesIdeal.main (F := Ideal))) ⟨m, fun _ => 0, g⟩ (fun r => ∀ c : Dev Cert.WGatesIdeal.nD,
          r.2.mem ((c.tc : Thread Cert.WGatesIdeal.nD Cert.WGatesIdeal.τ).loc Cert.WGatesIdeal.main_v0_0) = v0 c
          ∧ r.2.mem ((c.tc : Thread Cert.WGatesIdeal.nD Cert.WGatesIdeal.τ).loc Cert.WGatesIdeal.main_v0_1) = v1 c
          ∧ r.2.mem ((c.tc : Thread Cert.WGatesIdeal.nD Cert.WGatesIdeal.τ).loc Cert.WGatesIdeal.main_v0_2) = v2 c
          ∧ r.2.mem ((c.tc : Thread Cert.WGatesIdeal.nD Cert.WGatesIdeal.τ).loc Cert.WGatesIdeal.main_arg0) = m ((c.tc : Thread Cert.WGatesIdeal.nD Cert.WGatesIdeal.τ).loc Cert.WGatesIdeal.main_arg0)
          ∧ r.2.mem ((c.tc : Thread Cert.WGatesIdeal.nD Cert.WGatesIdeal.τ).loc Cert.WGatesIdeal.main_arg1) = m ((c.tc : Thread Cert.WGatesIdeal.nD Cert.WGatesIdeal.τ).loc Cert.WGatesIdeal.main_arg1)
          ∧ r.2.mem ((c.tc : Thread Cert.WGatesIdeal.nD Cert.WGatesIdeal.τ).loc Cert.WGatesIdeal.main_arg2) = m ((c.tc : Thread Cert.WGatesIdeal.nD Cert.WGatesIdeal.τ).loc Cert.WGatesIdeal.main_arg2)
          ∧ r.2.mem ((c.tc : Thread Cert.WGatesIdeal.nD Cert.WGatesIdeal.τ).loc Cert.WGatesIdeal.main_arg3) = m ((c.tc : Thread Cert.WGatesIdeal.nD Cert.WGatesIdeal.τ).loc Cert.WGatesIdeal.main_arg3))
      ∧ θ_run (Cert.WGatesRefIdeal.defs (F := Ideal)) (onTc (τ := Cert.WGatesRefIdeal.τ) (Cert.WGatesRefIdeal.main (F := Ideal))) ⟨m', fun _ => 0, g'⟩ (fun r => ∀ c : Dev Cert.WGatesRefIdeal.nD,
          r.2.mem ((c.tc : Thread Cert.WGatesRefIdeal.nD Cert.WGatesRefIdeal.τ).loc Cert.WGatesRefIdeal.main_v10) = v0 c
          ∧ r.2.mem ((c.tc : Thread Cert.WGatesRefIdeal.nD Cert.WGatesRefIdeal.τ).loc Cert.WGatesRefIdeal.main_v11) = v1 c
          ∧ r.2.mem ((c.tc : Thread Cert.WGatesRefIdeal.nD Cert.WGatesRefIdeal.τ).loc Cert.WGatesRefIdeal.main_v12) = v2 c
          ∧ r.2.mem ((c.tc : Thread Cert.WGatesRefIdeal.nD Cert.WGatesRefIdeal.τ).loc Cert.WGatesRefIdeal.main_arg0) = m' ((c.tc : Thread Cert.WGatesRefIdeal.nD Cert.WGatesRefIdeal.τ).loc Cert.WGatesRefIdeal.main_arg0)
          ∧ r.2.mem ((c.tc : Thread Cert.WGatesRefIdeal.nD Cert.WGatesRefIdeal.τ).loc Cert.WGatesRefIdeal.main_arg1) = m' ((c.tc : Thread Cert.WGatesRefIdeal.nD Cert.WGatesRefIdeal.τ).loc Cert.WGatesRefIdeal.main_arg1)
          ∧ r.2.mem ((c.tc : Thread Cert.WGatesRefIdeal.nD Cert.WGatesRefIdeal.τ).loc Cert.WGatesRefIdeal.main_arg2) = m' ((c.tc : Thread Cert.WGatesRefIdeal.nD Cert.WGatesRefIdeal.τ).loc Cert.WGatesRefIdeal.main_arg2)
          ∧ r.2.mem ((c.tc : Thread Cert.WGatesRefIdeal.nD Cert.WGatesRefIdeal.τ).loc Cert.WGatesRefIdeal.main_arg3) = m' ((c.tc : Thread Cert.WGatesRefIdeal.nD Cert.WGatesRefIdeal.τ).loc Cert.WGatesRefIdeal.main_arg3))

def preserves_WBranches_WBranchesIdeal : Prop :=
  True

def algebraic_WBranchesIdeal_WBranchesRefIdeal [hWBranchesIdeal : Cert.WBranchesIdeal.Facts] [hWBranchesRefIdeal : Cert.WBranchesRefIdeal.Facts] : Prop :=
  ∀ (m : (ℓ : Loc Cert.WBranchesIdeal.nD Cert.WBranchesIdeal.τ Cert.WBranchesIdeal.sig) → Buf (Elt Ideal) ℓ) (g : Dev Cert.WBranchesIdeal.nD → PrngReg)
    (m' : (ℓ : Loc Cert.WBranchesRefIdeal.nD Cert.WBranchesRefIdeal.τ Cert.WBranchesRefIdeal.sig) → Buf (Elt Ideal) ℓ) (g' : Dev Cert.WBranchesRefIdeal.nD → PrngReg), Pre_WBranchesIdeal m →
    (∀ c : Dev Cert.WBranchesIdeal.nD,
      m' ((c.tc : Thread Cert.WBranchesRefIdeal.nD Cert.WBranchesRefIdeal.τ).loc Cert.WBranchesRefIdeal.main_arg0) = m ((c.tc : Thread Cert.WBranchesIdeal.nD Cert.WBranchesIdeal.τ).loc Cert.WBranchesIdeal.main_arg0)
      ∧ m' ((c.tc : Thread Cert.WBranchesRefIdeal.nD Cert.WBranchesRefIdeal.τ).loc Cert.WBranchesRefIdeal.main_arg1) = m ((c.tc : Thread Cert.WBranchesIdeal.nD Cert.WBranchesIdeal.τ).loc Cert.WBranchesIdeal.main_arg1)
      ∧ m' ((c.tc : Thread Cert.WBranchesRefIdeal.nD Cert.WBranchesRefIdeal.τ).loc Cert.WBranchesRefIdeal.main_arg2) = m ((c.tc : Thread Cert.WBranchesIdeal.nD Cert.WBranchesIdeal.τ).loc Cert.WBranchesIdeal.main_arg2)
      ∧ m' ((c.tc : Thread Cert.WBranchesRefIdeal.nD Cert.WBranchesRefIdeal.τ).loc Cert.WBranchesRefIdeal.main_arg3) = m ((c.tc : Thread Cert.WBranchesIdeal.nD Cert.WBranchesIdeal.τ).loc Cert.WBranchesIdeal.main_arg3)
      ∧ m' ((c.tc : Thread Cert.WBranchesRefIdeal.nD Cert.WBranchesRefIdeal.τ).loc Cert.WBranchesRefIdeal.main_arg4) = m ((c.tc : Thread Cert.WBranchesIdeal.nD Cert.WBranchesIdeal.τ).loc Cert.WBranchesIdeal.main_arg4)) →
    ∃ (v0 : (c : Dev Cert.WBranchesIdeal.nD) → Buf (Elt Ideal) ((c.tc : Thread Cert.WBranchesIdeal.nD Cert.WBranchesIdeal.τ).loc Cert.WBranchesIdeal.main_v0_0)) (v1 : (c : Dev Cert.WBranchesIdeal.nD) → Buf (Elt Ideal) ((c.tc : Thread Cert.WBranchesIdeal.nD Cert.WBranchesIdeal.τ).loc Cert.WBranchesIdeal.main_v0_1)) (v2 : (c : Dev Cert.WBranchesIdeal.nD) → Buf (Elt Ideal) ((c.tc : Thread Cert.WBranchesIdeal.nD Cert.WBranchesIdeal.τ).loc Cert.WBranchesIdeal.main_v0_2)) (v3 : (c : Dev Cert.WBranchesIdeal.nD) → Buf (Elt Ideal) ((c.tc : Thread Cert.WBranchesIdeal.nD Cert.WBranchesIdeal.τ).loc Cert.WBranchesIdeal.main_v0_3)),
      θ_run (Cert.WBranchesIdeal.defs (F := Ideal)) (onTc (τ := Cert.WBranchesIdeal.τ) (Cert.WBranchesIdeal.main (F := Ideal))) ⟨m, fun _ => 0, g⟩ (fun r => ∀ c : Dev Cert.WBranchesIdeal.nD,
          r.2.mem ((c.tc : Thread Cert.WBranchesIdeal.nD Cert.WBranchesIdeal.τ).loc Cert.WBranchesIdeal.main_v0_0) = v0 c
          ∧ r.2.mem ((c.tc : Thread Cert.WBranchesIdeal.nD Cert.WBranchesIdeal.τ).loc Cert.WBranchesIdeal.main_v0_1) = v1 c
          ∧ r.2.mem ((c.tc : Thread Cert.WBranchesIdeal.nD Cert.WBranchesIdeal.τ).loc Cert.WBranchesIdeal.main_v0_2) = v2 c
          ∧ r.2.mem ((c.tc : Thread Cert.WBranchesIdeal.nD Cert.WBranchesIdeal.τ).loc Cert.WBranchesIdeal.main_v0_3) = v3 c
          ∧ r.2.mem ((c.tc : Thread Cert.WBranchesIdeal.nD Cert.WBranchesIdeal.τ).loc Cert.WBranchesIdeal.main_arg0) = m ((c.tc : Thread Cert.WBranchesIdeal.nD Cert.WBranchesIdeal.τ).loc Cert.WBranchesIdeal.main_arg0)
          ∧ r.2.mem ((c.tc : Thread Cert.WBranchesIdeal.nD Cert.WBranchesIdeal.τ).loc Cert.WBranchesIdeal.main_arg1) = m ((c.tc : Thread Cert.WBranchesIdeal.nD Cert.WBranchesIdeal.τ).loc Cert.WBranchesIdeal.main_arg1)
          ∧ r.2.mem ((c.tc : Thread Cert.WBranchesIdeal.nD Cert.WBranchesIdeal.τ).loc Cert.WBranchesIdeal.main_arg2) = m ((c.tc : Thread Cert.WBranchesIdeal.nD Cert.WBranchesIdeal.τ).loc Cert.WBranchesIdeal.main_arg2)
          ∧ r.2.mem ((c.tc : Thread Cert.WBranchesIdeal.nD Cert.WBranchesIdeal.τ).loc Cert.WBranchesIdeal.main_arg3) = m ((c.tc : Thread Cert.WBranchesIdeal.nD Cert.WBranchesIdeal.τ).loc Cert.WBranchesIdeal.main_arg3)
          ∧ r.2.mem ((c.tc : Thread Cert.WBranchesIdeal.nD Cert.WBranchesIdeal.τ).loc Cert.WBranchesIdeal.main_arg4) = m ((c.tc : Thread Cert.WBranchesIdeal.nD Cert.WBranchesIdeal.τ).loc Cert.WBranchesIdeal.main_arg4))
      ∧ θ_run (Cert.WBranchesRefIdeal.defs (F := Ideal)) (onTc (τ := Cert.WBranchesRefIdeal.τ) (Cert.WBranchesRefIdeal.main (F := Ideal))) ⟨m', fun _ => 0, g'⟩ (fun r => ∀ c : Dev Cert.WBranchesRefIdeal.nD,
          r.2.mem ((c.tc : Thread Cert.WBranchesRefIdeal.nD Cert.WBranchesRefIdeal.τ).loc Cert.WBranchesRefIdeal.main_v10) = v0 c
          ∧ r.2.mem ((c.tc : Thread Cert.WBranchesRefIdeal.nD Cert.WBranchesRefIdeal.τ).loc Cert.WBranchesRefIdeal.main_v11) = v1 c
          ∧ r.2.mem ((c.tc : Thread Cert.WBranchesRefIdeal.nD Cert.WBranchesRefIdeal.τ).loc Cert.WBranchesRefIdeal.main_v12) = v2 c
          ∧ r.2.mem ((c.tc : Thread Cert.WBranchesRefIdeal.nD Cert.WBranchesRefIdeal.τ).loc Cert.WBranchesRefIdeal.main_v13) = v3 c
          ∧ r.2.mem ((c.tc : Thread Cert.WBranchesRefIdeal.nD Cert.WBranchesRefIdeal.τ).loc Cert.WBranchesRefIdeal.main_arg0) = m' ((c.tc : Thread Cert.WBranchesRefIdeal.nD Cert.WBranchesRefIdeal.τ).loc Cert.WBranchesRefIdeal.main_arg0)
          ∧ r.2.mem ((c.tc : Thread Cert.WBranchesRefIdeal.nD Cert.WBranchesRefIdeal.τ).loc Cert.WBranchesRefIdeal.main_arg1) = m' ((c.tc : Thread Cert.WBranchesRefIdeal.nD Cert.WBranchesRefIdeal.τ).loc Cert.WBranchesRefIdeal.main_arg1)
          ∧ r.2.mem ((c.tc : Thread Cert.WBranchesRefIdeal.nD Cert.WBranchesRefIdeal.τ).loc Cert.WBranchesRefIdeal.main_arg2) = m' ((c.tc : Thread Cert.WBranchesRefIdeal.nD Cert.WBranchesRefIdeal.τ).loc Cert.WBranchesRefIdeal.main_arg2)
          ∧ r.2.mem ((c.tc : Thread Cert.WBranchesRefIdeal.nD Cert.WBranchesRefIdeal.τ).loc Cert.WBranchesRefIdeal.main_arg3) = m' ((c.tc : Thread Cert.WBranchesRefIdeal.nD Cert.WBranchesRefIdeal.τ).loc Cert.WBranchesRefIdeal.main_arg3)
          ∧ r.2.mem ((c.tc : Thread Cert.WBranchesRefIdeal.nD Cert.WBranchesRefIdeal.τ).loc Cert.WBranchesRefIdeal.main_arg4) = m' ((c.tc : Thread Cert.WBranchesRefIdeal.nD Cert.WBranchesRefIdeal.τ).loc Cert.WBranchesRefIdeal.main_arg4))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v6) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WPleGate_WPleGateIdeal : Prop :=
  True

def algebraic_WPleGateIdeal_WPleGateRefIdeal [hWPleGateIdeal : Cert.WPleGateIdeal.Facts] [hWPleGateRefIdeal : Cert.WPleGateRefIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg)
    (m' : (ℓ : Loc Cert.WPleGateRefIdeal.nD Cert.WPleGateRefIdeal.τ Cert.WPleGateRefIdeal.sig) → Buf (Elt Ideal) ℓ) (g' : Dev Cert.WPleGateRefIdeal.nD → PrngReg), Pre_WPleGateIdeal m →
    (∀ c : Dev Cert.WPleGateIdeal.nD,
      m' ((c.tc : Thread Cert.WPleGateRefIdeal.nD Cert.WPleGateRefIdeal.τ).loc Cert.WPleGateRefIdeal.main_arg0) = m ((c.tc : Thread Cert.WPleGateIdeal.nD Cert.WPleGateIdeal.τ).loc Cert.WPleGateIdeal.main_arg0)
      ∧ m' ((c.tc : Thread Cert.WPleGateRefIdeal.nD Cert.WPleGateRefIdeal.τ).loc Cert.WPleGateRefIdeal.main_arg1) = m ((c.tc : Thread Cert.WPleGateIdeal.nD Cert.WPleGateIdeal.τ).loc Cert.WPleGateIdeal.main_arg1)) →
    ∃ (v0 : (c : Dev Cert.WPleGateIdeal.nD) → Buf (Elt Ideal) ((c.tc : Thread Cert.WPleGateIdeal.nD Cert.WPleGateIdeal.τ).loc Cert.WPleGateIdeal.main_v0)),
      θ_run (Cert.WPleGateIdeal.defs (F := Ideal)) (onTc (τ := Cert.WPleGateIdeal.τ) (Cert.WPleGateIdeal.main (F := Ideal))) ⟨m, fun _ => 0, g⟩ (fun r => ∀ c : Dev Cert.WPleGateIdeal.nD,
          r.2.mem ((c.tc : Thread Cert.WPleGateIdeal.nD Cert.WPleGateIdeal.τ).loc Cert.WPleGateIdeal.main_v0) = v0 c
          ∧ r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
          ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ θ_run (Cert.WPleGateRefIdeal.defs (F := Ideal)) (onTc (τ := Cert.WPleGateRefIdeal.τ) (Cert.WPleGateRefIdeal.main (F := Ideal))) ⟨m', fun _ => 0, g'⟩ (fun r => ∀ c : Dev Cert.WPleGateRefIdeal.nD,
          r.2.mem ((c.tc : Thread Cert.WPleGateRefIdeal.nD Cert.WPleGateRefIdeal.τ).loc Cert.WPleGateRefIdeal.main_v7) = v0 c
          ∧ r.2.mem ((c.tc : Thread Cert.WPleGateRefIdeal.nD Cert.WPleGateRefIdeal.τ).loc Cert.WPleGateRefIdeal.main_arg0) = m' ((c.tc : Thread Cert.WPleGateRefIdeal.nD Cert.WPleGateRefIdeal.τ).loc Cert.WPleGateRefIdeal.main_arg0)
          ∧ r.2.mem ((c.tc : Thread Cert.WPleGateRefIdeal.nD Cert.WPleGateRefIdeal.τ).loc Cert.WPleGateRefIdeal.main_arg1) = m' ((c.tc : Thread Cert.WPleGateRefIdeal.nD Cert.WPleGateRefIdeal.τ).loc Cert.WPleGateRefIdeal.main_arg1))

def preserves_WBranch_WBranchIdeal : Prop :=
  True

def algebraic_WBranchIdeal_WBranchRefIdeal [hWBranchIdeal : Cert.WBranchIdeal.Facts] [hWBranchRefIdeal : Cert.WBranchRefIdeal.Facts] : Prop :=
  ∀ (m : (ℓ : Loc Cert.WBranchIdeal.nD Cert.WBranchIdeal.τ Cert.WBranchIdeal.sig) → Buf (Elt Ideal) ℓ) (g : Dev Cert.WBranchIdeal.nD → PrngReg)
    (m' : (ℓ : Loc Cert.WBranchRefIdeal.nD Cert.WBranchRefIdeal.τ Cert.WBranchRefIdeal.sig) → Buf (Elt Ideal) ℓ) (g' : Dev Cert.WBranchRefIdeal.nD → PrngReg), Pre_WBranchIdeal m →
    (∀ c : Dev Cert.WBranchIdeal.nD,
      m' ((c.tc : Thread Cert.WBranchRefIdeal.nD Cert.WBranchRefIdeal.τ).loc Cert.WBranchRefIdeal.main_arg0) = m ((c.tc : Thread Cert.WBranchIdeal.nD Cert.WBranchIdeal.τ).loc Cert.WBranchIdeal.main_arg0)
      ∧ m' ((c.tc : Thread Cert.WBranchRefIdeal.nD Cert.WBranchRefIdeal.τ).loc Cert.WBranchRefIdeal.main_arg1) = m ((c.tc : Thread Cert.WBranchIdeal.nD Cert.WBranchIdeal.τ).loc Cert.WBranchIdeal.main_arg1)) →
    ∃ (v0 : (c : Dev Cert.WBranchIdeal.nD) → Buf (Elt Ideal) ((c.tc : Thread Cert.WBranchIdeal.nD Cert.WBranchIdeal.τ).loc Cert.WBranchIdeal.main_v0)),
      θ_run (Cert.WBranchIdeal.defs (F := Ideal)) (onTc (τ := Cert.WBranchIdeal.τ) (Cert.WBranchIdeal.main (F := Ideal))) ⟨m, fun _ => 0, g⟩ (fun r => ∀ c : Dev Cert.WBranchIdeal.nD,
          r.2.mem ((c.tc : Thread Cert.WBranchIdeal.nD Cert.WBranchIdeal.τ).loc Cert.WBranchIdeal.main_v0) = v0 c
          ∧ r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
          ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ θ_run (Cert.WBranchRefIdeal.defs (F := Ideal)) (onTc (τ := Cert.WBranchRefIdeal.τ) (Cert.WBranchRefIdeal.main (F := Ideal))) ⟨m', fun _ => 0, g'⟩ (fun r => ∀ c : Dev Cert.WBranchRefIdeal.nD,
          r.2.mem ((c.tc : Thread Cert.WBranchRefIdeal.nD Cert.WBranchRefIdeal.τ).loc Cert.WBranchRefIdeal.main_v7) = v0 c
          ∧ r.2.mem ((c.tc : Thread Cert.WBranchRefIdeal.nD Cert.WBranchRefIdeal.τ).loc Cert.WBranchRefIdeal.main_arg0) = m' ((c.tc : Thread Cert.WBranchRefIdeal.nD Cert.WBranchRefIdeal.τ).loc Cert.WBranchRefIdeal.main_arg0)
          ∧ r.2.mem ((c.tc : Thread Cert.WBranchRefIdeal.nD Cert.WBranchRefIdeal.τ).loc Cert.WBranchRefIdeal.main_arg1) = m' ((c.tc : Thread Cert.WBranchRefIdeal.nD Cert.WBranchRefIdeal.τ).loc Cert.WBranchRefIdeal.main_arg1))

def preserves_WPleProj_WPleProjIdeal : Prop :=
  True

def algebraic_WPleProjIdeal_WPleProjRefIdeal [hWPleProjIdeal : Cert.WPleProjIdeal.Facts] [hWPleProjRefIdeal : Cert.WPleProjRefIdeal.Facts] : Prop :=
  ∀ (m : (ℓ : Loc Cert.WPleProjIdeal.nD Cert.WPleProjIdeal.τ Cert.WPleProjIdeal.sig) → Buf (Elt Ideal) ℓ) (g : Dev Cert.WPleProjIdeal.nD → PrngReg)
    (m' : (ℓ : Loc Cert.WPleProjRefIdeal.nD Cert.WPleProjRefIdeal.τ Cert.WPleProjRefIdeal.sig) → Buf (Elt Ideal) ℓ) (g' : Dev Cert.WPleProjRefIdeal.nD → PrngReg), Pre_WPleProjIdeal m →
    (∀ c : Dev Cert.WPleProjIdeal.nD,
      m' ((c.tc : Thread Cert.WPleProjRefIdeal.nD Cert.WPleProjRefIdeal.τ).loc Cert.WPleProjRefIdeal.main_arg0) = m ((c.tc : Thread Cert.WPleProjIdeal.nD Cert.WPleProjIdeal.τ).loc Cert.WPleProjIdeal.main_arg0)
      ∧ m' ((c.tc : Thread Cert.WPleProjRefIdeal.nD Cert.WPleProjRefIdeal.τ).loc Cert.WPleProjRefIdeal.main_arg1) = m ((c.tc : Thread Cert.WPleProjIdeal.nD Cert.WPleProjIdeal.τ).loc Cert.WPleProjIdeal.main_arg1)) →
    ∃ (v0 : (c : Dev Cert.WPleProjIdeal.nD) → Buf (Elt Ideal) ((c.tc : Thread Cert.WPleProjIdeal.nD Cert.WPleProjIdeal.τ).loc Cert.WPleProjIdeal.main_v0)),
      θ_run (Cert.WPleProjIdeal.defs (F := Ideal)) (onTc (τ := Cert.WPleProjIdeal.τ) (Cert.WPleProjIdeal.main (F := Ideal))) ⟨m, fun _ => 0, g⟩ (fun r => ∀ c : Dev Cert.WPleProjIdeal.nD,
          r.2.mem ((c.tc : Thread Cert.WPleProjIdeal.nD Cert.WPleProjIdeal.τ).loc Cert.WPleProjIdeal.main_v0) = v0 c
          ∧ r.2.mem ((c.tc : Thread Cert.WPleProjIdeal.nD Cert.WPleProjIdeal.τ).loc Cert.WPleProjIdeal.main_arg0) = m ((c.tc : Thread Cert.WPleProjIdeal.nD Cert.WPleProjIdeal.τ).loc Cert.WPleProjIdeal.main_arg0)
          ∧ r.2.mem ((c.tc : Thread Cert.WPleProjIdeal.nD Cert.WPleProjIdeal.τ).loc Cert.WPleProjIdeal.main_arg1) = m ((c.tc : Thread Cert.WPleProjIdeal.nD Cert.WPleProjIdeal.τ).loc Cert.WPleProjIdeal.main_arg1))
      ∧ θ_run (Cert.WPleProjRefIdeal.defs (F := Ideal)) (onTc (τ := Cert.WPleProjRefIdeal.τ) (Cert.WPleProjRefIdeal.main (F := Ideal))) ⟨m', fun _ => 0, g'⟩ (fun r => ∀ c : Dev Cert.WPleProjRefIdeal.nD,
          r.2.mem ((c.tc : Thread Cert.WPleProjRefIdeal.nD Cert.WPleProjRefIdeal.τ).loc Cert.WPleProjRefIdeal.main_v6) = v0 c
          ∧ r.2.mem ((c.tc : Thread Cert.WPleProjRefIdeal.nD Cert.WPleProjRefIdeal.τ).loc Cert.WPleProjRefIdeal.main_arg0) = m' ((c.tc : Thread Cert.WPleProjRefIdeal.nD Cert.WPleProjRefIdeal.τ).loc Cert.WPleProjRefIdeal.main_arg0)
          ∧ r.2.mem ((c.tc : Thread Cert.WPleProjRefIdeal.nD Cert.WPleProjRefIdeal.τ).loc Cert.WPleProjRefIdeal.main_arg1) = m' ((c.tc : Thread Cert.WPleProjRefIdeal.nD Cert.WPleProjRefIdeal.τ).loc Cert.WPleProjRefIdeal.main_arg1))

def preserves_DFfnOut_DFfnOutIdeal : Prop :=
  True

def algebraic_DFfnOutIdeal_DFfnOutRefIdeal [hDFfnOutIdeal : Cert.DFfnOutIdeal.Facts] [hDFfnOutRefIdeal : Cert.DFfnOutRefIdeal.Facts] : Prop :=
  ∀ (m : (ℓ : Loc Cert.DFfnOutIdeal.nD Cert.DFfnOutIdeal.τ Cert.DFfnOutIdeal.sig) → Buf (Elt Ideal) ℓ) (g : Dev Cert.DFfnOutIdeal.nD → PrngReg)
    (m' : (ℓ : Loc Cert.DFfnOutRefIdeal.nD Cert.DFfnOutRefIdeal.τ Cert.DFfnOutRefIdeal.sig) → Buf (Elt Ideal) ℓ) (g' : Dev Cert.DFfnOutRefIdeal.nD → PrngReg), Pre_DFfnOutIdeal m →
    (∀ c : Dev Cert.DFfnOutIdeal.nD,
      m' ((c.tc : Thread Cert.DFfnOutRefIdeal.nD Cert.DFfnOutRefIdeal.τ).loc Cert.DFfnOutRefIdeal.main_arg0) = m ((c.tc : Thread Cert.DFfnOutIdeal.nD Cert.DFfnOutIdeal.τ).loc Cert.DFfnOutIdeal.main_arg0)
      ∧ m' ((c.tc : Thread Cert.DFfnOutRefIdeal.nD Cert.DFfnOutRefIdeal.τ).loc Cert.DFfnOutRefIdeal.main_arg1) = m ((c.tc : Thread Cert.DFfnOutIdeal.nD Cert.DFfnOutIdeal.τ).loc Cert.DFfnOutIdeal.main_arg1)) →
    ∃ (v0 : (c : Dev Cert.DFfnOutIdeal.nD) → Buf (Elt Ideal) ((c.tc : Thread Cert.DFfnOutIdeal.nD Cert.DFfnOutIdeal.τ).loc Cert.DFfnOutIdeal.main_v0)),
      θ_run (Cert.DFfnOutIdeal.defs (F := Ideal)) (onTc (τ := Cert.DFfnOutIdeal.τ) (Cert.DFfnOutIdeal.main (F := Ideal))) ⟨m, fun _ => 0, g⟩ (fun r => ∀ c : Dev Cert.DFfnOutIdeal.nD,
          r.2.mem ((c.tc : Thread Cert.DFfnOutIdeal.nD Cert.DFfnOutIdeal.τ).loc Cert.DFfnOutIdeal.main_v0) = v0 c
          ∧ r.2.mem ((c.tc : Thread Cert.DFfnOutIdeal.nD Cert.DFfnOutIdeal.τ).loc Cert.DFfnOutIdeal.main_arg0) = m ((c.tc : Thread Cert.DFfnOutIdeal.nD Cert.DFfnOutIdeal.τ).loc Cert.DFfnOutIdeal.main_arg0)
          ∧ r.2.mem ((c.tc : Thread Cert.DFfnOutIdeal.nD Cert.DFfnOutIdeal.τ).loc Cert.DFfnOutIdeal.main_arg1) = m ((c.tc : Thread Cert.DFfnOutIdeal.nD Cert.DFfnOutIdeal.τ).loc Cert.DFfnOutIdeal.main_arg1))
      ∧ θ_run (Cert.DFfnOutRefIdeal.defs (F := Ideal)) (onTc (τ := Cert.DFfnOutRefIdeal.τ) (Cert.DFfnOutRefIdeal.main (F := Ideal))) ⟨m', fun _ => 0, g'⟩ (fun r => ∀ c : Dev Cert.DFfnOutRefIdeal.nD,
          r.2.mem ((c.tc : Thread Cert.DFfnOutRefIdeal.nD Cert.DFfnOutRefIdeal.τ).loc Cert.DFfnOutRefIdeal.main_v6) = v0 c
          ∧ r.2.mem ((c.tc : Thread Cert.DFfnOutRefIdeal.nD Cert.DFfnOutRefIdeal.τ).loc Cert.DFfnOutRefIdeal.main_arg0) = m' ((c.tc : Thread Cert.DFfnOutRefIdeal.nD Cert.DFfnOutRefIdeal.τ).loc Cert.DFfnOutRefIdeal.main_arg0)
          ∧ r.2.mem ((c.tc : Thread Cert.DFfnOutRefIdeal.nD Cert.DFfnOutRefIdeal.τ).loc Cert.DFfnOutRefIdeal.main_arg1) = m' ((c.tc : Thread Cert.DFfnOutRefIdeal.nD Cert.DFfnOutRefIdeal.τ).loc Cert.DFfnOutRefIdeal.main_arg1))

def preserves_DOutProj_DOutProjIdeal : Prop :=
  True

def algebraic_DOutProjIdeal_DOutProjRefIdeal [hDOutProjIdeal : Cert.DOutProjIdeal.Facts] [hDOutProjRefIdeal : Cert.DOutProjRefIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg)
    (m' : (ℓ : Loc Cert.DOutProjRefIdeal.nD Cert.DOutProjRefIdeal.τ Cert.DOutProjRefIdeal.sig) → Buf (Elt Ideal) ℓ) (g' : Dev Cert.DOutProjRefIdeal.nD → PrngReg), Pre_DOutProjIdeal m →
    (∀ c : Dev Cert.DOutProjIdeal.nD,
      m' ((c.tc : Thread Cert.DOutProjRefIdeal.nD Cert.DOutProjRefIdeal.τ).loc Cert.DOutProjRefIdeal.main_arg0) = m ((c.tc : Thread Cert.DOutProjIdeal.nD Cert.DOutProjIdeal.τ).loc Cert.DOutProjIdeal.main_arg0)
      ∧ m' ((c.tc : Thread Cert.DOutProjRefIdeal.nD Cert.DOutProjRefIdeal.τ).loc Cert.DOutProjRefIdeal.main_arg1) = m ((c.tc : Thread Cert.DOutProjIdeal.nD Cert.DOutProjIdeal.τ).loc Cert.DOutProjIdeal.main_arg1)) →
    ∃ (v0 : (c : Dev Cert.DOutProjIdeal.nD) → Buf (Elt Ideal) ((c.tc : Thread Cert.DOutProjIdeal.nD Cert.DOutProjIdeal.τ).loc Cert.DOutProjIdeal.main_v0)),
      θ_run (Cert.DOutProjIdeal.defs (F := Ideal)) (onTc (τ := Cert.DOutProjIdeal.τ) (Cert.DOutProjIdeal.main (F := Ideal))) ⟨m, fun _ => 0, g⟩ (fun r => ∀ c : Dev Cert.DOutProjIdeal.nD,
          r.2.mem ((c.tc : Thread Cert.DOutProjIdeal.nD Cert.DOutProjIdeal.τ).loc Cert.DOutProjIdeal.main_v0) = v0 c
          ∧ r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
          ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1))
      ∧ θ_run (Cert.DOutProjRefIdeal.defs (F := Ideal)) (onTc (τ := Cert.DOutProjRefIdeal.τ) (Cert.DOutProjRefIdeal.main (F := Ideal))) ⟨m', fun _ => 0, g'⟩ (fun r => ∀ c : Dev Cert.DOutProjRefIdeal.nD,
          r.2.mem ((c.tc : Thread Cert.DOutProjRefIdeal.nD Cert.DOutProjRefIdeal.τ).loc Cert.DOutProjRefIdeal.main_v6) = v0 c
          ∧ r.2.mem ((c.tc : Thread Cert.DOutProjRefIdeal.nD Cert.DOutProjRefIdeal.τ).loc Cert.DOutProjRefIdeal.main_arg0) = m' ((c.tc : Thread Cert.DOutProjRefIdeal.nD Cert.DOutProjRefIdeal.τ).loc Cert.DOutProjRefIdeal.main_arg0)
          ∧ r.2.mem ((c.tc : Thread Cert.DOutProjRefIdeal.nD Cert.DOutProjRefIdeal.τ).loc Cert.DOutProjRefIdeal.main_arg1) = m' ((c.tc : Thread Cert.DOutProjRefIdeal.nD Cert.DOutProjRefIdeal.τ).loc Cert.DOutProjRefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v0_0)) (v1 : (c : Dev Cert.FwdInIdeal.nD) → Buf (Elt Ideal) ((c.tc : Thread Cert.FwdInIdeal.nD Cert.FwdInIdeal.τ).loc Cert.FwdInIdeal.main_v0_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0_0) = v0 c
          ∧ r.2.mem ((c.tc : Thread Cert.FwdInIdeal.nD Cert.FwdInIdeal.τ).loc Cert.FwdInIdeal.main_v0_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v16) = v0 c
          ∧ r.2.mem ((c.tc : Thread Cert.FwdInRefIdeal.nD Cert.FwdInRefIdeal.τ).loc Cert.FwdInRefIdeal.main_v17) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_FwdFfnIn_FwdFfnInIdeal : Prop :=
  True

def algebraic_FwdFfnInIdeal_FwdFfnInRefIdeal [hFwdFfnInIdeal : Cert.FwdFfnInIdeal.Facts] [hFwdFfnInRefIdeal : Cert.FwdFfnInRefIdeal.Facts] : Prop :=
  ∀ (m : (ℓ : Loc Cert.FwdFfnInIdeal.nD Cert.FwdFfnInIdeal.τ Cert.FwdFfnInIdeal.sig) → Buf (Elt Ideal) ℓ) (g : Dev Cert.FwdFfnInIdeal.nD → PrngReg)
    (m' : (ℓ : Loc Cert.FwdFfnInRefIdeal.nD Cert.FwdFfnInRefIdeal.τ Cert.FwdFfnInRefIdeal.sig) → Buf (Elt Ideal) ℓ) (g' : Dev Cert.FwdFfnInRefIdeal.nD → PrngReg), Pre_FwdFfnInIdeal m →
    (∀ c : Dev Cert.FwdFfnInIdeal.nD,
      m' ((c.tc : Thread Cert.FwdFfnInRefIdeal.nD Cert.FwdFfnInRefIdeal.τ).loc Cert.FwdFfnInRefIdeal.main_arg0) = m ((c.tc : Thread Cert.FwdFfnInIdeal.nD Cert.FwdFfnInIdeal.τ).loc Cert.FwdFfnInIdeal.main_arg0)
      ∧ m' ((c.tc : Thread Cert.FwdFfnInRefIdeal.nD Cert.FwdFfnInRefIdeal.τ).loc Cert.FwdFfnInRefIdeal.main_arg1) = m ((c.tc : Thread Cert.FwdFfnInIdeal.nD Cert.FwdFfnInIdeal.τ).loc Cert.FwdFfnInIdeal.main_arg1)
      ∧ m' ((c.tc : Thread Cert.FwdFfnInRefIdeal.nD Cert.FwdFfnInRefIdeal.τ).loc Cert.FwdFfnInRefIdeal.main_arg2) = m ((c.tc : Thread Cert.FwdFfnInIdeal.nD Cert.FwdFfnInIdeal.τ).loc Cert.FwdFfnInIdeal.main_arg2)) →
    ∃ (v0 : (c : Dev Cert.FwdFfnInIdeal.nD) → Buf (Elt Ideal) ((c.tc : Thread Cert.FwdFfnInIdeal.nD Cert.FwdFfnInIdeal.τ).loc Cert.FwdFfnInIdeal.main_v0_0)) (v1 : (c : Dev Cert.FwdFfnInIdeal.nD) → Buf (Elt Ideal) ((c.tc : Thread Cert.FwdFfnInIdeal.nD Cert.FwdFfnInIdeal.τ).loc Cert.FwdFfnInIdeal.main_v0_1)),
      θ_run (Cert.FwdFfnInIdeal.defs (F := Ideal)) (onTc (τ := Cert.FwdFfnInIdeal.τ) (Cert.FwdFfnInIdeal.main (F := Ideal))) ⟨m, fun _ => 0, g⟩ (fun r => ∀ c : Dev Cert.FwdFfnInIdeal.nD,
          r.2.mem ((c.tc : Thread Cert.FwdFfnInIdeal.nD Cert.FwdFfnInIdeal.τ).loc Cert.FwdFfnInIdeal.main_v0_0) = v0 c
          ∧ r.2.mem ((c.tc : Thread Cert.FwdFfnInIdeal.nD Cert.FwdFfnInIdeal.τ).loc Cert.FwdFfnInIdeal.main_v0_1) = v1 c
          ∧ r.2.mem ((c.tc : Thread Cert.FwdFfnInIdeal.nD Cert.FwdFfnInIdeal.τ).loc Cert.FwdFfnInIdeal.main_arg0) = m ((c.tc : Thread Cert.FwdFfnInIdeal.nD Cert.FwdFfnInIdeal.τ).loc Cert.FwdFfnInIdeal.main_arg0)
          ∧ r.2.mem ((c.tc : Thread Cert.FwdFfnInIdeal.nD Cert.FwdFfnInIdeal.τ).loc Cert.FwdFfnInIdeal.main_arg1) = m ((c.tc : Thread Cert.FwdFfnInIdeal.nD Cert.FwdFfnInIdeal.τ).loc Cert.FwdFfnInIdeal.main_arg1)
          ∧ r.2.mem ((c.tc : Thread Cert.FwdFfnInIdeal.nD Cert.FwdFfnInIdeal.τ).loc Cert.FwdFfnInIdeal.main_arg2) = m ((c.tc : Thread Cert.FwdFfnInIdeal.nD Cert.FwdFfnInIdeal.τ).loc Cert.FwdFfnInIdeal.main_arg2))
      ∧ θ_run (Cert.FwdFfnInRefIdeal.defs (F := Ideal)) (onTc (τ := Cert.FwdFfnInRefIdeal.τ) (Cert.FwdFfnInRefIdeal.main (F := Ideal))) ⟨m', fun _ => 0, g'⟩ (fun r => ∀ c : Dev Cert.FwdFfnInRefIdeal.nD,
          r.2.mem ((c.tc : Thread Cert.FwdFfnInRefIdeal.nD Cert.FwdFfnInRefIdeal.τ).loc Cert.FwdFfnInRefIdeal.main_v16) = v0 c
          ∧ r.2.mem ((c.tc : Thread Cert.FwdFfnInRefIdeal.nD Cert.FwdFfnInRefIdeal.τ).loc Cert.FwdFfnInRefIdeal.main_v17) = v1 c
          ∧ r.2.mem ((c.tc : Thread Cert.FwdFfnInRefIdeal.nD Cert.FwdFfnInRefIdeal.τ).loc Cert.FwdFfnInRefIdeal.main_arg0) = m' ((c.tc : Thread Cert.FwdFfnInRefIdeal.nD Cert.FwdFfnInRefIdeal.τ).loc Cert.FwdFfnInRefIdeal.main_arg0)
          ∧ r.2.mem ((c.tc : Thread Cert.FwdFfnInRefIdeal.nD Cert.FwdFfnInRefIdeal.τ).loc Cert.FwdFfnInRefIdeal.main_arg1) = m' ((c.tc : Thread Cert.FwdFfnInRefIdeal.nD Cert.FwdFfnInRefIdeal.τ).loc Cert.FwdFfnInRefIdeal.main_arg1)
          ∧ r.2.mem ((c.tc : Thread Cert.FwdFfnInRefIdeal.nD Cert.FwdFfnInRefIdeal.τ).loc Cert.FwdFfnInRefIdeal.main_arg2) = m' ((c.tc : Thread Cert.FwdFfnInRefIdeal.nD Cert.FwdFfnInRefIdeal.τ).loc Cert.FwdFfnInRefIdeal.main_arg2))

def preserves_FwdFfnOut_FwdFfnOutIdeal : Prop :=
  True

def algebraic_FwdFfnOutIdeal_FwdFfnOutRefIdeal [hFwdFfnOutIdeal : Cert.FwdFfnOutIdeal.Facts] [hFwdFfnOutRefIdeal : Cert.FwdFfnOutRefIdeal.Facts] : Prop :=
  ∀ (m : (ℓ : Loc Cert.FwdFfnOutIdeal.nD Cert.FwdFfnOutIdeal.τ Cert.FwdFfnOutIdeal.sig) → Buf (Elt Ideal) ℓ) (g : Dev Cert.FwdFfnOutIdeal.nD → PrngReg)
    (m' : (ℓ : Loc Cert.FwdFfnOutRefIdeal.nD Cert.FwdFfnOutRefIdeal.τ Cert.FwdFfnOutRefIdeal.sig) → Buf (Elt Ideal) ℓ) (g' : Dev Cert.FwdFfnOutRefIdeal.nD → PrngReg), Pre_FwdFfnOutIdeal m →
    (∀ c : Dev Cert.FwdFfnOutIdeal.nD,
      m' ((c.tc : Thread Cert.FwdFfnOutRefIdeal.nD Cert.FwdFfnOutRefIdeal.τ).loc Cert.FwdFfnOutRefIdeal.main_arg0) = m ((c.tc : Thread Cert.FwdFfnOutIdeal.nD Cert.FwdFfnOutIdeal.τ).loc Cert.FwdFfnOutIdeal.main_arg0)
      ∧ m' ((c.tc : Thread Cert.FwdFfnOutRefIdeal.nD Cert.FwdFfnOutRefIdeal.τ).loc Cert.FwdFfnOutRefIdeal.main_arg1) = m ((c.tc : Thread Cert.FwdFfnOutIdeal.nD Cert.FwdFfnOutIdeal.τ).loc Cert.FwdFfnOutIdeal.main_arg1)
      ∧ m' ((c.tc : Thread Cert.FwdFfnOutRefIdeal.nD Cert.FwdFfnOutRefIdeal.τ).loc Cert.FwdFfnOutRefIdeal.main_arg2) = m ((c.tc : Thread Cert.FwdFfnOutIdeal.nD Cert.FwdFfnOutIdeal.τ).loc Cert.FwdFfnOutIdeal.main_arg2)) →
    ∃ (v0 : (c : Dev Cert.FwdFfnOutIdeal.nD) → Buf (Elt Ideal) ((c.tc : Thread Cert.FwdFfnOutIdeal.nD Cert.FwdFfnOutIdeal.τ).loc Cert.FwdFfnOutIdeal.main_v0_0)) (v1 : (c : Dev Cert.FwdFfnOutIdeal.nD) → Buf (Elt Ideal) ((c.tc : Thread Cert.FwdFfnOutIdeal.nD Cert.FwdFfnOutIdeal.τ).loc Cert.FwdFfnOutIdeal.main_v0_1)),
      θ_run (Cert.FwdFfnOutIdeal.defs (F := Ideal)) (onTc (τ := Cert.FwdFfnOutIdeal.τ) (Cert.FwdFfnOutIdeal.main (F := Ideal))) ⟨m, fun _ => 0, g⟩ (fun r => ∀ c : Dev Cert.FwdFfnOutIdeal.nD,
          r.2.mem ((c.tc : Thread Cert.FwdFfnOutIdeal.nD Cert.FwdFfnOutIdeal.τ).loc Cert.FwdFfnOutIdeal.main_v0_0) = v0 c
          ∧ r.2.mem ((c.tc : Thread Cert.FwdFfnOutIdeal.nD Cert.FwdFfnOutIdeal.τ).loc Cert.FwdFfnOutIdeal.main_v0_1) = v1 c
          ∧ r.2.mem ((c.tc : Thread Cert.FwdFfnOutIdeal.nD Cert.FwdFfnOutIdeal.τ).loc Cert.FwdFfnOutIdeal.main_arg0) = m ((c.tc : Thread Cert.FwdFfnOutIdeal.nD Cert.FwdFfnOutIdeal.τ).loc Cert.FwdFfnOutIdeal.main_arg0)
          ∧ r.2.mem ((c.tc : Thread Cert.FwdFfnOutIdeal.nD Cert.FwdFfnOutIdeal.τ).loc Cert.FwdFfnOutIdeal.main_arg1) = m ((c.tc : Thread Cert.FwdFfnOutIdeal.nD Cert.FwdFfnOutIdeal.τ).loc Cert.FwdFfnOutIdeal.main_arg1)
          ∧ r.2.mem ((c.tc : Thread Cert.FwdFfnOutIdeal.nD Cert.FwdFfnOutIdeal.τ).loc Cert.FwdFfnOutIdeal.main_arg2) = m ((c.tc : Thread Cert.FwdFfnOutIdeal.nD Cert.FwdFfnOutIdeal.τ).loc Cert.FwdFfnOutIdeal.main_arg2))
      ∧ θ_run (Cert.FwdFfnOutRefIdeal.defs (F := Ideal)) (onTc (τ := Cert.FwdFfnOutRefIdeal.τ) (Cert.FwdFfnOutRefIdeal.main (F := Ideal))) ⟨m', fun _ => 0, g'⟩ (fun r => ∀ c : Dev Cert.FwdFfnOutRefIdeal.nD,
          r.2.mem ((c.tc : Thread Cert.FwdFfnOutRefIdeal.nD Cert.FwdFfnOutRefIdeal.τ).loc Cert.FwdFfnOutRefIdeal.main_v7) = v0 c
          ∧ r.2.mem ((c.tc : Thread Cert.FwdFfnOutRefIdeal.nD Cert.FwdFfnOutRefIdeal.τ).loc Cert.FwdFfnOutRefIdeal.main_v8) = v1 c
          ∧ r.2.mem ((c.tc : Thread Cert.FwdFfnOutRefIdeal.nD Cert.FwdFfnOutRefIdeal.τ).loc Cert.FwdFfnOutRefIdeal.main_arg0) = m' ((c.tc : Thread Cert.FwdFfnOutRefIdeal.nD Cert.FwdFfnOutRefIdeal.τ).loc Cert.FwdFfnOutRefIdeal.main_arg0)
          ∧ r.2.mem ((c.tc : Thread Cert.FwdFfnOutRefIdeal.nD Cert.FwdFfnOutRefIdeal.τ).loc Cert.FwdFfnOutRefIdeal.main_arg1) = m' ((c.tc : Thread Cert.FwdFfnOutRefIdeal.nD Cert.FwdFfnOutRefIdeal.τ).loc Cert.FwdFfnOutRefIdeal.main_arg1)
          ∧ r.2.mem ((c.tc : Thread Cert.FwdFfnOutRefIdeal.nD Cert.FwdFfnOutRefIdeal.τ).loc Cert.FwdFfnOutRefIdeal.main_arg2) = m' ((c.tc : Thread Cert.FwdFfnOutRefIdeal.nD Cert.FwdFfnOutRefIdeal.τ).loc Cert.FwdFfnOutRefIdeal.main_arg2))

def preserves_FwdGate_FwdGateIdeal : Prop :=
  True

def algebraic_FwdGateIdeal_FwdGateRefIdeal [hFwdGateIdeal : Cert.FwdGateIdeal.Facts] [hFwdGateRefIdeal : Cert.FwdGateRefIdeal.Facts] : Prop :=
  ∀ (m : (ℓ : Loc Cert.FwdGateIdeal.nD Cert.FwdGateIdeal.τ Cert.FwdGateIdeal.sig) → Buf (Elt Ideal) ℓ) (g : Dev Cert.FwdGateIdeal.nD → PrngReg)
    (m' : (ℓ : Loc Cert.FwdGateRefIdeal.nD Cert.FwdGateRefIdeal.τ Cert.FwdGateRefIdeal.sig) → Buf (Elt Ideal) ℓ) (g' : Dev Cert.FwdGateRefIdeal.nD → PrngReg), Pre_FwdGateIdeal m →
    (∀ c : Dev Cert.FwdGateIdeal.nD,
      m' ((c.tc : Thread Cert.FwdGateRefIdeal.nD Cert.FwdGateRefIdeal.τ).loc Cert.FwdGateRefIdeal.main_arg0) = m ((c.tc : Thread Cert.FwdGateIdeal.nD Cert.FwdGateIdeal.τ).loc Cert.FwdGateIdeal.main_arg0)
      ∧ m' ((c.tc : Thread Cert.FwdGateRefIdeal.nD Cert.FwdGateRefIdeal.τ).loc Cert.FwdGateRefIdeal.main_arg1) = m ((c.tc : Thread Cert.FwdGateIdeal.nD Cert.FwdGateIdeal.τ).loc Cert.FwdGateIdeal.main_arg1)
      ∧ m' ((c.tc : Thread Cert.FwdGateRefIdeal.nD Cert.FwdGateRefIdeal.τ).loc Cert.FwdGateRefIdeal.main_arg2) = m ((c.tc : Thread Cert.FwdGateIdeal.nD Cert.FwdGateIdeal.τ).loc Cert.FwdGateIdeal.main_arg2)) →
    ∃ (v0 : (c : Dev Cert.FwdGateIdeal.nD) → Buf (Elt Ideal) ((c.tc : Thread Cert.FwdGateIdeal.nD Cert.FwdGateIdeal.τ).loc Cert.FwdGateIdeal.main_v0_0)) (v1 : (c : Dev Cert.FwdGateIdeal.nD) → Buf (Elt Ideal) ((c.tc : Thread Cert.FwdGateIdeal.nD Cert.FwdGateIdeal.τ).loc Cert.FwdGateIdeal.main_v0_1)),
      θ_run (Cert.FwdGateIdeal.defs (F := Ideal)) (onTc (τ := Cert.FwdGateIdeal.τ) (Cert.FwdGateIdeal.main (F := Ideal))) ⟨m, fun _ => 0, g⟩ (fun r => ∀ c : Dev Cert.FwdGateIdeal.nD,
          r.2.mem ((c.tc : Thread Cert.FwdGateIdeal.nD Cert.FwdGateIdeal.τ).loc Cert.FwdGateIdeal.main_v0_0) = v0 c
          ∧ r.2.mem ((c.tc : Thread Cert.FwdGateIdeal.nD Cert.FwdGateIdeal.τ).loc Cert.FwdGateIdeal.main_v0_1) = v1 c
          ∧ r.2.mem ((c.tc : Thread Cert.FwdGateIdeal.nD Cert.FwdGateIdeal.τ).loc Cert.FwdGateIdeal.main_arg0) = m ((c.tc : Thread Cert.FwdGateIdeal.nD Cert.FwdGateIdeal.τ).loc Cert.FwdGateIdeal.main_arg0)
          ∧ r.2.mem ((c.tc : Thread Cert.FwdGateIdeal.nD Cert.FwdGateIdeal.τ).loc Cert.FwdGateIdeal.main_arg1) = m ((c.tc : Thread Cert.FwdGateIdeal.nD Cert.FwdGateIdeal.τ).loc Cert.FwdGateIdeal.main_arg1)
          ∧ r.2.mem ((c.tc : Thread Cert.FwdGateIdeal.nD Cert.FwdGateIdeal.τ).loc Cert.FwdGateIdeal.main_arg2) = m ((c.tc : Thread Cert.FwdGateIdeal.nD Cert.FwdGateIdeal.τ).loc Cert.FwdGateIdeal.main_arg2))
      ∧ θ_run (Cert.FwdGateRefIdeal.defs (F := Ideal)) (onTc (τ := Cert.FwdGateRefIdeal.τ) (Cert.FwdGateRefIdeal.main (F := Ideal))) ⟨m', fun _ => 0, g'⟩ (fun r => ∀ c : Dev Cert.FwdGateRefIdeal.nD,
          r.2.mem ((c.tc : Thread Cert.FwdGateRefIdeal.nD Cert.FwdGateRefIdeal.τ).loc Cert.FwdGateRefIdeal.main_v16) = v0 c
          ∧ r.2.mem ((c.tc : Thread Cert.FwdGateRefIdeal.nD Cert.FwdGateRefIdeal.τ).loc Cert.FwdGateRefIdeal.main_v17) = v1 c
          ∧ r.2.mem ((c.tc : Thread Cert.FwdGateRefIdeal.nD Cert.FwdGateRefIdeal.τ).loc Cert.FwdGateRefIdeal.main_arg0) = m' ((c.tc : Thread Cert.FwdGateRefIdeal.nD Cert.FwdGateRefIdeal.τ).loc Cert.FwdGateRefIdeal.main_arg0)
          ∧ r.2.mem ((c.tc : Thread Cert.FwdGateRefIdeal.nD Cert.FwdGateRefIdeal.τ).loc Cert.FwdGateRefIdeal.main_arg1) = m' ((c.tc : Thread Cert.FwdGateRefIdeal.nD Cert.FwdGateRefIdeal.τ).loc Cert.FwdGateRefIdeal.main_arg1)
          ∧ r.2.mem ((c.tc : Thread Cert.FwdGateRefIdeal.nD Cert.FwdGateRefIdeal.τ).loc Cert.FwdGateRefIdeal.main_arg2) = m' ((c.tc : Thread Cert.FwdGateRefIdeal.nD Cert.FwdGateRefIdeal.τ).loc Cert.FwdGateRefIdeal.main_arg2))

def preserves_FwdPleOut_FwdPleOutIdeal : Prop :=
  True

def algebraic_FwdPleOutIdeal_FwdPleOutRefIdeal [hFwdPleOutIdeal : Cert.FwdPleOutIdeal.Facts] [hFwdPleOutRefIdeal : Cert.FwdPleOutRefIdeal.Facts] : Prop :=
  ∀ (m : (ℓ : Loc Cert.FwdPleOutIdeal.nD Cert.FwdPleOutIdeal.τ Cert.FwdPleOutIdeal.sig) → Buf (Elt Ideal) ℓ) (g : Dev Cert.FwdPleOutIdeal.nD → PrngReg)
    (m' : (ℓ : Loc Cert.FwdPleOutRefIdeal.nD Cert.FwdPleOutRefIdeal.τ Cert.FwdPleOutRefIdeal.sig) → Buf (Elt Ideal) ℓ) (g' : Dev Cert.FwdPleOutRefIdeal.nD → PrngReg), Pre_FwdPleOutIdeal m →
    (∀ c : Dev Cert.FwdPleOutIdeal.nD,
      m' ((c.tc : Thread Cert.FwdPleOutRefIdeal.nD Cert.FwdPleOutRefIdeal.τ).loc Cert.FwdPleOutRefIdeal.main_arg0) = m ((c.tc : Thread Cert.FwdPleOutIdeal.nD Cert.FwdPleOutIdeal.τ).loc Cert.FwdPleOutIdeal.main_arg0)
      ∧ m' ((c.tc : Thread Cert.FwdPleOutRefIdeal.nD Cert.FwdPleOutRefIdeal.τ).loc Cert.FwdPleOutRefIdeal.main_arg1) = m ((c.tc : Thread Cert.FwdPleOutIdeal.nD Cert.FwdPleOutIdeal.τ).loc Cert.FwdPleOutIdeal.main_arg1)
      ∧ m' ((c.tc : Thread Cert.FwdPleOutRefIdeal.nD Cert.FwdPleOutRefIdeal.τ).loc Cert.FwdPleOutRefIdeal.main_arg2) = m ((c.tc : Thread Cert.FwdPleOutIdeal.nD Cert.FwdPleOutIdeal.τ).loc Cert.FwdPleOutIdeal.main_arg2)
      ∧ m' ((c.tc : Thread Cert.FwdPleOutRefIdeal.nD Cert.FwdPleOutRefIdeal.τ).loc Cert.FwdPleOutRefIdeal.main_arg3) = m ((c.tc : Thread Cert.FwdPleOutIdeal.nD Cert.FwdPleOutIdeal.τ).loc Cert.FwdPleOutIdeal.main_arg3)) →
    ∃ (v0 : (c : Dev Cert.FwdPleOutIdeal.nD) → Buf (Elt Ideal) ((c.tc : Thread Cert.FwdPleOutIdeal.nD Cert.FwdPleOutIdeal.τ).loc Cert.FwdPleOutIdeal.main_v0_0)) (v1 : (c : Dev Cert.FwdPleOutIdeal.nD) → Buf (Elt Ideal) ((c.tc : Thread Cert.FwdPleOutIdeal.nD Cert.FwdPleOutIdeal.τ).loc Cert.FwdPleOutIdeal.main_v0_1)),
      θ_run (Cert.FwdPleOutIdeal.defs (F := Ideal)) (onTc (τ := Cert.FwdPleOutIdeal.τ) (Cert.FwdPleOutIdeal.main (F := Ideal))) ⟨m, fun _ => 0, g⟩ (fun r => ∀ c : Dev Cert.FwdPleOutIdeal.nD,
          r.2.mem ((c.tc : Thread Cert.FwdPleOutIdeal.nD Cert.FwdPleOutIdeal.τ).loc Cert.FwdPleOutIdeal.main_v0_0) = v0 c
          ∧ r.2.mem ((c.tc : Thread Cert.FwdPleOutIdeal.nD Cert.FwdPleOutIdeal.τ).loc Cert.FwdPleOutIdeal.main_v0_1) = v1 c
          ∧ r.2.mem ((c.tc : Thread Cert.FwdPleOutIdeal.nD Cert.FwdPleOutIdeal.τ).loc Cert.FwdPleOutIdeal.main_arg0) = m ((c.tc : Thread Cert.FwdPleOutIdeal.nD Cert.FwdPleOutIdeal.τ).loc Cert.FwdPleOutIdeal.main_arg0)
          ∧ r.2.mem ((c.tc : Thread Cert.FwdPleOutIdeal.nD Cert.FwdPleOutIdeal.τ).loc Cert.FwdPleOutIdeal.main_arg1) = m ((c.tc : Thread Cert.FwdPleOutIdeal.nD Cert.FwdPleOutIdeal.τ).loc Cert.FwdPleOutIdeal.main_arg1)
          ∧ r.2.mem ((c.tc : Thread Cert.FwdPleOutIdeal.nD Cert.FwdPleOutIdeal.τ).loc Cert.FwdPleOutIdeal.main_arg2) = m ((c.tc : Thread Cert.FwdPleOutIdeal.nD Cert.FwdPleOutIdeal.τ).loc Cert.FwdPleOutIdeal.main_arg2)
          ∧ r.2.mem ((c.tc : Thread Cert.FwdPleOutIdeal.nD Cert.FwdPleOutIdeal.τ).loc Cert.FwdPleOutIdeal.main_arg3) = m ((c.tc : Thread Cert.FwdPleOutIdeal.nD Cert.FwdPleOutIdeal.τ).loc Cert.FwdPleOutIdeal.main_arg3))
      ∧ θ_run (Cert.FwdPleOutRefIdeal.defs (F := Ideal)) (onTc (τ := Cert.FwdPleOutRefIdeal.τ) (Cert.FwdPleOutRefIdeal.main (F := Ideal))) ⟨m', fun _ => 0, g'⟩ (fun r => ∀ c : Dev Cert.FwdPleOutRefIdeal.nD,
          r.2.mem ((c.tc : Thread Cert.FwdPleOutRefIdeal.nD Cert.FwdPleOutRefIdeal.τ).loc Cert.FwdPleOutRefIdeal.main_v2) = v0 c
          ∧ r.2.mem ((c.tc : Thread Cert.FwdPleOutRefIdeal.nD Cert.FwdPleOutRefIdeal.τ).loc Cert.FwdPleOutRefIdeal.main_v11) = v1 c
          ∧ r.2.mem ((c.tc : Thread Cert.FwdPleOutRefIdeal.nD Cert.FwdPleOutRefIdeal.τ).loc Cert.FwdPleOutRefIdeal.main_arg0) = m' ((c.tc : Thread Cert.FwdPleOutRefIdeal.nD Cert.FwdPleOutRefIdeal.τ).loc Cert.FwdPleOutRefIdeal.main_arg0)
          ∧ r.2.mem ((c.tc : Thread Cert.FwdPleOutRefIdeal.nD Cert.FwdPleOutRefIdeal.τ).loc Cert.FwdPleOutRefIdeal.main_arg1) = m' ((c.tc : Thread Cert.FwdPleOutRefIdeal.nD Cert.FwdPleOutRefIdeal.τ).loc Cert.FwdPleOutRefIdeal.main_arg1)
          ∧ r.2.mem ((c.tc : Thread Cert.FwdPleOutRefIdeal.nD Cert.FwdPleOutRefIdeal.τ).loc Cert.FwdPleOutRefIdeal.main_arg2) = m' ((c.tc : Thread Cert.FwdPleOutRefIdeal.nD Cert.FwdPleOutRefIdeal.τ).loc Cert.FwdPleOutRefIdeal.main_arg2)
          ∧ r.2.mem ((c.tc : Thread Cert.FwdPleOutRefIdeal.nD Cert.FwdPleOutRefIdeal.τ).loc Cert.FwdPleOutRefIdeal.main_arg3) = m' ((c.tc : Thread Cert.FwdPleOutRefIdeal.nD Cert.FwdPleOutRefIdeal.τ).loc Cert.FwdPleOutRefIdeal.main_arg3))

def preserves_FwdMerge_FwdMergeIdeal : Prop :=
  True

def algebraic_FwdMergeIdeal_FwdMergeRefIdeal [hFwdMergeIdeal : Cert.FwdMergeIdeal.Facts] [hFwdMergeRefIdeal : Cert.FwdMergeRefIdeal.Facts] : Prop :=
  ∀ (m : (ℓ : Loc Cert.FwdMergeIdeal.nD Cert.FwdMergeIdeal.τ Cert.FwdMergeIdeal.sig) → Buf (Elt Ideal) ℓ) (g : Dev Cert.FwdMergeIdeal.nD → PrngReg)
    (m' : (ℓ : Loc Cert.FwdMergeRefIdeal.nD Cert.FwdMergeRefIdeal.τ Cert.FwdMergeRefIdeal.sig) → Buf (Elt Ideal) ℓ) (g' : Dev Cert.FwdMergeRefIdeal.nD → PrngReg), Pre_FwdMergeIdeal m →
    (∀ c : Dev Cert.FwdMergeIdeal.nD,
      m' ((c.tc : Thread Cert.FwdMergeRefIdeal.nD Cert.FwdMergeRefIdeal.τ).loc Cert.FwdMergeRefIdeal.main_arg0) = m ((c.tc : Thread Cert.FwdMergeIdeal.nD Cert.FwdMergeIdeal.τ).loc Cert.FwdMergeIdeal.main_arg0)
      ∧ m' ((c.tc : Thread Cert.FwdMergeRefIdeal.nD Cert.FwdMergeRefIdeal.τ).loc Cert.FwdMergeRefIdeal.main_arg1) = m ((c.tc : Thread Cert.FwdMergeIdeal.nD Cert.FwdMergeIdeal.τ).loc Cert.FwdMergeIdeal.main_arg1)
      ∧ m' ((c.tc : Thread Cert.FwdMergeRefIdeal.nD Cert.FwdMergeRefIdeal.τ).loc Cert.FwdMergeRefIdeal.main_arg2) = m ((c.tc : Thread Cert.FwdMergeIdeal.nD Cert.FwdMergeIdeal.τ).loc Cert.FwdMergeIdeal.main_arg2)
      ∧ m' ((c.tc : Thread Cert.FwdMergeRefIdeal.nD Cert.FwdMergeRefIdeal.τ).loc Cert.FwdMergeRefIdeal.main_arg3) = m ((c.tc : Thread Cert.FwdMergeIdeal.nD Cert.FwdMergeIdeal.τ).loc Cert.FwdMergeIdeal.main_arg3)
      ∧ m' ((c.tc : Thread Cert.FwdMergeRefIdeal.nD Cert.FwdMergeRefIdeal.τ).loc Cert.FwdMergeRefIdeal.main_arg4) = m ((c.tc : Thread Cert.FwdMergeIdeal.nD Cert.FwdMergeIdeal.τ).loc Cert.FwdMergeIdeal.main_arg4)
      ∧ m' ((c.tc : Thread Cert.FwdMergeRefIdeal.nD Cert.FwdMergeRefIdeal.τ).loc Cert.FwdMergeRefIdeal.main_arg5) = m ((c.tc : Thread Cert.FwdMergeIdeal.nD Cert.FwdMergeIdeal.τ).loc Cert.FwdMergeIdeal.main_arg5)
      ∧ m' ((c.tc : Thread Cert.FwdMergeRefIdeal.nD Cert.FwdMergeRefIdeal.τ).loc Cert.FwdMergeRefIdeal.main_arg6) = m ((c.tc : Thread Cert.FwdMergeIdeal.nD Cert.FwdMergeIdeal.τ).loc Cert.FwdMergeIdeal.main_arg6)) →
    ∃ (v0 : (c : Dev Cert.FwdMergeIdeal.nD) → Buf (Elt Ideal) ((c.tc : Thread Cert.FwdMergeIdeal.nD Cert.FwdMergeIdeal.τ).loc Cert.FwdMergeIdeal.main_v0_0)) (v1 : (c : Dev Cert.FwdMergeIdeal.nD) → Buf (Elt Ideal) ((c.tc : Thread Cert.FwdMergeIdeal.nD Cert.FwdMergeIdeal.τ).loc Cert.FwdMergeIdeal.main_v0_1)),
      θ_run (Cert.FwdMergeIdeal.defs (F := Ideal)) (onTc (τ := Cert.FwdMergeIdeal.τ) (Cert.FwdMergeIdeal.main (F := Ideal))) ⟨m, fun _ => 0, g⟩ (fun r => ∀ c : Dev Cert.FwdMergeIdeal.nD,
          r.2.mem ((c.tc : Thread Cert.FwdMergeIdeal.nD Cert.FwdMergeIdeal.τ).loc Cert.FwdMergeIdeal.main_v0_0) = v0 c
          ∧ r.2.mem ((c.tc : Thread Cert.FwdMergeIdeal.nD Cert.FwdMergeIdeal.τ).loc Cert.FwdMergeIdeal.main_v0_1) = v1 c
          ∧ r.2.mem ((c.tc : Thread Cert.FwdMergeIdeal.nD Cert.FwdMergeIdeal.τ).loc Cert.FwdMergeIdeal.main_arg0) = m ((c.tc : Thread Cert.FwdMergeIdeal.nD Cert.FwdMergeIdeal.τ).loc Cert.FwdMergeIdeal.main_arg0)
          ∧ r.2.mem ((c.tc : Thread Cert.FwdMergeIdeal.nD Cert.FwdMergeIdeal.τ).loc Cert.FwdMergeIdeal.main_arg1) = m ((c.tc : Thread Cert.FwdMergeIdeal.nD Cert.FwdMergeIdeal.τ).loc Cert.FwdMergeIdeal.main_arg1)
          ∧ r.2.mem ((c.tc : Thread Cert.FwdMergeIdeal.nD Cert.FwdMergeIdeal.τ).loc Cert.FwdMergeIdeal.main_arg2) = m ((c.tc : Thread Cert.FwdMergeIdeal.nD Cert.FwdMergeIdeal.τ).loc Cert.FwdMergeIdeal.main_arg2)
          ∧ r.2.mem ((c.tc : Thread Cert.FwdMergeIdeal.nD Cert.FwdMergeIdeal.τ).loc Cert.FwdMergeIdeal.main_arg3) = m ((c.tc : Thread Cert.FwdMergeIdeal.nD Cert.FwdMergeIdeal.τ).loc Cert.FwdMergeIdeal.main_arg3)
          ∧ r.2.mem ((c.tc : Thread Cert.FwdMergeIdeal.nD Cert.FwdMergeIdeal.τ).loc Cert.FwdMergeIdeal.main_arg4) = m ((c.tc : Thread Cert.FwdMergeIdeal.nD Cert.FwdMergeIdeal.τ).loc Cert.FwdMergeIdeal.main_arg4)
          ∧ r.2.mem ((c.tc : Thread Cert.FwdMergeIdeal.nD Cert.FwdMergeIdeal.τ).loc Cert.FwdMergeIdeal.main_arg5) = m ((c.tc : Thread Cert.FwdMergeIdeal.nD Cert.FwdMergeIdeal.τ).loc Cert.FwdMergeIdeal.main_arg5)
          ∧ r.2.mem ((c.tc : Thread Cert.FwdMergeIdeal.nD Cert.FwdMergeIdeal.τ).loc Cert.FwdMergeIdeal.main_arg6) = m ((c.tc : Thread Cert.FwdMergeIdeal.nD Cert.FwdMergeIdeal.τ).loc Cert.FwdMergeIdeal.main_arg6))
      ∧ θ_run (Cert.FwdMergeRefIdeal.defs (F := Ideal)) (onTc (τ := Cert.FwdMergeRefIdeal.τ) (Cert.FwdMergeRefIdeal.main (F := Ideal))) ⟨m', fun _ => 0, g'⟩ (fun r => ∀ c : Dev Cert.FwdMergeRefIdeal.nD,
          r.2.mem ((c.tc : Thread Cert.FwdMergeRefIdeal.nD Cert.FwdMergeRefIdeal.τ).loc Cert.FwdMergeRefIdeal.main_v29) = v0 c
          ∧ r.2.mem ((c.tc : Thread Cert.FwdMergeRefIdeal.nD Cert.FwdMergeRefIdeal.τ).loc Cert.FwdMergeRefIdeal.main_v32) = v1 c
          ∧ r.2.mem ((c.tc : Thread Cert.FwdMergeRefIdeal.nD Cert.FwdMergeRefIdeal.τ).loc Cert.FwdMergeRefIdeal.main_arg0) = m' ((c.tc : Thread Cert.FwdMergeRefIdeal.nD Cert.FwdMergeRefIdeal.τ).loc Cert.FwdMergeRefIdeal.main_arg0)
          ∧ r.2.mem ((c.tc : Thread Cert.FwdMergeRefIdeal.nD Cert.FwdMergeRefIdeal.τ).loc Cert.FwdMergeRefIdeal.main_arg1) = m' ((c.tc : Thread Cert.FwdMergeRefIdeal.nD Cert.FwdMergeRefIdeal.τ).loc Cert.FwdMergeRefIdeal.main_arg1)
          ∧ r.2.mem ((c.tc : Thread Cert.FwdMergeRefIdeal.nD Cert.FwdMergeRefIdeal.τ).loc Cert.FwdMergeRefIdeal.main_arg2) = m' ((c.tc : Thread Cert.FwdMergeRefIdeal.nD Cert.FwdMergeRefIdeal.τ).loc Cert.FwdMergeRefIdeal.main_arg2)
          ∧ r.2.mem ((c.tc : Thread Cert.FwdMergeRefIdeal.nD Cert.FwdMergeRefIdeal.τ).loc Cert.FwdMergeRefIdeal.main_arg3) = m' ((c.tc : Thread Cert.FwdMergeRefIdeal.nD Cert.FwdMergeRefIdeal.τ).loc Cert.FwdMergeRefIdeal.main_arg3)
          ∧ r.2.mem ((c.tc : Thread Cert.FwdMergeRefIdeal.nD Cert.FwdMergeRefIdeal.τ).loc Cert.FwdMergeRefIdeal.main_arg4) = m' ((c.tc : Thread Cert.FwdMergeRefIdeal.nD Cert.FwdMergeRefIdeal.τ).loc Cert.FwdMergeRefIdeal.main_arg4)
          ∧ r.2.mem ((c.tc : Thread Cert.FwdMergeRefIdeal.nD Cert.FwdMergeRefIdeal.τ).loc Cert.FwdMergeRefIdeal.main_arg5) = m' ((c.tc : Thread Cert.FwdMergeRefIdeal.nD Cert.FwdMergeRefIdeal.τ).loc Cert.FwdMergeRefIdeal.main_arg5)
          ∧ r.2.mem ((c.tc : Thread Cert.FwdMergeRefIdeal.nD Cert.FwdMergeRefIdeal.τ).loc Cert.FwdMergeRefIdeal.main_arg6) = m' ((c.tc : Thread Cert.FwdMergeRefIdeal.nD Cert.FwdMergeRefIdeal.τ).loc Cert.FwdMergeRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v84) = v0 c
          ∧ r.2.mem ((c.tc : Thread Cert.ConvRefIdeal.nD Cert.ConvRefIdeal.τ).loc Cert.ConvRefIdeal.main_v85) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_FwdConv_FwdConvIdeal : Prop :=
  True

def algebraic_FwdConvIdeal_FwdConvRefIdeal [hFwdConvIdeal : Cert.FwdConvIdeal.Facts] [hFwdConvRefIdeal : Cert.FwdConvRefIdeal.Facts] : Prop :=
  ∀ (m : (ℓ : Loc Cert.FwdConvIdeal.nD Cert.FwdConvIdeal.τ Cert.FwdConvIdeal.sig) → Buf (Elt Ideal) ℓ) (g : Dev Cert.FwdConvIdeal.nD → PrngReg)
    (m' : (ℓ : Loc Cert.FwdConvRefIdeal.nD Cert.FwdConvRefIdeal.τ Cert.FwdConvRefIdeal.sig) → Buf (Elt Ideal) ℓ) (g' : Dev Cert.FwdConvRefIdeal.nD → PrngReg), Pre_FwdConvIdeal m →
    (∀ c : Dev Cert.FwdConvIdeal.nD,
      m' ((c.tc : Thread Cert.FwdConvRefIdeal.nD Cert.FwdConvRefIdeal.τ).loc Cert.FwdConvRefIdeal.main_arg0) = m ((c.tc : Thread Cert.FwdConvIdeal.nD Cert.FwdConvIdeal.τ).loc Cert.FwdConvIdeal.main_arg0)
      ∧ m' ((c.tc : Thread Cert.FwdConvRefIdeal.nD Cert.FwdConvRefIdeal.τ).loc Cert.FwdConvRefIdeal.main_arg1) = m ((c.tc : Thread Cert.FwdConvIdeal.nD Cert.FwdConvIdeal.τ).loc Cert.FwdConvIdeal.main_arg1)) →
    ∃ (v0 : (c : Dev Cert.FwdConvIdeal.nD) → Buf (Elt Ideal) ((c.tc : Thread Cert.FwdConvIdeal.nD Cert.FwdConvIdeal.τ).loc Cert.FwdConvIdeal.main_v0)),
      θ_run (Cert.FwdConvIdeal.defs (F := Ideal)) (onTc (τ := Cert.FwdConvIdeal.τ) (Cert.FwdConvIdeal.main (F := Ideal))) ⟨m, fun _ => 0, g⟩ (fun r => ∀ c : Dev Cert.FwdConvIdeal.nD,
          r.2.mem ((c.tc : Thread Cert.FwdConvIdeal.nD Cert.FwdConvIdeal.τ).loc Cert.FwdConvIdeal.main_v0) = v0 c
          ∧ r.2.mem ((c.tc : Thread Cert.FwdConvIdeal.nD Cert.FwdConvIdeal.τ).loc Cert.FwdConvIdeal.main_arg0) = m ((c.tc : Thread Cert.FwdConvIdeal.nD Cert.FwdConvIdeal.τ).loc Cert.FwdConvIdeal.main_arg0)
          ∧ r.2.mem ((c.tc : Thread Cert.FwdConvIdeal.nD Cert.FwdConvIdeal.τ).loc Cert.FwdConvIdeal.main_arg1) = m ((c.tc : Thread Cert.FwdConvIdeal.nD Cert.FwdConvIdeal.τ).loc Cert.FwdConvIdeal.main_arg1))
      ∧ θ_run (Cert.FwdConvRefIdeal.defs (F := Ideal)) (onTc (τ := Cert.FwdConvRefIdeal.τ) (Cert.FwdConvRefIdeal.main (F := Ideal))) ⟨m', fun _ => 0, g'⟩ (fun r => ∀ c : Dev Cert.FwdConvRefIdeal.nD,
          r.2.mem ((c.tc : Thread Cert.FwdConvRefIdeal.nD Cert.FwdConvRefIdeal.τ).loc Cert.FwdConvRefIdeal.main_v29) = v0 c
          ∧ r.2.mem ((c.tc : Thread Cert.FwdConvRefIdeal.nD Cert.FwdConvRefIdeal.τ).loc Cert.FwdConvRefIdeal.main_arg0) = m' ((c.tc : Thread Cert.FwdConvRefIdeal.nD Cert.FwdConvRefIdeal.τ).loc Cert.FwdConvRefIdeal.main_arg0)
          ∧ r.2.mem ((c.tc : Thread Cert.FwdConvRefIdeal.nD Cert.FwdConvRefIdeal.τ).loc Cert.FwdConvRefIdeal.main_arg1) = m' ((c.tc : Thread Cert.FwdConvRefIdeal.nD Cert.FwdConvRefIdeal.τ).loc Cert.FwdConvRefIdeal.main_arg1))

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hPle : Cert.Ple.Facts) (hPleIdeal : Cert.PleIdeal.Facts) (hPleRefIdeal : Cert.PleRefIdeal.Facts) (hWFfnIn : Cert.WFfnIn.Facts) (hWFfnInIdeal : Cert.WFfnInIdeal.Facts) (hWFfnInRefIdeal : Cert.WFfnInRefIdeal.Facts) (hWFfnOut : Cert.WFfnOut.Facts) (hWFfnOutIdeal : Cert.WFfnOutIdeal.Facts) (hWFfnOutRefIdeal : Cert.WFfnOutRefIdeal.Facts) (hWGates : Cert.WGates.Facts) (hWGatesIdeal : Cert.WGatesIdeal.Facts) (hWGatesRefIdeal : Cert.WGatesRefIdeal.Facts) (hWBranches : Cert.WBranches.Facts) (hWBranchesIdeal : Cert.WBranchesIdeal.Facts) (hWBranchesRefIdeal : Cert.WBranchesRefIdeal.Facts) (hWOut : Cert.WOut.Facts) (hWOutIdeal : Cert.WOutIdeal.Facts) (hWOutRefIdeal : Cert.WOutRefIdeal.Facts) (hWPleGate : Cert.WPleGate.Facts) (hWPleGateIdeal : Cert.WPleGateIdeal.Facts) (hWPleGateRefIdeal : Cert.WPleGateRefIdeal.Facts) (hWBranch : Cert.WBranch.Facts) (hWBranchIdeal : Cert.WBranchIdeal.Facts) (hWBranchRefIdeal : Cert.WBranchRefIdeal.Facts) (hWPleProj : Cert.WPleProj.Facts) (hWPleProjIdeal : Cert.WPleProjIdeal.Facts) (hWPleProjRefIdeal : Cert.WPleProjRefIdeal.Facts) (hDFfnOut : Cert.DFfnOut.Facts) (hDFfnOutIdeal : Cert.DFfnOutIdeal.Facts) (hDFfnOutRefIdeal : Cert.DFfnOutRefIdeal.Facts) (hDOutProj : Cert.DOutProj.Facts) (hDOutProjIdeal : Cert.DOutProjIdeal.Facts) (hDOutProjRefIdeal : Cert.DOutProjRefIdeal.Facts) (hFwdIn : Cert.FwdIn.Facts) (hFwdInIdeal : Cert.FwdInIdeal.Facts) (hFwdInRefIdeal : Cert.FwdInRefIdeal.Facts) (hFwdFfnIn : Cert.FwdFfnIn.Facts) (hFwdFfnInIdeal : Cert.FwdFfnInIdeal.Facts) (hFwdFfnInRefIdeal : Cert.FwdFfnInRefIdeal.Facts) (hFwdFfnOut : Cert.FwdFfnOut.Facts) (hFwdFfnOutIdeal : Cert.FwdFfnOutIdeal.Facts) (hFwdFfnOutRefIdeal : Cert.FwdFfnOutRefIdeal.Facts) (hFwdGate : Cert.FwdGate.Facts) (hFwdGateIdeal : Cert.FwdGateIdeal.Facts) (hFwdGateRefIdeal : Cert.FwdGateRefIdeal.Facts) (hFwdPleOut : Cert.FwdPleOut.Facts) (hFwdPleOutIdeal : Cert.FwdPleOutIdeal.Facts) (hFwdPleOutRefIdeal : Cert.FwdPleOutRefIdeal.Facts) (hFwdMerge : Cert.FwdMerge.Facts) (hFwdMergeIdeal : Cert.FwdMergeIdeal.Facts) (hFwdMergeRefIdeal : Cert.FwdMergeRefIdeal.Facts) (hConv : Cert.Conv.Facts) (hConvIdeal : Cert.ConvIdeal.Facts) (hConvRefIdeal : Cert.ConvRefIdeal.Facts) (hFwdConv : Cert.FwdConv.Facts) (hFwdConvIdeal : Cert.FwdConvIdeal.Facts) (hFwdConvRefIdeal : Cert.FwdConvRefIdeal.Facts) (hPre_ffn_finite : Cert.Pre_ffn_finite.Facts) (hPre_inp_finite : Cert.Pre_inp_finite.Facts) (hPre_ple_finite : Cert.Pre_ple_finite.Facts),
    quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_InProj (hInProj := hInProj)
    ∧ quiescent_InProjIdeal (hInProjIdeal := hInProjIdeal)
    ∧ quiescent_InProjIdeal_pre_inp_finite (hInProjIdeal := hInProjIdeal) (hPre_inp_finite := hPre_inp_finite)
    ∧ quiescent_InProjRefIdeal (hInProjRefIdeal := hInProjRefIdeal)
    ∧ quiescent_InProjRefIdeal_pre_inp_finite (hInProjRefIdeal := hInProjRefIdeal) (hPre_inp_finite := hPre_inp_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_WFfnIn (hWFfnIn := hWFfnIn)
    ∧ quiescent_WFfnInIdeal (hWFfnInIdeal := hWFfnInIdeal)
    ∧ quiescent_WFfnInRefIdeal (hWFfnInRefIdeal := hWFfnInRefIdeal)
    ∧ quiescent_WFfnOut (hWFfnOut := hWFfnOut)
    ∧ quiescent_WFfnOutIdeal (hWFfnOutIdeal := hWFfnOutIdeal)
    ∧ quiescent_WFfnOutRefIdeal (hWFfnOutRefIdeal := hWFfnOutRefIdeal)
    ∧ quiescent_WGates (hWGates := hWGates)
    ∧ quiescent_WGatesIdeal (hWGatesIdeal := hWGatesIdeal)
    ∧ quiescent_WGatesRefIdeal (hWGatesRefIdeal := hWGatesRefIdeal)
    ∧ quiescent_WBranches (hWBranches := hWBranches)
    ∧ quiescent_WBranchesIdeal (hWBranchesIdeal := hWBranchesIdeal)
    ∧ quiescent_WBranchesRefIdeal (hWBranchesRefIdeal := hWBranchesRefIdeal)
    ∧ quiescent_WOut (hWOut := hWOut)
    ∧ quiescent_WOutIdeal (hWOutIdeal := hWOutIdeal)
    ∧ quiescent_WOutRefIdeal (hWOutRefIdeal := hWOutRefIdeal)
    ∧ quiescent_WPleGate (hWPleGate := hWPleGate)
    ∧ quiescent_WPleGateIdeal (hWPleGateIdeal := hWPleGateIdeal)
    ∧ quiescent_WPleGateRefIdeal (hWPleGateRefIdeal := hWPleGateRefIdeal)
    ∧ quiescent_WBranch (hWBranch := hWBranch)
    ∧ quiescent_WBranchIdeal (hWBranchIdeal := hWBranchIdeal)
    ∧ quiescent_WBranchRefIdeal (hWBranchRefIdeal := hWBranchRefIdeal)
    ∧ quiescent_WPleProj (hWPleProj := hWPleProj)
    ∧ quiescent_WPleProjIdeal (hWPleProjIdeal := hWPleProjIdeal)
    ∧ quiescent_WPleProjRefIdeal (hWPleProjRefIdeal := hWPleProjRefIdeal)
    ∧ quiescent_DFfnOut (hDFfnOut := hDFfnOut)
    ∧ quiescent_DFfnOutIdeal (hDFfnOutIdeal := hDFfnOutIdeal)
    ∧ quiescent_DFfnOutRefIdeal (hDFfnOutRefIdeal := hDFfnOutRefIdeal)
    ∧ quiescent_DOutProj (hDOutProj := hDOutProj)
    ∧ quiescent_DOutProjIdeal (hDOutProjIdeal := hDOutProjIdeal)
    ∧ quiescent_DOutProjRefIdeal (hDOutProjRefIdeal := hDOutProjRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdFfnIn (hFwdFfnIn := hFwdFfnIn)
    ∧ quiescent_FwdFfnInIdeal (hFwdFfnInIdeal := hFwdFfnInIdeal)
    ∧ quiescent_FwdFfnInRefIdeal (hFwdFfnInRefIdeal := hFwdFfnInRefIdeal)
    ∧ quiescent_FwdFfnOut (hFwdFfnOut := hFwdFfnOut)
    ∧ quiescent_FwdFfnOutIdeal (hFwdFfnOutIdeal := hFwdFfnOutIdeal)
    ∧ quiescent_FwdFfnOutRefIdeal (hFwdFfnOutRefIdeal := hFwdFfnOutRefIdeal)
    ∧ quiescent_FwdGate (hFwdGate := hFwdGate)
    ∧ quiescent_FwdGateIdeal (hFwdGateIdeal := hFwdGateIdeal)
    ∧ quiescent_FwdGateRefIdeal (hFwdGateRefIdeal := hFwdGateRefIdeal)
    ∧ quiescent_FwdPleOut (hFwdPleOut := hFwdPleOut)
    ∧ quiescent_FwdPleOutIdeal (hFwdPleOutIdeal := hFwdPleOutIdeal)
    ∧ quiescent_FwdPleOutRefIdeal (hFwdPleOutRefIdeal := hFwdPleOutRefIdeal)
    ∧ quiescent_FwdMerge (hFwdMerge := hFwdMerge)
    ∧ quiescent_FwdMergeIdeal (hFwdMergeIdeal := hFwdMergeIdeal)
    ∧ quiescent_FwdMergeRefIdeal (hFwdMergeRefIdeal := hFwdMergeRefIdeal)
    ∧ quiescent_Conv (hConv := hConv)
    ∧ quiescent_ConvIdeal (hConvIdeal := hConvIdeal)
    ∧ quiescent_ConvRefIdeal (hConvRefIdeal := hConvRefIdeal)
    ∧ quiescent_FwdConv (hFwdConv := hFwdConv)
    ∧ quiescent_FwdConvIdeal (hFwdConvIdeal := hFwdConvIdeal)
    ∧ quiescent_FwdConvRefIdeal (hFwdConvRefIdeal := hFwdConvRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_InProj_InProjIdeal
    ∧ algebraic_InProjIdeal_InProjRefIdeal_pre_inp_finite (hInProjIdeal := hInProjIdeal) (hInProjRefIdeal := hInProjRefIdeal) (hPre_inp_finite := hPre_inp_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_WFfnIn_WFfnInIdeal
    ∧ algebraic_WFfnInIdeal_WFfnInRefIdeal (hWFfnInIdeal := hWFfnInIdeal) (hWFfnInRefIdeal := hWFfnInRefIdeal)
    ∧ preserves_WFfnOut_WFfnOutIdeal
    ∧ algebraic_WFfnOutIdeal_WFfnOutRefIdeal (hWFfnOutIdeal := hWFfnOutIdeal) (hWFfnOutRefIdeal := hWFfnOutRefIdeal)
    ∧ preserves_WGates_WGatesIdeal
    ∧ algebraic_WGatesIdeal_WGatesRefIdeal (hWGatesIdeal := hWGatesIdeal) (hWGatesRefIdeal := hWGatesRefIdeal)
    ∧ preserves_WBranches_WBranchesIdeal
    ∧ algebraic_WBranchesIdeal_WBranchesRefIdeal (hWBranchesIdeal := hWBranchesIdeal) (hWBranchesRefIdeal := hWBranchesRefIdeal)
    ∧ preserves_WOut_WOutIdeal
    ∧ algebraic_WOutIdeal_WOutRefIdeal (hWOutIdeal := hWOutIdeal) (hWOutRefIdeal := hWOutRefIdeal)
    ∧ preserves_WPleGate_WPleGateIdeal
    ∧ algebraic_WPleGateIdeal_WPleGateRefIdeal (hWPleGateIdeal := hWPleGateIdeal) (hWPleGateRefIdeal := hWPleGateRefIdeal)
    ∧ preserves_WBranch_WBranchIdeal
    ∧ algebraic_WBranchIdeal_WBranchRefIdeal (hWBranchIdeal := hWBranchIdeal) (hWBranchRefIdeal := hWBranchRefIdeal)
    ∧ preserves_WPleProj_WPleProjIdeal
    ∧ algebraic_WPleProjIdeal_WPleProjRefIdeal (hWPleProjIdeal := hWPleProjIdeal) (hWPleProjRefIdeal := hWPleProjRefIdeal)
    ∧ preserves_DFfnOut_DFfnOutIdeal
    ∧ algebraic_DFfnOutIdeal_DFfnOutRefIdeal (hDFfnOutIdeal := hDFfnOutIdeal) (hDFfnOutRefIdeal := hDFfnOutRefIdeal)
    ∧ preserves_DOutProj_DOutProjIdeal
    ∧ algebraic_DOutProjIdeal_DOutProjRefIdeal (hDOutProjIdeal := hDOutProjIdeal) (hDOutProjRefIdeal := hDOutProjRefIdeal)
    ∧ preserves_FwdIn_FwdInIdeal
    ∧ algebraic_FwdInIdeal_FwdInRefIdeal (hFwdInIdeal := hFwdInIdeal) (hFwdInRefIdeal := hFwdInRefIdeal)
    ∧ preserves_FwdFfnIn_FwdFfnInIdeal
    ∧ algebraic_FwdFfnInIdeal_FwdFfnInRefIdeal (hFwdFfnInIdeal := hFwdFfnInIdeal) (hFwdFfnInRefIdeal := hFwdFfnInRefIdeal)
    ∧ preserves_FwdFfnOut_FwdFfnOutIdeal
    ∧ algebraic_FwdFfnOutIdeal_FwdFfnOutRefIdeal (hFwdFfnOutIdeal := hFwdFfnOutIdeal) (hFwdFfnOutRefIdeal := hFwdFfnOutRefIdeal)
    ∧ preserves_FwdGate_FwdGateIdeal
    ∧ algebraic_FwdGateIdeal_FwdGateRefIdeal (hFwdGateIdeal := hFwdGateIdeal) (hFwdGateRefIdeal := hFwdGateRefIdeal)
    ∧ preserves_FwdPleOut_FwdPleOutIdeal
    ∧ algebraic_FwdPleOutIdeal_FwdPleOutRefIdeal (hFwdPleOutIdeal := hFwdPleOutIdeal) (hFwdPleOutRefIdeal := hFwdPleOutRefIdeal)
    ∧ preserves_FwdMerge_FwdMergeIdeal
    ∧ algebraic_FwdMergeIdeal_FwdMergeRefIdeal (hFwdMergeIdeal := hFwdMergeIdeal) (hFwdMergeRefIdeal := hFwdMergeRefIdeal)
    ∧ preserves_Conv_ConvIdeal
    ∧ algebraic_ConvIdeal_ConvRefIdeal (hConvIdeal := hConvIdeal) (hConvRefIdeal := hConvRefIdeal)
    ∧ preserves_FwdConv_FwdConvIdeal
    ∧ algebraic_FwdConvIdeal_FwdConvRefIdeal (hFwdConvIdeal := hFwdConvIdeal) (hFwdConvRefIdeal := hFwdConvRefIdeal)
-- ==== Pre_ffn_finite.lean ====
abbrev S8192x2816 : Shape := ⟨2, ![8192, 2816]⟩
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2816 .bf16) (main_arg1 : FVec F S8192x5632 .bf16) (main_arg2 : FVec F S1024x5632 .bf16) (main_arg3 : FVec F S8192x1024 .f32) (main_arg4 : FVec F S1x1024 .f32) (main_arg5 : FVec F S8192x1024 .f32) : IVec S_ 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x5632 .bf16 := Host.absf main_arg1
  let main_cst_0 : FVec F S_ .bf16 := constant S_ .bf16 0x7F80#16
  let main_v5 : FVec F S8192x5632 .bf16 := broadcastInDim S8192x5632 ![] bcast_S_S8192x5632 main_cst_0
  let main_v6 : IVec S8192x5632 1 := cmpf .olt main_v4 main_v5
  let main_c_1 : IVec S_ 1 := constantI S_ 1 1#1
  let main_v7 : IVec S_ 1 := (fun x v => Host.reduce IntOp.andi x v reducesTo_S8192x5632_S_d0_1 h_S_) main_v6 main_c_1
  let main_v8 : FVec F S1024x5632 .bf16 := Host.absf main_arg2
  let main_cst_2 : FVec F S_ .bf16 := constant S_ .bf16 0x7F80#16
  let main_v9 : FVec F S1024x5632 .bf16 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_v3 main_v7 main_v11 main_v15
-- ==== Pre_inp_finite.lean ====
abbrev S8192x1024 : Shape := ⟨2, ![8192, 1024]⟩
abbrev S8192x512 : Shape := ⟨2, ![8192, 512]⟩
abbrev S8192x1536 : Shape := ⟨2, ![8192, 1536]⟩
abbrev S8192x256 : Shape := ⟨2, ![8192, 256]⟩
abbrev S1024x5888 : Shape := ⟨2, ![1024, 5888]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1536 : S_.BroadcastsInDim S8192x1536 (![] : Fin 0 → Fin S8192x1536.rank)
  reducesTo_S8192x1536_S_d0_1 : S8192x1536.ReducesTo [0, 1] S_
  bcast_S_S8192x256 : S_.BroadcastsInDim S8192x256 (![] : Fin 0 → Fin S8192x256.rank)
  reducesTo_S8192x256_S_d0_1 : S8192x256.ReducesTo [0, 1] S_
  bcast_S_S1024x5888 : S_.BroadcastsInDim S1024x5888 (![] : Fin 0 → Fin S1024x5888.rank)
  reducesTo_S1024x5888_S_d0_1 : S1024x5888.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S8192x1024 .f32) (main_arg9 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .f32 := Host.absf main_arg8
  let main_cst_14 : FVec F S_ .f32 := constant S_ .f32 0x7F800000#32
  let main_v33 : FVec F S8192x1024 .f32 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : FVec F S1x1024 .f32 := Host.absf main_arg9
  let main_cst_16 : FVec F S_ .f32 := constant S_ .f32 0x7F800000#32
  let main_v37 : FVec F S1x1024 .f32 := broadcastInDim S1x1024 ![] bcast_S_S1x1024 main_cst_16
  let main_v38 : IVec S1x1024 1 := cmpf .olt main_v36 main_v37
  let main_c_17 : IVec S_ 1 := constantI S_ 1 1#1
  let main_v39 : IVec S_ 1 := (fun x v => Host.reduce IntOp.andi x v reducesTo_S1x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S8192x1536 .bf16) (main_arg5 : FVec F S8192x512 .bf16) (main_arg6 : FVec F S8192x256 .f32) (main_arg7 : FVec F S1024x5888 .bf16) (main_arg8 : FVec F S8192x1024 .f32) (main_arg9 : FVec F S1x1024 .f32) (main_v3 : IVec S_ 1) (main_v7 : IVec S_ 1) (main_v11 : IVec S_ 1) (main_v15 : IVec S_ 1) : IVec S_ 1 :=
  let main_v16 : FVec F S8192x1536 .bf16 := Host.absf main_arg4
  let main_cst_6 : FVec F S_ .bf16 := constant S_ .bf16 0x7F80#16
  let main_v17 : FVec F S8192x1536 .bf16 := broadcastInDim S8192x1536 ![] bcast_S_S8192x1536 main_cst_6
  let main_v18 : IVec S8192x1536 1 := cmpf .olt main_v16 main_v17
  let main_c_7 : IVec S_ 1 := constantI S_ 1 1#1
  let main_v19 : IVec S_ 1 := (fun x v => Host.reduce IntOp.andi x v reducesTo_S8192x1536_S_d0_1 h_S_) main_v18 main_c_7
  let main_v20 : FVec F S8192x512 .bf16 := Host.absf main_arg5
  let main_cst_8 : FVec F S_ .bf16 := constant S_ .bf16 0x7F80#16
  let main_v21 : FVec F S8192x512 .bf16 := broadcastInDim S8192x512 ![] bcast_S_S8192x512 main_cst_8
  let main_v22 : IVec S8192x512 1 := cmpf .olt main_v20 main_v21
  let main_c_9 : IVec S_ 1 := constantI S_ 1 1#1
  let main_v23 : IVec S_ 1 := (fun x v => Host.reduce IntOp.andi x v reducesTo_S8192x512_S_d0_1 h_S_) main_v22 main_c_9
  let main_v24 : FVec F S8192x256 .f32 := Host.absf main_arg6
  let main_cst_10 : FVec F S_ .f32 := constant S_ .f32 0x7F800000#32
  let main_v25 : FVec F S8192x256 .f32 := broadcastInDim S8192x256 ![] bcast_S_S8192x256 main_cst_10
  let main_v26 : IVec S8192x256 1 := cmpf .olt main_v24 main_v25
  let main_c_11 : IVec S_ 1 := constantI S_ 1 1#1
  let main_v27 : IVec S_ 1 := (fun x v => Host.reduce IntOp.andi x v reducesTo_S8192x256_S_d0_1 h_S_) main_v26 main_c_11
  let main_v28 : FVec F S1024x5888 .bf16 := Host.absf main_arg7
  let main_cst_12 : FVec F S_ .bf16 := constant S_ .bf16 0x7F80#16
  let main_v29 : FVec F S1024x5888 .bf16 := broadcastInDim S1024x5888 ![] bcast_S_S1024x5888 main_cst_12
  let main_v30 : IVec S1024x5888 1 := cmpf .olt main_v28 main_v29
  let main_c_13 : IVec S_ 1 := constantI S_ 1 1#1
  let main_v31 : IVec S_ 1 := (fun x v => Host.reduce IntOp.andi x v reducesTo_S1024x5888_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x1024 .bf16) (main_arg1 : FVec F S8192x1024 .bf16) (main_arg2 : FVec F S8192x1024 .bf16) (main_arg3 : FVec F S8192x512 .bf16) (main_arg4 : FVec F S8192x1536 .bf16) (main_arg5 : FVec F S8192x512 .bf16) (main_arg6 : FVec F S8192x256 .f32) (main_arg7 : FVec F S1024x5888 .bf16) (main_arg8 : FVec F S8192x1024 .f32) (main_arg9 : FVec F S1x1024 .f32) (main_arg10 : FVec F S8192x1024 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .bf16 := Host.absf main_arg2
  let main_cst_2 : FVec F S_ .bf16 := constant S_ .bf16 0x7F80#16
  let main_v9 : FVec F S8192x1024 .bf16 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x512 .bf16 := Host.absf main_arg3
  let main_cst_4 : FVec F S_ .bf16 := constant S_ .bf16 0x7F80#16
  let main_v13 : FVec F S8192x512 .bf16 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_arg8 main_arg9 main_v3 main_v7 main_v11 main_v15
-- ==== Pre_ple_finite.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S1x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .bf16) (main_arg2 : FVec F S8192x1024 .bf16) (main_arg3 : FVec F S1024x1024 .bf16) (main_arg4 : FVec F S8192x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .bf16 := Host.absf main_arg2
  let main_cst_2 : FVec F S_ .bf16 := constant S_ .bf16 0x7F80#16
  let main_v9 : FVec F S8192x1024 .bf16 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1024x1024 .bf16 := Host.absf main_arg3
  let main_cst_4 : FVec F S_ .bf16 := constant S_ .bf16 0x7F80#16
  let main_v13 : FVec F S1024x1024 .bf16 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_v3 main_v7 main_v11 main_v15
-- ==== Merge.lean ====
abbrev S8192x1024 : Shape := ⟨2, ![8192, 1024]⟩
abbrev S8192x5888 : Shape := ⟨2, ![8192, 5888]⟩
abbrev S8192x512 : Shape := ⟨2, ![8192, 512]⟩
abbrev S3x512x1024 : Shape := ⟨3, ![3, 512, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 15
  | .vmem => 33
  | .smem => 0
  | _ => 0

abbrev bufTy : (tb : Table) → Fin (tcTables nBuf tb) → BufTy
  | .hbm, ⟨0, _⟩ => ⟨S8192x1024, .bf16⟩
  | .hbm, ⟨1, _⟩ => ⟨S8192x5888, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S3x512x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x512, .bf16⟩
  | .hbm, ⟨13, _⟩ => ⟨S8192x512, .bf16⟩
  | .hbm, ⟨14, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S3x512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S8192x1024 : Shape := ⟨2, ![8192, 1024]⟩
abbrev S8192x5888 : Shape := ⟨2, ![8192, 5888]⟩
abbrev S8192x512 : Shape := ⟨2, ![8192, 512]⟩
abbrev S3x512x1024 : Shape := ⟨3, ![3, 512, 1024]⟩
abbrev S8192x3072 : Shape := ⟨2, ![8192, 3072]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5888, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S3x512x1024, .bf16⟩
  | .hbm, ⟨6, _⟩ => ⟨S8192x1024, .f32⟩
  | .hbm, ⟨7, _⟩ => ⟨S8192x3072, .bf16⟩
  | .hbm, ⟨8, _⟩ => ⟨S8192x3072, .f32⟩
  | .hbm, ⟨9, _⟩ => ⟨S3x512x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1x512x1024, .f32⟩
  | .hbm, ⟨14, _⟩ => ⟨S512x1024, .f32⟩
  | .hbm, ⟨15, _⟩ => ⟨S8192x1024, .f32⟩
  | .hbm, ⟨16, _⟩ => ⟨S1x512x1024, .f32⟩
  | .hbm, ⟨17, _⟩ => ⟨S512x1024, .f32⟩
  | .hbm, ⟨18, _⟩ => ⟨S8192x1024, .f32⟩
  | .hbm, ⟨19, _⟩ => ⟨S1x512x1024, .f32⟩
  | .hbm, ⟨20, _⟩ => ⟨S512x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x3072, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x3072, .f32⟩
  | .hbm, ⟨55, _⟩ => ⟨S8192x3072, .f32⟩
  | .hbm, ⟨56, _⟩ => ⟨S8192x3072, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S1x512x1024, .f32⟩
  | .hbm, ⟨61, _⟩ => ⟨S512x1024, .f32⟩
  | .hbm, ⟨62, _⟩ => ⟨S8192x1024, .f32⟩
  | .hbm, ⟨63, _⟩ => ⟨S1x512x1024, .f32⟩
  | .hbm, ⟨64, _⟩ => ⟨S512x1024, .f32⟩
  | .hbm, ⟨65, _⟩ => ⟨S8192x1024, .f32⟩
  | .hbm, ⟨66, _⟩ => ⟨S1x512x1024, .f32⟩
  | .hbm, ⟨67, _⟩ => ⟨S512x1024, .f32⟩
  | .hbm, ⟨68, _⟩ => ⟨S8192x1024, .f32⟩
  | .hbm, ⟨69, _⟩ => ⟨S8192x3072, .f32⟩
  | .hbm, ⟨70, _⟩ => ⟨S8192x3072, .f32⟩
  | .hbm, ⟨71, _⟩ => ⟨S_, .f32⟩
  | .hbm, ⟨72, _⟩ => ⟨S8192x3072, .f32⟩
  | .hbm, ⟨73, _⟩ => ⟨S8192x3072, .f32⟩
  | .hbm, ⟨74, _⟩ => ⟨S_, .f32⟩
  | .hbm, ⟨75, _⟩ => ⟨S8192x3072, .f32⟩
  | .hbm, ⟨76, _⟩ => ⟨S8192x3072, .f32⟩
  | .hbm, ⟨77, _⟩ => ⟨S_, .f32⟩
  | .hbm, ⟨78, _⟩ => ⟨S8192x3072, .f32⟩
  | .hbm, ⟨79, _⟩ => ⟨S8192x3072, .f32⟩
  | .hbm, ⟨80, _⟩ => ⟨S8192x3072, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x3072, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x3072, .f32⟩
  | .hbm, ⟨97, _⟩ => ⟨S8192x3072, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x3072, .f32⟩
  | .hbm, ⟨102, _⟩ => ⟨S8192x3072, .f32⟩
  | .hbm, ⟨103, _⟩ => ⟨S8192x3072, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x1024, .bf16⟩
  | .hbm, ⟨111, _⟩ => ⟨S8192x1024, .bf16⟩
  | .hbm, ⟨112, _⟩ => ⟨S8192x1024, .bf16⟩
  | .hbm, ⟨113, _⟩ => ⟨S8192x512, .bf16⟩
  | .hbm, ⟨114, _⟩ => ⟨S8192x512, .bf16⟩
  | .hbm, ⟨115, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩

abbrev nD : Nat := 1
abbrev τ : Topo := Topo.v7x

variable {F : FTy → Type} [FloatOps F]
-- ==== Ffn.lean ====
abbrev S8192x2816 : Shape := ⟨2, ![8192, 2816]⟩
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S32x8x1024 : Shape := ⟨3, ![32, 8, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x2816, .bf16⟩
  | .hbm, ⟨1, _⟩ => ⟨S8192x5632, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8x1024, .f32⟩
  | .hbm, ⟨8, _⟩ => ⟨S8192x2816, .bf16⟩
  | .hbm, ⟨9, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x5632, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S8192x2816 : Shape := ⟨2, ![8192, 2816]⟩
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8x1024 : Shape := ⟨2, ![8, 1024]⟩
abbrev S1024x8x1024 : Shape := ⟨3, ![1024, 8, 1024]⟩
abbrev S1024x8 : Shape := ⟨2, ![1024, 8]⟩
abbrev S1024x8x1 : Shape := ⟨3, ![1024, 8, 1]⟩
abbrev S1x8x1024 : Shape := ⟨3, ![1, 8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x5632, .bf16⟩
  | .hbm, ⟨2, _⟩ => ⟨S1024x5632, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8x1024, .f32⟩
  | .hbm, ⟨36, _⟩ => ⟨S1024x8x1024, .f32⟩
  | .hbm, ⟨37, _⟩ => ⟨S1024x8x1024, .f32⟩
  | .hbm, ⟨38, _⟩ => ⟨S_, .f32⟩
  | .hbm, ⟨39, _⟩ => ⟨S1024x8, .f32⟩
  | .hbm, ⟨40, _⟩ => ⟨S1024x8x1, .f32⟩
  | .hbm, ⟨41, _⟩ => ⟨S_, .f32⟩
  | .hbm, ⟨42, _⟩ => ⟨S1024x8x1, .f32⟩
  | .hbm, ⟨43, _⟩ => ⟨S1024x8x1, .f32⟩
  | .hbm, ⟨44, _⟩ => ⟨S_, .f32⟩
  | .hbm, ⟨45, _⟩ => ⟨S1024x8x1, .f32⟩
  | .hbm, ⟨46, _⟩ => ⟨S1024x8x1, .f32⟩
  | .hbm, ⟨47, _⟩ => ⟨S1024x8x1, .f32⟩
  | .hbm, ⟨48, _⟩ => ⟨S1024x8x1, .f32⟩
  | .hbm, ⟨49, _⟩ => ⟨S_, .f32⟩
  | .hbm, ⟨50, _⟩ => ⟨S1024x8x1, .f32⟩
  | .hbm, ⟨51, _⟩ => ⟨S1024x8x1, .f32⟩
  | .hbm, ⟨52, _⟩ => ⟨S1024x8x1024, .f32⟩
  | .hbm, ⟨53, _⟩ => ⟨S1024x8x1024, .f32⟩
  | .hbm, ⟨54, _⟩ => ⟨S1x8x1024, .f32⟩
  | .hbm, ⟨55, _⟩ => ⟨S1024x8x1024, .f32⟩
  | .hbm, ⟨56, _⟩ => ⟨S1024x8x1024, .f32⟩
  | .hbm, ⟨57, _⟩ => ⟨S8192x1024, .f32⟩
  | .hbm, ⟨58, _⟩ => ⟨S1024x5632, .f32⟩
  | .hbm, ⟨59, _⟩ => ⟨S8192x5632, .f32⟩
  | .hbm, ⟨60, _⟩ => ⟨S8192x1024, .f32⟩
  | .hbm, ⟨61, _⟩ => ⟨S1024x8x1024, .f32⟩
  | .hbm, ⟨62, _⟩ => ⟨S1024x8x1024, .f32⟩
  | .hbm, ⟨63, _⟩ => ⟨S_, .f32⟩
  | .hbm, ⟨64, _⟩ => ⟨S8x1024, .f32⟩
  | .hbm, ⟨65, _⟩ => ⟨S1x8x1024, .f32⟩
  | .hbm, ⟨66, _⟩ => ⟨S1024x8x1024, .f32⟩
  | .hbm, ⟨67, _⟩ => ⟨S1024x8x1024, .f32⟩
  | .hbm, ⟨68, _⟩ => ⟨S_, .f32⟩
  | .hbm, ⟨69, _⟩ => ⟨S8x1024, .f32⟩
  | .hbm, ⟨70, _⟩ => ⟨S1024x8x1024, .f32⟩
  | .hbm, ⟨71, _⟩ => ⟨S_, .f32⟩
  | .hbm, ⟨72, _⟩ => ⟨S1024x8, .f32⟩
  | .hbm, ⟨73, _⟩ => ⟨S1024x8x1, .f32⟩
  | .hbm, ⟨74, _⟩ => ⟨S1024x8x1024, .f32⟩
  | .hbm, ⟨75, _⟩ => ⟨S1024x8x1024, .f32⟩
  | .hbm, ⟨76, _⟩ => ⟨S1024x8x1, .f32⟩
  | .hbm, ⟨77, _⟩ => ⟨S_, .f32⟩
  | .hbm, ⟨78, _⟩ => ⟨S1024x8x1, .f32⟩
  | .hbm, ⟨79, _⟩ => ⟨S1024x8x1, .f32⟩
  | .hbm, ⟨80, _⟩ => ⟨S_, .f32⟩
  | .hbm, ⟨81, _⟩ => ⟨S1024x8, .f32⟩
  | .hbm, ⟨82, _⟩ => ⟨S1024x8x1024, .f32⟩
  | .hbm, ⟨83, _⟩ => ⟨S1024x8x1024, .f32⟩
  | .hbm, ⟨84, _⟩ => ⟨S1024x8x1024, .f32⟩
  | .hbm, ⟨85, _⟩ => ⟨S1024x8x1024, .f32⟩
  | .hbm, ⟨86, _⟩ => ⟨S1024x8x1024, .f32⟩
  | .hbm, ⟨87, _⟩ => ⟨S8192x1024, .f32⟩
  | .hbm, ⟨88, _⟩ => ⟨S8192x1024, .f32⟩
  | .hbm, ⟨89, _⟩ => ⟨S8192x2816, .f32⟩
  | .hbm, ⟨90, _⟩ => ⟨S8192x2816, .bf16⟩
  | .hbm, ⟨91, _⟩ => ⟨S8192x2816, .f32⟩
  | .hbm, ⟨92, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== InProj.lean ====
abbrev S8192x1024 : Shape := ⟨2, ![8192, 1024]⟩
abbrev S8192x512 : Shape := ⟨2, ![8192, 512]⟩
abbrev S8192x1536 : Shape := ⟨2, ![8192, 1536]⟩
abbrev S8192x256 : Shape := ⟨2, ![8192, 256]⟩
abbrev S1024x5888 : Shape := ⟨2, ![1024, 5888]⟩
abbrev S1x1024 : Shape := ⟨2, ![1, 1024]⟩
abbrev S8x1024 : Shape := ⟨2, ![8, 1024]⟩
abbrev S256x1024 : Shape := ⟨2, ![256, 1024]⟩
abbrev S256x512 : Shape := ⟨2, ![256, 512]⟩
abbrev S256x1536 : Shape := ⟨2, ![256, 1536]⟩
abbrev S256x256 : Shape := ⟨2, ![256, 256]⟩
abbrev S256x5888 : Shape := ⟨2, ![256, 5888]⟩
abbrev S256 : Shape := ⟨1, ![256]⟩
abbrev S256x1 : Shape := ⟨2, ![256, 1]⟩
abbrev S32x8x1024 : Shape := ⟨3, ![32, 8, 1024]⟩

abbrev nBuf : Space → Nat
  | .hbm => 13
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x256, .f32⟩
  | .hbm, ⟨7, _⟩ => ⟨S1024x5888, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x1536, .bf16⟩
  | .local _ .vmem, ⟨9, _⟩ => ⟨S256x1536, .bf16⟩
  | .local _ .vmem, ⟨10, _⟩ => ⟨S256x512, .bf16⟩
  | .local _ .vmem, ⟨11, _⟩ => ⟨S256x512, .bf16⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1024x5888, .bf16⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x5888 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S8192x1024 : Shape := ⟨2, ![8192, 1024]⟩
abbrev S8192x512 : Shape := ⟨2, ![8192, 512]⟩
abbrev S8192x1536 : Shape := ⟨2, ![8192, 1536]⟩
abbrev S8192x256 : Shape := ⟨2, ![8192, 256]⟩
abbrev S1024x5888 : Shape := ⟨2, ![1024, 5888]⟩
abbrev S1x1024 : Shape := ⟨2, ![1, 1024]⟩
abbrev S8192x5888 : Shape := ⟨2, ![8192, 5888]⟩
abbrev S8x1024 : Shape := ⟨2, ![8, 1024]⟩
abbrev S1024x8x1024 : Shape := ⟨3, ![1024, 8, 1024]⟩
abbrev S_ : Shape := ⟨0, ![]⟩
abbrev S1024x8 : Shape := ⟨2, ![1024, 8]⟩
abbrev S1024x8x1 : Shape := ⟨3, ![1024, 8, 1]⟩
abbrev S1x8x1024 : Shape := ⟨3, ![1, 8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x256, .f32⟩
  | .hbm, ⟨7, _⟩ => ⟨S1024x5888, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x512, .f32⟩
  | .hbm, ⟨15, _⟩ => ⟨S8192x1536, .f32⟩
  | .hbm, ⟨16, _⟩ => ⟨S8192x512, .f32⟩
  | .hbm, ⟨17, _⟩ => ⟨S8192x5888, .f32⟩
  | .hbm, ⟨18, _⟩ => ⟨S8x1024, .f32⟩
  | .hbm, ⟨19, _⟩ => ⟨S1024x8x1024, .f32⟩
  | .hbm, ⟨20, _⟩ => ⟨S1024x8x1024, .f32⟩
  | .hbm, ⟨21, _⟩ => ⟨S_, .f32⟩
  | .hbm, ⟨22, _⟩ => ⟨S1024x8, .f32⟩
  | .hbm, ⟨23, _⟩ => ⟨S1024x8x1, .f32⟩
  | .hbm, ⟨24, _⟩ => ⟨S_, .f32⟩
  | .hbm, ⟨25, _⟩ => ⟨S1024x8x1, .f32⟩
  | .hbm, ⟨26, _⟩ => ⟨S1024x8x1, .f32⟩
  | .hbm, ⟨27, _⟩ => ⟨S_, .f32⟩
  | .hbm, ⟨28, _⟩ => ⟨S1024x8x1, .f32⟩
  | .hbm, ⟨29, _⟩ => ⟨S1024x8x1, .f32⟩
  | .hbm, ⟨30, _⟩ => ⟨S1024x8x1, .f32⟩
  | .hbm, ⟨31, _⟩ => ⟨S1024x8x1, .f32⟩
  | .hbm, ⟨32, _⟩ => ⟨S_, .f32⟩
  | .hbm, ⟨33, _⟩ => ⟨S1024x8x1, .f32⟩
  | .hbm, ⟨34, _⟩ => ⟨S1024x8x1, .f32⟩
  | .hbm, ⟨35, _⟩ => ⟨S1024x8x1024, .f32⟩
  | .hbm, ⟨36, _⟩ => ⟨S1024x8x1024, .f32⟩
  | .hbm, ⟨37, _⟩ => ⟨S1x8x1024, .f32⟩
  | .hbm, ⟨38, _⟩ => ⟨S1024x8x1024, .f32⟩
  | .hbm, ⟨39, _⟩ => ⟨S1024x8x1024, .f32⟩
  | .hbm, ⟨40, _⟩ => ⟨S8192x1024, .f32⟩
  | .hbm, ⟨41, _⟩ => ⟨S1024x5888, .f32⟩
  | .hbm, ⟨42, _⟩ => ⟨S8192x5888, .f32⟩
  | .hbm, ⟨43, _⟩ => ⟨S8192x1024, .f32⟩
  | .hbm, ⟨44, _⟩ => ⟨S1024x8x1024, .f32⟩
  | .hbm, ⟨45, _⟩ => ⟨S1024x8x1024, .f32⟩
  | .hbm, ⟨46, _⟩ => ⟨S_, .f32⟩
  | .hbm, ⟨47, _⟩ => ⟨S8x1024, .f32⟩
  | .hbm, ⟨48, _⟩ => ⟨S1x8x1024, .f32⟩
  | .hbm, ⟨49, _⟩ => ⟨S1024x8x1024, .f32⟩
  | .hbm, ⟨50, _⟩ => ⟨S1024x8x1024, .f32⟩
  | .hbm, ⟨51, _⟩ => ⟨S_, .f32⟩
  | .hbm, ⟨52, _⟩ => ⟨S8x1024, .f32⟩
  | .hbm, ⟨53, _⟩ => ⟨S1024x8x1024, .f32⟩
  | .hbm, ⟨54, _⟩ => ⟨S_, .f32⟩
  | .hbm, ⟨55, _⟩ => ⟨S1024x8, .f32⟩
  | .hbm, ⟨56, _⟩ => ⟨S1024x8x1, .f32⟩
  | .hbm, ⟨57, _⟩ => ⟨S1024x8x1024, .f32⟩
  | .hbm, ⟨58, _⟩ => ⟨S1024x8x1024, .f32⟩
  | .hbm, ⟨59, _⟩ => ⟨S1024x8x1, .f32⟩
  | .hbm, ⟨60, _⟩ => ⟨S_, .f32⟩
  | .hbm, ⟨61, _⟩ => ⟨S1024x8x1, .f32⟩
  | .hbm, ⟨62, _⟩ => ⟨S1024x8x1, .f32⟩
  | .hbm, ⟨63, _⟩ => ⟨S_, .f32⟩
  | .hbm, ⟨64, _⟩ => ⟨S1024x8, .f32⟩
  | .hbm, ⟨65, _⟩ => ⟨S1024x8x1024, .f32⟩
  | .hbm, ⟨66, _⟩ => ⟨S1024x8x1024, .f32⟩
  | .hbm, ⟨67, _⟩ => ⟨S1024x8x1024, .f32⟩
  | .hbm, ⟨68, _⟩ => ⟨S1024x8x1024, .f32⟩
  | .hbm, ⟨69, _⟩ => ⟨S1024x8x1024, .f32⟩
  | .hbm, ⟨70, _⟩ => ⟨S8192x1024, .f32⟩
  | .hbm, ⟨71, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Ple.lean ====
abbrev S8192x1024 : Shape := ⟨2, ![8192, 1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .hbm, ⟨8, _⟩ => ⟨S8192x1024, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PleRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8x1024 : Shape := ⟨2, ![8, 1024]⟩
abbrev S1024x8x1024 : Shape := ⟨3, ![1024, 8, 1024]⟩
abbrev S1024x8 : Shape := ⟨2, ![1024, 8]⟩
abbrev S1024x8x1 : Shape := ⟨3, ![1024, 8, 1]⟩
abbrev S1x8x1024 : Shape := ⟨3, ![1, 8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8x1024, .f32⟩
  | .hbm, ⟨25, _⟩ => ⟨S1024x8x1024, .f32⟩
  | .hbm, ⟨26, _⟩ => ⟨S1024x8x1024, .f32⟩
  | .hbm, ⟨27, _⟩ => ⟨S_, .f32⟩
  | .hbm, ⟨28, _⟩ => ⟨S1024x8, .f32⟩
  | .hbm, ⟨29, _⟩ => ⟨S1024x8x1, .f32⟩
  | .hbm, ⟨30, _⟩ => ⟨S_, .f32⟩
  | .hbm, ⟨31, _⟩ => ⟨S1024x8x1, .f32⟩
  | .hbm, ⟨32, _⟩ => ⟨S1024x8x1, .f32⟩
  | .hbm, ⟨33, _⟩ => ⟨S_, .f32⟩
  | .hbm, ⟨34, _⟩ => ⟨S1024x8x1, .f32⟩
  | .hbm, ⟨35, _⟩ => ⟨S1024x8x1, .f32⟩
  | .hbm, ⟨36, _⟩ => ⟨S1024x8x1, .f32⟩
  | .hbm, ⟨37, _⟩ => ⟨S1024x8x1, .f32⟩
  | .hbm, ⟨38, _⟩ => ⟨S_, .f32⟩
  | .hbm, ⟨39, _⟩ => ⟨S1024x8x1, .f32⟩
  | .hbm, ⟨40, _⟩ => ⟨S1024x8x1, .f32⟩
  | .hbm, ⟨41, _⟩ => ⟨S1024x8x1024, .f32⟩
  | .hbm, ⟨42, _⟩ => ⟨S1024x8x1024, .f32⟩
  | .hbm, ⟨43, _⟩ => ⟨S1x8x1024, .f32⟩
  | .hbm, ⟨44, _⟩ => ⟨S1024x8x1024, .f32⟩
  | .hbm, ⟨45, _⟩ => ⟨S1024x8x1024, .f32⟩
  | .hbm, ⟨46, _⟩ => ⟨S8192x1024, .f32⟩
  | .hbm, ⟨47, _⟩ => ⟨S1024x1024, .f32⟩
  | .hbm, ⟨48, _⟩ => ⟨S8192x1024, .f32⟩
  | .hbm, ⟨49, _⟩ => ⟨S8192x1024, .f32⟩
  | .hbm, ⟨50, _⟩ => ⟨S1024x8x1024, .f32⟩
  | .hbm, ⟨51, _⟩ => ⟨S1024x8x1024, .f32⟩
  | .hbm, ⟨52, _⟩ => ⟨S_, .f32⟩
  | .hbm, ⟨53, _⟩ => ⟨S8x1024, .f32⟩
  | .hbm, ⟨54, _⟩ => ⟨S1x8x1024, .f32⟩
  | .hbm, ⟨55, _⟩ => ⟨S1024x8x1024, .f32⟩
  | .hbm, ⟨56, _⟩ => ⟨S1024x8x1024, .f32⟩
  | .hbm, ⟨57, _⟩ => ⟨S_, .f32⟩
  | .hbm, ⟨58, _⟩ => ⟨S8x1024, .f32⟩
  | .hbm, ⟨59, _⟩ => ⟨S1024x8x1024, .f32⟩
  | .hbm, ⟨60, _⟩ => ⟨S_, .f32⟩
  | .hbm, ⟨61, _⟩ => ⟨S1024x8, .f32⟩
  | .hbm, ⟨62, _⟩ => ⟨S1024x8x1, .f32⟩
  | .hbm, ⟨63, _⟩ => ⟨S1024x8x1024, .f32⟩
  | .hbm, ⟨64, _⟩ => ⟨S1024x8x1024, .f32⟩
  | .hbm, ⟨65, _⟩ => ⟨S1024x8x1, .f32⟩
  | .hbm, ⟨66, _⟩ => ⟨S_, .f32⟩
  | .hbm, ⟨67, _⟩ => ⟨S1024x8x1, .f32⟩
  | .hbm, ⟨68, _⟩ => ⟨S1024x8x1, .f32⟩
  | .hbm, ⟨69, _⟩ => ⟨S_, .f32⟩
  | .hbm, ⟨70, _⟩ => ⟨S1024x8, .f32⟩
  | .hbm, ⟨71, _⟩ => ⟨S1024x8x1024, .f32⟩
  | .hbm, ⟨72, _⟩ => ⟨S1024x8x1024, .f32⟩
  | .hbm, ⟨73, _⟩ => ⟨S1024x8x1024, .f32⟩
  | .hbm, ⟨74, _⟩ => ⟨S1024x8x1024, .f32⟩
  | .hbm, ⟨75, _⟩ => ⟨S1024x8x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== WFfnIn.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFfnInRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S8192x1024, .f32⟩
  | .hbm, ⟨10, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WFfnOut.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WFfnOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S8192x2816, .f32⟩
  | .hbm, ⟨9, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WGates.lean ====
abbrev S8192x1024 : Shape := ⟨2, ![8192, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== WGatesRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S_, .f32⟩
  | .hbm, ⟨9, _⟩ => ⟨S1024x3072, .f32⟩
  | .hbm, ⟨10, _⟩ => ⟨S8192x1024, .f32⟩
  | .hbm, ⟨11, _⟩ => ⟨S8192x3072, .f32⟩
  | .hbm, ⟨12, _⟩ => ⟨S3072x1024, .f32⟩
  | .hbm, ⟨13, _⟩ => ⟨S1024x3072, .f32⟩
  | .hbm, ⟨14, _⟩ => ⟨S8192x1024, .f32⟩
  | .hbm, ⟨15, _⟩ => ⟨S1024x1024, .f32⟩
  | .hbm, ⟨16, _⟩ => ⟨S1024x1024, .f32⟩
  | .hbm, ⟨17, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== WBranches.lean ====
abbrev S8192x1024 : Shape := ⟨2, ![8192, 1024]⟩
abbrev S8192x512 : Shape := ⟨2, ![8192, 512]⟩
abbrev S8192x1536 : Shape := ⟨2, ![8192, 1536]⟩
abbrev S8192x256 : Shape := ⟨2, ![8192, 256]⟩
abbrev S1024x512 : Shape := ⟨2, ![1024, 512]⟩
abbrev S1024x1536 : Shape := ⟨2, ![1024, 1536]⟩
abbrev S1024x256 : Shape := ⟨2, ![1024, 256]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1536, .bf16⟩
  | .hbm, ⟨3, _⟩ => ⟨S8192x512, .bf16⟩
  | .hbm, ⟨4, _⟩ => ⟨S8192x256, .f32⟩
  | .hbm, ⟨5, _⟩ => ⟨S1024x512, .f32⟩
  | .hbm, ⟨6, _⟩ => ⟨S1024x1536, .f32⟩
  | .hbm, ⟨7, _⟩ => ⟨S1024x512, .f32⟩
  | .hbm, ⟨8, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1536, .bf16⟩
  | .local _ .vmem, ⟨5, _⟩ => ⟨S1024x1536, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .f32⟩
  | .local _ .vmem, ⟨9, _⟩ => ⟨S1024x256, .f32⟩
  | .local _ .vmem, ⟨10, _⟩ => ⟨S1024x512, .f32⟩
  | .local _ .vmem, ⟨11, _⟩ => ⟨S1024x1536, .f32⟩
  | .local _ .vmem, ⟨12, _⟩ => ⟨S1024x512, .f32⟩
  | .local _ .vmem, ⟨13, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== WBranchesRefIdeal.lean ====
abbrev S8192x1024 : Shape := ⟨2, ![8192, 1024]⟩
abbrev S8192x512 : Shape := ⟨2, ![8192, 512]⟩
abbrev S8192x1536 : Shape := ⟨2, ![8192, 1536]⟩
abbrev S8192x256 : Shape := ⟨2, ![8192, 256]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x512 : Shape := ⟨2, ![1024, 512]⟩
abbrev S1024x1536 : Shape := ⟨2, ![1024, 1536]⟩
abbrev S1024x256 : Shape := ⟨2, ![1024, 256]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1536, .bf16⟩
  | .hbm, ⟨3, _⟩ => ⟨S8192x512, .bf16⟩
  | .hbm, ⟨4, _⟩ => ⟨S8192x256, .f32⟩
  | .hbm, ⟨5, _⟩ => ⟨S8192x512, .f32⟩
  | .hbm, ⟨6, _⟩ => ⟨S8192x1536, .f32⟩
  | .hbm, ⟨7, _⟩ => ⟨S8192x512, .f32⟩
  | .hbm, ⟨8, _⟩ => ⟨S8192x2816, .f32⟩
  | .hbm, ⟨9, _⟩ => ⟨S_, .f32⟩
  | .hbm, ⟨10, _⟩ => ⟨S1024x2816, .f32⟩
  | .hbm, ⟨11, _⟩ => ⟨S8192x1024, .f32⟩
  | .hbm, ⟨12, _⟩ => ⟨S8192x2816, .f32⟩
  | .hbm, ⟨13, _⟩ => ⟨S2816x1024, .f32⟩
  | .hbm, ⟨14, _⟩ => ⟨S1024x2816, .f32⟩
  | .hbm, ⟨15, _⟩ => ⟨S8192x1024, .f32⟩
  | .hbm, ⟨16, _⟩ => ⟨S1024x512, .f32⟩
  | .hbm, ⟨17, _⟩ => ⟨S1024x1536, .f32⟩
  | .hbm, ⟨18, _⟩ => ⟨S1024x512, .f32⟩
  | .hbm, ⟨19, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WPleGate.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WBranch.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WPleProj.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S8192x256, .f32⟩
  | .hbm, ⟨9, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DFfnOut.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DFfnOutRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S8192x2816, .f32⟩
  | .hbm, ⟨9, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOutProj.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DOutProjRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdIn.lean ====
abbrev S8192x1024 : Shape := ⟨2, ![8192, 1024]⟩
abbrev S1x1024 : Shape := ⟨2, ![1, 1024]⟩
abbrev S1024x5888 : Shape := ⟨2, ![1024, 5888]⟩
abbrev S8192x5888 : Shape := ⟨2, ![8192, 5888]⟩
abbrev S512x1024 : Shape := ⟨2, ![512, 1024]⟩
abbrev S512x5888 : Shape := ⟨2, ![512, 5888]⟩
abbrev S512 : Shape := ⟨1, ![512]⟩
abbrev S512x1 : Shape := ⟨2, ![512, 1]⟩
abbrev S1024x2944 : Shape := ⟨2, ![1024, 2944]⟩
abbrev S512x2944 : Shape := ⟨2, ![512, 2944]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5888, .bf16⟩
  | .hbm, ⟨3, _⟩ => ⟨S8192x5888, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S512x5888, .bf16⟩
  | .local _ .vmem, ⟨5, _⟩ => ⟨S512x5888, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5888 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S8192x1024 : Shape := ⟨2, ![8192, 1024]⟩
abbrev S1x1024 : Shape := ⟨2, ![1, 1024]⟩
abbrev S1024x5888 : Shape := ⟨2, ![1024, 5888]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5888 : Shape := ⟨2, ![8192, 5888]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5888, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x5888, .f32⟩
  | .hbm, ⟨21, _⟩ => ⟨S8192x5888, .f32⟩
  | .hbm, ⟨22, _⟩ => ⟨S8192x5888, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FwdFfnIn.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S8192x5632, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdFfnInRefIdeal.lean ====
abbrev S8192x1024 : Shape := ⟨2, ![8192, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x5632, .f32⟩
  | .hbm, ⟨21, _⟩ => ⟨S8192x5632, .f32⟩
  | .hbm, ⟨22, _⟩ => ⟨S8192x5632, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FwdFfnOut.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S512x2816 : Shape := ⟨2, ![512, 2816]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdFfnOutRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S2816x1024, .f32⟩
  | .hbm, ⟨17, _⟩ => ⟨S8192x1024, .f32⟩
  | .hbm, ⟨18, _⟩ => ⟨S8192x1024, .f32⟩
  | .hbm, ⟨19, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FwdGate.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdGateRefIdeal.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FwdPleOut.lean ====
abbrev S8192x1024 : Shape := ⟨2, ![8192, 1024]⟩
abbrev S8192x256 : Shape := ⟨2, ![8192, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x256, .f32⟩
  | .hbm, ⟨3, _⟩ => ⟨S256x1024, .bf16⟩
  | .hbm, ⟨4, _⟩ => ⟨S8192x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdPleOutRefIdeal.lean ====
abbrev S8192x1024 : Shape := ⟨2, ![8192, 1024]⟩
abbrev S8192x256 : Shape := ⟨2, ![8192, 256]⟩
abbrev S256x1024 : Shape := ⟨2, ![256, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x256, .f32⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FwdMerge.lean ====
abbrev S8192x5888 : Shape := ⟨2, ![8192, 5888]⟩
abbrev S8192x512 : Shape := ⟨2, ![8192, 512]⟩
abbrev S3x512x1024 : Shape := ⟨3, ![3, 512, 1024]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x5888, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x512x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S3x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FwdMergeRefIdeal.lean ====
abbrev S8192x5888 : Shape := ⟨2, ![8192, 5888]⟩
abbrev S8192x512 : Shape := ⟨2, ![8192, 512]⟩
abbrev S3x512x1024 : Shape := ⟨3, ![3, 512, 1024]⟩
abbrev S1024x1024 : Shape := ⟨2, ![1024, 1024]⟩
abbrev S8192x1024 : Shape := ⟨2, ![8192, 1024]⟩
abbrev S8192x3072 : Shape := ⟨2, ![8192, 3072]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x512x1024, .bf16⟩
  | .hbm, ⟨5, _⟩ => ⟨S1024x1024, .bf16⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x3072, .bf16⟩
  | .hbm, ⟨11, _⟩ => ⟨S8192x3072, .f32⟩
  | .hbm, ⟨12, _⟩ => ⟨S3x512x1024, .f32⟩
  | .hbm, ⟨13, _⟩ => ⟨S1x512x1024, .f32⟩
  | .hbm, ⟨14, _⟩ => ⟨S512x1024, .f32⟩
  | .hbm, ⟨15, _⟩ => ⟨S8192x1024, .f32⟩
  | .hbm, ⟨16, _⟩ => ⟨S1x512x1024, .f32⟩
  | .hbm, ⟨17, _⟩ => ⟨S512x1024, .f32⟩
  | .hbm, ⟨18, _⟩ => ⟨S8192x1024, .f32⟩
  | .hbm, ⟨19, _⟩ => ⟨S1x512x1024, .f32⟩
  | .hbm, ⟨20, _⟩ => ⟨S512x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S1024x1024, .f32⟩
  | .hbm, ⟨40, _⟩ => ⟨S8192x1024, .f32⟩
  | .hbm, ⟨41, _⟩ => ⟨S8192x1024, .f32⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Conv.lean ====
abbrev S8192x512 : Shape := ⟨2, ![8192, 512]⟩
abbrev S8192x5888 : Shape := ⟨2, ![8192, 5888]⟩
abbrev S3x512 : Shape := ⟨2, ![3, 512]⟩
abbrev S8192x1536 : Shape := ⟨2, ![8192, 1536]⟩
abbrev S24x512 : Shape := ⟨2, ![24, 512]⟩
abbrev S512x512 : Shape := ⟨2, ![512, 512]⟩
abbrev S8x512 : Shape := ⟨2, ![8, 512]⟩
abbrev S512x1536 : Shape := ⟨2, ![512, 1536]⟩
abbrev S504x512 : Shape := ⟨2, ![504, 512]⟩
abbrev S1x512 : Shape := ⟨2, ![1, 512]⟩
abbrev S64x8x512 : Shape := ⟨3, ![64, 8, 512]⟩

abbrev nBuf : Space → Nat
  | .hbm => 5
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x5888, .bf16⟩
  | .hbm, ⟨2, _⟩ => ⟨S3x512, .f32⟩
  | .hbm, ⟨3, _⟩ => ⟨S8192x1536, .bf16⟩
  | .hbm, ⟨4, _⟩ => ⟨S24x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S8x512, .bf16⟩
  | .local _ .vmem, ⟨9, _⟩ => ⟨S8x512, .bf16⟩
  | .local _ .vmem, ⟨10, _⟩ => ⟨S8x512, .bf16⟩
  | .local _ .vmem, ⟨11, _⟩ => ⟨S8x512, .bf16⟩
  | .local _ .vmem, ⟨12, _⟩ => ⟨S8x512, .bf16⟩
  | .local _ .vmem, ⟨13, _⟩ => ⟨S8x512, .bf16⟩
  | .local _ .vmem, ⟨14, _⟩ => ⟨S8x512, .bf16⟩
  | .local _ .vmem, ⟨15, _⟩ => ⟨S8x512, .bf16⟩
  | .local _ .vmem, ⟨16, _⟩ => ⟨S3x512, .f32⟩
  | .local _ .vmem, ⟨17, _⟩ => ⟨S512x1536, .bf16⟩
  | .local _ .vmem, ⟨18, _⟩ => ⟨S512x1536, .bf16⟩
  | .local _ .vmem, ⟨19, _⟩ => ⟨S24x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c7_i32 : BitVec 32 := 7#32
  let c0_i32 : BitVec 32 := 0#32
  ![v2.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S24x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S8192x512 : Shape := ⟨2, ![8192, 512]⟩
abbrev S8192x5888 : Shape := ⟨2, ![8192, 5888]⟩
abbrev S3x512 : Shape := ⟨2, ![3, 512]⟩
abbrev S3x1x512 : Shape := ⟨3, ![3, 1, 512]⟩
abbrev S3x8x512 : Shape := ⟨3, ![3, 8, 512]⟩
abbrev S_ : Shape := ⟨0, ![]⟩
abbrev S2x512 : Shape := ⟨2, ![2, 512]⟩
abbrev S8194x512 : Shape := ⟨2, ![8194, 512]⟩
abbrev S1x8x512 : Shape := ⟨3, ![1, 8, 512]⟩
abbrev S8x512 : Shape := ⟨2, ![8, 512]⟩
abbrev S1024x8x512 : Shape := ⟨3, ![1024, 8, 512]⟩
abbrev S8192x1536 : Shape := ⟨2, ![8192, 1536]⟩
abbrev S24x512 : Shape := ⟨2, ![24, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x5888, .bf16⟩
  | .hbm, ⟨2, _⟩ => ⟨S3x512, .f32⟩
  | .hbm, ⟨3, _⟩ => ⟨S8192x512, .bf16⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S3x1x512, .f32⟩
  | .hbm, ⟨10, _⟩ => ⟨S3x8x512, .f32⟩
  | .hbm, ⟨11, _⟩ => ⟨S8192x512, .f32⟩
  | .hbm, ⟨12, _⟩ => ⟨S_, .f32⟩
  | .hbm, ⟨13, _⟩ => ⟨S2x512, .f32⟩
  | .hbm, ⟨14, _⟩ => ⟨S8194x512, .f32⟩
  | .hbm, ⟨15, _⟩ => ⟨S_, .f32⟩
  | .hbm, ⟨16, _⟩ => ⟨S2x512, .f32⟩
  | .hbm, ⟨17, _⟩ => ⟨S1x8x512, .f32⟩
  | .hbm, ⟨18, _⟩ => ⟨S8x512, .f32⟩
  | .hbm, ⟨19, _⟩ => ⟨S8192x512, .f32⟩
  | .hbm, ⟨20, _⟩ => ⟨S1024x8x512, .f32⟩
  | .hbm, ⟨21, _⟩ => ⟨S1x8x512, .f32⟩
  | .hbm, ⟨22, _⟩ => ⟨S1024x8x512, .f32⟩
  | .hbm, ⟨23, _⟩ => ⟨S1024x8x512, .f32⟩
  | .hbm, ⟨24, _⟩ => ⟨S8192x512, .f32⟩
  | .hbm, ⟨25, _⟩ => ⟨S1x8x512, .f32⟩
  | .hbm, ⟨26, _⟩ => ⟨S8x512, .f32⟩
  | .hbm, ⟨27, _⟩ => ⟨S8192x512, .f32⟩
  | .hbm, ⟨28, _⟩ => ⟨S1024x8x512, .f32⟩
  | .hbm, ⟨29, _⟩ => ⟨S1x8x512, .f32⟩
  | .hbm, ⟨30, _⟩ => ⟨S1024x8x512, .f32⟩
  | .hbm, ⟨31, _⟩ => ⟨S1024x8x512, .f32⟩
  | .hbm, ⟨32, _⟩ => ⟨S8192x512, .f32⟩
  | .hbm, ⟨33, _⟩ => ⟨S8192x512, .f32⟩
  | .hbm, ⟨34, _⟩ => ⟨S1x8x512, .f32⟩
  | .hbm, ⟨35, _⟩ => ⟨S8x512, .f32⟩
  | .hbm, ⟨36, _⟩ => ⟨S8192x512, .f32⟩
  | .hbm, ⟨37, _⟩ => ⟨S1024x8x512, .f32⟩
  | .hbm, ⟨38, _⟩ => ⟨S1x8x512, .f32⟩
  | .hbm, ⟨39, _⟩ => ⟨S1024x8x512, .f32⟩
  | .hbm, ⟨40, _⟩ => ⟨S1024x8x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1024x8x512, .f32⟩
  | .hbm, ⟨48, _⟩ => ⟨S1024x8x512, .f32⟩
  | .hbm, ⟨49, _⟩ => ⟨S1024x8x512, .f32⟩
  | .hbm, ⟨50, _⟩ => ⟨S1024x8x512, .f32⟩
  | .hbm, ⟨51, _⟩ => ⟨S_, .f32⟩
  | .hbm, ⟨52, _⟩ => ⟨S8x512, .f32⟩
  | .hbm, ⟨53, _⟩ => ⟨S1x8x512, .f32⟩
  | .hbm, ⟨54, _⟩ => ⟨S_, .f32⟩
  | .hbm, ⟨55, _⟩ => ⟨S8x512, .f32⟩
  | .hbm, ⟨56, _⟩ => ⟨S8192x512, .f32⟩
  | .hbm, ⟨57, _⟩ => ⟨S_, .f32⟩
  | .hbm, ⟨58, _⟩ => ⟨S8194x512, .f32⟩
  | .hbm, ⟨59, _⟩ => ⟨S1x8x512, .f32⟩
  | .hbm, ⟨60, _⟩ => ⟨S_, .f32⟩
  | .hbm, ⟨61, _⟩ => ⟨S3x8x512, .f32⟩
  | .hbm, ⟨62, _⟩ => ⟨S1024x8x512, .f32⟩
  | .hbm, ⟨63, _⟩ => ⟨S1024x8x512, .f32⟩
  | .hbm, ⟨64, _⟩ => ⟨S1024x8x512, .f32⟩
  | .hbm, ⟨65, _⟩ => ⟨S1024x8x512, .f32⟩
  | .hbm, ⟨66, _⟩ => ⟨S_, .f32⟩
  | .hbm, ⟨67, _⟩ => ⟨S8x512, .f32⟩
  | .hbm, ⟨68, _⟩ => ⟨S1x8x512, .f32⟩
  | .hbm, ⟨69, _⟩ => ⟨S_, .f32⟩
  | .hbm, ⟨70, _⟩ => ⟨S8x512, .f32⟩
  | .hbm, ⟨71, _⟩ => ⟨S8192x512, .f32⟩
  | .hbm, ⟨72, _⟩ => ⟨S_, .f32⟩
  | .hbm, ⟨73, _⟩ => ⟨S8194x512, .f32⟩
  | .hbm, ⟨74, _⟩ => ⟨S8194x512, .f32⟩
  | .hbm, ⟨75, _⟩ => ⟨S1x8x512, .f32⟩
  | .hbm, ⟨76, _⟩ => ⟨S_, .f32⟩
  | .hbm, ⟨77, _⟩ => ⟨S3x8x512, .f32⟩
  | .hbm, ⟨78, _⟩ => ⟨S3x8x512, .f32⟩
  | .hbm, ⟨79, _⟩ => ⟨S1024x8x512, .f32⟩
  | .hbm, ⟨80, _⟩ => ⟨S1024x8x512, .f32⟩
  | .hbm, ⟨81, _⟩ => ⟨S1024x8x512, .f32⟩
  | .hbm, ⟨82, _⟩ => ⟨S1024x8x512, .f32⟩
  | .hbm, ⟨83, _⟩ => ⟨S_, .f32⟩
  | .hbm, ⟨84, _⟩ => ⟨S8x512, .f32⟩
  | .hbm, ⟨85, _⟩ => ⟨S1x8x512, .f32⟩
  | .hbm, ⟨86, _⟩ => ⟨S_, .f32⟩
  | .hbm, ⟨87, _⟩ => ⟨S8x512, .f32⟩
  | .hbm, ⟨88, _⟩ => ⟨S8192x512, .f32⟩
  | .hbm, ⟨89, _⟩ => ⟨S_, .f32⟩
  | .hbm, ⟨90, _⟩ => ⟨S8194x512, .f32⟩
  | .hbm, ⟨91, _⟩ => ⟨S8194x512, .f32⟩
  | .hbm, ⟨92, _⟩ => ⟨S1x8x512, .f32⟩
  | .hbm, ⟨93, _⟩ => ⟨S_, .f32⟩
  | .hbm, ⟨94, _⟩ => ⟨S3x8x512, .f32⟩
  | .hbm, ⟨95, _⟩ => ⟨S3x8x512, .f32⟩
  | .hbm, ⟨96, _⟩ => ⟨S2x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x1536, .f32⟩
  | .hbm, ⟨101, _⟩ => ⟨S8192x1536, .bf16⟩
  | .hbm, ⟨102, _⟩ => ⟨S24x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_1 : Ref sig .tc := ⟨.hbm, 51, rfl⟩
abbrev main_v46 : Ref sig .tc := ⟨.hbm, 52, rfl⟩
abbrev main_v47 : Ref sig .tc := ⟨.hbm, 53, rfl⟩
abbrev main_cst_2 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_9 : Ref sig .tc := ⟨.hbm, 83, rfl⟩
abbrev main_v70 : Ref sig .tc := ⟨.hbm, 84, rfl⟩
abbrev main_v71 : Ref sig .tc := ⟨.hbm, 85, rfl⟩
abbrev main_cst_10 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_12 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== FwdConv.lean ====
abbrev S8192x5888 : Shape := ⟨2, ![8192, 5888]⟩
abbrev S3x512 : Shape := ⟨2, ![3, 512]⟩
abbrev S8192x512 : Shape := ⟨2, ![8192, 512]⟩
abbrev S512x512 : Shape := ⟨2, ![512, 512]⟩
abbrev S8x512 : Shape := ⟨2, ![8, 512]⟩
abbrev S1x512 : Shape := ⟨2, ![1, 512]⟩
abbrev S504x512 : Shape := ⟨2, ![504, 512]⟩

abbrev nBuf : Space → Nat
  | .hbm => 3
  | .vmem => 13
  | .smem => 0
  | _ => 0

abbrev bufTy : (tb : Table) → Fin (tcTables nBuf tb) → BufTy
  | .hbm, ⟨0, _⟩ => ⟨S8192x5888, .bf16⟩
  | .hbm, ⟨1, _⟩ => ⟨S3x512, .f32⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x512, .bf16⟩
  | .local _ .vmem, ⟨7, _⟩ => ⟨S8x512, .bf16⟩
  | .local _ .vmem, ⟨8, _⟩ => ⟨S8x512, .bf16⟩
  | .local _ .vmem, ⟨9, _⟩ => ⟨S8x512, .bf16⟩
  | .local _ .vmem, ⟨10, _⟩ => ⟨S3x512, .f32⟩
  | .local _ .vmem, ⟨11, _⟩ => ⟨S512x512, .bf16⟩
  | .local _ .vmem, ⟨12, _⟩ => ⟨S512x512, .bf16⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdConvRefIdeal.lean ====
abbrev S8192x5888 : Shape := ⟨2, ![8192, 5888]⟩
abbrev S3x512 : Shape := ⟨2, ![3, 512]⟩
abbrev S8192x512 : Shape := ⟨2, ![8192, 512]⟩
abbrev S_ : Shape := ⟨0, ![]⟩
abbrev S8194x512 : Shape := ⟨2, ![8194, 512]⟩
abbrev S1x512 : Shape := ⟨2, ![1, 512]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S3x512, .f32⟩
  | .hbm, ⟨2, _⟩ => ⟨S8192x512, .bf16⟩
  | .hbm, ⟨3, _⟩ => ⟨S8192x512, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .f32⟩
  | .hbm, ⟨9, _⟩ => ⟨S_, .i32⟩
  | .hbm, ⟨10, _⟩ => ⟨S_, .f32⟩
  | .hbm, ⟨11, _⟩ => ⟨S8194x512, .f32⟩
  | .hbm, ⟨12, _⟩ => ⟨S1x512, .f32⟩
  | .hbm, ⟨13, _⟩ => ⟨S512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .bf16⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Proof.RmsGrad.lean ====
module

public import Idealize.ShloMosaic.PureOps
public import Idealize.ShloMosaic.Lib.IdealHost
public import Mathlib.Data.EReal.Inv
public import Mathlib.Tactic.Ring
public import Mathlib.Tactic.FieldSimp
public import Mathlib.Tactic.Linarith
public import Mathlib.Tactic.Positivity
public import Mathlib.Tactic.NormNum

@[expose] public section

/-!
# Finite extended reals, and the gradient of a root-mean-square norm

On the extended reals multiplication does not distribute over addition when an infinity meets a zero, so the two
spellings of a gradient (the closed form of a kernel, the chain rule of the reference) are equal only where the
values are finite. Here: which values are finite (`IsFin`), and the equations between the two spellings on them.
-/

namespace Cert.Proof

open Idealize.ShloMosaic

/-- The extended real is a real number. -/
def IsFin (x : EReal) : Prop := ∃ r : ℝ, x = (r : EReal)

theorem IsFin.coe (r : ℝ) : IsFin (r : EReal) := ⟨r, rfl⟩

theorem IsFin.zero : IsFin 0 := ⟨0, by simp⟩

theorem IsFin.one : IsFin 1 := ⟨1, by simp⟩

theorem IsFin.add {x y : EReal} (hx : IsFin x) (hy : IsFin y) : IsFin (x + y) := by
  obtain ⟨a, rfl⟩ := hx; obtain ⟨b, rfl⟩ := hy; exact ⟨a + b, by push_cast; rfl⟩

theorem IsFin.sub {x y : EReal} (hx : IsFin x) (hy : IsFin y) : IsFin (x - y) := by
  obtain ⟨a, rfl⟩ := hx; obtain ⟨b, rfl⟩ := hy; exact ⟨a - b, by push_cast; rfl⟩

theorem IsFin.mul {x y : EReal} (hx : IsFin x) (hy : IsFin y) : IsFin (x * y) := by
  obtain ⟨a, rfl⟩ := hx; obtain ⟨b, rfl⟩ := hy; exact ⟨a * b, by push_cast; rfl⟩

theorem IsFin.logistic {x : EReal} (hx : IsFin x) : IsFin (Ideal.logistic x) := by
  obtain ⟨a, rfl⟩ := hx; exact ⟨_, Ideal.logistic_coe a⟩

/-- A finite sum of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsFin.sum {ι : Type*} {s : Finset ι} {f : ι → EReal} (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- An extended real whose absolute value is below `⊤` is finite. -/
theorem isFin_of_abs_lt {x : EReal} (h : max x (-x) < ⊤) : IsFin x := by
  induction x using EReal.rec with
  | bot => simp at h
  | coe r => exact ⟨r, rfl⟩
  | top => simp at h

theorem ofBits_inf_f32 : Ideal.ofBits .f32 0x7F800000#32 = (⊤ : EReal) := by
  simp [Ideal.ofBits, Ideal.ieee]

theorem ofBits_inf_bf16 : Ideal.ofBits .bf16 0x7F80#16 = (⊤ : EReal) := by
  simp [Ideal.ofBits, Ideal.ieee]

theorem ofBits_1024_f32 : Ideal.ofBits .f32 0x44800000#32 = ((1024 : ℝ) : EReal) := by
  simp [Ideal.ofBits, Ideal.ieee]
  rw [← EReal.coe_mul]; norm_num

theorem ofBits_neg_half_f32 : Ideal.ofBits .f32 0xBF000000#32 = ((-(1 / 2) : ℝ) : EReal) := by
  simp [Ideal.ofBits, Ideal.ieee]
  rw [← EReal.coe_mul]; norm_num

/-- The word of the norm's epsilon is a positive real number. -/
theorem ofBits_eps_f32 : ∃ e : ℝ, 0 < e ∧ Ideal.ofBits .f32 0x358637BD#32 = (e : EReal) := by
  refine ⟨_, ?_, by simp [Ideal.ofBits, Ideal.ieee]; rfl⟩
  positivity

/-- The gradient of a row's root-mean-square norm over the reals: `x·r` with `r = 1/√(mean x² + e)`. The closed form
    `r·(a_k − x_k·r·mean (a·x·r))` is the chain rule's `a_k·r + 2·x_k·c` with `c` the gradient of the mean. -/
theorem rms_grad_real {ι : Type*} [Fintype ι] (x a : ι → ℝ) (e : ℝ) (he : 0 < e) (k : ι) (v r : ℝ)
    (hv : v = (∑ j, x j * x j) * (1 / 1024) + e) (hr : r = (√v)⁻¹) :
    r * (a k - x k * r * ((∑ j, a j * (x j * r)) * (1 / 1024)))
      = (a k * r + x k * ((∑ j, x j * a j) * (-(1 / 2) * (r * (1 / v))) * (1 / 1024)))
          + (∑ j, x j * a j) * (-(1 / 2) * (r * (1 / v))) * (1 / 1024) * x k := by
  have hs : 0 ≤ ∑ j, x j * x j := Finset.sum_nonneg fun j _ => mul_self_nonneg _
  have hpos : 0 < v := by rw [hv]; positivity
  have hrr : 1 / v = r * r := by
    rw [hr, ← mul_inv, Real.mul_self_sqrt hpos.le, one_div]
  have hsum : ∑ j, a j * (x j * r) = (∑ j, x j * a j) * r := by
    rw [Finset.sum_mul]; exact Finset.sum_congr rfl fun j _ => by ring
  rw [hsum, hrr]; ring

/-- The same equation on finite extended reals, in the operations of the two programs. -/
theorem rms_grad {ι : Type*} [Fintype ι] (x d g : ι → EReal) (dres : EReal) (k : ι)
    (hx : ∀ j, IsFin (x j)) (hd : ∀ j, IsFin (d j)) (hg : ∀ j, IsFin (g j))
    (v r c : EReal)
    (hv : v = Ideal.div (∑ j, x j * x j) (Ideal.ofBits .f32 0x44800000#32) + Ideal.ofBits .f32 0x358637BD#32)
    (hr : r = Ideal.rsqrt v)
    (hc : c = Ideal.div ((∑ j, x j * (d j * g j)) * (Ideal.ofBits .f32 0xBF000000#32 * Ideal.div r v))
      (Ideal.ofBits .f32 0x44800000#32)) :
    dres + r * (d k * g k - x k * r * Ideal.div (∑ j, d j * g j * (x j * r)) (Ideal.ofBits .f32 0x44800000#32))
      = dres + ((d k * g k * r + x k * c) + c * x k) := by
  obtain ⟨e, he, hE⟩ := ofBits_eps_f32
  choose x' hx using hx
  choose d' hd using hd
  choose g' hg using hg
  obtain rfl : x = fun j => (x' j : EReal) := funext hx
  obtain rfl : d = fun j => (d' j : EReal) := funext hd
  obtain rfl : g = fun j => (g' j : EReal) := funext hg
  have hs : 0 ≤ ∑ j, x' j * x' j := Finset.sum_nonneg fun j _ => mul_self_nonneg _
  have hpos : 0 < (∑ j, x' j * x' j) * (1 / 1024) + e := by positivity
  have hv' : v = (((∑ j, x' j * x' j) * (1 / 1024) + e : ℝ) : EReal) := by
    rw [hv, hE, ofBits_1024_f32, Ideal.div_coe (by norm_num)]
    simp only [← EReal.coe_mul, ← coe_sum, ← EReal.coe_add]
  have hr' : r = (((√((∑ j, x' j * x' j) * (1 / 1024) + e))⁻¹ : ℝ) : EReal) := by
    rw [hr, hv', Ideal.rsqrt_coe, if_neg (not_lt.2 hpos.le), if_neg hpos.ne']
  have key := rms_grad_real x' (fun j => d' j * g' j) e he k _ _ rfl rfl
  have hc' := hc
  rw [ofBits_1024_f32, ofBits_neg_half_f32, Ideal.div_coe (by norm_num : (1024 : ℝ) ≠ 0), hr', hv', Ideal.div_coe hpos.ne'] at hc'
  simp only [← EReal.coe_mul, ← coe_sum] at hc'
  congr 1
  rw [hc', hr', ofBits_1024_f32, Ideal.div_coe (by norm_num : (1024 : ℝ) ≠ 0)]
  simp only [← EReal.coe_mul, ← coe_sum, ← EReal.coe_sub, ← EReal.coe_add]
  exact congrArg _ key

/-- The gradient of `x ↦ x·σ(x)` in the two spellings: `a·h·s·(1 + x·(1 − s))` and `a·h·s + x·(a·h)·(s·(1 − s))`. -/
theorem silu_grad {a h x s : EReal} (ha : IsFin a) (hh : IsFin h) (hx : IsFin x) (hs : IsFin s) :
    a * h * s * (1 + x * (1 - s)) = a * h * s + x * (a * h) * (s * (1 - s)) := by
  obtain ⟨a, rfl⟩ := ha; obtain ⟨h, rfl⟩ := hh; obtain ⟨x, rfl⟩ := hx; obtain ⟨s, rfl⟩ := hs
  have h1 : (1 : EReal) = ((1 : ℝ) : EReal) := by simp
  rw [h1]
  simp only [← EReal.coe_mul, ← EReal.coe_sub, ← EReal.coe_add]
  congr 1; ring

end Cert.Proof
-- ==== Proof.FfnRead.lean ====
/- The gradients through the feed-forward input product and its norm as the reference computes them, read at one element. -/
module

public import proofs.«01_k».proof.Proof.Gen.FfnIdeal.Value
public import proofs.«01_k».proof.Proof.Gen.FfnRefIdeal.Read
public import proofs.«01_k».proof.Proof.RmsGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnRefIdeal.Read Cert.Proof

section Reference

variable (da : FVec Ideal S8192x2816 .bf16) (hf : FVec Ideal S8192x5632 .bf16) (w : FVec Ideal S1024x5632 .bf16)
  (x : FVec Ideal S8192x1024 .f32) (g : FVec Ideal S1x1024 .f32) (dres : FVec Ideal S8192x1024 .f32)

/-- The gated half of the hidden vector. -/
abbrev lo (i : Fin 8192) (k : Fin 2816) : EReal := hf (ix2 i ⟨k.val, by omega⟩)

/-- The linear half of the hidden vector. -/
abbrev hi (i : Fin 8192) (k : Fin 2816) : EReal := hf (ix2 i ⟨2816 + k.val, by omega⟩)

/-- The logistic function of the gated half. -/
abbrev sg (i : Fin 8192) (k : Fin 2816) : EReal := Ideal.div 1 (1 + Ideal.exp (-lo hf i k))

/-- The derivative in the gated half. -/
abbrev dlo (i : Fin 8192) (k : Fin 2816) : EReal :=
  da (ix2 i k) * hi hf i k * sg hf i k + lo hf i k * (da (ix2 i k) * hi hf i k) * (sg hf i k * (1 - sg hf i k))

/-- The derivative in the linear half. -/
abbrev dhi (i : Fin 8192) (k : Fin 2816) : EReal := lo hf i k * sg hf i k * da (ix2 i k)

/-- The derivative in the product's input. -/
abbrev dinp (i : Fin 8192) (l : Fin 1024) : EReal :=
  (∑ k : Fin 2816, dlo da hf i k * w (ix2 l ⟨k.val, by omega⟩)) + ∑ k : Fin 2816, dhi da hf i k * w (ix2 l ⟨2816 + k.val, by omega⟩)

/-- The mean square of a row plus the norm's epsilon. -/
abbrev msq (i : Fin 8192) : EReal :=
  Ideal.div (∑ l : Fin 1024, x (ix2 i l) * x (ix2 i l)) (Ideal.ofBits .f32 0x44800000#32) + Ideal.ofBits .f32 0x358637BD#32

/-- The derivative in the norm's mean square. -/
abbrev dmsq (i : Fin 8192) : EReal :=
  Ideal.div ((∑ l : Fin 1024, x (ix2 i l) * (dinp da hf w i l * g (ix2 0 l))) *
    (Ideal.ofBits .f32 0xBF000000#32 * Ideal.div (Ideal.rsqrt (msq x i)) (msq x i))) (Ideal.ofBits .f32 0x44800000#32)

theorem dlo_at (i : Fin 8192) (k : Fin 2816) : val_main_v58 (F := Ideal) da hf (ix2 i k) = dlo da hf i k := by
  pointwise [lo, hi, sg, dlo, dhi, val_main_v58, val_main_v57, val_main_v11, val_main_v10, val_main_cst_0, val_main_v9, val_main_call1_v1, val_main_v2_2, val_main_call0_v3, val_main_call0_v1, val_main_call0_v0, val_main_v1, val_main_v0, val_main_call0_v2, val_main_call0_cst, val_main_call0_v4, val_main_call0_cst_0, val_main_v7, val_main_v3, val_main_v5, val_main_call1_v2, val_main_call1_v0, val_main_v2_1, val_main_call0_v7, val_main_call0_v6, val_main_call0_cst_1, val_main_v8, val_main_cst, val_main_v6, val_main_v2_0]
  rw [dif_neg (c := False ∧ _) (fun h => h.1), zero_add (M := EReal)]

theorem dhi_at (i : Fin 8192) (k : Fin 2816) : val_main_v60 (F := Ideal) da hf (ix2 i k) = dhi da hf i k := by
  pointwise [lo, hi, sg, dlo, dhi, val_main_v60, val_main_v59, val_main_v11, val_main_v10, val_main_cst_0, val_main_v9, val_main_call1_v1, val_main_v2_2, val_main_call0_v3, val_main_call0_v1, val_main_call0_v0, val_main_v1, val_main_v0, val_main_call0_v2, val_main_call0_cst, val_main_call0_v4, val_main_call0_cst_0, val_main_v7, val_main_v3, val_main_v5, val_main_call1_v2, val_main_call1_v0, val_main_v2_1, val_main_call0_v7, val_main_call0_v6, val_main_call0_cst_1, val_main_v8, val_main_cst, val_main_v6, val_main_v2_0]

theorem dhid_lo_at (i : Fin 8192) (k : Fin 2816) :
    val_main_v11 (F := Ideal) da hf (ix2 i (Fin.castAdd 2816 k)) = dlo da hf i k := by
  have hk := k.isLt
  have e : Fin.castAdd 2816 k = (⟨k.val, by omega⟩ : Fin 5632) := rfl
  rw [e]
  pointwise [lo, hi, sg, dlo, dhi, val_main_v11, val_main_v10, val_main_cst_0, val_main_v9, val_main_call1_v1, val_main_v2_2, val_main_call0_v3, val_main_call0_v1, val_main_call0_v0, val_main_v1, val_main_v0, val_main_call0_v2, val_main_call0_cst, val_main_call0_v4, val_main_call0_cst_0, val_main_v7, val_main_v3, val_main_v5, val_main_call1_v2, val_main_call1_v0, val_main_v2_1, val_main_call0_v7, val_main_call0_v6, val_main_call0_cst_1, val_main_v8, val_main_cst, val_main_v6, val_main_v2_0]
  rw [dif_neg (c := False ∧ _) (fun h => h.1), zero_add (M := EReal)]

theorem dhid_hi_at (i : Fin 8192) (k : Fin 2816) :
    val_main_v11 (F := Ideal) da hf (ix2 i (Fin.natAdd 2816 k)) = dhi da hf i k := by
  have hk := k.isLt
  have e : Fin.natAdd 2816 k = (⟨2816 + k.val, by omega⟩ : Fin 5632) := rfl
  rw [e]
  pointwise [lo, hi, sg, dlo, dhi, val_main_v11, val_main_v10, val_main_cst_0, val_main_v9, val_main_call1_v1, val_main_v2_2, val_main_call0_v3, val_main_call0_v1, val_main_call0_v0, val_main_v1, val_main_v0, val_main_call0_v2, val_main_call0_cst, val_main_call0_v4, val_main_call0_cst_0, val_main_v7, val_main_v3, val_main_v5, val_main_call1_v2, val_main_call1_v0, val_main_v2_1, val_main_call0_v7, val_main_call0_v6, val_main_call0_cst_1, val_main_v8, val_main_cst, val_main_v6, val_main_v2_0]
  done

theorem dinp_at (i : Fin 8192) (l : Fin 1024) : val_main_v33 (F := Ideal) da hf w (ix2 i l) = dinp da hf w i l := by
  have e : val_main_v33 (F := Ideal) da hf w (ix2 i l)
      = ∑ q : Fin (2816 + 2816), val_main_v11 (F := Ideal) da hf (ix2 i q) * w (ix2 l q) := by
    pointwise [val_main_v33, val_main_v31]
  rw [e, Fin.sum_univ_add]
  simp only [dhid_lo_at, dhid_hi_at]
  rfl

theorem dgain_at (b : Fin 8) (k : Fin 1024) : val_main_v40 (F := Ideal) da hf w x (ix2 b k)
    = ∑ a : Fin 1024, x (ix2 ⟨a.val * 8 + b.val, by omega⟩ k) * Ideal.rsqrt (msq x ⟨a.val * 8 + b.val, by omega⟩)
        * dinp da hf w ⟨a.val * 8 + b.val, by omega⟩ k := by
  have hk := k.isLt
  have hb := b.isLt
  pointwise [msq, val_main_v40, val_main_cst_6, val_main_v37, val_main_v36, val_main_cst_5, val_main_v35, val_main_v26, val_main_v13, val_main_v25, val_main_v21, val_main_v20, val_main_v18, val_main_v16, val_main_v15, val_main_cst_1, val_main_v14, val_main_v17, val_main_cst_2, val_main_v19, val_main_cst_3, val_main_v34]
  simp only [Finset.univ_unique, Finset.sum_singleton, dinp_at]

theorem dx_at (i : Fin 8192) (k : Fin 1024) : val_main_v56 (F := Ideal) da hf w x g dres (ix2 i k)
    = dres (ix2 i k) + ((dinp da hf w i k * g (ix2 0 k) * Ideal.rsqrt (msq x i) + x (ix2 i k) * dmsq da hf w x g i)
        + dmsq da hf w x g i * x (ix2 i k)) := by
  have hk := k.isLt
  have hb := i.isLt
  pointwise [msq, val_main_v56, val_main_v55, val_main_v54, val_main_v52, val_main_v45, val_main_v39, val_main_v34, val_main_v38, val_main_v27, val_main_v12, val_main_v44, val_main_v21, val_main_v20, val_main_v18, val_main_v16, val_main_v15, val_main_cst_1, val_main_v14, val_main_v13, val_main_v17, val_main_cst_2, val_main_v19, val_main_cst_3, val_main_v51, val_main_v50, val_main_v49, val_main_cst_9, val_main_v48, val_main_v46, val_main_v24, val_main_v22, val_main_v23, val_main_cst_4, val_main_v43, val_main_v42, val_main_cst_7, val_main_v41, val_main_v47, val_main_cst_8, val_main_v53]
  simp only [Finset.univ_unique, Finset.sum_singleton, dinp_at]

end Reference

end Cert.FfnIdeal.Value

end
-- ==== Proof.FfnValue.lean ====
/- The kernel of the gradient through the feed-forward input product, its results read element by element. -/
module

public import proofs.«01_k».proof.Proof.FfnRead

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.FfnRefIdeal.Read Cert.Proof

/-- Row `y` of the row tile of point `t`. -/
abbrev row (t : Fin cfg0.N) (y : Fin 256) : Fin 8192 :=
  ⟨t.val * 256 + y.val, by have h : t.val < 32 := lt_of_lt_of_eq t.isLt N_0; omega⟩

/-- Where each window's block sits at point `t`. -/
theorem idx : ∀ t : Fin cfg0.N, win0_0.index t = ![t.val, 0] ∧ win0_1.index t = ![t.val, 0] ∧ win0_2.index t = ![t.val, 1]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] ∧ win0_10.index t = ![t.val, 0] :=
  (by decide +kernel : ∀ t : Fin grid0.N, _)

variable (m : (ℓ : Loc nD τ sig) → Buf (Elt Ideal) ℓ)

section Blocks

variable (c : Dev nD) (t : Fin cfg0.N)

theorem blk_da (p : Fin 256) (k : Fin 2816) : (show FVec Ideal S256x2816 .bf16 from iblk m c 0 t) (ix2 p k)
    = (m ((c : Thread nD τ).loc main_arg0)) (ix2 (row t p) k) := by
  blk_point [iblk, V, idx t]

theorem blk_lo (p : Fin 256) (k : Fin 2816) : (show FVec Ideal S256x2816 .bf16 from iblk m c 1 t) (ix2 p k)
    = lo (m ((c : Thread nD τ).loc main_arg1)) (row t p) k := by
  blk_point [iblk, V, idx t]

theorem blk_hi (p : Fin 256) (k : Fin 2816) : (show FVec Ideal S256x2816 .bf16 from iblk m c 2 t) (ix2 p k)
    = hi (m ((c : Thread nD τ).loc main_arg1)) (row t p) k := by
  blk_point [iblk, V, idx t]

theorem blk_x (p : Fin 256) (k : Fin 1024) : (show FVec Ideal S256x1024 .f32 from iblk m c 3 t) (ix2 p k)
    = (m ((c : Thread nD τ).loc main_arg3)) (ix2 (row t p) k) := by
  blk_point [iblk, V, idx t]

theorem blk_g (k : Fin 1024) : (show FVec Ideal S1x1024 .f32 from iblk m c 4 t) (ix2 0 k)
    = (m ((c : Thread nD τ).loc main_arg4)) (ix2 0 k) := by
  blk_point [iblk, V, idx t]

theorem blk_dres (p : Fin 256) (k : Fin 1024) : (show FVec Ideal S256x1024 .f32 from iblk m c 5 t) (ix2 p k)
    = (m ((c : Thread nD τ).loc main_arg5)) (ix2 (row t p) k) := by
  blk_point [iblk, V, idx t]

theorem blk_w (l : Fin 1024) (k : Fin 5632) : (show FVec Ideal S1024x5632 .bf16 from iblk m c 6 t) (ix2 l k)
    = (m ((c : Thread nD τ).loc main_arg2)) (ix2 l k) := by
  blk_point [iblk, V, idx t]

end Blocks

/-- The arguments that the equations need finite. -/
structure Finite (c : Dev nD) : Prop where
  da : ∀ i, IsFin ((m ((c : Thread nD τ).loc main_arg0)) i)
  hf : ∀ i, IsFin ((m ((c : Thread nD τ).loc main_arg1)) i)
  w : ∀ i, IsFin ((m ((c : Thread nD τ).loc main_arg2)) i)
  x : ∀ i, IsFin ((m ((c : Thread nD τ).loc main_arg3)) i)
  g : ∀ i, IsFin ((m ((c : Thread nD τ).loc main_arg4)) i)

/-- What row `i` adds to the gain's derivative. -/
abbrev gterm (da : FVec Ideal S8192x2816 .bf16) (hf : FVec Ideal S8192x5632 .bf16) (w : FVec Ideal S1024x5632 .bf16)
    (x : FVec Ideal S8192x1024 .f32) (i : Fin 8192) (k : Fin 1024) : EReal :=
  dinp da hf w i k * (x (ix2 i k) * Ideal.rsqrt (msq x i))

section Payloads

variable (da : FVec Ideal S8192x2816 .bf16) (hf : FVec Ideal S8192x5632 .bf16) (w : FVec Ideal S1024x5632 .bf16)
  (a0 b0 c0 : FVec Ideal S256x2816 .bf16) (w0 : FVec Ideal S1024x5632 .bf16) (i : Fin 8192) (p : Fin 256)

/-- The kernel's derivative in the gated half. -/
theorem pay9_at (hda : ∀ i, IsFin (da i)) (hhf : ∀ i, IsFin (hf i))
    (h0 : ∀ k, a0 (ix2 p k) = da (ix2 i k)) (h1 : ∀ k, b0 (ix2 p k) = lo hf i k) (h2 : ∀ k, c0 (ix2 p k) = hi hf i k)
    (k : Fin 2816) : k0_pay9 (F := Ideal) a0 b0 c0 (ix2 p k) = dlo da hf i k := by
  pointwise [k0_pay9, k0_pay8, k0_pay7, k0_pay6]
  simp only [h0, h1, h2]
  have hs : IsFin (sg hf i k) := (hhf _).logistic
  exact silu_grad (hda (ix2 i k)) (hhf _ : IsFin (hi hf i k)) (hhf _ : IsFin (lo hf i k)) hs

/-- The kernel's derivative in the linear half. -/
theorem pay10_at
    (h0 : ∀ k, a0 (ix2 p k) = da (ix2 i k)) (h1 : ∀ k, b0 (ix2 p k) = lo hf i k)
    (k : Fin 2816) : k0_pay10 (F := Ideal) a0 b0 (ix2 p k) = dhi da hf i k := by
  pointwise [k0_pay10, k0_pay8, k0_pay7, k0_pay6]
  simp only [h0, h1]
  show da (ix2 i k) * lo hf i k * sg hf i k = lo hf i k * sg hf i k * da (ix2 i k)
  rw [mul_comm (lo hf i k * sg hf i k), mul_assoc]

/-- The kernel's derivative in the product's input. -/
theorem pay11_at (hda : ∀ i, IsFin (da i)) (hhf : ∀ i, IsFin (hf i))
    (h0 : ∀ k, a0 (ix2 p k) = da (ix2 i k)) (h1 : ∀ k, b0 (ix2 p k) = lo hf i k) (h2 : ∀ k, c0 (ix2 p k) = hi hf i k)
    (hw : ∀ l k, w0 (ix2 l k) = w (ix2 l k)) (l : Fin 1024) :
    k0_pay11 (F := Ideal) a0 b0 c0 w0 (ix2 p l) = dinp da hf w i l := by
  pointwise [k0_pay11]
  simp only [pay9_at da hf a0 b0 c0 i p hda hhf h0 h1 h2, pay10_at da hf a0 b0 i p h0 h1, hw]

/-- The derivative in the product's input is finite. -/
theorem dinp_fin (hda : ∀ i, IsFin (da i)) (hhf : ∀ i, IsFin (hf i)) (hw : ∀ i, IsFin (w i)) (l : Fin 1024) :
    IsFin (dinp da hf w i l) := by
  have hs : ∀ k, IsFin (sg hf i k) := fun k => (hhf _).logistic
  have h1 : ∀ k, IsFin (1 - sg hf i k) := fun k => IsFin.one.sub (hs k)
  refine (IsFin.sum fun k _ => ?_).add (IsFin.sum fun k _ => ?_)
  · exact ((((hda _).mul (hhf _)).mul (hs k)).add (((hhf _).mul ((hda _).mul (hhf _))).mul ((hs k).mul (h1 k)))).mul (hw _)
  · exact (((hhf _).mul (hs k)).mul (hda _)).mul (hw _)

variable (x : FVec Ideal S8192x1024 .f32) (g : FVec Ideal S1x1024 .f32) (dres : FVec Ideal S8192x1024 .f32)
  (d0 x0 e0 : FVec Ideal S256x1024 .f32) (g0 : FVec Ideal S1x1024 .f32)

/-- The kernel's derivative in the norm's input. -/
theorem pay3_at (hda : ∀ i, IsFin (da i)) (hhf : ∀ i, IsFin (hf i)) (hw : ∀ i, IsFin (w i)) (hx : ∀ i, IsFin (x i))
    (hg : ∀ i, IsFin (g i))
    (h0 : ∀ l, d0 (ix2 p l) = dinp da hf w i l) (h1 : ∀ l, x0 (ix2 p l) = x (ix2 i l)) (h2 : ∀ l, g0 (ix2 0 l) = g (ix2 0 l))
    (h3 : ∀ l, e0 (ix2 p l) = dres (ix2 i l)) (k : Fin 1024) :
    k0_pay3 (F := Ideal) d0 x0 (k0_pay12 x0) k0_pay13 g0 e0 (ix2 p k)
      = dres (ix2 i k) + ((dinp da hf w i k * g (ix2 0 k) * Ideal.rsqrt (msq x i) + x (ix2 i k) * dmsq da hf w x g i)
        + dmsq da hf w x g i * x (ix2 i k)) := by
  pointwise [k0_pay3, k0_pay2, k0_pay1, k0_pay12, k0_pay13]
  simp only [h0, h1, h2, h3]
  exact rms_grad (fun l => x (ix2 i l)) (fun l => dinp da hf w i l) (fun l => g (ix2 0 l)) (dres (ix2 i k)) k
    (fun l => hx _) (fun l => dinp_fin da hf w i hda hhf hw l) (fun l => hg _) (msq x i) _ _ rfl rfl rfl

/-- The kernel's sum for the gain: what the buffer held plus the tile's rows, one in eight. -/
theorem pay4_at (acc : FVec Ideal S8x1024 .f32) (b : Fin 8) (k : Fin 1024) :
    k0_pay4 (F := Ideal) d0 x0 (k0_pay12 x0) k0_pay13 acc (ix2 b k)
      = acc (ix2 b k) + ∑ s : Fin 32, d0 (ix2 ⟨s.val * 8 + b.val, by omega⟩ k) * (x0 (ix2 ⟨s.val * 8 + b.val, by omega⟩ k)
        * Ideal.rsqrt (Ideal.div (∑ l : Fin 1024, x0 (ix2 ⟨s.val * 8 + b.val, by omega⟩ l) * x0 (ix2 ⟨s.val * 8 + b.val, by omega⟩ l))
            (Ideal.ofBits .f32 0x44800000#32) + Ideal.ofBits .f32 0x358637BD#32)) := by
  have hk := k.isLt
  have hb := b.isLt
  pointwise [k0_pay4, k0_pay2, k0_pay1, k0_pay12, k0_pay13]
  done

/-- The same sum where the tile's rows are rows of the arrays. -/
theorem pay4_step (r : Fin 256 → Fin 8192) (h0 : ∀ p l, d0 (ix2 p l) = dinp da hf w (r p) l)
    (h1 : ∀ p l, x0 (ix2 p l) = x (ix2 (r p) l)) (acc : FVec Ideal S8x1024 .f32) (b : Fin 8) (k : Fin 1024) :
    k0_pay4 (F := Ideal) d0 x0 (k0_pay12 x0) k0_pay13 acc (ix2 b k)
      = acc (ix2 b k) + ∑ s : Fin 32, gterm da hf w x (r ⟨s.val * 8 + b.val, by omega⟩) k := by
  rw [pay4_at]
  simp only [h0, h1]

/-- The kernel's zero fill. -/
theorem pay5_at (j : S8x1024.Idx) : k0_pay5 (F := Ideal) j = 0 := by
  pointwise [k0_pay5]

end Payloads

/-- The derivative in the gated half. -/
theorem final9 (c : Dev nD) (hF : Finite m c) : (dats m 0 c).arrAt 9 cfg0.N
    = val_main_v58 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  have hy : ((View.whole main_v0_2).slice (win0_9.rect t)).emb y = ix2 (row t (y 0)) (y 1) := by
    blk_ext [idx t]
  rw [hy]
  refine Eq.trans ?_ (dlo_at _ _ _ _).symm
  idx_vars y
  by_cases h : t.val % 32 = 0
  · rw [outsAt0_A m c t h]; frame_out
    exact pay9_at _ _ _ _ _ _ _ hF.da hF.hf (blk_da m c t _) (blk_lo m c t _) (blk_hi m c t _) _
  · rw [outsAt0_B m c t h]; frame_out
    exact pay9_at _ _ _ _ _ _ _ hF.da hF.hf (blk_da m c t _) (blk_lo m c t _) (blk_hi m c t _) _

/-- The derivative in the linear half. -/
theorem final10 (c : Dev nD) : (dats m 0 c).arrAt 10 cfg0.N
    = val_main_v60 (F := Ideal) (m ((c : Thread nD τ).loc main_arg0)) (m ((c : Thread nD τ).loc main_arg1)) := by
  refine (dats m 0 c).arrAt_eq_of_covers 10 _ (by decide +kernel) fun t _ y => ?_
  blk_simp
  rw [after0_10]
  have hy : ((View.whole main_v0_3).slice (win0_10.rect t)).emb y = ix2 (row t (y 0)) (y 1) := by
    blk_ext [idx t]
  rw [hy]
  refine Eq.trans ?_ (dhi_at _ _ _ _).symm
  idx_vars y
  by_cases h : t.val % 32 = 0
  · rw [outsAt0_A m c t h]; frame_out
    exact pay10_at _ _ _ _ _ _ (blk_da m c t _) (blk_lo m c t _) _
  · rw [outsAt0_B m c t h]; frame_out
    exact pay10_at _ _ _ _ _ _ (blk_da m c t _) (blk_lo m c t _) _

/-- The derivative in the norm's input. -/
theorem final7 (c : Dev nD) (hF : Finite m c) : (dats m 0 c).arrAt 7 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hy : ((View.whole main_v0_0).slice (win0_7.rect t)).emb y = ix2 (row t (y 0)) (y 1) := by
    blk_ext [idx t]
  rw [hy]
  refine Eq.trans ?_ (dx_at _ _ _ _ _ _ _ _).symm
  idx_vars y
  by_cases h : t.val % 32 = 0
  · rw [outsAt0_A m c t h]; frame_out
    exact pay3_at _ _ _ _ _ _ _ _ _ _ _ _ hF.da hF.hf hF.w hF.x hF.g
      (pay11_at _ _ _ _ _ _ _ _ _ hF.da hF.hf (blk_da m c t _) (blk_lo m c t _) (blk_hi m c t _) (blk_w m c t))
      (blk_x m c t _) (blk_g m c t) (blk_dres m c t _) _
  · rw [outsAt0_B m c t h]; frame_out
    exact pay3_at _ _ _ _ _ _ _ _ _ _ _ _ hF.da hF.hf hF.w hF.x hF.g
      (pay11_at _ _ _ _ _ _ _ _ _ hF.da hF.hf (blk_da m c t _) (blk_lo m c t _) (blk_hi m c t _) (blk_w m c t))
      (blk_x m c t _) (blk_g m c t) (blk_dres m c t _) _

/-- What point `t` adds to the gain's derivative. -/
def part (c : Dev nD) (t : Fin cfg0.N) (j : S8x1024.Idx) : EReal :=
  ∑ s : Fin 32, gterm (m ((c : Thread nD τ).loc main_arg0)) (m ((c : Thread nD τ).loc main_arg1)) (m ((c : Thread nD τ).loc main_arg2)) (m ((c : Thread nD τ).loc main_arg3))
    (row t ⟨s.val * 8 + (j 0).val, by have h : (j 0).val < 8 := (j 0).isLt; omega⟩) (j 1)

/-- One point's step of the gain's derivative. -/
theorem gain_step (c : Dev nD) (hF : Finite m c) (t : Fin cfg0.N) (acc : FVec Ideal S8x1024 .f32) (j : S8x1024.Idx) :
    k0_pay4 (F := Ideal) (k0_pay11 (iblk m c 0 t) (iblk m c 1 t) (iblk m c 2 t) (iblk m c 6 t)) (iblk m c 3 t)
      (k0_pay12 (iblk m c 3 t)) k0_pay13 acc j = acc j + part m c t j := by
  idx_vars j
  exact pay4_step _ _ _ _ _ _ (row t)
    (fun p l => pay11_at _ _ _ _ _ _ _ _ _ hF.da hF.hf (blk_da m c t _) (blk_lo m c t _) (blk_hi m c t _) (blk_w m c t) _)
    (blk_x m c t) acc _ _

/-- The derivative in the norm's gain, one row in eight apart. -/
theorem final8 (c : Dev nD) (hF : Finite m c) : (dats m 0 c).arrAt 8 cfg0.N
    = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  have hy : ((View.whole main_v0_1).slice (win0_8.rect t)).emb y = ix2 (y 0) (y 1) := by
    blk_ext [idx t]
  rw [hy]
  idx_vars y
  rw [after0_8, Pipeline.eq_sum_fin_of_reset_step_apply_of_flush (fun n h => (outsAt0 m c n h).2.1) 32 (fun _ => 0) _
    (fun t h j => by rw [outsAt0_A m c t h]; frame_out; rw [gain_step m c hF, pay5_at])
    (fun t h j => by rw [outsAt0_B m c t h]; frame_out; rw [gain_step m c hF])
    t ((flush0_8 t).mp hf) _, zero_add]
  refine Eq.trans ?_ (dgain_at _ _ _ _ _ _).symm
  unfold part
  refine Fin.sum_mul_add_congr fun s k hl => ?_
  have ht : t.val < 32 := lt_of_lt_of_eq t.isLt N_0
  have e : ∀ h1 h2 h3, row ⟨32 * (t.val / 32) + s.val, h1⟩ ⟨k.val * 8 + y0.val, h2⟩
      = (⟨(s.val * 32 + k.val) * 8 + y0.val, h3⟩ : Fin 8192) := fun _ _ _ => Fin.ext (by
    show (32 * (t.val / 32) + s.val) * 256 + (k.val * 8 + y0.val) = (s.val * 32 + k.val) * 8 + y0.val
    omega)
  refine Eq.trans ?_ (EReal.mul_comm _ _)
  exact congrArg (fun i => gterm _ _ _ _ i y1) (e _ _ _)

end Cert.FfnIdeal.Value

end
-- ==== Proof.FiniteArgs.lean ====
/- The preconditions read back: where `all(|x| < ∞)` holds, every element of `x` is a real number. -/
module

public import Idealize.ShloMosaic.Lib.ReduceAll
public import Idealize.ShloMosaic.Lib.StableHlo
public import proofs.«01_k».proof.Proof.RmsGrad

@[expose] public section

namespace Cert.Proof

open Idealize.ShloMosaic

/-- The conjunction over all elements of `|x| < ∞`, `w` the word of `∞`. -/
theorem isFin_of_all {s : Shape} {axes : List (Fin s.rank)} {φ : FTy} (x : FVec Ideal s φ) (w : BitVec φ.bits)
    (hw : Ideal.ofBits φ w = (⊤ : EReal)) (hb : (⟨0, ![]⟩ : Shape).BroadcastsInDim s ![])
    (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ φ w)))
      (constantI ⟨0, ![]⟩ 1 1#1) hr hu j = 1#1) (i : s.Idx) : IsFin (x i) := by
  haveI : Subsingleton (⟨0, ![]⟩ : Shape).Idx := ⟨fun a b => funext fun k => k.elim0⟩
  have h := Host.reduce_andi_all _ _ hr hu j e i
  have h2 : Ideal.cmp .olt (max (x i : EReal) (-x i)) (Ideal.ofBits φ w) = 1#1 := h
  rw [hw] at h2
  refine isFin_of_abs_lt ?_
  by_contra hn
  simp [Ideal.cmp, hn] at h2

end Cert.Proof
-- ==== Proof.FfnClaim.lean ====
/- The gradient through the feed-forward input product: the kernel's results are the reference's, on finite inputs. -/
module

public import proofs.«01_k».proof.Defs
public import proofs.«01_k».proof.Proof.FfnValue
public import proofs.«01_k».proof.Proof.FiniteArgs
public import proofs.«01_k».proof.Proof.Gen.FfnRefIdeal.Run
public import proofs.«01_k».proof.Proof.Gen.Pre_ffn_finite
public import Idealize.ShloMosaic.Lib.Claim

@[expose] public section

set_option maxRecDepth 16384

noncomputable section

namespace Cert.Proof

open Idealize.ShloMosaic Idealize.ShloMosaic.TcCoe Idealize.SL.Sem

/-- The precondition: every argument but the residual gradient is finite. -/
theorem ffn_finite (m : (ℓ : Loc Cert.FfnIdeal.nD Cert.FfnIdeal.τ Cert.FfnIdeal.sig) → Buf (Elt Ideal) ℓ)
    (h : Cert.Pre_FfnIdeal_ffn_finite m) (c : Dev Cert.FfnIdeal.nD) : Cert.FfnIdeal.Value.Finite m c := by
  have e := congrFun (h c) (fun k => k.elim0)
  obtain ⟨e, hg⟩ := IntOp.andi_eq_one.1 e
  obtain ⟨e, hx⟩ := IntOp.andi_eq_one.1 e
  obtain ⟨e, hw⟩ := IntOp.andi_eq_one.1 e
  obtain ⟨hda, hhf⟩ := IntOp.andi_eq_one.1 e
  exact ⟨isFin_of_all _ _ ofBits_inf_bf16 _ _ _ _ hda, isFin_of_all _ _ ofBits_inf_bf16 _ _ _ _ hhf,
    isFin_of_all _ _ ofBits_inf_bf16 _ _ _ _ hw, isFin_of_all _ _ ofBits_inf_f32 _ _ _ _ hx,
    isFin_of_all _ _ ofBits_inf_f32 _ _ _ _ hg⟩

/-- From equal finite arguments both programs end with equal results: the derivatives in the norm's input, in its
    gain and in both halves of the hidden vector. -/
theorem algebraic_ffn : Cert.algebraic_FfnIdeal_FfnRefIdeal_pre_ffn_finite := by
  pair_intro
  · run_from Cert.FfnIdeal.Value.run_blocks m g
  · run_from Cert.FfnRefIdeal.Value.run m' g'
    · refine (Cert.FfnRefIdeal.Read.val_main_v56_eq m' c).trans (Eq.trans ?_ (Cert.FfnIdeal.Value.final7 m c (ffn_finite m hpre c)).symm)
      obtain ⟨h0, h1, h2, h3, h4, h5⟩ := hagree c
      rw [h0, h1, h2, h3, h4, h5]
    · exact (Cert.FfnIdeal.Value.final8 m c (ffn_finite m hpre c)).symm
    · exact (Cert.FfnIdeal.Value.final9 m c (ffn_finite m hpre c)).symm
    · exact (Cert.FfnIdeal.Value.final10 m c).symm

/-- The reference's run ends, with its arguments unchanged. -/
theorem frame_ffn_ref : Cert.quiescent_FfnRefIdeal := fun m ρ _ =>
  (θ_run Cert.FfnRefIdeal.defs _ _).mono (fun r h => ⟨fun c => (h c).2.2.2.2,
      Idealize.ShloMosaic.sem_eq_zero_of_no_sems (by decide) r.2⟩)
    (Cert.FfnRefIdeal.Value.run (F := Ideal) m ρ)

/-- The kernel's frame at the precondition. -/
theorem frame_ffn_pre : Cert.quiescent_FfnIdeal_pre_ffn_finite := fun m ρ _ => Cert.FfnIdeal.Gen.frame m ρ

/-- The reference's frame at the precondition. -/
theorem frame_ffn_ref_pre : Cert.quiescent_FfnRefIdeal_pre_ffn_finite := fun m ρ _ => frame_ffn_ref m ρ trivial

end Cert.Proof

end
-- ==== Proof.InProjRead.lean ====
/- The gradients through the mixing layer's input product and its norm as the reference computes them, read at one element. -/
module

public import proofs.«01_k».proof.Proof.Gen.InProjIdeal.Value
public import proofs.«01_k».proof.Proof.Gen.InProjRefIdeal.Read
public import proofs.«01_k».proof.Proof.RmsGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProjRefIdeal.Read Cert.Proof

section Reference

variable (p0 p1 p2 : FVec Ideal S8192x1024 .bf16) (p3 : FVec Ideal S8192x512 .bf16) (p4 : FVec Ideal S8192x1536 .bf16)
  (p5 : FVec Ideal S8192x512 .bf16) (p6 : FVec Ideal S8192x256 .f32) (w : FVec Ideal S1024x5888 .bf16)
  (x : FVec Ideal S8192x1024 .f32) (g : FVec Ideal S1x1024 .f32) (dres : FVec Ideal S8192x1024 .f32)

/-- The derivative in the product's input. -/
abbrev dinp (i : Fin 8192) (l : Fin 1024) : EReal := ∑ q : Fin 5888, val_main_v6 (F := Ideal) p0 p1 p2 p3 p4 p5 p6 (ix2 i q) * w (ix2 l q)

theorem dinp_at (i : Fin 8192) (l : Fin 1024) : val_main_v28 (F := Ideal) p0 p1 p2 p3 p4 p5 p6 w (ix2 i l) = dinp p0 p1 p2 p3 p4 p5 p6 w i l := by
  pointwise [dinp, val_main_v28, val_main_v26]

/-- The mean square of a row plus the norm's epsilon. -/
abbrev msq (i : Fin 8192) : EReal :=
  Ideal.div (∑ l : Fin 1024, x (ix2 i l) * x (ix2 i l)) (Ideal.ofBits .f32 0x44800000#32) + Ideal.ofBits .f32 0x358637BD#32

/-- The derivative in the norm's mean square. -/
abbrev dmsq (i : Fin 8192) : EReal :=
  Ideal.div ((∑ l : Fin 1024, x (ix2 i l) * (dinp p0 p1 p2 p3 p4 p5 p6 w i l * g (ix2 0 l))) *
    (Ideal.ofBits .f32 0xBF000000#32 * Ideal.div (Ideal.rsqrt (msq x i)) (msq x i))) (Ideal.ofBits .f32 0x44800000#32)

theorem dgain_at (b : Fin 8) (k : Fin 1024) : val_main_v35 (F := Ideal) p0 p1 p2 p3 p4 p5 p6 w x (ix2 b k)
    = ∑ a : Fin 1024, x (ix2 ⟨a.val * 8 + b.val, by omega⟩ k) * Ideal.rsqrt (msq x ⟨a.val * 8 + b.val, by omega⟩)
        * dinp p0 p1 p2 p3 p4 p5 p6 w ⟨a.val * 8 + b.val, by omega⟩ k := by
  have hk := k.isLt
  have hb := b.isLt
  pointwise [msq, val_main_v35, val_main_cst_4, val_main_v32, val_main_v31, val_main_cst_3, val_main_v30, val_main_v21, val_main_v20, val_main_v16, val_main_v15, val_main_v13, val_main_v11, val_main_v10, val_main_cst, val_main_v9, val_main_v8, val_main_v12, val_main_cst_0, val_main_v14, val_main_cst_1, val_main_v29]
  simp only [Finset.univ_unique, Finset.sum_singleton, dinp_at]

theorem dx_at (i : Fin 8192) (k : Fin 1024) : val_main_v51 (F := Ideal) p0 p1 p2 p3 p4 p5 p6 w x g dres (ix2 i k)
    = dres (ix2 i k) + ((dinp p0 p1 p2 p3 p4 p5 p6 w i k * g (ix2 0 k) * Ideal.rsqrt (msq x i) + x (ix2 i k) * dmsq p0 p1 p2 p3 p4 p5 p6 w x g i)
        + dmsq p0 p1 p2 p3 p4 p5 p6 w x g i * x (ix2 i k)) := by
  have hk := k.isLt
  have hb := i.isLt
  pointwise [msq, val_main_v51, val_main_v50, val_main_v49, val_main_v47, val_main_v40, val_main_v34, val_main_v29, val_main_v33, val_main_v22, val_main_v7, val_main_v39, val_main_v16, val_main_v15, val_main_v13, val_main_v11, val_main_v10, val_main_cst, val_main_v9, val_main_v8, val_main_v12, val_main_cst_0, val_main_v14, val_main_cst_1, val_main_v46, val_main_v45, val_main_v44, val_main_cst_7, val_main_v43, val_main_v41, val_main_v19, val_main_v17, val_main_v18, val_main_cst_2, val_main_v38, val_main_v37, val_main_cst_5, val_main_v36, val_main_v42, val_main_cst_6, val_main_v48]
  simp only [Finset.univ_unique, Finset.sum_singleton, dinp_at]

end Reference

end Cert.InProjIdeal.Value

end
-- ==== Proof.InProjValue.lean ====
/- The kernel of the gradient through the mixing layer's input product, its results read element by element. -/
module

public import proofs.«01_k».proof.Proof.InProjRead

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProjRefIdeal.Read Cert.Proof

/-- Row `y` of the row tile of point `t`. -/
abbrev row (t : Fin cfg0.N) (y : Fin 256) : Fin 8192 :=
  ⟨t.val * 256 + y.val, by have h : t.val < 32 := lt_of_lt_of_eq t.isLt N_0; omega⟩

/-- Where each window's block sits at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![t.val, 0] ∧ win0_10.index t = ![0, 0]
    ∧ win0_11.index t = ![t.val, 0] ∧ win0_12.index t = ![0, 0] :=
  (by decide +kernel : ∀ t : Fin grid0.N, _)

variable (m : (ℓ : Loc nD τ sig) → Buf (Elt Ideal) ℓ)

section Blocks

variable (c : Dev nD) (t : Fin cfg0.N)

theorem blk_p0 (p : Fin 256) (k : Fin 1024) : (show FVec Ideal S256x1024 .bf16 from iblk m c 0 t) (ix2 p k)
    = (m ((c : Thread nD τ).loc main_arg0)) (ix2 (row t p) k) := by
  blk_point [iblk, V, idx t]

theorem blk_p1 (p : Fin 256) (k : Fin 1024) : (show FVec Ideal S256x1024 .bf16 from iblk m c 1 t) (ix2 p k)
    = (m ((c : Thread nD τ).loc main_arg1)) (ix2 (row t p) k) := by
  blk_point [iblk, V, idx t]

theorem blk_p2 (p : Fin 256) (k : Fin 1024) : (show FVec Ideal S256x1024 .bf16 from iblk m c 2 t) (ix2 p k)
    = (m ((c : Thread nD τ).loc main_arg2)) (ix2 (row t p) k) := by
  blk_point [iblk, V, idx t]

theorem blk_p3 (p : Fin 256) (k : Fin 512) : (show FVec Ideal S256x512 .bf16 from iblk m c 3 t) (ix2 p k)
    = (m ((c : Thread nD τ).loc main_arg3)) (ix2 (row t p) k) := by
  blk_point [iblk, V, idx t]

theorem blk_p4 (p : Fin 256) (k : Fin 1536) : (show FVec Ideal S256x1536 .bf16 from iblk m c 4 t) (ix2 p k)
    = (m ((c : Thread nD τ).loc main_arg4)) (ix2 (row t p) k) := by
  blk_point [iblk, V, idx t]

theorem blk_p5 (p : Fin 256) (k : Fin 512) : (show FVec Ideal S256x512 .bf16 from iblk m c 5 t) (ix2 p k)
    = (m ((c : Thread nD τ).loc main_arg5)) (ix2 (row t p) k) := by
  blk_point [iblk, V, idx t]

theorem blk_p6 (p : Fin 256) (k : Fin 256) : (show FVec Ideal S256x256 .f32 from iblk m c 6 t) (ix2 p k)
    = (m ((c : Thread nD τ).loc main_arg6)) (ix2 (row t p) k) := by
  blk_point [iblk, V, idx t]

theorem blk_x (p : Fin 256) (k : Fin 1024) : (show FVec Ideal S256x1024 .f32 from iblk m c 7 t) (ix2 p k)
    = (m ((c : Thread nD τ).loc main_arg8)) (ix2 (row t p) k) := by
  blk_point [iblk, V, idx t]

theorem blk_g (k : Fin 1024) : (show FVec Ideal S1x1024 .f32 from iblk m c 8 t) (ix2 0 k)
    = (m ((c : Thread nD τ).loc main_arg9)) (ix2 0 k) := by
  blk_point [iblk, V, idx t]

theorem blk_dres (p : Fin 256) (k : Fin 1024) : (show FVec Ideal S256x1024 .f32 from iblk m c 9 t) (ix2 p k)
    = (m ((c : Thread nD τ).loc main_arg10)) (ix2 (row t p) k) := by
  blk_point [iblk, V, idx t]

theorem blk_w (l : Fin 1024) (k : Fin 5888) : (show FVec Ideal S1024x5888 .bf16 from iblk m c 10 t) (ix2 l k)
    = (m ((c : Thread nD τ).loc main_arg7)) (ix2 l k) := by
  blk_point [iblk, V, idx t]

end Blocks

/-- The arguments that the equations need finite. -/
structure Finite (c : Dev nD) : Prop where
  p0 : ∀ i, IsFin ((m ((c : Thread nD τ).loc main_arg0)) i)
  p1 : ∀ i, IsFin ((m ((c : Thread nD τ).loc main_arg1)) i)
  p2 : ∀ i, IsFin ((m ((c : Thread nD τ).loc main_arg2)) i)
  p3 : ∀ i, IsFin ((m ((c : Thread nD τ).loc main_arg3)) i)
  p4 : ∀ i, IsFin ((m ((c : Thread nD τ).loc main_arg4)) i)
  p5 : ∀ i, IsFin ((m ((c : Thread nD τ).loc main_arg5)) i)
  p6 : ∀ i, IsFin ((m ((c : Thread nD τ).loc main_arg6)) i)
  w : ∀ i, IsFin ((m ((c : Thread nD τ).loc main_arg7)) i)
  x : ∀ i, IsFin ((m ((c : Thread nD τ).loc main_arg8)) i)
  g : ∀ i, IsFin ((m ((c : Thread nD τ).loc main_arg9)) i)

/-- What row `i` adds to the gain's derivative. -/
abbrev gterm (p0 p1 p2 : FVec Ideal S8192x1024 .bf16) (p3 : FVec Ideal S8192x512 .bf16) (p4 : FVec Ideal S8192x1536 .bf16)
    (p5 : FVec Ideal S8192x512 .bf16) (p6 : FVec Ideal S8192x256 .f32) (w : FVec Ideal S1024x5888 .bf16)
    (x : FVec Ideal S8192x1024 .f32) (i : Fin 8192) (k : Fin 1024) : EReal :=
  dinp p0 p1 p2 p3 p4 p5 p6 w i k * (x (ix2 i k) * Ideal.rsqrt (msq x i))

section Payloads

variable (p0 p1 p2 : FVec Ideal S8192x1024 .bf16) (p3 : FVec Ideal S8192x512 .bf16) (p4 : FVec Ideal S8192x1536 .bf16)
    (p5 : FVec Ideal S8192x512 .bf16) (p6 : FVec Ideal S8192x256 .f32) (w : FVec Ideal S1024x5888 .bf16)
  (q0 q1 q2 : FVec Ideal S256x1024 .bf16) (q3 : FVec Ideal S256x512 .bf16) (q4 : FVec Ideal S256x1536 .bf16)
  (q5 : FVec Ideal S256x512 .bf16) (q6 : FVec Ideal S256x256 .f32) (w0 : FVec Ideal S1024x5888 .bf16) (i : Fin 8192) (p : Fin 256)

/-- The kernel's derivative in the product's input. -/
theorem pay4_at (h0 : ∀ k, q0 (ix2 p k) = p0 (ix2 i k)) (h1 : ∀ k, q1 (ix2 p k) = p1 (ix2 i k)) (h2 : ∀ k, q2 (ix2 p k) = p2 (ix2 i k)) (h3 : ∀ k, q3 (ix2 p k) = p3 (ix2 i k)) (h4 : ∀ k, q4 (ix2 p k) = p4 (ix2 i k)) (h5 : ∀ k, q5 (ix2 p k) = p5 (ix2 i k)) (h6 : ∀ k, q6 (ix2 p k) = p6 (ix2 i k))
    (hw : ∀ l k, w0 (ix2 l k) = w (ix2 l k)) (l : Fin 1024) :
    k0_pay4 (F := Ideal) q0 q1 q2 q3 q4 q5 q6 w0 (ix2 p l) = dinp p0 p1 p2 p3 p4 p5 p6 w i l := by
  pointwise [k0_pay4, dinp, val_main_v6, val_main_v0, val_main_v1, val_main_v2, val_main_v3, val_main_v4, val_main_v5]
  simp only [h0, h1, h2, h3, h4, h5, h6, hw]

/-- A choice between finite values is finite. -/
theorem isFin_dite {q : Prop} [Decidable q] {f : q → EReal} {g : ¬q → EReal} (hf : ∀ h, IsFin (f h)) (hg : ∀ h, IsFin (g h)) :
    IsFin (dite q f g) := by
  by_cases h : q
  · rw [dif_pos h]; exact hf h
  · rw [dif_neg h]; exact hg h

/-- The derivative in the product's input is finite. -/
theorem dinp_fin (hp0 : ∀ i, IsFin (p0 i)) (hp1 : ∀ i, IsFin (p1 i)) (hp2 : ∀ i, IsFin (p2 i)) (hp3 : ∀ i, IsFin (p3 i)) (hp4 : ∀ i, IsFin (p4 i)) (hp5 : ∀ i, IsFin (p5 i)) (hp6 : ∀ i, IsFin (p6 i))
    (hw : ∀ i, IsFin (w i)) (l : Fin 1024) : IsFin (dinp p0 p1 p2 p3 p4 p5 p6 w i l) := by
  refine IsFin.sum fun k _ => IsFin.mul ?_ (hw _)
  pointwise [val_main_v6, val_main_v0, val_main_v1, val_main_v2, val_main_v3, val_main_v4, val_main_v5]
  exact isFin_dite (fun _ => hp0 _) fun _ => isFin_dite (fun _ => hp1 _) fun _ => isFin_dite (fun _ => hp2 _) fun _ =>
    isFin_dite (fun _ => hp3 _) fun _ => isFin_dite (fun _ => hp4 _) fun _ => isFin_dite (fun _ => hp5 _) fun _ => hp6 _

variable (x : FVec Ideal S8192x1024 .f32) (g : FVec Ideal S1x1024 .f32) (dres : FVec Ideal S8192x1024 .f32)
  (d0 b0 x0 e0 : FVec Ideal S256x1024 .f32) (g0 : FVec Ideal S1x1024 .f32)

/-- The kernel's derivative in the norm's input. -/
theorem pay1_at (hp0 : ∀ i, IsFin (p0 i)) (hp1 : ∀ i, IsFin (p1 i)) (hp2 : ∀ i, IsFin (p2 i)) (hp3 : ∀ i, IsFin (p3 i)) (hp4 : ∀ i, IsFin (p4 i)) (hp5 : ∀ i, IsFin (p5 i)) (hp6 : ∀ i, IsFin (p6 i))
    (hw : ∀ i, IsFin (w i)) (hx : ∀ i, IsFin (x i)) (hg : ∀ i, IsFin (g i))
    (h0 : ∀ k, q0 (ix2 p k) = p0 (ix2 i k)) (h1 : ∀ k, q1 (ix2 p k) = p1 (ix2 i k)) (h2 : ∀ k, q2 (ix2 p k) = p2 (ix2 i k)) (h3 : ∀ k, q3 (ix2 p k) = p3 (ix2 i k)) (h4 : ∀ k, q4 (ix2 p k) = p4 (ix2 i k)) (h5 : ∀ k, q5 (ix2 p k) = p5 (ix2 i k)) (h6 : ∀ k, q6 (ix2 p k) = p6 (ix2 i k))
    (hw0 : ∀ l k, w0 (ix2 l k) = w (ix2 l k)) (hx0 : ∀ l, x0 (ix2 p l) = x (ix2 i l)) (hg0 : ∀ l, g0 (ix2 0 l) = g (ix2 0 l))
    (he0 : ∀ l, e0 (ix2 p l) = dres (ix2 i l)) (k : Fin 1024) :
    k0_pay1 (F := Ideal) (k0_pay5 x0) (k0_pay6 x0) (k0_pay7 q0 q1 q2 q3 q4 q5 q6 w0 g0) e0 (k0_pay8 q0 q1 q2 q3 q4 q5 q6 w0 x0 g0) (ix2 p k)
      = dres (ix2 i k) + ((dinp p0 p1 p2 p3 p4 p5 p6 w i k * g (ix2 0 k) * Ideal.rsqrt (msq x i) + x (ix2 i k) * dmsq p0 p1 p2 p3 p4 p5 p6 w x g i)
        + dmsq p0 p1 p2 p3 p4 p5 p6 w x g i * x (ix2 i k)) := by
  pointwise [k0_pay1, k0_pay5, k0_pay6, k0_pay7, k0_pay8]
  simp only [pay4_at p0 p1 p2 p3 p4 p5 p6 w q0 q1 q2 q3 q4 q5 q6 w0 i p h0 h1 h2 h3 h4 h5 h6 hw0, hx0, hg0, he0]
  exact rms_grad (fun l => x (ix2 i l)) (fun l => dinp p0 p1 p2 p3 p4 p5 p6 w i l) (fun l => g (ix2 0 l)) (dres (ix2 i k)) k
    (fun l => hx _) (fun l => dinp_fin p0 p1 p2 p3 p4 p5 p6 w i hp0 hp1 hp2 hp3 hp4 hp5 hp6 hw l) (fun l => hg _) (msq x i) _ _ rfl rfl rfl

/-- The kernel's sum for the gain: what the buffer held plus the tile's rows, one in eight. -/
theorem pay2_at (acc : FVec Ideal S8x1024 .f32) (b : Fin 8) (k : Fin 1024) :
    k0_pay2 (F := Ideal) d0 (k0_pay6 x0) acc (ix2 b k)
      = acc (ix2 b k) + ∑ s : Fin 32, d0 (ix2 ⟨s.val * 8 + b.val, by omega⟩ k) * (x0 (ix2 ⟨s.val * 8 + b.val, by omega⟩ k)
        * Ideal.rsqrt (Ideal.div (∑ l : Fin 1024, x0 (ix2 ⟨s.val * 8 + b.val, by omega⟩ l) * x0 (ix2 ⟨s.val * 8 + b.val, by omega⟩ l))
            (Ideal.ofBits .f32 0x44800000#32) + Ideal.ofBits .f32 0x358637BD#32)) := by
  have hk := k.isLt
  have hb := b.isLt
  pointwise [k0_pay2, k0_pay5, k0_pay6]
  done

/-- The same sum where the tile's rows are rows of the arrays. -/
theorem pay2_step (r : Fin 256 → Fin 8192) (h0 : ∀ p l, d0 (ix2 p l) = dinp p0 p1 p2 p3 p4 p5 p6 w (r p) l)
    (h1 : ∀ p l, x0 (ix2 p l) = x (ix2 (r p) l)) (acc : FVec Ideal S8x1024 .f32) (b : Fin 8) (k : Fin 1024) :
    k0_pay2 (F := Ideal) d0 (k0_pay6 x0) acc (ix2 b k)
      = acc (ix2 b k) + ∑ s : Fin 32, gterm p0 p1 p2 p3 p4 p5 p6 w x (r ⟨s.val * 8 + b.val, by omega⟩) k := by
  rw [pay2_at]
  simp only [h0, h1]

/-- The kernel's zero fill. -/
theorem pay3_at (j : S8x1024.Idx) : k0_pay3 (F := Ideal) j = 0 := by
  pointwise [k0_pay3]

end Payloads

/-- The derivative in the norm's input. -/
theorem final11 (c : Dev nD) (hF : Finite m c) : (dats m 0 c).arrAt 11 cfg0.N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  have hy : ((View.whole main_v0_0).slice (win0_11.rect t)).emb y = ix2 (row t (y 0)) (y 1) := by
    blk_ext [idx t]
  rw [hy]
  refine Eq.trans ?_ (dx_at _ _ _ _ _ _ _ _ _ _ _ _ _).symm
  idx_vars y
  by_cases h : t.val % 32 = 0
  · rw [outsAt0_A m c t h]; frame_out
    exact pay1_at _ _ _ _ _ _ _ _ _ _ _ _ _ _ _ _ _ _ _ _ _ _ _ _ hF.p0 hF.p1 hF.p2 hF.p3 hF.p4 hF.p5 hF.p6 hF.w hF.x hF.g
      (blk_p0 m c t _) (blk_p1 m c t _) (blk_p2 m c t _) (blk_p3 m c t _) (blk_p4 m c t _) (blk_p5 m c t _) (blk_p6 m c t _) (blk_w m c t)
      (blk_x m c t _) (blk_g m c t) (blk_dres m c t _) _
  · rw [outsAt0_B m c t h]; frame_out
    exact pay1_at _ _ _ _ _ _ _ _ _ _ _ _ _ _ _ _ _ _ _ _ _ _ _ _ hF.p0 hF.p1 hF.p2 hF.p3 hF.p4 hF.p5 hF.p6 hF.w hF.x hF.g
      (blk_p0 m c t _) (blk_p1 m c t _) (blk_p2 m c t _) (blk_p3 m c t _) (blk_p4 m c t _) (blk_p5 m c t _) (blk_p6 m c t _) (blk_w m c t)
      (blk_x m c t _) (blk_g m c t) (blk_dres m c t _) _

/-- What point `t` adds to the gain's derivative. -/
def part (c : Dev nD) (t : Fin cfg0.N) (j : S8x1024.Idx) : EReal :=
  ∑ s : Fin 32, gterm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (row t ⟨s.val * 8 + (j 0).val, by have h : (j 0).val < 8 := (j 0).isLt; omega⟩) (j 1)

/-- One point's step of the gain's derivative. -/
theorem gain_step (c : Dev nD) (t : Fin cfg0.N) (acc : FVec Ideal S8x1024 .f32) (j : S8x1024.Idx) :
    k0_pay2 (F := Ideal) (k0_pay4 (iblk m c 0 t) (iblk m c 1 t) (iblk m c 2 t) (iblk m c 3 t) (iblk m c 4 t) (iblk m c 5 t) (iblk m c 6 t) (iblk m c 10 t)) (k0_pay6 (iblk m c 7 t)) acc j = acc j + part m c t j := by
  idx_vars j
  exact pay2_step _ _ _ _ _ _ _ _ _ _ _ (row t)
    (fun p l => pay4_at _ _ _ _ _ _ _ _ _ _ _ _ _ _ _ _ _ p (blk_p0 m c t p) (blk_p1 m c t p) (blk_p2 m c t p) (blk_p3 m c t p) (blk_p4 m c t p) (blk_p5 m c t p) (blk_p6 m c t p) (blk_w m c t) l)
    (blk_x m c t) acc _ _

/-- The derivative in the norm's gain, one row in eight apart. -/
theorem final12 (c : Dev nD) : (dats m 0 c).arrAt 12 cfg0.N
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  have hy : ((View.whole main_v0_1).slice (win0_12.rect t)).emb y = ix2 (y 0) (y 1) := by
    blk_ext [idx t]
  rw [hy]
  idx_vars y
  rw [after0_12, Pipeline.eq_sum_fin_of_reset_step_apply_of_flush (fun n h => (outsAt0 m c n h).2) 32 (fun _ => 0) _
    (fun t h j => by rw [outsAt0_A m c t h]; frame_out; rw [gain_step m c, pay3_at])
    (fun t h j => by rw [outsAt0_B m c t h]; frame_out; rw [gain_step m c])
    t ((flush0_12 t).mp hf) _, zero_add]
  refine Eq.trans ?_ (dgain_at _ _ _ _ _ _ _ _ _ _ _).symm
  unfold part
  refine Fin.sum_mul_add_congr fun s k hl => ?_
  have ht : t.val < 32 := lt_of_lt_of_eq t.isLt N_0
  have e : ∀ h1 h2 h3, row ⟨32 * (t.val / 32) + s.val, h1⟩ ⟨k.val * 8 + y0.val, h2⟩
      = (⟨(s.val * 32 + k.val) * 8 + y0.val, h3⟩ : Fin 8192) := fun _ _ _ => Fin.ext (by
    show (32 * (t.val / 32) + s.val) * 256 + (k.val * 8 + y0.val) = (s.val * 32 + k.val) * 8 + y0.val
    omega)
  refine Eq.trans ?_ (EReal.mul_comm _ _)
  exact congrArg (fun i => gterm _ _ _ _ _ _ _ _ _ i y1) (e _ _ _)

end Cert.InProjIdeal.Value

end
-- ==== Proof.InProjClaim.lean ====
/- The gradient through the mixing layer's input product: the kernel's results are the reference's, on finite inputs. -/
module

public import proofs.«01_k».proof.Defs
public import proofs.«01_k».proof.Proof.InProjValue
public import proofs.«01_k».proof.Proof.FiniteArgs
public import proofs.«01_k».proof.Proof.Gen.InProjRefIdeal.Run
public import proofs.«01_k».proof.Proof.Gen.Pre_inp_finite
public import Idealize.ShloMosaic.Lib.Claim

@[expose] public section

set_option maxRecDepth 16384

noncomputable section

namespace Cert.Proof

open Idealize.ShloMosaic Idealize.ShloMosaic.TcCoe Idealize.SL.Sem

/-- The precondition: every argument but the residual gradient is finite. -/
theorem inp_finite (m : (ℓ : Loc Cert.InProjIdeal.nD Cert.InProjIdeal.τ Cert.InProjIdeal.sig) → Buf (Elt Ideal) ℓ)
    (h : Cert.Pre_InProjIdeal_inp_finite m) (c : Dev Cert.InProjIdeal.nD) : Cert.InProjIdeal.Value.Finite m c := by
  have e := congrFun (h c) (fun k => k.elim0)
  obtain ⟨e, h_g⟩ := IntOp.andi_eq_one.1 e
  obtain ⟨e, h_x⟩ := IntOp.andi_eq_one.1 e
  obtain ⟨e, h_w⟩ := IntOp.andi_eq_one.1 e
  obtain ⟨e, h_p6⟩ := IntOp.andi_eq_one.1 e
  obtain ⟨e, h_p5⟩ := IntOp.andi_eq_one.1 e
  obtain ⟨e, h_p4⟩ := IntOp.andi_eq_one.1 e
  obtain ⟨e, h_p3⟩ := IntOp.andi_eq_one.1 e
  obtain ⟨e, h_p2⟩ := IntOp.andi_eq_one.1 e
  obtain ⟨h_p0, h_p1⟩ := IntOp.andi_eq_one.1 e
  exact ⟨isFin_of_all _ _ ofBits_inf_bf16 _ _ _ _ h_p0,
    isFin_of_all _ _ ofBits_inf_bf16 _ _ _ _ h_p1,
    isFin_of_all _ _ ofBits_inf_bf16 _ _ _ _ h_p2,
    isFin_of_all _ _ ofBits_inf_bf16 _ _ _ _ h_p3,
    isFin_of_all _ _ ofBits_inf_bf16 _ _ _ _ h_p4,
    isFin_of_all _ _ ofBits_inf_bf16 _ _ _ _ h_p5,
    isFin_of_all _ _ ofBits_inf_f32 _ _ _ _ h_p6,
    isFin_of_all _ _ ofBits_inf_bf16 _ _ _ _ h_w,
    isFin_of_all _ _ ofBits_inf_f32 _ _ _ _ h_x,
    isFin_of_all _ _ ofBits_inf_f32 _ _ _ _ h_g⟩

/-- From equal finite arguments both programs end with equal results: the derivatives in the norm's input and in its gain. -/
theorem algebraic_inp : Cert.algebraic_InProjIdeal_InProjRefIdeal_pre_inp_finite := by
  pair_intro
  · run_from Cert.InProjIdeal.Value.run_blocks m g
  · run_from Cert.InProjRefIdeal.Value.run m' g'
    · refine (Cert.InProjRefIdeal.Read.val_main_v51_eq m' c).trans (Eq.trans ?_ (Cert.InProjIdeal.Value.final11 m c (inp_finite m hpre c)).symm)
      obtain ⟨h0, h1, h2, h3, h4, h5, h6, h7, h8, h9, h10⟩ := hagree c
      rw [h0, h1, h2, h3, h4, h5, h6, h7, h8, h9, h10]
    · obtain ⟨_, _, _, _, h4, h5, h6, _⟩ := hagree c
      rw [h4, h5, h6]
      exact (Cert.InProjIdeal.Value.final12 m c).symm

/-- The reference's run ends, with its arguments unchanged. -/
theorem frame_inp_ref : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run (F := Ideal) m ρ)

/-- The kernel's frame at the precondition. -/
theorem frame_inp_pre : Cert.quiescent_InProjIdeal_pre_inp_finite := fun m ρ _ => Cert.InProjIdeal.Gen.frame m ρ

/-- The reference's frame at the precondition. -/
theorem frame_inp_ref_pre : Cert.quiescent_InProjRefIdeal_pre_inp_finite := fun m ρ _ => frame_inp_ref m ρ trivial

end Cert.Proof

end
-- ==== Proof.PleRead.lean ====
/- The gradients through the per-layer gate and its norm as the reference computes them, read at one element. -/
module

public import proofs.«01_k».proof.Proof.Gen.PleIdeal.Value
public import proofs.«01_k».proof.Proof.Gen.PleRefIdeal.Read
public import proofs.«01_k».proof.Proof.RmsGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen Cert.PleRefIdeal.Read Cert.Proof

section Reference

variable (dres : FVec Ideal S8192x1024 .f32) (a pp : FVec Ideal S8192x1024 .bf16) (w : FVec Ideal S1024x1024 .bf16)
  (x : FVec Ideal S8192x1024 .f32) (g : FVec Ideal S1x1024 .f32)

/-- The gate. -/
abbrev sg (i : Fin 8192) (k : Fin 1024) : EReal := Ideal.div 1 (1 + Ideal.exp (-a (ix2 i k)))

/-- The derivative before the gate. -/
abbrev da (i : Fin 8192) (k : Fin 1024) : EReal :=
  dres (ix2 i k) * pp (ix2 i k) * (sg a i k * (1 - sg a i k))

/-- The derivative in the product's input. -/
abbrev dinp (i : Fin 8192) (l : Fin 1024) : EReal := ∑ k : Fin 1024, da dres a pp i k * w (ix2 l k)

theorem da_at (i : Fin 8192) (k : Fin 1024) : val_main_v60 (F := Ideal) dres a pp (ix2 i k) = da dres a pp i k := by
  pointwise [sg, da, val_main_v60, val_main_v14, val_main_v10, val_main_v7, val_main_v5, val_main_v3, val_main_v2, val_main_v0, val_main_v4, val_main_cst, val_main_v6, val_main_cst_0, val_main_v9, val_main_v8, val_main_cst_1, val_main_v13, val_main_v1]

theorem dpp_at (i : Fin 8192) (k : Fin 1024) : val_main_v61 (F := Ideal) dres a (ix2 i k) = sg a i k * dres (ix2 i k) := by
  pointwise [sg, val_main_v61, val_main_v12, val_main_v7, val_main_v5, val_main_v3, val_main_v2, val_main_v0, val_main_v4, val_main_cst, val_main_v6, val_main_cst_0]

theorem dinp_at (i : Fin 8192) (l : Fin 1024) : val_main_v36 (F := Ideal) dres a pp w (ix2 i l) = dinp dres a pp w i l := by
  pointwise [sg, da, dinp, val_main_v36, val_main_v14, val_main_v10, val_main_v7, val_main_v5, val_main_v3, val_main_v2, val_main_v0, val_main_v4, val_main_cst, val_main_v6, val_main_cst_0, val_main_v9, val_main_v8, val_main_cst_1, val_main_v13, val_main_v1, val_main_v34]

/-- The mean square of a row plus the norm's epsilon. -/
abbrev msq (i : Fin 8192) : EReal :=
  Ideal.div (∑ l : Fin 1024, x (ix2 i l) * x (ix2 i l)) (Ideal.ofBits .f32 0x44800000#32) + Ideal.ofBits .f32 0x358637BD#32

/-- The derivative in the norm's mean square. -/
abbrev dmsq (i : Fin 8192) : EReal :=
  Ideal.div ((∑ l : Fin 1024, x (ix2 i l) * (dinp dres a pp w i l * g (ix2 0 l))) *
    (Ideal.ofBits .f32 0xBF000000#32 * Ideal.div (Ideal.rsqrt (msq x i)) (msq x i))) (Ideal.ofBits .f32 0x44800000#32)

theorem dgain_at (b : Fin 8) (k : Fin 1024) : val_main_v43 (F := Ideal) dres a pp w x (ix2 b k)
    = ∑ s : Fin 1024, x (ix2 ⟨s.val * 8 + b.val, by omega⟩ k) * Ideal.rsqrt (msq x ⟨s.val * 8 + b.val, by omega⟩)
        * dinp dres a pp w ⟨s.val * 8 + b.val, by omega⟩ k := by
  have hk := k.isLt
  have hb := b.isLt
  pointwise [msq, val_main_v43, val_main_cst_7, val_main_v40, val_main_v39, val_main_cst_6, val_main_v38, val_main_v29, val_main_v16, val_main_v28, val_main_v24, val_main_v23, val_main_v21, val_main_v19, val_main_v18, val_main_cst_2, val_main_v17, val_main_v20, val_main_cst_3, val_main_v22, val_main_cst_4, val_main_v37]
  simp only [Finset.univ_unique, Finset.sum_singleton, dinp_at]

theorem dx_at (i : Fin 8192) (k : Fin 1024) : val_main_v59 (F := Ideal) dres a pp w x g (ix2 i k)
    = dres (ix2 i k) + ((dinp dres a pp w i k * g (ix2 0 k) * Ideal.rsqrt (msq x i) + x (ix2 i k) * dmsq dres a pp w x g i)
        + dmsq dres a pp w x g i * x (ix2 i k)) := by
  have hk := k.isLt
  have hb := i.isLt
  pointwise [msq, val_main_v59, val_main_v58, val_main_v57, val_main_v55, val_main_v48, val_main_v42, val_main_v37, val_main_v41, val_main_v30, val_main_v15, val_main_v47, val_main_v24, val_main_v23, val_main_v21, val_main_v19, val_main_v18, val_main_cst_2, val_main_v17, val_main_v16, val_main_v20, val_main_cst_3, val_main_v22, val_main_cst_4, val_main_v54, val_main_v53, val_main_v52, val_main_cst_10, val_main_v51, val_main_v49, val_main_v27, val_main_v25, val_main_v26, val_main_cst_5, val_main_v46, val_main_v45, val_main_cst_8, val_main_v44, val_main_v50, val_main_cst_9, val_main_v56]
  simp only [Finset.univ_unique, Finset.sum_singleton, dinp_at]

end Reference

end Cert.PleIdeal.Value

end
-- ==== Proof.PleValue.lean ====
/- The kernel of the gradient through the per-layer gate, its results read element by element. -/
module

public import proofs.«01_k».proof.Proof.PleRead

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen Cert.PleRefIdeal.Read Cert.Proof

/-- Row `y` of the row tile of point `t`. -/
abbrev row (t : Fin cfg0.N) (y : Fin 512) : Fin 8192 :=
  ⟨t.val * 512 + y.val, by have h : t.val < 16 := lt_of_lt_of_eq t.isLt N_0; omega⟩

/-- Where each window's block sits at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] ∧ win0_10.index t = ![t.val, 0] :=
  (by decide +kernel : ∀ t : Fin grid0.N, _)

variable (m : (ℓ : Loc nD τ sig) → Buf (Elt Ideal) ℓ)

section Blocks

variable (c : Dev nD) (t : Fin cfg0.N)

theorem blk_d (p : Fin 512) (k : Fin 1024) : (show FVec Ideal S512x1024 .f32 from iblk m c 0 t) (ix2 p k)
    = (m ((c : Thread nD τ).loc main_arg0)) (ix2 (row t p) k) := by
  blk_point [iblk, V, idx t]

theorem blk_a (p : Fin 512) (k : Fin 1024) : (show FVec Ideal S512x1024 .bf16 from iblk m c 1 t) (ix2 p k)
    = (m ((c : Thread nD τ).loc main_arg1)) (ix2 (row t p) k) := by
  blk_point [iblk, V, idx t]

theorem blk_p (p : Fin 512) (k : Fin 1024) : (show FVec Ideal S512x1024 .bf16 from iblk m c 2 t) (ix2 p k)
    = (m ((c : Thread nD τ).loc main_arg2)) (ix2 (row t p) k) := by
  blk_point [iblk, V, idx t]

theorem blk_x (p : Fin 512) (k : Fin 1024) : (show FVec Ideal S512x1024 .f32 from iblk m c 3 t) (ix2 p k)
    = (m ((c : Thread nD τ).loc main_arg4)) (ix2 (row t p) k) := by
  blk_point [iblk, V, idx t]

theorem blk_g (k : Fin 1024) : (show FVec Ideal S1x1024 .f32 from iblk m c 4 t) (ix2 0 k)
    = (m ((c : Thread nD τ).loc main_arg5)) (ix2 0 k) := by
  blk_point [iblk, V, idx t]

theorem blk_dres (p : Fin 512) (k : Fin 1024) : (show FVec Ideal S512x1024 .f32 from iblk m c 5 t) (ix2 p k)
    = (m ((c : Thread nD τ).loc main_arg0)) (ix2 (row t p) k) := by
  blk_point [iblk, V, idx t]

theorem blk_w (l : Fin 1024) (k : Fin 1024) : (show FVec Ideal S1024x1024 .bf16 from iblk m c 6 t) (ix2 l k)
    = (m ((c : Thread nD τ).loc main_arg3)) (ix2 l k) := by
  blk_point [iblk, V, idx t]

end Blocks

/-- The arguments that the equations need finite. -/
structure Finite (c : Dev nD) : Prop where
  d : ∀ i, IsFin ((m ((c : Thread nD τ).loc main_arg0)) i)
  a : ∀ i, IsFin ((m ((c : Thread nD τ).loc main_arg1)) i)
  p : ∀ i, IsFin ((m ((c : Thread nD τ).loc main_arg2)) i)
  w : ∀ i, IsFin ((m ((c : Thread nD τ).loc main_arg3)) i)
  x : ∀ i, IsFin ((m ((c : Thread nD τ).loc main_arg4)) i)
  g : ∀ i, IsFin ((m ((c : Thread nD τ).loc main_arg5)) i)

/-- What row `i` adds to the gain's derivative. -/
abbrev gterm (dres : FVec Ideal S8192x1024 .f32) (a pp : FVec Ideal S8192x1024 .bf16) (w : FVec Ideal S1024x1024 .bf16)
    (x : FVec Ideal S8192x1024 .f32) (i : Fin 8192) (k : Fin 1024) : EReal :=
  dinp dres a pp w i k * (x (ix2 i k) * Ideal.rsqrt (msq x i))

section Payloads

variable (dres : FVec Ideal S8192x1024 .f32) (a pp : FVec Ideal S8192x1024 .bf16) (w : FVec Ideal S1024x1024 .bf16)
  (v0 : FVec Ideal S512x1024 .f32) (a0 b0 : FVec Ideal S512x1024 .bf16) (w0 : FVec Ideal S1024x1024 .bf16) (i : Fin 8192) (p : Fin 512)

/-- The kernel's derivative before the gate. -/
theorem pay5_at (h0 : ∀ k, v0 (ix2 p k) = dres (ix2 i k)) (h1 : ∀ k, a0 (ix2 p k) = a (ix2 i k)) (h2 : ∀ k, b0 (ix2 p k) = pp (ix2 i k))
    (k : Fin 1024) : k0_pay5 (F := Ideal) v0 a0 b0 (ix2 p k) = da dres a pp i k := by
  pointwise [k0_pay5, k0_pay4]
  simp only [h0, h1, h2]
  exact mul_assoc (G := EReal) _ _ _

/-- The kernel's derivative in the gated vector. -/
theorem pay6_at (h0 : ∀ k, v0 (ix2 p k) = dres (ix2 i k)) (h1 : ∀ k, a0 (ix2 p k) = a (ix2 i k))
    (k : Fin 1024) : k0_pay6 (F := Ideal) v0 a0 (ix2 p k) = sg a i k * dres (ix2 i k) := by
  pointwise [k0_pay6, k0_pay4]
  simp only [h0, h1]
  exact EReal.mul_comm _ _

/-- The kernel's derivative in the product's input. -/
theorem pay7_at (h0 : ∀ k, v0 (ix2 p k) = dres (ix2 i k)) (h1 : ∀ k, a0 (ix2 p k) = a (ix2 i k)) (h2 : ∀ k, b0 (ix2 p k) = pp (ix2 i k))
    (hw : ∀ l k, w0 (ix2 l k) = w (ix2 l k)) (l : Fin 1024) :
    k0_pay7 (F := Ideal) v0 a0 b0 w0 (ix2 p l) = dinp dres a pp w i l := by
  pointwise [k0_pay7]
  simp only [pay5_at dres a pp v0 a0 b0 i p h0 h1 h2, hw]

/-- The derivative in the product's input is finite. -/
theorem dinp_fin (hd : ∀ i, IsFin (dres i)) (ha : ∀ i, IsFin (a i)) (hp : ∀ i, IsFin (pp i)) (hw : ∀ i, IsFin (w i)) (l : Fin 1024) :
    IsFin (dinp dres a pp w i l) := by
  have hs : ∀ k, IsFin (sg a i k) := fun k => (ha _).logistic
  have h1 : ∀ k, IsFin (1 - sg a i k) := fun k => IsFin.one.sub (hs k)
  exact IsFin.sum fun k _ => (((hd _).mul (hp _)).mul ((hs k).mul (h1 k))).mul (hw _)

variable (x : FVec Ideal S8192x1024 .f32) (g : FVec Ideal S1x1024 .f32)
  (d0 x0 e0 : FVec Ideal S512x1024 .f32) (g0 : FVec Ideal S1x1024 .f32)

/-- The kernel's derivative in the norm's input. -/
theorem pay1_at (hd : ∀ i, IsFin (dres i)) (ha : ∀ i, IsFin (a i)) (hp : ∀ i, IsFin (pp i)) (hw : ∀ i, IsFin (w i)) (hx : ∀ i, IsFin (x i))
    (hg : ∀ i, IsFin (g i))
    (h0 : ∀ l, d0 (ix2 p l) = dinp dres a pp w i l) (h1 : ∀ l, x0 (ix2 p l) = x (ix2 i l)) (h2 : ∀ l, g0 (ix2 0 l) = g (ix2 0 l))
    (h3 : ∀ l, e0 (ix2 p l) = dres (ix2 i l)) (k : Fin 1024) :
    k0_pay1 (F := Ideal) d0 (k0_pay8 x0) (k0_pay9 x0) g0 e0 (ix2 p k)
      = dres (ix2 i k) + ((dinp dres a pp w i k * g (ix2 0 k) * Ideal.rsqrt (msq x i) + x (ix2 i k) * dmsq dres a pp w x g i)
        + dmsq dres a pp w x g i * x (ix2 i k)) := by
  pointwise [k0_pay1, k0_pay8, k0_pay9]
  simp only [h0, h1, h2, h3]
  exact rms_grad (fun l => x (ix2 i l)) (fun l => dinp dres a pp w i l) (fun l => g (ix2 0 l)) (dres (ix2 i k)) k
    (fun l => hx _) (fun l => dinp_fin dres a pp w i hd ha hp hw l) (fun l => hg _) (msq x i) _ _ rfl rfl rfl

/-- The kernel's sum for the gain: what the buffer held plus the tile's rows, one in eight. -/
theorem pay2_at (acc : FVec Ideal S8x1024 .f32) (b : Fin 8) (k : Fin 1024) :
    k0_pay2 (F := Ideal) d0 (k0_pay9 x0) acc (ix2 b k)
      = acc (ix2 b k) + ∑ s : Fin 64, d0 (ix2 ⟨s.val * 8 + b.val, by omega⟩ k) * (x0 (ix2 ⟨s.val * 8 + b.val, by omega⟩ k)
        * Ideal.rsqrt (Ideal.div (∑ l : Fin 1024, x0 (ix2 ⟨s.val * 8 + b.val, by omega⟩ l) * x0 (ix2 ⟨s.val * 8 + b.val, by omega⟩ l))
            (Ideal.ofBits .f32 0x44800000#32) + Ideal.ofBits .f32 0x358637BD#32)) := by
  have hk := k.isLt
  have hb := b.isLt
  pointwise [k0_pay2, k0_pay8, k0_pay9]
  done

/-- The same sum where the tile's rows are rows of the arrays. -/
theorem pay2_step (r : Fin 512 → Fin 8192) (h0 : ∀ p l, d0 (ix2 p l) = dinp dres a pp w (r p) l)
    (h1 : ∀ p l, x0 (ix2 p l) = x (ix2 (r p) l)) (acc : FVec Ideal S8x1024 .f32) (b : Fin 8) (k : Fin 1024) :
    k0_pay2 (F := Ideal) d0 (k0_pay9 x0) acc (ix2 b k)
      = acc (ix2 b k) + ∑ s : Fin 64, gterm dres a pp w x (r ⟨s.val * 8 + b.val, by omega⟩) k := by
  rw [pay2_at]
  simp only [h0, h1]

/-- The kernel's zero fill. -/
theorem pay3_at (j : S8x1024.Idx) : k0_pay3 (F := Ideal) j = 0 := by
  pointwise [k0_pay3]

end Payloads

/-- The derivative before the gate. -/
theorem final9 (c : Dev nD) : (dats m 0 c).arrAt 9 cfg0.N
    = val_main_v60 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  have hy : ((View.whole main_v0_2).slice (win0_9.rect t)).emb y = ix2 (row t (y 0)) (y 1) := by
    blk_ext [idx t]
  rw [hy]
  refine Eq.trans ?_ (da_at _ _ _ _ _).symm
  idx_vars y
  by_cases h : t.val % 16 = 0
  · rw [outsAt0_A m c t h]; frame_out
    exact pay5_at _ _ _ _ _ _ _ _ (blk_d m c t _) (blk_a m c t _) (blk_p m c t _) _
  · rw [outsAt0_B m c t h]; frame_out
    exact pay5_at _ _ _ _ _ _ _ _ (blk_d m c t _) (blk_a m c t _) (blk_p m c t _) _

/-- The derivative in the gated vector. -/
theorem final10 (c : Dev nD) : (dats m 0 c).arrAt 10 cfg0.N
    = val_main_v61 (F := Ideal) (m ((c : Thread nD τ).loc main_arg0)) (m ((c : Thread nD τ).loc main_arg1)) := by
  refine (dats m 0 c).arrAt_eq_of_covers 10 _ (by decide +kernel) fun t _ y => ?_
  blk_simp
  rw [after0_10]
  have hy : ((View.whole main_v0_3).slice (win0_10.rect t)).emb y = ix2 (row t (y 0)) (y 1) := by
    blk_ext [idx t]
  rw [hy]
  refine Eq.trans ?_ (dpp_at _ _ _ _).symm
  idx_vars y
  by_cases h : t.val % 16 = 0
  · rw [outsAt0_A m c t h]; frame_out
    exact pay6_at _ _ _ _ _ _ (blk_d m c t _) (blk_a m c t _) _
  · rw [outsAt0_B m c t h]; frame_out
    exact pay6_at _ _ _ _ _ _ (blk_d m c t _) (blk_a m c t _) _

/-- The derivative in the norm's input. -/
theorem final7 (c : Dev nD) (hF : Finite m c) : (dats m 0 c).arrAt 7 cfg0.N
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hy : ((View.whole main_v0_0).slice (win0_7.rect t)).emb y = ix2 (row t (y 0)) (y 1) := by
    blk_ext [idx t]
  rw [hy]
  refine Eq.trans ?_ (dx_at _ _ _ _ _ _ _ _).symm
  idx_vars y
  by_cases h : t.val % 16 = 0
  · rw [outsAt0_A m c t h]; frame_out
    exact pay1_at _ _ _ _ _ _ _ _ _ _ _ _ hF.d hF.a hF.p hF.w hF.x hF.g
      (pay7_at _ _ _ _ _ _ _ _ _ _ (blk_d m c t _) (blk_a m c t _) (blk_p m c t _) (blk_w m c t))
      (blk_x m c t _) (blk_g m c t) (blk_dres m c t _) _
  · rw [outsAt0_B m c t h]; frame_out
    exact pay1_at _ _ _ _ _ _ _ _ _ _ _ _ hF.d hF.a hF.p hF.w hF.x hF.g
      (pay7_at _ _ _ _ _ _ _ _ _ _ (blk_d m c t _) (blk_a m c t _) (blk_p m c t _) (blk_w m c t))
      (blk_x m c t _) (blk_g m c t) (blk_dres m c t _) _

/-- What point `t` adds to the gain's derivative. -/
def part (c : Dev nD) (t : Fin cfg0.N) (j : S8x1024.Idx) : EReal :=
  ∑ s : Fin 64, gterm (m ((c : Thread nD τ).loc main_arg0)) (m ((c : Thread nD τ).loc main_arg1)) (m ((c : Thread nD τ).loc main_arg2)) (m ((c : Thread nD τ).loc main_arg3)) (m ((c : Thread nD τ).loc main_arg4))
    (row t ⟨s.val * 8 + (j 0).val, by have h : (j 0).val < 8 := (j 0).isLt; omega⟩) (j 1)

/-- One point's step of the gain's derivative. -/
theorem gain_step (c : Dev nD) (t : Fin cfg0.N) (acc : FVec Ideal S8x1024 .f32) (j : S8x1024.Idx) :
    k0_pay2 (F := Ideal) (k0_pay7 (iblk m c 0 t) (iblk m c 1 t) (iblk m c 2 t) (iblk m c 6 t)) (k0_pay9 (iblk m c 3 t)) acc j = acc j + part m c t j := by
  idx_vars j
  exact pay2_step _ _ _ _ _ _ _ (row t)
    (fun p l => pay7_at _ _ _ _ _ _ _ _ _ p (blk_d m c t p) (blk_a m c t p) (blk_p m c t p) (blk_w m c t) l)
    (blk_x m c t) acc _ _

/-- The derivative in the norm's gain, one row in eight apart. -/
theorem final8 (c : Dev nD) : (dats m 0 c).arrAt 8 cfg0.N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have hy : ((View.whole main_v0_1).slice (win0_8.rect t)).emb y = ix2 (y 0) (y 1) := by
    blk_ext [idx t]
  rw [hy]
  idx_vars y
  rw [after0_8, Pipeline.eq_sum_fin_of_reset_step_apply_of_flush (fun n h => (outsAt0 m c n h).2.1) 16 (fun _ => 0) _
    (fun t h j => by rw [outsAt0_A m c t h]; frame_out; rw [gain_step m c, pay3_at])
    (fun t h j => by rw [outsAt0_B m c t h]; frame_out; rw [gain_step m c])
    t ((flush0_8 t).mp hf) _, zero_add]
  refine Eq.trans ?_ (dgain_at _ _ _ _ _ _ _).symm
  unfold part
  refine Fin.sum_mul_add_congr fun s k hl => ?_
  have ht : t.val < 16 := lt_of_lt_of_eq t.isLt N_0
  have e : ∀ h1 h2 h3, row ⟨16 * (t.val / 16) + s.val, h1⟩ ⟨k.val * 8 + y0.val, h2⟩
      = (⟨(s.val * 64 + k.val) * 8 + y0.val, h3⟩ : Fin 8192) := fun _ _ _ => Fin.ext (by
    show (16 * (t.val / 16) + s.val) * 512 + (k.val * 8 + y0.val) = (s.val * 64 + k.val) * 8 + y0.val
    omega)
  refine Eq.trans ?_ (EReal.mul_comm _ _)
  exact congrArg (fun i => gterm _ _ _ _ _ i y1) (e _ _ _)

end Cert.PleIdeal.Value

end
-- ==== Proof.PleClaim.lean ====
/- The gradient through the per-layer gate: the kernel's results are the reference's, on finite inputs. -/
module

public import proofs.«01_k».proof.Defs
public import proofs.«01_k».proof.Proof.PleValue
public import proofs.«01_k».proof.Proof.FiniteArgs
public import proofs.«01_k».proof.Proof.Gen.PleRefIdeal.Run
public import proofs.«01_k».proof.Proof.Gen.Pre_ple_finite
public import Idealize.ShloMosaic.Lib.Claim

@[expose] public section

set_option maxRecDepth 16384

noncomputable section

namespace Cert.Proof

open Idealize.ShloMosaic Idealize.ShloMosaic.TcCoe Idealize.SL.Sem

/-- The precondition: every argument is finite. -/
theorem ple_finite (m : (ℓ : Loc Cert.PleIdeal.nD Cert.PleIdeal.τ Cert.PleIdeal.sig) → Buf (Elt Ideal) ℓ)
    (h : Cert.Pre_PleIdeal_ple_finite m) (c : Dev Cert.PleIdeal.nD) : Cert.PleIdeal.Value.Finite m c := by
  have e := congrFun (h c) (fun k => k.elim0)
  obtain ⟨e, h_g⟩ := IntOp.andi_eq_one.1 e
  obtain ⟨e, h_x⟩ := IntOp.andi_eq_one.1 e
  obtain ⟨e, h_w⟩ := IntOp.andi_eq_one.1 e
  obtain ⟨e, h_p⟩ := IntOp.andi_eq_one.1 e
  obtain ⟨h_d, h_a⟩ := IntOp.andi_eq_one.1 e
  exact ⟨isFin_of_all _ _ ofBits_inf_f32 _ _ _ _ h_d,
    isFin_of_all _ _ ofBits_inf_bf16 _ _ _ _ h_a,
    isFin_of_all _ _ ofBits_inf_bf16 _ _ _ _ h_p,
    isFin_of_all _ _ ofBits_inf_bf16 _ _ _ _ h_w,
    isFin_of_all _ _ ofBits_inf_f32 _ _ _ _ h_x,
    isFin_of_all _ _ ofBits_inf_f32 _ _ _ _ h_g⟩

/-- From equal finite arguments both programs end with equal results: the derivatives in the norm's input, in its gain,
    before the gate and in the gated vector. -/
theorem algebraic_ple : Cert.algebraic_PleIdeal_PleRefIdeal_pre_ple_finite := by
  pair_intro
  · run_from Cert.PleIdeal.Value.run_blocks m g
  · run_from Cert.PleRefIdeal.Value.run m' g'
    · refine (Cert.PleRefIdeal.Read.val_main_v59_eq m' c).trans (Eq.trans ?_ (Cert.PleIdeal.Value.final7 m c (ple_finite m hpre c)).symm)
      obtain ⟨h0, h1, h2, h3, h4, h5⟩ := hagree c
      rw [h0, h1, h2, h3, h4, h5]
    · exact (Cert.PleIdeal.Value.final8 m c).symm
    · exact (Cert.PleIdeal.Value.final9 m c).symm
    · exact (Cert.PleIdeal.Value.final10 m c).symm

/-- The reference's run ends, with its arguments unchanged. -/
theorem frame_ple_ref : Cert.quiescent_PleRefIdeal := fun m ρ _ =>
  (θ_run Cert.PleRefIdeal.defs _ _).mono (fun r h => ⟨fun c => (h c).2.2.2.2,
      Idealize.ShloMosaic.sem_eq_zero_of_no_sems (by decide) r.2⟩)
    (Cert.PleRefIdeal.Value.run (F := Ideal) m ρ)

/-- The kernel's frame at the precondition. -/
theorem frame_ple_pre : Cert.quiescent_PleIdeal_pre_ple_finite := fun m ρ _ => Cert.PleIdeal.Gen.frame m ρ

/-- The reference's frame at the precondition. -/
theorem frame_ple_ref_pre : Cert.quiescent_PleRefIdeal_pre_ple_finite := fun m ρ _ => frame_ple_ref m ρ trivial

end Cert.Proof

end
-- ==== Proof.MergeRefRead.lean ====
/- The gradients of the gated sum as the reference computes them, read at one element. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeRefIdeal.Read

/-- The kernel's sigmoid is the reference's `1 / (1 + e⁻ˣ)`. -/
theorem sigmoid_eq (x : EReal) : Ideal.div 1 (1 + Ideal.exp (-x)) = Ideal.logistic x := rfl

/-- Branch `r` projected: the product of `y` with its weights. -/
abbrev proj (y : FVec Ideal S8192x512 .bf16) (w : FVec Ideal S3x512x1024 .bf16) (r : Fin 3) (i : Fin 8192) (k : Fin 1024) : EReal :=
  ∑ l : Fin 512, y (ix2 i l) * w (ix3 r l k)

/-- Branch `r`'s gate. -/
abbrev gate (z : FVec Ideal S8192x5888 .bf16) (r : Fin 3) (i : Fin 8192) (k : Fin 1024) : EReal :=
  Ideal.div 1 (1 + Ideal.exp (-z (ix2 i ⟨r.val * 1024 + k.val, by omega⟩)))

section Reference

variable (x0 : FVec Ideal S8192x1024 .bf16) (x1 : FVec Ideal S8192x5888 .bf16) (x2 x3 x4 : FVec Ideal S8192x512 .bf16)
  (x5 : FVec Ideal S3x512x1024 .bf16)

/-- The derivative in branch 0's gate, before the sigmoid. -/
theorem dgate0_at (i : Fin 8192) (k : Fin 1024) : val_main_v89 (F := Ideal) x0 x1 x2 x3 x4 x5 (ix2 i k)
    = x0 (ix2 i k) * proj x2 x5 0 i k * (gate x1 0 i k * (1 - gate x1 0 i k)) := by
  have hk := k.isLt
  pointwise [gate, proj, val_main_v89, val_main_v86, val_main_v44, val_main_v24, val_main_v21, val_main_v19, val_main_v17, val_main_v16, val_main_v2, val_main_v1, val_main_v18, val_main_cst, val_main_v20, val_main_cst_0, val_main_v23, val_main_v22, val_main_cst_1, val_main_v43, val_main_v39, val_main_v35, val_main_cst_2, val_main_v34, val_main_v0, val_main_v15, val_main_v14, val_main_v13, val_main_v3, val_main_v6, val_main_v38, val_main_cst_3, val_main_v37, val_main_v12, val_main_v11, val_main_v10, val_main_v5, val_main_v42, val_main_cst_4, val_main_v41, val_main_v9, val_main_v4, val_main_v8, val_main_v7]
  rw [dif_neg (by omega), dif_neg (c := False ∧ _) (fun h => h.1), zero_add (M := EReal), zero_add (M := EReal)]

/-- The derivative in branch 0's projection. -/
theorem dproj0_at (i : Fin 8192) (k : Fin 1024) : val_main_v92 (F := Ideal) x0 x1 (ix2 i k)
    = gate x1 0 i k * x0 (ix2 i k) := by
  pointwise [gate, proj, val_main_v92, val_main_v81, val_main_v0, val_main_v66, val_main_v62, val_main_v60, val_main_v58, val_main_v57, val_main_v2, val_main_v1, val_main_v59, val_main_cst_5, val_main_v61, val_main_cst_6]

/-- The derivative in branch 0. -/
theorem dbranch0_at (i : Fin 8192) (k : Fin 512) : val_main_v95 (F := Ideal) x0 x1 x5 (ix2 i k)
    = ∑ l : Fin 1024, gate x1 0 i l * x0 (ix2 i l) * x5 (ix3 0 k l) := by
  pointwise [gate, proj, val_main_v95, val_main_v47, val_main_v40, val_main_v0, val_main_v25, val_main_v21, val_main_v19, val_main_v17, val_main_v16, val_main_v2, val_main_v1, val_main_v18, val_main_cst, val_main_v20, val_main_cst_0, val_main_v8, val_main_v7, val_main_v3]

/-- The derivative in branch 1's gate, before the sigmoid. -/
theorem dgate1_at (i : Fin 8192) (k : Fin 1024) : val_main_v90 (F := Ideal) x0 x1 x2 x3 x4 x5 (ix2 i k)
    = x0 (ix2 i k) * proj x3 x5 1 i k * (gate x1 1 i k * (1 - gate x1 1 i k)) := by
  have hk := k.isLt
  pointwise [gate, proj, val_main_v90, val_main_v87, val_main_v44, val_main_v24, val_main_v21, val_main_v19, val_main_v17, val_main_v16, val_main_v2, val_main_v1, val_main_v18, val_main_cst, val_main_v20, val_main_cst_0, val_main_v23, val_main_v22, val_main_cst_1, val_main_v43, val_main_v39, val_main_v35, val_main_cst_2, val_main_v34, val_main_v0, val_main_v15, val_main_v14, val_main_v13, val_main_v3, val_main_v6, val_main_v38, val_main_cst_3, val_main_v37, val_main_v12, val_main_v11, val_main_v10, val_main_v5, val_main_v42, val_main_cst_4, val_main_v41, val_main_v9, val_main_v4, val_main_v8, val_main_v7]
  rw [dif_neg (by omega), zero_add (M := EReal)]

/-- The derivative in branch 1's projection. -/
theorem dproj1_at (i : Fin 8192) (k : Fin 1024) : val_main_v93 (F := Ideal) x0 x1 (ix2 i k)
    = gate x1 1 i k * x0 (ix2 i k) := by
  pointwise [gate, proj, val_main_v93, val_main_v77, val_main_v0, val_main_v68, val_main_v62, val_main_v60, val_main_v58, val_main_v57, val_main_v2, val_main_v1, val_main_v59, val_main_cst_5, val_main_v61, val_main_cst_6]

/-- The derivative in branch 1. -/
theorem dbranch1_at (i : Fin 8192) (k : Fin 512) : val_main_v96 (F := Ideal) x0 x1 x5 (ix2 i k)
    = ∑ l : Fin 1024, gate x1 1 i l * x0 (ix2 i l) * x5 (ix3 1 k l) := by
  pointwise [gate, proj, val_main_v96, val_main_v46, val_main_v11, val_main_v10, val_main_v3, val_main_v36, val_main_v0, val_main_v27, val_main_v21, val_main_v19, val_main_v17, val_main_v16, val_main_v2, val_main_v1, val_main_v18, val_main_cst, val_main_v20, val_main_cst_0]

/-- The derivative in branch 2's gate, before the sigmoid. -/
theorem dgate2_at (i : Fin 8192) (k : Fin 1024) : val_main_v91 (F := Ideal) x0 x1 x2 x3 x4 x5 (ix2 i k)
    = x0 (ix2 i k) * proj x4 x5 2 i k * (gate x1 2 i k * (1 - gate x1 2 i k)) := by
  have hk := k.isLt
  pointwise [gate, proj, val_main_v91, val_main_v88, val_main_v44, val_main_v24, val_main_v21, val_main_v19, val_main_v17, val_main_v16, val_main_v2, val_main_v1, val_main_v18, val_main_cst, val_main_v20, val_main_cst_0, val_main_v23, val_main_v22, val_main_cst_1, val_main_v43, val_main_v39, val_main_v35, val_main_cst_2, val_main_v34, val_main_v0, val_main_v15, val_main_v14, val_main_v13, val_main_v3, val_main_v6, val_main_v38, val_main_cst_3, val_main_v37, val_main_v12, val_main_v11, val_main_v10, val_main_v5, val_main_v42, val_main_cst_4, val_main_v41, val_main_v9, val_main_v4, val_main_v8, val_main_v7]
  rw [dif_neg (by omega), dif_neg (by omega), add_zero (M := EReal), add_zero (M := EReal)]

/-- The derivative in branch 2's projection. -/
theorem dproj2_at (i : Fin 8192) (k : Fin 1024) : val_main_v94 (F := Ideal) x0 x1 (ix2 i k)
    = gate x1 2 i k * x0 (ix2 i k) := by
  pointwise [gate, proj, val_main_v94, val_main_v74, val_main_v0, val_main_v71, val_main_v62, val_main_v60, val_main_v58, val_main_v57, val_main_v2, val_main_v1, val_main_v59, val_main_cst_5, val_main_v61, val_main_cst_6]

/-- The derivative in branch 2. -/
theorem dbranch2_at (i : Fin 8192) (k : Fin 512) : val_main_v97 (F := Ideal) x0 x1 x5 (ix2 i k)
    = ∑ l : Fin 1024, gate x1 2 i l * x0 (ix2 i l) * x5 (ix3 2 k l) := by
  pointwise [gate, proj, val_main_v97, val_main_v45, val_main_v14, val_main_v13, val_main_v3, val_main_v33, val_main_v0, val_main_v30, val_main_v21, val_main_v19, val_main_v17, val_main_v16, val_main_v2, val_main_v1, val_main_v18, val_main_cst, val_main_v20, val_main_cst_0]

end Reference

end Cert.MergeIdeal.Value
-- ==== Proof.MergeValue.lean ====
/- Each result array of the gradient of the gated sum is the reference's. -/
module

public import proofs.«01_k».proof.Proof.Gen.MergeIdeal.Value
public import proofs.«01_k».proof.Proof.MergeRefRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeRefIdeal.Read

variable (m : (ℓ : Loc nD τ sig) → Buf (Elt Ideal) ℓ)

/-- Where each window of the gradient of the gated sum sits at grid point `t`. -/
theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![t.val, 0] ∧ win0_6.index t = ![t.val, 0]
    ∧ win0_7.index t = ![0, 0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

/-- There are sixteen grid points. -/
theorem lt_points (t : Fin cfg0.N) : t.val < 16 := lt_of_lt_of_eq t.isLt (by decide +kernel)

/-- Row `p` of grid point `t`'s block is row `512 t + p` of the array. -/
abbrev row (t : Fin cfg0.N) (p : Fin 512) : Fin 8192 := ⟨t.val * 512 + p.val, by have := lt_points t; omega⟩

/-- Branch 0's gates in grid point `t`'s block. -/
theorem gates0_at (c : Dev nD) (t : Fin cfg0.N) (p : Fin 512) (k : Fin 1024) : X0_1 m c t (ix2 p k)
    = m ((c : Thread nD τ).loc main_arg1) (ix2 (row t p) ⟨0 * 1024 + k.val, by omega⟩) := by
  unfold X0_1 Pipeline.Window.fill
  rw [dif_pos (moved0_1 t _)]
  blk_ext [iblk, V, idx t]

/-- Branch 1's gates in grid point `t`'s block. -/
theorem gates1_at (c : Dev nD) (t : Fin cfg0.N) (p : Fin 512) (k : Fin 1024) : X0_2 m c t (ix2 p k)
    = m ((c : Thread nD τ).loc main_arg1) (ix2 (row t p) ⟨1 * 1024 + k.val, by omega⟩) := by
  unfold X0_2 Pipeline.Window.fill
  rw [dif_pos (moved0_2 t _)]
  blk_ext [iblk, V, idx t]

/-- Branch 2's gates in grid point `t`'s block. -/
theorem gates2_at (c : Dev nD) (t : Fin cfg0.N) (p : Fin 512) (k : Fin 1024) : X0_3 m c t (ix2 p k)
    = m ((c : Thread nD τ).loc main_arg1) (ix2 (row t p) ⟨2 * 1024 + k.val, by omega⟩) := by
  unfold X0_3 Pipeline.Window.fill
  rw [dif_pos (moved0_3 t _)]
  blk_ext [iblk, V, idx t]

theorem final8 (c : Dev nD) : (dats m 0 c).arrAt 8 (cfgs 0).N
    = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  unfold outsAt0
  frame_out
  have hy : ((View.whole main_v0_0).slice (win0_8.rect t)).emb y = ix2 (row t (y 0)) (y 1) := by blk_ext [idx t]
  rw [hy]
  refine Eq.trans ?_ (dgate0_at _ _ _ _ _ _ (row t (y 0)) (y 1)).symm
  idx_vars y
  pointwise [k0_pay5, k0_pay3, k0_pay4]
  simp only [gates0_at, gate, proj, Ideal.logistic]
  rw [mul_assoc (_ * _ : EReal)]
  blk_point [iblk, V, idx t]

theorem final11 (c : Dev nD) : (dats m 0 c).arrAt 11 (cfgs 0).N
    = val_main_v92 (F := Ideal) (m ((c : Thread nD τ).loc main_arg0)) (m ((c : Thread nD τ).loc main_arg1)) := by
  refine (dats m 0 c).arrAt_eq_of_covers 11 _ (by decide +kernel) fun t _ y => ?_
  blk_simp
  rw [after0_11]
  unfold outsAt0
  frame_out
  have hy : ((View.whole main_v0_3).slice (win0_11.rect t)).emb y = ix2 (row t (y 0)) (y 1) := by blk_ext [idx t]
  rw [hy]
  refine Eq.trans ?_ (dproj0_at _ _ (row t (y 0)) (y 1)).symm
  idx_vars y
  pointwise [k0_pay6, k0_pay3, k0_pay4]
  simp only [gates0_at, gate, proj, Ideal.logistic]
  blk_point [iblk, V, idx t]

theorem final14 (c : Dev nD) : (dats m 0 c).arrAt 14 (cfgs 0).N
    = val_main_v95 (F := Ideal) (m ((c : Thread nD τ).loc main_arg0)) (m ((c : Thread nD τ).loc main_arg1)) (m ((c : Thread nD τ).loc main_arg5)) := by
  refine (dats m 0 c).arrAt_eq_of_covers 14 _ (by decide +kernel) fun t _ y => ?_
  blk_simp
  rw [after0_14]
  unfold outsAt0
  frame_out
  have hy : ((View.whole main_v0_6).slice (win0_14.rect t)).emb y = ix2 (row t (y 0)) (y 1) := by blk_ext [idx t]
  rw [hy]
  refine Eq.trans ?_ (dbranch0_at _ _ _ (row t (y 0)) (y 1)).symm
  idx_vars y
  pointwise [k0_pay7, k0_pay6, k0_pay3, k0_pay4]
  simp only [gates0_at, gate, proj, Ideal.logistic]
  blk_point [iblk, V, idx t]

theorem final9 (c : Dev nD) : (dats m 0 c).arrAt 9 (cfgs 0).N
    = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  unfold outsAt0
  frame_out
  have hy : ((View.whole main_v0_1).slice (win0_9.rect t)).emb y = ix2 (row t (y 0)) (y 1) := by blk_ext [idx t]
  rw [hy]
  refine Eq.trans ?_ (dgate1_at _ _ _ _ _ _ (row t (y 0)) (y 1)).symm
  idx_vars y
  pointwise [k0_pay9, k0_pay3, k0_pay8]
  simp only [gates1_at, gate, proj, Ideal.logistic]
  rw [mul_assoc (_ * _ : EReal)]
  blk_point [iblk, V, idx t]

theorem final12 (c : Dev nD) : (dats m 0 c).arrAt 12 (cfgs 0).N
    = val_main_v93 (F := Ideal) (m ((c : Thread nD τ).loc main_arg0)) (m ((c : Thread nD τ).loc main_arg1)) := by
  refine (dats m 0 c).arrAt_eq_of_covers 12 _ (by decide +kernel) fun t _ y => ?_
  blk_simp
  rw [after0_12]
  unfold outsAt0
  frame_out
  have hy : ((View.whole main_v0_4).slice (win0_12.rect t)).emb y = ix2 (row t (y 0)) (y 1) := by blk_ext [idx t]
  rw [hy]
  refine Eq.trans ?_ (dproj1_at _ _ (row t (y 0)) (y 1)).symm
  idx_vars y
  pointwise [k0_pay10, k0_pay3, k0_pay8]
  simp only [gates1_at, gate, proj, Ideal.logistic]
  blk_point [iblk, V, idx t]

theorem final15 (c : Dev nD) : (dats m 0 c).arrAt 15 (cfgs 0).N
    = val_main_v96 (F := Ideal) (m ((c : Thread nD τ).loc main_arg0)) (m ((c : Thread nD τ).loc main_arg1)) (m ((c : Thread nD τ).loc main_arg5)) := by
  refine (dats m 0 c).arrAt_eq_of_covers 15 _ (by decide +kernel) fun t _ y => ?_
  blk_simp
  rw [after0_15]
  unfold outsAt0
  frame_out
  have hy : ((View.whole main_v0_7).slice (win0_15.rect t)).emb y = ix2 (row t (y 0)) (y 1) := by blk_ext [idx t]
  rw [hy]
  refine Eq.trans ?_ (dbranch1_at _ _ _ (row t (y 0)) (y 1)).symm
  idx_vars y
  pointwise [k0_pay11, k0_pay10, k0_pay3, k0_pay8]
  simp only [gates1_at, gate, proj, Ideal.logistic]
  blk_point [iblk, V, idx t]

theorem final10 (c : Dev nD) : (dats m 0 c).arrAt 10 (cfgs 0).N
    = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  unfold outsAt0
  frame_out
  have hy : ((View.whole main_v0_2).slice (win0_10.rect t)).emb y = ix2 (row t (y 0)) (y 1) := by blk_ext [idx t]
  rw [hy]
  refine Eq.trans ?_ (dgate2_at _ _ _ _ _ _ (row t (y 0)) (y 1)).symm
  idx_vars y
  pointwise [k0_pay13, k0_pay3, k0_pay12]
  simp only [gates2_at, gate, proj, Ideal.logistic]
  rw [mul_assoc (_ * _ : EReal)]
  blk_point [iblk, V, idx t]

theorem final13 (c : Dev nD) : (dats m 0 c).arrAt 13 (cfgs 0).N
    = val_main_v94 (F := Ideal) (m ((c : Thread nD τ).loc main_arg0)) (m ((c : Thread nD τ).loc main_arg1)) := by
  refine (dats m 0 c).arrAt_eq_of_covers 13 _ (by decide +kernel) fun t _ y => ?_
  blk_simp
  rw [after0_13]
  unfold outsAt0
  frame_out
  have hy : ((View.whole main_v0_5).slice (win0_13.rect t)).emb y = ix2 (row t (y 0)) (y 1) := by blk_ext [idx t]
  rw [hy]
  refine Eq.trans ?_ (dproj2_at _ _ (row t (y 0)) (y 1)).symm
  idx_vars y
  pointwise [k0_pay1, k0_pay14, k0_pay3, k0_pay12]
  simp only [gates2_at, gate, proj, Ideal.logistic]
  blk_point [iblk, V, idx t]

theorem final16 (c : Dev nD) : (dats m 0 c).arrAt 16 (cfgs 0).N
    = val_main_v97 (F := Ideal) (m ((c : Thread nD τ).loc main_arg0)) (m ((c : Thread nD τ).loc main_arg1)) (m ((c : Thread nD τ).loc main_arg5)) := by
  refine (dats m 0 c).arrAt_eq_of_covers 16 _ (by decide +kernel) fun t _ y => ?_
  blk_simp
  rw [after0_16]
  unfold outsAt0
  frame_out
  have hy : ((View.whole main_v0_8).slice (win0_16.rect t)).emb y = ix2 (row t (y 0)) (y 1) := by blk_ext [idx t]
  rw [hy]
  refine Eq.trans ?_ (dbranch2_at _ _ _ (row t (y 0)) (y 1)).symm
  idx_vars y
  pointwise [k0_pay2, k0_pay1, k0_pay14, k0_pay3, k0_pay12]
  simp only [gates2_at, gate, proj, Ideal.logistic]
  blk_point [iblk, V, idx t]

end Cert.MergeIdeal.Value
-- ==== Proof.MergeClaim.lean ====
/- The gradient of the gated sum: the kernel's results are the reference's, on all inputs. -/
module

public import proofs.«01_k».proof.Defs
public import proofs.«01_k».proof.Proof.MergeValue
public import proofs.«01_k».proof.Proof.Gen.MergeRefIdeal.Run
public import Idealize.ShloMosaic.Lib.Claim

@[expose] public section

set_option maxRecDepth 16384

noncomputable section

namespace Cert.Proof

open Idealize.ShloMosaic Idealize.ShloMosaic.TcCoe Idealize.SL.Sem

/-- From equal arguments both programs end with equal results: the branch inputs' gradients, the gates' gradients
    and the gradients of the branch products, three of each. No precondition. -/
theorem algebraic_merge : Cert.algebraic_MergeIdeal_MergeRefIdeal := by
  pair_intro
  · run_from Cert.MergeIdeal.Value.run_blocks m g
  · run_from Cert.MergeRefIdeal.Value.run m' g'
    · exact (Cert.MergeIdeal.Value.final8 m c).symm
    · exact (Cert.MergeIdeal.Value.final9 m c).symm
    · exact (Cert.MergeIdeal.Value.final10 m c).symm
    · exact (Cert.MergeIdeal.Value.final11 m c).symm
    · exact (Cert.MergeIdeal.Value.final12 m c).symm
    · exact (Cert.MergeIdeal.Value.final13 m c).symm
    · exact (Cert.MergeIdeal.Value.final14 m c).symm
    · exact (Cert.MergeIdeal.Value.final15 m c).symm
    · exact (Cert.MergeIdeal.Value.final16 m c).symm

/-- The reference's run ends, with its arguments unchanged. -/
theorem frame_merge_ref : Cert.quiescent_MergeRefIdeal := fun m ρ _ =>
  (θ_run Cert.MergeRefIdeal.defs _ _).mono (fun r h => ⟨fun c => (h c).2.2.2.2.2.2.2.2.2,
      Idealize.ShloMosaic.sem_eq_zero_of_no_sems (by decide) r.2⟩)
    (Cert.MergeRefIdeal.Value.run (F := Ideal) m ρ)

end Cert.Proof

end
-- ==== Proof.FwdInValue.lean ====
/- The norm and the mixing block's input projection, their results read element by element. -/
module

public import proofs.«01_k».proof.Proof.Gen.FwdInIdeal.Value
public import proofs.«01_k».proof.Proof.Gen.FwdInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdInIdeal.Value

open Cert.FwdInIdeal Cert.FwdInIdeal.Gen Cert.FwdInRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- An entry of a row scaled by the inverse root of its mean square and by the gain. -/
abbrev normed (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- Where each window's block sits at point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ)

/-- The row tile at point `t`. -/
theorem blk_x (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The gain at point `t`. -/
theorem blk_g (c : Dev nD) (t : Fin cfg0.N) (p : Fin 1) (l : Fin 1024) :
    (show FVec Ideal S1x1024 .f32 from iblk m c 1 t) (ix2 p l) = (m ((c : Thread nD τ).loc main_arg1)) (ix2 (p) l) := by
  blk_point [iblk, V, idx t]

/-- The weights at point `t`. -/
theorem blk_w (c : Dev nD) (t : Fin cfg0.N) (p : Fin 1024) (l : Fin 5888) :
    (show FVec Ideal S1024x5888 .bf16 from iblk m c 2 t) (ix2 p l) = (m ((c : Thread nD τ).loc main_arg2)) (ix2 (p) l) := by
  blk_point [iblk, V, idx t]

/-- The normalised row at point `t` is the row of the array, normalised. -/
theorem normed_blk (c : Dev nD) (t : Fin cfg0.N) (p : Fin 512) (k : Fin 1024) :
    normed (fun l => (show FVec Ideal S512x1024 .f32 from iblk m c 0 t) (ix2 p l)) (fun l => (show FVec Ideal S1x1024 .f32 from iblk m c 1 t) (ix2 0 l)) k
      = normed (fun l => (m ((c : Thread nD τ).loc main_arg0)) (ix2 (row t p) l)) (fun l => (m ((c : Thread nD τ).loc main_arg1)) (ix2 0 l)) k :=
  congr (congrArg normed (funext fun l => blk_x m c t p l)) (funext fun l => blk_g m c t 0 l) ▸ rfl

/-- The reference's normalised input, read at an entry. -/
theorem norm_ref_at (x0 : FVec Ideal S8192x1024 .f32) (x1 : FVec Ideal S1x1024 .f32) (i : Fin 8192) (k : Fin 1024) :
    val_main_v17 (F := Ideal) x0 x1 (ix2 i k) = normed (fun l => x0 (ix2 i l)) (fun l => x1 (ix2 0 l)) k := by
  pointwise [normed, val_main_v17, val_main_v13, val_main_v10, val_main_v9, val_main_v8, val_main_v7, val_main_v5, val_main_v3, val_main_v2, val_main_cst, val_main_v1, val_main_v4, val_main_cst_0, val_main_v6, val_main_cst_1, val_main_v12, val_main_v11, val_main_v0]

/-- The reference's product, read at an entry. -/
theorem prod_ref_at (x0 : FVec Ideal S8192x1024 .f32) (x1 : FVec Ideal S1x1024 .f32) (x2 : FVec Ideal S1024x5888 .bf16) (i : Fin 8192) (n : Fin 5888) :
    val_main_v16 (F := Ideal) x0 x1 x2 (ix2 i n)
      = ∑ k : Fin 1024, normed (fun l => x0 (ix2 i l)) (fun l => x1 (ix2 0 l)) k * x2 (ix2 k n) := by
  pointwise [normed, val_main_v16, val_main_v15, val_main_v13, val_main_v10, val_main_v9, val_main_v8, val_main_v7, val_main_v5, val_main_v3, val_main_v2, val_main_cst, val_main_v1, val_main_v4, val_main_cst_0, val_main_v6, val_main_cst_1, val_main_v12, val_main_v11, val_main_v0, val_main_v14]

/-- The kernel's normalised input, read at an entry. -/
theorem pay1_at (x : FVec Ideal S512x1024 .f32) (g : FVec Ideal S1x1024 .f32) (p : Fin 512) (k : Fin 1024) :
    k0_pay1 (F := Ideal) x g (ix2 p k) = normed (fun l => x (ix2 p l)) (fun l => g (ix2 0 l)) k := by
  pointwise [normed, k0_pay1]

/-- The kernel's product of a normalised row with a column of half of the weights. -/
theorem pay3_at (x : FVec Ideal S512x1024 .f32) (g : FVec Ideal S1x1024 .f32) (w : FVec Ideal S1024x2944 .bf16) (p : Fin 512) (n : Fin 2944) :
    k0_pay3 (F := Ideal) (k0_pay2 (F := Ideal) x g) w (ix2 p n)
      = ∑ k : Fin 1024, normed (fun l => x (ix2 p l)) (fun l => g (ix2 0 l)) k * w (ix2 k n) := by
  pointwise [normed, k0_pay3, k0_pay2, k0_pay1]

/-- The kernel's product of a normalised row with a column of half of the weights. -/
theorem pay4_at (x : FVec Ideal S512x1024 .f32) (g : FVec Ideal S1x1024 .f32) (w : FVec Ideal S1024x2944 .bf16) (p : Fin 512) (n : Fin 2944) :
    k0_pay4 (F := Ideal) (k0_pay2 (F := Ideal) x g) w (ix2 p n)
      = ∑ k : Fin 1024, normed (fun l => x (ix2 p l)) (fun l => g (ix2 0 l)) k * w (ix2 k n) := by
  pointwise [normed, k0_pay4, k0_pay2, k0_pay1]

/-- The kernel's normalised input is the reference's. -/
theorem out4 (c : Dev nD) : (dats m 0 c).arrAt 4 cfg0.N
    = val_main_v17 (F := Ideal) (m ((c : Thread nD τ).loc main_arg0)) (m ((c : Thread nD τ).loc main_arg1)) := by
  refine (dats m 0 c).arrAt_eq_of_covers 4 _ (by decide +kernel) fun t hf y => ?_
  blk_simp
  have hy : ((View.whole main_v0_1).slice (win0_4.rect t)).emb y = ix2 (row t (y 0)) (y 1) := by
    blk_ext [idx t]
  rw [hy, after0_4]
  refine Eq.trans ?_ (norm_ref_at _ _ _ _).symm
  idx_vars y
  unfold outsAt0
  frame_out
  exact (pay1_at _ _ _ _).trans (normed_blk m c t _ _)

/-- The kernel's product is the reference's. -/
theorem out3 (c : Dev nD) : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hy : ((View.whole main_v0_0).slice (win0_3.rect t)).emb y = ix2 (row t (y 0)) (y 1) := by
    blk_ext [idx t]
  rw [hy, after0_3]
  refine Eq.trans ?_ (prod_ref_at _ _ _ _ _).symm
  unfold outsAt0
  frame_out
  canon_tiles x h
  · have e0 : row t (y 0) = row t (x 0) := Fin.ext (by
      show t.val * 512 + (y 0).val = t.val * 512 + (x 0).val
      omega)
    have e1 : (show Fin 5888 from y 1) = ⟨2944 + (x 1).val, by omega⟩ := Fin.ext (by
      show (y 1).val = 2944 + (x 1).val
      omega)
    idx_vars x
    refine (pay4_at _ _ _ _ _).trans (Finset.sum_congr rfl fun k _ =>
      congr (congrArg (fun a b : EReal => a * b) ((normed_blk m c t _ k).trans
          (congrArg (fun r => normed (fun l => (m ((c : Thread nD τ).loc main_arg0)) (ix2 r l)) (fun l => (m ((c : Thread nD τ).loc main_arg1)) (ix2 0 l)) k) e0.symm)))
        ((View.ld_unit_apply_of _ _ _ _ (ix2 k x1) (ix2 k ⟨2944 + x1.val, by omega⟩) fun a => ?_).trans
          ((blk_w m c t k _).trans (congrArg (fun r => (m ((c : Thread nD τ).loc main_arg2)) (ix2 k r)) e1.symm))))
    match a with
    | ⟨0, _⟩ => exact (Nat.zero_add k.val).symm
    | ⟨1, _⟩ => rfl
  · have e0 : row t (y 0) = row t (x 0) := Fin.ext (by
      show t.val * 512 + (y 0).val = t.val * 512 + (x 0).val
      omega)
    have e1 : (show Fin 5888 from y 1) = ⟨0 + (x 1).val, by omega⟩ := Fin.ext (by
      show (y 1).val = 0 + (x 1).val
      omega)
    idx_vars x
    refine (pay3_at _ _ _ _ _).trans (Finset.sum_congr rfl fun k _ =>
      congr (congrArg (fun a b : EReal => a * b) ((normed_blk m c t _ k).trans
          (congrArg (fun r => normed (fun l => (m ((c : Thread nD τ).loc main_arg0)) (ix2 r l)) (fun l => (m ((c : Thread nD τ).loc main_arg1)) (ix2 0 l)) k) e0.symm)))
        ((View.ld_unit_apply_of _ _ _ _ (ix2 k x1) (ix2 k ⟨0 + x1.val, by omega⟩) fun a => ?_).trans
          ((blk_w m c t k _).trans (congrArg (fun r => (m ((c : Thread nD τ).loc main_arg2)) (ix2 k r)) e1.symm))))
    match a with
    | ⟨0, _⟩ => exact (Nat.zero_add k.val).symm
    | ⟨1, _⟩ => rfl

end Cert.FwdInIdeal.Value

end
-- ==== Proof.FwdFfnInValue.lean ====
/- The norm and the feed-forward input projection, their results read element by element. -/
module

public import proofs.«01_k».proof.Proof.Gen.FwdFfnInIdeal.Value
public import proofs.«01_k».proof.Proof.Gen.FwdFfnInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdFfnInIdeal.Value

open Cert.FwdFfnInIdeal Cert.FwdFfnInIdeal.Gen Cert.FwdFfnInRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- An entry of a row scaled by the inverse root of its mean square and by the gain. -/
abbrev normed (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- Where each window's block sits at point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ)

/-- The row tile at point `t`. -/
theorem blk_x (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The gain at point `t`. -/
theorem blk_g (c : Dev nD) (t : Fin cfg0.N) (p : Fin 1) (l : Fin 1024) :
    (show FVec Ideal S1x1024 .f32 from iblk m c 1 t) (ix2 p l) = (m ((c : Thread nD τ).loc main_arg1)) (ix2 (p) l) := by
  blk_point [iblk, V, idx t]

/-- The weights at point `t`. -/
theorem blk_w (c : Dev nD) (t : Fin cfg0.N) (p : Fin 1024) (l : Fin 5632) :
    (show FVec Ideal S1024x5632 .bf16 from iblk m c 2 t) (ix2 p l) = (m ((c : Thread nD τ).loc main_arg2)) (ix2 (p) l) := by
  blk_point [iblk, V, idx t]

/-- The normalised row at point `t` is the row of the array, normalised. -/
theorem normed_blk (c : Dev nD) (t : Fin cfg0.N) (p : Fin 512) (k : Fin 1024) :
    normed (fun l => (show FVec Ideal S512x1024 .f32 from iblk m c 0 t) (ix2 p l)) (fun l => (show FVec Ideal S1x1024 .f32 from iblk m c 1 t) (ix2 0 l)) k
      = normed (fun l => (m ((c : Thread nD τ).loc main_arg0)) (ix2 (row t p) l)) (fun l => (m ((c : Thread nD τ).loc main_arg1)) (ix2 0 l)) k :=
  congr (congrArg normed (funext fun l => blk_x m c t p l)) (funext fun l => blk_g m c t 0 l) ▸ rfl

/-- The reference's normalised input, read at an entry. -/
theorem norm_ref_at (x0 : FVec Ideal S8192x1024 .f32) (x1 : FVec Ideal S1x1024 .f32) (i : Fin 8192) (k : Fin 1024) :
    val_main_v17 (F := Ideal) x0 x1 (ix2 i k) = normed (fun l => x0 (ix2 i l)) (fun l => x1 (ix2 0 l)) k := by
  pointwise [normed, val_main_v17, val_main_v13, val_main_v10, val_main_v9, val_main_v8, val_main_v7, val_main_v5, val_main_v3, val_main_v2, val_main_cst, val_main_v1, val_main_v4, val_main_cst_0, val_main_v6, val_main_cst_1, val_main_v12, val_main_v11, val_main_v0]

/-- The reference's product, read at an entry. -/
theorem prod_ref_at (x0 : FVec Ideal S8192x1024 .f32) (x1 : FVec Ideal S1x1024 .f32) (x2 : FVec Ideal S1024x5632 .bf16) (i : Fin 8192) (n : Fin 5632) :
    val_main_v16 (F := Ideal) x0 x1 x2 (ix2 i n)
      = ∑ k : Fin 1024, normed (fun l => x0 (ix2 i l)) (fun l => x1 (ix2 0 l)) k * x2 (ix2 k n) := by
  pointwise [normed, val_main_v16, val_main_v15, val_main_v13, val_main_v10, val_main_v9, val_main_v8, val_main_v7, val_main_v5, val_main_v3, val_main_v2, val_main_cst, val_main_v1, val_main_v4, val_main_cst_0, val_main_v6, val_main_cst_1, val_main_v12, val_main_v11, val_main_v0, val_main_v14]

/-- The kernel's normalised input, read at an entry. -/
theorem pay1_at (x : FVec Ideal S512x1024 .f32) (g : FVec Ideal S1x1024 .f32) (p : Fin 512) (k : Fin 1024) :
    k0_pay1 (F := Ideal) x g (ix2 p k) = normed (fun l => x (ix2 p l)) (fun l => g (ix2 0 l)) k := by
  pointwise [normed, k0_pay1]

/-- The kernel's product of a normalised row with a column of half of the weights. -/
theorem pay3_at (x : FVec Ideal S512x1024 .f32) (g : FVec Ideal S1x1024 .f32) (w : FVec Ideal S1024x2816 .bf16) (p : Fin 512) (n : Fin 2816) :
    k0_pay3 (F := Ideal) (k0_pay2 (F := Ideal) x g) w (ix2 p n)
      = ∑ k : Fin 1024, normed (fun l => x (ix2 p l)) (fun l => g (ix2 0 l)) k * w (ix2 k n) := by
  pointwise [normed, k0_pay3, k0_pay2, k0_pay1]

/-- The kernel's product of a normalised row with a column of half of the weights. -/
theorem pay4_at (x : FVec Ideal S512x1024 .f32) (g : FVec Ideal S1x1024 .f32) (w : FVec Ideal S1024x2816 .bf16) (p : Fin 512) (n : Fin 2816) :
    k0_pay4 (F := Ideal) (k0_pay2 (F := Ideal) x g) w (ix2 p n)
      = ∑ k : Fin 1024, normed (fun l => x (ix2 p l)) (fun l => g (ix2 0 l)) k * w (ix2 k n) := by
  pointwise [normed, k0_pay4, k0_pay2, k0_pay1]

/-- The kernel's normalised input is the reference's. -/
theorem out4 (c : Dev nD) : (dats m 0 c).arrAt 4 cfg0.N
    = val_main_v17 (F := Ideal) (m ((c : Thread nD τ).loc main_arg0)) (m ((c : Thread nD τ).loc main_arg1)) := by
  refine (dats m 0 c).arrAt_eq_of_covers 4 _ (by decide +kernel) fun t hf y => ?_
  blk_simp
  have hy : ((View.whole main_v0_1).slice (win0_4.rect t)).emb y = ix2 (row t (y 0)) (y 1) := by
    blk_ext [idx t]
  rw [hy, after0_4]
  refine Eq.trans ?_ (norm_ref_at _ _ _ _).symm
  idx_vars y
  unfold outsAt0
  frame_out
  exact (pay1_at _ _ _ _).trans (normed_blk m c t _ _)

/-- The kernel's product is the reference's. -/
theorem out3 (c : Dev nD) : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hy : ((View.whole main_v0_0).slice (win0_3.rect t)).emb y = ix2 (row t (y 0)) (y 1) := by
    blk_ext [idx t]
  rw [hy, after0_3]
  refine Eq.trans ?_ (prod_ref_at _ _ _ _ _).symm
  unfold outsAt0
  frame_out
  canon_tiles x h
  · have e0 : row t (y 0) = row t (x 0) := Fin.ext (by
      show t.val * 512 + (y 0).val = t.val * 512 + (x 0).val
      omega)
    have e1 : (show Fin 5632 from y 1) = ⟨2816 + (x 1).val, by omega⟩ := Fin.ext (by
      show (y 1).val = 2816 + (x 1).val
      omega)
    idx_vars x
    refine (pay4_at _ _ _ _ _).trans (Finset.sum_congr rfl fun k _ =>
      congr (congrArg (fun a b : EReal => a * b) ((normed_blk m c t _ k).trans
          (congrArg (fun r => normed (fun l => (m ((c : Thread nD τ).loc main_arg0)) (ix2 r l)) (fun l => (m ((c : Thread nD τ).loc main_arg1)) (ix2 0 l)) k) e0.symm)))
        ((View.ld_unit_apply_of _ _ _ _ (ix2 k x1) (ix2 k ⟨2816 + x1.val, by omega⟩) fun a => ?_).trans
          ((blk_w m c t k _).trans (congrArg (fun r => (m ((c : Thread nD τ).loc main_arg2)) (ix2 k r)) e1.symm))))
    match a with
    | ⟨0, _⟩ => exact (Nat.zero_add k.val).symm
    | ⟨1, _⟩ => rfl
  · have e0 : row t (y 0) = row t (x 0) := Fin.ext (by
      show t.val * 512 + (y 0).val = t.val * 512 + (x 0).val
      omega)
    have e1 : (show Fin 5632 from y 1) = ⟨0 + (x 1).val, by omega⟩ := Fin.ext (by
      show (y 1).val = 0 + (x 1).val
      omega)
    idx_vars x
    refine (pay3_at _ _ _ _ _).trans (Finset.sum_congr rfl fun k _ =>
      congr (congrArg (fun a b : EReal => a * b) ((normed_blk m c t _ k).trans
          (congrArg (fun r => normed (fun l => (m ((c : Thread nD τ).loc main_arg0)) (ix2 r l)) (fun l => (m ((c : Thread nD τ).loc main_arg1)) (ix2 0 l)) k) e0.symm)))
        ((View.ld_unit_apply_of _ _ _ _ (ix2 k x1) (ix2 k ⟨0 + x1.val, by omega⟩) fun a => ?_).trans
          ((blk_w m c t k _).trans (congrArg (fun r => (m ((c : Thread nD τ).loc main_arg2)) (ix2 k r)) e1.symm))))
    match a with
    | ⟨0, _⟩ => exact (Nat.zero_add k.val).symm
    | ⟨1, _⟩ => rfl

end Cert.FwdFfnInIdeal.Value

end
-- ==== Proof.FwdFfnOutValue.lean ====
/- The feed-forward output, its results read element by element. -/
module

public import proofs.«01_k».proof.Proof.Gen.FwdFfnOutIdeal.Value
public import proofs.«01_k».proof.Proof.Gen.FwdFfnOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdFfnOutIdeal.Value

open Cert.FwdFfnOutIdeal Cert.FwdFfnOutIdeal.Gen Cert.FwdFfnOutRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- The sigmoid. -/
abbrev sg (x : EReal) : EReal := Ideal.div 1 (1 + Ideal.exp (-x))

/-- Where each window's block sits at point `t`. -/
theorem idx : ∀ t : Fin cfg0.N, win0_0.index t = ![t.val, 0] ∧ win0_1.index t = ![t.val, 1] ∧ win0_2.index t = ![0, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ)

/-- The gate's half of the row tile at point `t`. -/
theorem blk_g (c : Dev nD) (t : Fin cfg0.N) (p : Fin 512) (l : Fin 2816) :
    (show FVec Ideal S512x2816 .bf16 from iblk m c 0 t) (ix2 p l) = (m ((c : Thread nD τ).loc main_arg0)) (ix2 (row t p) ⟨0 + l.val, by omega⟩) := by
  blk_point [iblk, V, idx t]

/-- The other half of the row tile at point `t`. -/
theorem blk_u (c : Dev nD) (t : Fin cfg0.N) (p : Fin 512) (l : Fin 2816) :
    (show FVec Ideal S512x2816 .bf16 from iblk m c 1 t) (ix2 p l) = (m ((c : Thread nD τ).loc main_arg0)) (ix2 (row t p) ⟨2816 + l.val, by omega⟩) := by
  blk_point [iblk, V, idx t]

/-- The weights at point `t`. -/
theorem blk_w (c : Dev nD) (t : Fin cfg0.N) (p : Fin 2816) (l : Fin 1024) :
    (show FVec Ideal S2816x1024 .bf16 from iblk m c 2 t) (ix2 p l) = (m ((c : Thread nD τ).loc main_arg1)) (ix2 (p) l) := by
  blk_point [iblk, V, idx t]

/-- The row tile of the residual at point `t`. -/
theorem blk_x (c : Dev nD) (t : Fin cfg0.N) (p : Fin 512) (l : Fin 1024) :
    (show FVec Ideal S512x1024 .f32 from iblk m c 3 t) (ix2 p l) = (m ((c : Thread nD τ).loc main_arg2)) (ix2 (row t p) l) := by
  blk_point [iblk, V, idx t]

/-- The activation of row `i` of the array. -/
abbrev act (h : FVec Ideal S8192x5632 .bf16) (i : Fin 8192) (k : Fin 2816) : EReal :=
  h (ix2 i ⟨0 + k.val, by omega⟩) * sg (h (ix2 i ⟨0 + k.val, by omega⟩)) * h (ix2 i ⟨2816 + k.val, by omega⟩)

/-- The reference's activation, read at an entry. -/
theorem act_ref_at (x0 : FVec Ideal S8192x5632 .bf16) (i : Fin 8192) (k : Fin 2816) :
    val_main_v8 (F := Ideal) x0 (ix2 i k) = act x0 i k := by
  pointwise [act, sg, val_main_v8, val_main_v4, val_main_v2, val_main_call0_v5, val_main_call0_v3, val_main_call0_v1, val_main_call0_v0, val_main_v1, val_main_v0, val_main_call0_v2, val_main_call0_cst, val_main_call0_v4, val_main_call0_cst_0, val_main_v3]

/-- The reference's sum, read at an entry. -/
theorem sum_ref_at (x0 : FVec Ideal S8192x5632 .bf16) (x1 : FVec Ideal S2816x1024 .bf16) (x2 : FVec Ideal S8192x1024 .f32) (i : Fin 8192) (n : Fin 1024) :
    val_main_v7 (F := Ideal) x0 x1 x2 (ix2 i n) = x2 (ix2 i n) + ∑ k : Fin 2816, act x0 i k * x1 (ix2 k n) := by
  pointwise [act, sg, val_main_v7, val_main_v6, val_main_v4, val_main_v2, val_main_call0_v5, val_main_call0_v3, val_main_call0_v1, val_main_call0_v0, val_main_v1, val_main_v0, val_main_call0_v2, val_main_call0_cst, val_main_call0_v4, val_main_call0_cst_0, val_main_v3, val_main_v5]

/-- The kernel's activation, read at an entry. -/
theorem pay1_at (g u : FVec Ideal S512x2816 .bf16) (p : Fin 512) (k : Fin 2816) :
    k0_pay1 (F := Ideal) g u (ix2 p k) = g (ix2 p k) * sg (g (ix2 p k)) * u (ix2 p k) := by
  pointwise [sg, k0_pay1]
  simp only [Ideal.logistic]

/-- The kernel's sum, read at an entry. -/
theorem pay3_at (g u : FVec Ideal S512x2816 .bf16) (w : FVec Ideal S2816x1024 .bf16) (x : FVec Ideal S512x1024 .f32) (p : Fin 512) (n : Fin 1024) :
    k0_pay3 (F := Ideal) (k0_pay2 (F := Ideal) g u) w x (ix2 p n)
      = (∑ k : Fin 2816, g (ix2 p k) * sg (g (ix2 p k)) * u (ix2 p k) * w (ix2 k n)) + x (ix2 p n) := by
  pointwise [sg, k0_pay3, k0_pay2, k0_pay1]
  simp only [Ideal.logistic]

/-- The activation of a row of the tile is that of the array's row. -/
theorem act_blk (c : Dev nD) (t : Fin cfg0.N) (p : Fin 512) (k : Fin 2816) :
    (show FVec Ideal S512x2816 .bf16 from iblk m c 0 t) (ix2 p k) * sg ((show FVec Ideal S512x2816 .bf16 from iblk m c 0 t) (ix2 p k))
      * (show FVec Ideal S512x2816 .bf16 from iblk m c 1 t) (ix2 p k) = act (m ((c : Thread nD τ).loc main_arg0)) (row t p) k := by
  rw [blk_g, blk_u]

/-- The kernel's activation is the reference's. -/
theorem out5 (c : Dev nD) : (dats m 0 c).arrAt 5 cfg0.N
    = val_main_v8 (F := Ideal) (m ((c : Thread nD τ).loc main_arg0)) := by
  refine (dats m 0 c).arrAt_eq_of_covers 5 _ (by decide +kernel) fun t hf y => ?_
  blk_simp
  have hy : ((View.whole main_v0_1).slice (win0_5.rect t)).emb y = ix2 (row t (y 0)) (y 1) := by
    blk_ext [idx t]
  rw [hy, after0_5]
  refine Eq.trans ?_ (act_ref_at _ _ _).symm
  idx_vars y
  unfold outsAt0
  frame_out
  exact (pay1_at _ _ _ _).trans (act_blk m c t _ _)

/-- The kernel's sum is the reference's. -/
theorem out4 (c : Dev nD) : (dats m 0 c).arrAt 4 cfg0.N
    = val_main_v7 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have hy : ((View.whole main_v0_0).slice (win0_4.rect t)).emb y = ix2 (row t (y 0)) (y 1) := by
    blk_ext [idx t]
  rw [hy, after0_4]
  refine Eq.trans ?_ (sum_ref_at _ _ _ _ _).symm
  idx_vars y
  unfold outsAt0
  frame_out
  refine (pay3_at _ _ _ _ _ _).trans ((add_comm (G := EReal) _ _).trans ?_)
  exact congr (congrArg (fun a b : EReal => a + b) (blk_x m c t _ _)) (Finset.sum_congr rfl fun k _ =>
    congr (congrArg (fun a b : EReal => a * b) (act_blk m c t _ k)) (blk_w m c t k _))

end Cert.FwdFfnOutIdeal.Value

end
-- ==== Proof.FwdGateValue.lean ====
/- The norm and the per-layer gate's product, their results read element by element. -/
module

public import proofs.«01_k».proof.Proof.Gen.FwdGateIdeal.Value
public import proofs.«01_k».proof.Proof.Gen.FwdGateRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdGateIdeal.Value

open Cert.FwdGateIdeal Cert.FwdGateIdeal.Gen Cert.FwdGateRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- An entry of a row scaled by the inverse root of its mean square and by the gain. -/
abbrev normed (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- Where each window's block sits at point `t`. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ)

/-- The row tile at point `t`. -/
theorem blk_x (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The gain at point `t`. -/
theorem blk_g (c : Dev nD) (t : Fin cfg0.N) (p : Fin 1) (l : Fin 1024) :
    (show FVec Ideal S1x1024 .f32 from iblk m c 1 t) (ix2 p l) = (m ((c : Thread nD τ).loc main_arg1)) (ix2 (p) l) := by
  blk_point [iblk, V, idx t]

/-- The weights at point `t`. -/
theorem blk_w (c : Dev nD) (t : Fin cfg0.N) (p : Fin 1024) (l : Fin 1024) :
    (show FVec Ideal S1024x1024 .bf16 from iblk m c 2 t) (ix2 p l) = (m ((c : Thread nD τ).loc main_arg2)) (ix2 (p) l) := by
  blk_point [iblk, V, idx t]

/-- The normalised row at point `t` is the row of the array, normalised. -/
theorem normed_blk (c : Dev nD) (t : Fin cfg0.N) (p : Fin 512) (k : Fin 1024) :
    normed (fun l => (show FVec Ideal S512x1024 .f32 from iblk m c 0 t) (ix2 p l)) (fun l => (show FVec Ideal S1x1024 .f32 from iblk m c 1 t) (ix2 0 l)) k
      = normed (fun l => (m ((c : Thread nD τ).loc main_arg0)) (ix2 (row t p) l)) (fun l => (m ((c : Thread nD τ).loc main_arg1)) (ix2 0 l)) k :=
  congr (congrArg normed (funext fun l => blk_x m c t p l)) (funext fun l => blk_g m c t 0 l) ▸ rfl

/-- The reference's normalised input, read at an entry. -/
theorem norm_ref_at (x0 : FVec Ideal S8192x1024 .f32) (x1 : FVec Ideal S1x1024 .f32) (i : Fin 8192) (k : Fin 1024) :
    val_main_v17 (F := Ideal) x0 x1 (ix2 i k) = normed (fun l => x0 (ix2 i l)) (fun l => x1 (ix2 0 l)) k := by
  pointwise [normed, val_main_v17, val_main_v13, val_main_v10, val_main_v9, val_main_v8, val_main_v7, val_main_v5, val_main_v3, val_main_v2, val_main_cst, val_main_v1, val_main_v4, val_main_cst_0, val_main_v6, val_main_cst_1, val_main_v12, val_main_v11, val_main_v0]

/-- The reference's product, read at an entry. -/
theorem prod_ref_at (x0 : FVec Ideal S8192x1024 .f32) (x1 : FVec Ideal S1x1024 .f32) (x2 : FVec Ideal S1024x1024 .bf16) (i : Fin 8192) (n : Fin 1024) :
    val_main_v16 (F := Ideal) x0 x1 x2 (ix2 i n)
      = ∑ k : Fin 1024, normed (fun l => x0 (ix2 i l)) (fun l => x1 (ix2 0 l)) k * x2 (ix2 k n) := by
  pointwise [normed, val_main_v16, val_main_v15, val_main_v13, val_main_v10, val_main_v9, val_main_v8, val_main_v7, val_main_v5, val_main_v3, val_main_v2, val_main_cst, val_main_v1, val_main_v4, val_main_cst_0, val_main_v6, val_main_cst_1, val_main_v12, val_main_v11, val_main_v0, val_main_v14]

/-- The kernel's normalised input, read at an entry. -/
theorem pay1_at (x : FVec Ideal S512x1024 .f32) (g : FVec Ideal S1x1024 .f32) (p : Fin 512) (k : Fin 1024) :
    k0_pay1 (F := Ideal) x g (ix2 p k) = normed (fun l => x (ix2 p l)) (fun l => g (ix2 0 l)) k := by
  pointwise [normed, k0_pay1]

/-- The kernel's product of a normalised row with a column of the weights. -/
theorem pay3_at (x : FVec Ideal S512x1024 .f32) (g : FVec Ideal S1x1024 .f32) (w : FVec Ideal S1024x1024 .bf16) (p : Fin 512) (n : Fin 1024) :
    k0_pay3 (F := Ideal) (k0_pay2 (F := Ideal) x g) w (ix2 p n)
      = ∑ k : Fin 1024, normed (fun l => x (ix2 p l)) (fun l => g (ix2 0 l)) k * w (ix2 k n) := by
  pointwise [normed, k0_pay3, k0_pay2, k0_pay1]

/-- The kernel's normalised input is the reference's. -/
theorem out4 (c : Dev nD) : (dats m 0 c).arrAt 4 cfg0.N
    = val_main_v17 (F := Ideal) (m ((c : Thread nD τ).loc main_arg0)) (m ((c : Thread nD τ).loc main_arg1)) := by
  refine (dats m 0 c).arrAt_eq_of_covers 4 _ (by decide +kernel) fun t hf y => ?_
  blk_simp
  have hy : ((View.whole main_v0_1).slice (win0_4.rect t)).emb y = ix2 (row t (y 0)) (y 1) := by
    blk_ext [idx t]
  rw [hy, after0_4]
  refine Eq.trans ?_ (norm_ref_at _ _ _ _).symm
  idx_vars y
  unfold outsAt0
  frame_out
  exact (pay1_at _ _ _ _).trans (normed_blk m c t _ _)

/-- The kernel's product is the reference's. -/
theorem out3 (c : Dev nD) : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hy : ((View.whole main_v0_0).slice (win0_3.rect t)).emb y = ix2 (row t (y 0)) (y 1) := by
    blk_ext [idx t]
  rw [hy, after0_3]
  refine Eq.trans ?_ (prod_ref_at _ _ _ _ _).symm
  idx_vars y
  unfold outsAt0
  frame_out
  exact (pay3_at _ _ _ _ _).trans (Finset.sum_congr rfl fun k _ =>
    congr (congrArg (fun a b : EReal => a * b) (normed_blk m c t _ k)) (blk_w m c t k _))

end Cert.FwdGateIdeal.Value

end
-- ==== Proof.FwdPleOutValue.lean ====
/- The per-layer embedding's product and gated sum, their results read element by element. -/
module

public import proofs.«01_k».proof.Proof.Gen.FwdPleOutIdeal.Value
public import proofs.«01_k».proof.Proof.Gen.FwdPleOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdPleOutIdeal.Value

open Cert.FwdPleOutIdeal Cert.FwdPleOutIdeal.Gen Cert.FwdPleOutRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- The sigmoid. -/
abbrev sg (x : EReal) : EReal := Ideal.div 1 (1 + Ideal.exp (-x))

/-- Where each window's block sits at point `t`. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] :=
  (by decide +kernel : ∀ t : Fin grid0.N, _)

/-- One term of the product over a tile's row. -/
abbrev term (p : FVec Ideal S512x256 .f32) (w : FVec Ideal S256x1024 .bf16) (i : Fin 512) (k : Fin 256) (n : Fin 1024) : EReal := p (ix2 i k) * w (ix2 k n)

/-- One term of the product over an array's row. -/
abbrev term' (p : FVec Ideal S8192x256 .f32) (w : FVec Ideal S256x1024 .bf16) (i : Fin 8192) (k : Fin 256) (n : Fin 1024) : EReal := p (ix2 i k) * w (ix2 k n)

variable (m : (ℓ : Loc nD τ sig) → Buf (Elt Ideal) ℓ)

/-- The row tile of the residual at point `t`. -/
theorem blk_x (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The row tile of the gate at point `t`. -/
theorem blk_a (c : Dev nD) (t : Fin cfg0.N) (p : Fin 512) (l : Fin 1024) :
    (show FVec Ideal S512x1024 .bf16 from iblk m c 1 t) (ix2 p l) = (m ((c : Thread nD τ).loc main_arg1)) (ix2 (row t p) l) := by
  blk_point [iblk, V, idx t]

/-- The row tile of the embedding at point `t`. -/
theorem blk_p (c : Dev nD) (t : Fin cfg0.N) (p : Fin 512) (l : Fin 256) :
    (show FVec Ideal S512x256 .f32 from iblk m c 2 t) (ix2 p l) = (m ((c : Thread nD τ).loc main_arg2)) (ix2 (row t p) l) := by
  blk_point [iblk, V, idx t]

/-- The weights at point `t`. -/
theorem blk_w (c : Dev nD) (t : Fin cfg0.N) (p : Fin 256) (l : Fin 1024) :
    (show FVec Ideal S256x1024 .bf16 from iblk m c 3 t) (ix2 p l) = (m ((c : Thread nD τ).loc main_arg3)) (ix2 (p) l) := by
  blk_point [iblk, V, idx t]

/-- The reference's product, read at an entry. -/
theorem prod_ref_at (x2 : FVec Ideal S8192x256 .f32) (x3 : FVec Ideal S256x1024 .bf16) (i : Fin 8192) (n : Fin 1024) :
    val_main_v2 (F := Ideal) x2 x3 (ix2 i n) = ∑ k : Fin 256, x2 (ix2 i k) * x3 (ix2 k n) := by
  pointwise [val_main_v2, val_main_v1, val_main_v0]

/-- The reference's gated sum, read at an entry. -/
theorem sum_ref_at (x0 : FVec Ideal S8192x1024 .f32) (x1 : FVec Ideal S8192x1024 .bf16) (x2 : FVec Ideal S8192x256 .f32) (x3 : FVec Ideal S256x1024 .bf16) (i : Fin 8192) (n : Fin 1024) :
    val_main_v11 (F := Ideal) x0 x1 x2 x3 (ix2 i n) = x0 (ix2 i n) + sg (x1 (ix2 i n)) * ∑ k : Fin 256, x2 (ix2 i k) * x3 (ix2 k n) := by
  pointwise [sg, val_main_v11, val_main_v10, val_main_v1, val_main_v0, val_main_v9, val_main_v7, val_main_v5, val_main_v4, val_main_v3, val_main_v6, val_main_cst, val_main_v8, val_main_cst_0]

/-- The kernel's product, read at an entry. -/
theorem pay1_at (p : FVec Ideal S512x256 .f32) (w : FVec Ideal S256x1024 .bf16) (i : Fin 512) (n : Fin 1024) :
    k0_pay1 (F := Ideal) p w (ix2 i n) = ∑ k : Fin 256, p (ix2 i k) * w (ix2 k n) := by
  pointwise [k0_pay1]

/-- The kernel's gated sum, read at an entry. -/
theorem pay2_at (p : FVec Ideal S512x256 .f32) (w : FVec Ideal S256x1024 .bf16) (x : FVec Ideal S512x1024 .f32) (a : FVec Ideal S512x1024 .bf16) (i : Fin 512) (n : Fin 1024) :
    k0_pay2 (F := Ideal) p w x a (ix2 i n) = x (ix2 i n) + sg (a (ix2 i n)) * ∑ k : Fin 256, p (ix2 i k) * w (ix2 k n) := by
  pointwise [sg, k0_pay2, k0_pay1]
  simp only [Ideal.logistic]

/-- The product of a row of the tile is that of the array's row. -/
theorem prod_blk (c : Dev nD) (t : Fin cfg0.N) (p : Fin 512) (n : Fin 1024) :
    (∑ k : Fin 256, term (show FVec Ideal S512x256 .f32 from iblk m c 2 t) (show FVec Ideal S256x1024 .bf16 from iblk m c 3 t) p k n)
      = ∑ k : Fin 256, term' (m ((c : Thread nD τ).loc main_arg2)) (m ((c : Thread nD τ).loc main_arg3)) (row t p) k n :=
  Finset.sum_congr rfl fun k _ => by
    unfold term term'
    rw [blk_p, blk_w]

/-- The kernel's product is the reference's. -/
theorem out4 (c : Dev nD) : (dats m 0 c).arrAt 4 cfg0.N
    = val_main_v2 (F := Ideal) (m ((c : Thread nD τ).loc main_arg2)) (m ((c : Thread nD τ).loc main_arg3)) := by
  refine (dats m 0 c).arrAt_eq_of_covers 4 _ (by decide +kernel) fun t hf y => ?_
  blk_simp
  have hy : ((View.whole main_v0_0).slice (win0_4.rect t)).emb y = ix2 (row t (y 0)) (y 1) := by
    blk_ext [idx t]
  rw [hy, after0_4]
  refine Eq.trans ?_ (prod_ref_at _ _ _ _).symm
  idx_vars y
  frame_out
  exact (pay1_at _ _ _ _).trans (prod_blk m c t _ _)

/-- The kernel's gated sum is the reference's. -/
theorem out5 (c : Dev nD) : (dats m 0 c).arrAt 5 cfg0.N
    = val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have hy : ((View.whole main_v0_1).slice (win0_5.rect t)).emb y = ix2 (row t (y 0)) (y 1) := by
    blk_ext [idx t]
  rw [hy, after0_5]
  refine Eq.trans ?_ (sum_ref_at _ _ _ _ _ _).symm
  idx_vars y
  frame_out
  refine (pay2_at _ _ _ _ _ _).trans ?_
  exact congr (congrArg (fun a b : EReal => a + b) (blk_x m c t _ _))
    (congr (congrArg (fun a b : EReal => a * b) (congrArg sg (blk_a m c t _ _))) (prod_blk m c t _ _))

end Cert.FwdPleOutIdeal.Value

end
-- ==== Proof.FwdMergeValue.lean ====
/- The gated sum of the branches, its results read element by element. -/
module

public import proofs.«01_k».proof.Proof.Gen.FwdMergeIdeal.Value
public import proofs.«01_k».proof.Proof.Gen.FwdMergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdMergeIdeal.Value

open Cert.FwdMergeIdeal Cert.FwdMergeIdeal.Gen Cert.FwdMergeRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- The sigmoid. -/
abbrev sg (x : EReal) : EReal := Ideal.div 1 (1 + Ideal.exp (-x))

/-- Three gated terms, added. -/
abbrev gated (z0 z1 z2 p0 p1 p2 : EReal) : EReal := sg z0 * p0 + sg z1 * p1 + sg z2 * p2

/-- The gated sum of row `i` of the arrays. -/
abbrev merged (z : FVec Ideal S8192x5888 .bf16) (y0 y1 y2 : FVec Ideal S8192x512 .bf16) (w : FVec Ideal S3x512x1024 .bf16) (i : Fin 8192) (k : Fin 1024) : EReal :=
  gated (z (ix2 i ⟨0 + k.val, by omega⟩)) (z (ix2 i ⟨1024 + k.val, by omega⟩)) (z (ix2 i ⟨2048 + k.val, by omega⟩))
    (∑ l : Fin 512, y0 (ix2 i l) * w (ix3 0 l k)) (∑ l : Fin 512, y1 (ix2 i l) * w (ix3 1 l k)) (∑ l : Fin 512, y2 (ix2 i l) * w (ix3 2 l k))

/-- The gated sum of row `p` of a tile. -/
abbrev mergedT (z0 z1 z2 : FVec Ideal S512x1024 .bf16) (y0 y1 y2 : FVec Ideal S512x512 .bf16) (w0 w1 w2 : FVec Ideal S1x512x1024 .bf16) (p : Fin 512) (k : Fin 1024) : EReal :=
  gated (z0 (ix2 p k)) (z1 (ix2 p k)) (z2 (ix2 p k))
    (∑ l : Fin 512, y0 (ix2 p l) * w0 (ix3 0 l k)) (∑ l : Fin 512, y1 (ix2 p l) * w1 (ix3 0 l k)) (∑ l : Fin 512, y2 (ix2 p l) * w2 (ix3 0 l k))

/-- Where each window's block sits at point `t`. -/
theorem idx : ∀ t : Fin cfg0.N, win0_0.index t = ![t.val, 0] ∧ win0_1.index t = ![t.val, 1] ∧ win0_2.index t = ![t.val, 2] ∧ win0_3.index t = ![t.val, 0] ∧ win0_4.index t = ![t.val, 0] ∧ win0_5.index t = ![t.val, 0] ∧ win0_6.index t = ![0, 0, 0] ∧ win0_7.index t = ![0, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ)

/-- Branch 0's gates at point `t`. -/
theorem blk_z0 (c : Dev nD) (t : Fin cfg0.N) (p : Fin 512) (k : Fin 1024) :
    X0_0 m c t (ix2 p k) = (m ((c : Thread nD τ).loc main_arg0)) (ix2 (row t p) ⟨0 + k.val, by omega⟩) := by
  unfold X0_0 Pipeline.Window.fill
  rw [dif_pos (moved0_0 t _)]
  blk_ext [iblk, V, idx t]

/-- Branch 0's output at point `t`. -/
theorem blk_y0 (c : Dev nD) (t : Fin cfg0.N) (p : Fin 512) (l : Fin 512) :
    (show FVec Ideal S512x512 .bf16 from iblk m c 3 t) (ix2 p l) = (m ((c : Thread nD τ).loc main_arg1)) (ix2 (row t p) l) := by
  blk_point [iblk, V, idx t]

/-- Branch 0's weights at point `t`. -/
theorem blk_b0 (c : Dev nD) (t : Fin cfg0.N) (l : Fin 512) (k : Fin 1024) :
    (show FVec Ideal S3x512x1024 .bf16 from iblk m c 6 t) (ix3 0 l k) = (m ((c : Thread nD τ).loc main_arg4)) (ix3 0 l k) := by
  blk_point [iblk, V, idx t]

/-- Branch 1's gates at point `t`. -/
theorem blk_z1 (c : Dev nD) (t : Fin cfg0.N) (p : Fin 512) (k : Fin 1024) :
    X0_1 m c t (ix2 p k) = (m ((c : Thread nD τ).loc main_arg0)) (ix2 (row t p) ⟨1024 + k.val, by omega⟩) := by
  unfold X0_1 Pipeline.Window.fill
  rw [dif_pos (moved0_1 t _)]
  blk_ext [iblk, V, idx t]

/-- Branch 1's output at point `t`. -/
theorem blk_y1 (c : Dev nD) (t : Fin cfg0.N) (p : Fin 512) (l : Fin 512) :
    (show FVec Ideal S512x512 .bf16 from iblk m c 4 t) (ix2 p l) = (m ((c : Thread nD τ).loc main_arg2)) (ix2 (row t p) l) := by
  blk_point [iblk, V, idx t]

/-- Branch 1's weights at point `t`. -/
theorem blk_b1 (c : Dev nD) (t : Fin cfg0.N) (l : Fin 512) (k : Fin 1024) :
    (show FVec Ideal S3x512x1024 .bf16 from iblk m c 6 t) (ix3 1 l k) = (m ((c : Thread nD τ).loc main_arg4)) (ix3 1 l k) := by
  blk_point [iblk, V, idx t]

/-- Branch 2's gates at point `t`. -/
theorem blk_z2 (c : Dev nD) (t : Fin cfg0.N) (p : Fin 512) (k : Fin 1024) :
    X0_2 m c t (ix2 p k) = (m ((c : Thread nD τ).loc main_arg0)) (ix2 (row t p) ⟨2048 + k.val, by omega⟩) := by
  unfold X0_2 Pipeline.Window.fill
  rw [dif_pos (moved0_2 t _)]
  blk_ext [iblk, V, idx t]

/-- Branch 2's output at point `t`. -/
theorem blk_y2 (c : Dev nD) (t : Fin cfg0.N) (p : Fin 512) (l : Fin 512) :
    (show FVec Ideal S512x512 .bf16 from iblk m c 5 t) (ix2 p l) = (m ((c : Thread nD τ).loc main_arg3)) (ix2 (row t p) l) := by
  blk_point [iblk, V, idx t]

/-- Branch 2's weights at point `t`. -/
theorem blk_b2 (c : Dev nD) (t : Fin cfg0.N) (l : Fin 512) (k : Fin 1024) :
    (show FVec Ideal S3x512x1024 .bf16 from iblk m c 6 t) (ix3 2 l k) = (m ((c : Thread nD τ).loc main_arg4)) (ix3 2 l k) := by
  blk_point [iblk, V, idx t]

/-- The output projection's weights at point `t`. -/
theorem blk_w (c : Dev nD) (t : Fin cfg0.N) (p : Fin 1024) (l : Fin 1024) :
    (show FVec Ideal S1024x1024 .bf16 from iblk m c 7 t) (ix2 p l) = (m ((c : Thread nD τ).loc main_arg5)) (ix2 (p) l) := by
  blk_point [iblk, V, idx t]

/-- The row tile of the residual at point `t`. -/
theorem blk_x (c : Dev nD) (t : Fin cfg0.N) (p : Fin 512) (l : Fin 1024) :
    (show FVec Ideal S512x1024 .f32 from iblk m c 8 t) (ix2 p l) = (m ((c : Thread nD τ).loc main_arg6)) (ix2 (row t p) l) := by
  blk_point [iblk, V, idx t]

/-- The reference's gated sum, read at an entry. -/
theorem merged_ref_at (x0 : FVec Ideal S8192x5888 .bf16) (x1 x2 x3 : FVec Ideal S8192x512 .bf16) (x4 : FVec Ideal S3x512x1024 .bf16) (i : Fin 8192) (k : Fin 1024) :
    val_main_v29 (F := Ideal) x0 x1 x2 x3 x4 (ix2 i k) = merged x0 x1 x2 x3 x4 i k := by
  pointwise [merged, gated, sg, val_main_v29, val_main_v28, val_main_v25, val_main_v22, val_main_v21, val_main_v20, val_main_v18, val_main_v16, val_main_v15, val_main_v4, val_main_v3, val_main_v17, val_main_cst, val_main_v19, val_main_cst_0, val_main_v8, val_main_v0, val_main_v7, val_main_v6, val_main_v5, val_main_v24, val_main_v11, val_main_v1, val_main_v10, val_main_v9, val_main_v23, val_main_v27, val_main_v14, val_main_v13, val_main_v12, val_main_v2, val_main_v26]

/-- The reference's residual sum, read at an entry. -/
theorem sum_ref_at (x0 : FVec Ideal S8192x5888 .bf16) (x1 x2 x3 : FVec Ideal S8192x512 .bf16) (x4 : FVec Ideal S3x512x1024 .bf16) (x5 : FVec Ideal S1024x1024 .bf16) (x6 : FVec Ideal S8192x1024 .f32) (i : Fin 8192) (n : Fin 1024) :
    val_main_v32 (F := Ideal) x0 x1 x2 x3 x4 x5 x6 (ix2 i n) = x6 (ix2 i n) + ∑ k : Fin 1024, merged x0 x1 x2 x3 x4 i k * x5 (ix2 k n) := by
  pointwise [merged, gated, sg, val_main_v32, val_main_v31, val_main_v28, val_main_v25, val_main_v22, val_main_v21, val_main_v20, val_main_v18, val_main_v16, val_main_v15, val_main_v4, val_main_v3, val_main_v17, val_main_cst, val_main_v19, val_main_cst_0, val_main_v8, val_main_v0, val_main_v7, val_main_v6, val_main_v5, val_main_v24, val_main_v11, val_main_v1, val_main_v10, val_main_v9, val_main_v23, val_main_v27, val_main_v14, val_main_v13, val_main_v12, val_main_v2, val_main_v26, val_main_v30]

/-- The kernel's gated sum, read at an entry. -/
theorem pay2_at (z0 z1 z2 : FVec Ideal S512x1024 .bf16) (y0 y1 y2 : FVec Ideal S512x512 .bf16) (w0 w1 w2 : FVec Ideal S1x512x1024 .bf16) (p : Fin 512) (k : Fin 1024) :
    k0_pay2 (F := Ideal) z0 y0 w0 z1 y1 w1 z2 y2 w2 (ix2 p k) = mergedT z0 z1 z2 y0 y1 y2 w0 w1 w2 p k := by
  pointwise [mergedT, gated, sg, k0_pay2]
  simp only [Ideal.logistic]

/-- The kernel's residual sum, read at an entry. -/
theorem pay1_at (d : FVec Ideal S512x1024 .bf16) (x : FVec Ideal S512x1024 .f32) (w : FVec Ideal S1024x1024 .bf16) (p : Fin 512) (n : Fin 1024) :
    k0_pay1 (F := Ideal) d x w (ix2 p n) = x (ix2 p n) + ∑ k : Fin 1024, d (ix2 p k) * w (ix2 k n) := by
  pointwise [k0_pay1]

/-- Equal parts give equal gated sums. -/
theorem gated_congr {z0 z1 z2 p0 p1 p2 z0' z1' z2' p0' p1' p2' : EReal} (h0 : z0 = z0') (h1 : z1 = z1') (h2 : z2 = z2')
    (k0 : p0 = p0') (k1 : p1 = p1') (k2 : p2 = p2') : gated z0 z1 z2 p0 p1 p2 = gated z0' z1' z2' p0' p1' p2' := by
  subst h0 h1 h2 k0 k1 k2
  rfl

/-- Branch 0's slice of a block of weights. -/
abbrev slice0 (b : Vec Ideal S3x512x1024 .bf16) : Vec Ideal S1x512x1024 .bf16 :=
  View.ld b (Rect.unit (s := S3x512x1024) ![0, 0, 0] ![1, 512, 1024] inb_S3x512x1024_S1x512x1024_0_0_0)

/-- Branch 0's slice, read at an entry. -/
theorem ld_slice0 (b : Vec Ideal S3x512x1024 .bf16) (l : Fin 512) (k : Fin 1024) :
    slice0 b (ix3 0 l k) = b (ix3 0 l k) := by
  refine View.ld_unit_apply_of _ _ _ _ (ix3 (0 : Fin 1) l k) (ix3 (0 : Fin 3) l k) fun a => ?_
  match a with
  | ⟨0, _⟩ => rfl
  | ⟨1, _⟩ => exact (Nat.zero_add l.val).symm
  | ⟨2, _⟩ => exact (Nat.zero_add k.val).symm

/-- Branch 0's slice of the weights at point `t`. -/
theorem ld_b0 (c : Dev nD) (t : Fin cfg0.N) (l : Fin 512) (k : Fin 1024) :
    (slice0 (iblk m c 6 t)) (ix3 0 l k) = (m ((c : Thread nD τ).loc main_arg4)) (ix3 0 l k) :=
  (ld_slice0 _ l k).trans (blk_b0 m c t l k)

/-- Branch 1's slice of a block of weights. -/
abbrev slice1 (b : Vec Ideal S3x512x1024 .bf16) : Vec Ideal S1x512x1024 .bf16 :=
  View.ld b (Rect.unit (s := S3x512x1024) ![1, 0, 0] ![1, 512, 1024] inb_S3x512x1024_S1x512x1024_1_0_0)

/-- Branch 1's slice, read at an entry. -/
theorem ld_slice1 (b : Vec Ideal S3x512x1024 .bf16) (l : Fin 512) (k : Fin 1024) :
    slice1 b (ix3 0 l k) = b (ix3 1 l k) := by
  refine View.ld_unit_apply_of _ _ _ _ (ix3 (0 : Fin 1) l k) (ix3 (1 : Fin 3) l k) fun a => ?_
  match a with
  | ⟨0, _⟩ => rfl
  | ⟨1, _⟩ => exact (Nat.zero_add l.val).symm
  | ⟨2, _⟩ => exact (Nat.zero_add k.val).symm

/-- Branch 1's slice of the weights at point `t`. -/
theorem ld_b1 (c : Dev nD) (t : Fin cfg0.N) (l : Fin 512) (k : Fin 1024) :
    (slice1 (iblk m c 6 t)) (ix3 0 l k) = (m ((c : Thread nD τ).loc main_arg4)) (ix3 1 l k) :=
  (ld_slice1 _ l k).trans (blk_b1 m c t l k)

/-- Branch 2's slice of a block of weights. -/
abbrev slice2 (b : Vec Ideal S3x512x1024 .bf16) : Vec Ideal S1x512x1024 .bf16 :=
  View.ld b (Rect.unit (s := S3x512x1024) ![2, 0, 0] ![1, 512, 1024] inb_S3x512x1024_S1x512x1024_2_0_0)

/-- Branch 2's slice, read at an entry. -/
theorem ld_slice2 (b : Vec Ideal S3x512x1024 .bf16) (l : Fin 512) (k : Fin 1024) :
    slice2 b (ix3 0 l k) = b (ix3 2 l k) := by
  refine View.ld_unit_apply_of _ _ _ _ (ix3 (0 : Fin 1) l k) (ix3 (2 : Fin 3) l k) fun a => ?_
  match a with
  | ⟨0, _⟩ => rfl
  | ⟨1, _⟩ => exact (Nat.zero_add l.val).symm
  | ⟨2, _⟩ => exact (Nat.zero_add k.val).symm

/-- Branch 2's slice of the weights at point `t`. -/
theorem ld_b2 (c : Dev nD) (t : Fin cfg0.N) (l : Fin 512) (k : Fin 1024) :
    (slice2 (iblk m c 6 t)) (ix3 0 l k) = (m ((c : Thread nD τ).loc main_arg4)) (ix3 2 l k) :=
  (ld_slice2 _ l k).trans (blk_b2 m c t l k)

/-- The gated sum of a row of the tiles is that of the arrays' row. -/
theorem merged_blk (c : Dev nD) (t : Fin cfg0.N) (p : Fin 512) (k : Fin 1024) :
    mergedT (X0_0 m c t) (X0_1 m c t) (X0_2 m c t) (iblk m c 3 t) (iblk m c 4 t) (iblk m c 5 t)
      (slice0 (iblk m c 6 t))
      (slice1 (iblk m c 6 t))
      (slice2 (iblk m c 6 t)) p k
      = merged (m ((c : Thread nD τ).loc main_arg0)) (m ((c : Thread nD τ).loc main_arg1)) (m ((c : Thread nD τ).loc main_arg2)) (m ((c : Thread nD τ).loc main_arg3)) (m ((c : Thread nD τ).loc main_arg4)) (row t p) k :=
  gated_congr (blk_z0 m c t p k) (blk_z1 m c t p k) (blk_z2 m c t p k)
    (Finset.sum_congr rfl fun l _ => congr (congrArg (fun a b : EReal => a * b) (blk_y0 m c t p l)) (ld_b0 m c t l k))
    (Finset.sum_congr rfl fun l _ => congr (congrArg (fun a b : EReal => a * b) (blk_y1 m c t p l)) (ld_b1 m c t l k))
    (Finset.sum_congr rfl fun l _ => congr (congrArg (fun a b : EReal => a * b) (blk_y2 m c t p l)) (ld_b2 m c t l k))

/-- The kernel's gated sum is the reference's. -/
theorem out9 (c : Dev nD) : (dats m 0 c).arrAt 9 cfg0.N
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  have hy : ((View.whole main_v0_0).slice (win0_9.rect t)).emb y = ix2 (row t (y 0)) (y 1) := by
    blk_ext [idx t]
  rw [hy, after0_9]
  refine Eq.trans ?_ (merged_ref_at _ _ _ _ _ _ _).symm
  idx_vars y
  unfold outsAt0
  frame_out
  exact (pay2_at _ _ _ _ _ _ _ _ _ _ _).trans (merged_blk m c t _ _)

/-- The kernel's residual sum is the reference's. -/
theorem out10 (c : Dev nD) : (dats m 0 c).arrAt 10 cfg0.N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  have hy : ((View.whole main_v0_1).slice (win0_10.rect t)).emb y = ix2 (row t (y 0)) (y 1) := by
    blk_ext [idx t]
  rw [hy, after0_10]
  refine Eq.trans ?_ (sum_ref_at _ _ _ _ _ _ _ _ _).symm
  idx_vars y
  unfold outsAt0
  frame_out
  refine (pay1_at _ _ _ _ _).trans ?_
  exact congr (congrArg (fun a b : EReal => a + b) (blk_x m c t _ _)) (Finset.sum_congr rfl fun k _ =>
    congr (congrArg (fun a b : EReal => a * b) ((pay2_at _ _ _ _ _ _ _ _ _ _ _).trans (merged_blk m c t _ k))) (blk_w m c t k _))

end Cert.FwdMergeIdeal.Value

end
-- ==== Proof.ForwardClaims.lean ====
/- The forward calls: the kernels' results are the references', with no precondition. -/
module

public import proofs.«01_k».proof.Defs
public import proofs.«01_k».proof.Proof.FwdInValue
public import proofs.«01_k».proof.Proof.Gen.FwdInRefIdeal.Run
public import proofs.«01_k».proof.Proof.FwdFfnInValue
public import proofs.«01_k».proof.Proof.Gen.FwdFfnInRefIdeal.Run
public import proofs.«01_k».proof.Proof.FwdFfnOutValue
public import proofs.«01_k».proof.Proof.Gen.FwdFfnOutRefIdeal.Run
public import proofs.«01_k».proof.Proof.FwdGateValue
public import proofs.«01_k».proof.Proof.Gen.FwdGateRefIdeal.Run
public import proofs.«01_k».proof.Proof.FwdPleOutValue
public import proofs.«01_k».proof.Proof.Gen.FwdPleOutRefIdeal.Run
public import proofs.«01_k».proof.Proof.FwdMergeValue
public import proofs.«01_k».proof.Proof.Gen.FwdMergeRefIdeal.Run
public import Idealize.ShloMosaic.Lib.Claim

@[expose] public section

set_option maxRecDepth 16384

noncomputable section

namespace Cert.Proof

open Idealize.ShloMosaic Idealize.ShloMosaic.TcCoe Idealize.SL.Sem

/-- From equal arguments both programs end with equal results: the norm and the mixing input projection. -/
theorem algebraic_fwd_in : Cert.algebraic_FwdInIdeal_FwdInRefIdeal := by
  pair_intro
  · run_from Cert.FwdInIdeal.Value.run_blocks m g
  · run_from Cert.FwdInRefIdeal.Value.run m' g'
    · exact (Cert.FwdInIdeal.Value.out3 m c).symm
    · exact (Cert.FwdInIdeal.Value.out4 m c).symm

/-- The reference's run ends, with its arguments unchanged. -/
theorem frame_fwd_in_ref : Cert.quiescent_FwdInRefIdeal := fun m ρ _ =>
  (θ_run Cert.FwdInRefIdeal.defs _ _).mono (fun r h => ⟨fun c => (h c).2.2,
      Idealize.ShloMosaic.sem_eq_zero_of_no_sems (by decide) r.2⟩)
    (Cert.FwdInRefIdeal.Value.run (F := Ideal) m ρ)

/-- From equal arguments both programs end with equal results: the norm and the feed-forward input projection. -/
theorem algebraic_fwd_ffn_in : Cert.algebraic_FwdFfnInIdeal_FwdFfnInRefIdeal := by
  pair_intro
  · run_from Cert.FwdFfnInIdeal.Value.run_blocks m g
  · run_from Cert.FwdFfnInRefIdeal.Value.run m' g'
    · exact (Cert.FwdFfnInIdeal.Value.out3 m c).symm
    · exact (Cert.FwdFfnInIdeal.Value.out4 m c).symm

/-- The reference's run ends, with its arguments unchanged. -/
theorem frame_fwd_ffn_in_ref : Cert.quiescent_FwdFfnInRefIdeal := fun m ρ _ =>
  (θ_run Cert.FwdFfnInRefIdeal.defs _ _).mono (fun r h => ⟨fun c => (h c).2.2,
      Idealize.ShloMosaic.sem_eq_zero_of_no_sems (by decide) r.2⟩)
    (Cert.FwdFfnInRefIdeal.Value.run (F := Ideal) m ρ)

/-- From equal arguments both programs end with equal results: the activation and the feed-forward output. -/
theorem algebraic_fwd_ffn_out : Cert.algebraic_FwdFfnOutIdeal_FwdFfnOutRefIdeal := by
  pair_intro
  · run_from Cert.FwdFfnOutIdeal.Value.run_blocks m g
  · run_from Cert.FwdFfnOutRefIdeal.Value.run m' g'
    · exact (Cert.FwdFfnOutIdeal.Value.out4 m c).symm
    · exact (Cert.FwdFfnOutIdeal.Value.out5 m c).symm

/-- The reference's run ends, with its arguments unchanged. -/
theorem frame_fwd_ffn_out_ref : Cert.quiescent_FwdFfnOutRefIdeal := fun m ρ _ =>
  (θ_run Cert.FwdFfnOutRefIdeal.defs _ _).mono (fun r h => ⟨fun c => (h c).2.2,
      Idealize.ShloMosaic.sem_eq_zero_of_no_sems (by decide) r.2⟩)
    (Cert.FwdFfnOutRefIdeal.Value.run (F := Ideal) m ρ)

/-- From equal arguments both programs end with equal results: the norm and the per-layer gate. -/
theorem algebraic_fwd_gate : Cert.algebraic_FwdGateIdeal_FwdGateRefIdeal := by
  pair_intro
  · run_from Cert.FwdGateIdeal.Value.run_blocks m g
  · run_from Cert.FwdGateRefIdeal.Value.run m' g'
    · exact (Cert.FwdGateIdeal.Value.out3 m c).symm
    · exact (Cert.FwdGateIdeal.Value.out4 m c).symm

/-- The reference's run ends, with its arguments unchanged. -/
theorem frame_fwd_gate_ref : Cert.quiescent_FwdGateRefIdeal := fun m ρ _ =>
  (θ_run Cert.FwdGateRefIdeal.defs _ _).mono (fun r h => ⟨fun c => (h c).2.2,
      Idealize.ShloMosaic.sem_eq_zero_of_no_sems (by decide) r.2⟩)
    (Cert.FwdGateRefIdeal.Value.run (F := Ideal) m ρ)

/-- From equal arguments both programs end with equal results: the per-layer embedding. -/
theorem algebraic_fwd_ple_out : Cert.algebraic_FwdPleOutIdeal_FwdPleOutRefIdeal := by
  pair_intro
  · run_from Cert.FwdPleOutIdeal.Value.run_blocks m g
  · run_from Cert.FwdPleOutRefIdeal.Value.run m' g'
    · exact (Cert.FwdPleOutIdeal.Value.out4 m c).symm
    · exact (Cert.FwdPleOutIdeal.Value.out5 m c).symm

/-- The reference's run ends, with its arguments unchanged. -/
theorem frame_fwd_ple_out_ref : Cert.quiescent_FwdPleOutRefIdeal := fun m ρ _ =>
  (θ_run Cert.FwdPleOutRefIdeal.defs _ _).mono (fun r h => ⟨fun c => (h c).2.2,
      Idealize.ShloMosaic.sem_eq_zero_of_no_sems (by decide) r.2⟩)
    (Cert.FwdPleOutRefIdeal.Value.run (F := Ideal) m ρ)

/-- From equal arguments both programs end with equal results: the gated sum of the branches and the output projection. -/
theorem algebraic_fwd_merge : Cert.algebraic_FwdMergeIdeal_FwdMergeRefIdeal := by
  pair_intro
  · run_from Cert.FwdMergeIdeal.Value.run_blocks m g
  · run_from Cert.FwdMergeRefIdeal.Value.run m' g'
    · exact (Cert.FwdMergeIdeal.Value.out9 m c).symm
    · exact (Cert.FwdMergeIdeal.Value.out10 m c).symm

/-- The reference's run ends, with its arguments unchanged. -/
theorem frame_fwd_merge_ref : Cert.quiescent_FwdMergeRefIdeal := fun m ρ _ =>
  (θ_run Cert.FwdMergeRefIdeal.defs _ _).mono (fun r h => ⟨fun c => (h c).2.2,
      Idealize.ShloMosaic.sem_eq_zero_of_no_sems (by decide) r.2⟩)
    (Cert.FwdMergeRefIdeal.Value.run (F := Ideal) m ρ)

end Cert.Proof

end
-- ==== Proof.ConvShift.lean ====
/- Shifting a tile of rows down or up by a row or two, the rows that leave the tile taken from its neighbour. -/
module

public import Idealize.ShloMosaic.Lib.Pipeline.ValueKit
public import Idealize.ShloMosaic.Lib.Pointwise
public import Idealize.ShloMosaic.Lib.WordCmp

@[expose] public section

noncomputable section

open Idealize.ShloMosaic Idealize.ShloMosaic.WordCmp

namespace Cert.ConvShift

/-- A choice by a comparison of small numbers is a choice by their order. -/
theorem sel_lt {p j : ℕ} (hp : p < 2147483648) (hj : j < 2147483648) (a b : EReal) :
    Scalar.select (IntOp.cmpi .slt (BitVec.ofNat 32 p) (BitVec.ofNat 32 j)) a b = if p < j then a else b := by
  rw [cmpi_slt_ofNat (w := 32) (by show p < 2 ^ 31; omega) (by show j < 2 ^ 31; omega), select_ofBool]
  simp

/-- A choice by a comparison the other way round. -/
theorem sel_ge {p j : ℕ} (hp : p < 2147483648) (hj : j < 2147483648) (a b : EReal) :
    Scalar.select (IntOp.cmpi .sge (BitVec.ofNat 32 p) (BitVec.ofNat 32 j)) a b = if j ≤ p then a else b := by
  rw [cmpi_sge_ofNat (w := 32) (by show p < 2 ^ 31; omega) (by show j < 2 ^ 31; omega), select_ofBool]
  simp

/-- A choice by an equality of small numbers. -/
theorem sel_eq {p j : ℕ} (hp : p < 2147483648) (hj : j < 2147483648) (a b : EReal) :
    Scalar.select (Scalar.cmpi .eq (BitVec.ofNat 32 p) (BitVec.ofNat 32 j)) a b = if p = j then a else b := by
  rw [show Scalar.cmpi .eq (BitVec.ofNat 32 p) (BitVec.ofNat 32 j) = IntOp.cmpi .eq (BitVec.ofNat 32 p) (BitVec.ofNat 32 j) from rfl,
    cmpi_eq_ofNat (w := 32) (by omega) (by omega), select_ofBool]
  simp

/-- The sequence `V` moved down by `j` rows, zeros coming in at the top. -/
def back (V : ℕ → EReal) (j r : ℕ) : EReal := if j ≤ r then V (r - j) else 0

/-- The sequence `V` of 8192 rows moved up by `j` rows, zeros coming in at the bottom. -/
def ahead (V : ℕ → EReal) (j r : ℕ) : EReal := if r + j < 8192 then V (r + j) else 0

/-- The tile moved down by one row: its first row comes from the tile before. -/
theorem shift1 (V : ℕ → EReal) (t : ℕ) (ht : t < 16) (v : Fin 512 → EReal) (h : Fin 8 → EReal)
    (hv : ∀ q : Fin 512, v q = V (t * 512 + q.val)) (hh : t ≠ 0 → ∀ q : Fin 8, h q = V ((t * 64 - 1) * 8 + q.val)) (p : Fin 512) :
    Scalar.select (IntOp.cmpi .slt (BitVec.ofNat 32 p.val) (BitVec.ofNat 32 1))
      (if g : p.val < 8 then Scalar.select (Scalar.cmpi .eq (BitVec.ofNat 32 t) (BitVec.ofNat 32 0)) 0 (h ⟨(p.val + 8 - 1) % 8, by omega⟩) else 0)
      (v ⟨(p.val + 512 - 1) % 512, by omega⟩) = back V 1 (t * 512 + p.val) := by
  rw [sel_lt (by omega) (by omega)]
  unfold back
  by_cases hp : p.val < 1
  · rw [if_pos hp, dif_pos (by omega), sel_eq (by omega) (by omega)]
    by_cases h0 : t = 0
    · rw [if_pos h0, if_neg (by omega)]
    · rw [if_neg h0, if_pos (by omega), hh h0]
      exact congrArg V (by show (t * 64 - 1) * 8 + (p.val + 8 - 1) % 8 = _; omega)
  · rw [if_neg hp, if_pos (by omega), hv]
    exact congrArg V (by show t * 512 + (p.val + 512 - 1) % 512 = _; omega)

/-- The tile moved down by two rows: its first two rows come from the tile before. -/
theorem shift2 (V : ℕ → EReal) (t : ℕ) (ht : t < 16) (v : Fin 512 → EReal) (h : Fin 8 → EReal)
    (hv : ∀ q : Fin 512, v q = V (t * 512 + q.val)) (hh : t ≠ 0 → ∀ q : Fin 8, h q = V ((t * 64 - 1) * 8 + q.val)) (p : Fin 512) :
    Scalar.select (IntOp.cmpi .slt (BitVec.ofNat 32 p.val) (BitVec.ofNat 32 2))
      (if g : p.val < 8 then Scalar.select (Scalar.cmpi .eq (BitVec.ofNat 32 t) (BitVec.ofNat 32 0)) 0 (h ⟨(p.val + 8 - 2) % 8, by omega⟩) else 0)
      (v ⟨(p.val + 512 - 2) % 512, by omega⟩) = back V 2 (t * 512 + p.val) := by
  rw [sel_lt (by omega) (by omega)]
  unfold back
  by_cases hp : p.val < 2
  · rw [if_pos hp, dif_pos (by omega), sel_eq (by omega) (by omega)]
    by_cases h0 : t = 0
    · rw [if_pos h0, if_neg (by omega)]
    · rw [if_neg h0, if_pos (by omega), hh h0]
      exact congrArg V (by show (t * 64 - 1) * 8 + (p.val + 8 - 2) % 8 = _; omega)
  · rw [if_neg hp, if_pos (by omega), hv]
    exact congrArg V (by show t * 512 + (p.val + 512 - 2) % 512 = _; omega)

/-- The tile moved up by one row: its last row comes from the tile after. -/
theorem shiftUp1 (V : ℕ → EReal) (t : ℕ) (ht : t < 16) (v : Fin 512 → EReal) (h : Fin 8 → EReal)
    (hv : ∀ q : Fin 512, v q = V (t * 512 + q.val)) (hh : t ≠ 15 → ∀ q : Fin 8, h q = V (t * 512 + 512 + q.val)) (p : Fin 512) :
    Scalar.select (IntOp.cmpi .sge (BitVec.ofNat 32 p.val) (BitVec.ofNat 32 511))
      (if g : p.val < 504 then 0 else Scalar.select (Scalar.cmpi .eq (BitVec.ofNat 32 t) (BitVec.ofNat 32 15)) 0 (h ⟨(p.val - 504 + 8 - 7) % 8, by omega⟩))
      (v ⟨(p.val + 512 - 511) % 512, by omega⟩) = ahead V 1 (t * 512 + p.val) := by
  rw [sel_ge (by omega) (by omega)]
  unfold ahead
  by_cases hp : 511 ≤ p.val
  · rw [if_pos hp, dif_neg (by omega), sel_eq (by omega) (by omega)]
    by_cases h0 : t = 15
    · rw [if_pos h0, if_neg (by omega)]
    · rw [if_neg h0, if_pos (by omega), hh h0]
      exact congrArg V (by show t * 512 + 512 + (p.val - 504 + 8 - 7) % 8 = _; omega)
  · rw [if_neg hp, if_pos (by omega), hv]
    exact congrArg V (by show t * 512 + (p.val + 512 - 511) % 512 = _; omega)

/-- The tile moved up by two rows: its last two rows come from the tile after. -/
theorem shiftUp2 (V : ℕ → EReal) (t : ℕ) (ht : t < 16) (v : Fin 512 → EReal) (h : Fin 8 → EReal)
    (hv : ∀ q : Fin 512, v q = V (t * 512 + q.val)) (hh : t ≠ 15 → ∀ q : Fin 8, h q = V (t * 512 + 512 + q.val)) (p : Fin 512) :
    Scalar.select (IntOp.cmpi .sge (BitVec.ofNat 32 p.val) (BitVec.ofNat 32 510))
      (if g : p.val < 504 then 0 else Scalar.select (Scalar.cmpi .eq (BitVec.ofNat 32 t) (BitVec.ofNat 32 15)) 0 (h ⟨(p.val - 504 + 8 - 6) % 8, by omega⟩))
      (v ⟨(p.val + 512 - 510) % 512, by omega⟩) = ahead V 2 (t * 512 + p.val) := by
  rw [sel_ge (by omega) (by omega)]
  unfold ahead
  by_cases hp : 510 ≤ p.val
  · rw [if_pos hp, dif_neg (by omega), sel_eq (by omega) (by omega)]
    by_cases h0 : t = 15
    · rw [if_pos h0, if_neg (by omega)]
    · rw [if_neg h0, if_pos (by omega), hh h0]
      exact congrArg V (by show t * 512 + 512 + (p.val - 504 + 8 - 6) % 8 = _; omega)
  · rw [if_neg hp, if_pos (by omega), hv]
    exact congrArg V (by show t * 512 + (p.val + 512 - 510) % 512 = _; omega)

/-- Three terms in the opposite order. -/
theorem swap3 (a b c : EReal) : a + b + c = c + b + a := by
  rw [add_comm (G := EReal) (a + b) c, add_comm (G := EReal) a b, add_assoc (G := EReal)]

end Cert.ConvShift

end
-- ==== Proof.ConvValue.lean ====
/- The gradient of the gated convolution over time, its results read element by element. -/
module

public import proofs.«01_k».proof.Proof.Gen.ConvIdeal.Value
public import proofs.«01_k».proof.Proof.Gen.ConvRefIdeal.Read
public import proofs.«01_k».proof.Proof.ConvShift
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen Cert.ConvRefIdeal.Read Cert.ConvShift

/-- Row `p` of the row tile of point `t`. -/
abbrev row (t : Fin cfg0.N) (p : Fin 512) : Fin 8192 :=
  ⟨t.val * 512 + p.val, by have h : t.val < 16 := lt_of_lt_of_eq t.isLt N_0; omega⟩

/-- Where each window's block sits at point `t`, and the point's coordinate. -/
theorem idx : ∀ t : Fin cfg0.N, win0_0.index t = ![t.val, 0] ∧ win0_1.index t = ![t.val, 7] ∧ win0_2.index t = ![t.val, 8] ∧ win0_3.index t = ![t.val, 9] ∧ win0_4.index t = ![t.val * 64 - 1, 8] ∧ win0_5.index t = ![t.val * 64 - 1, 9] ∧ win0_6.index t = ![min ((t.val + 1) * 64) 1023, 0] ∧ win0_7.index t = ![min ((t.val + 1) * 64) 1023, 7] ∧ win0_8.index t = ![0, 0] ∧ win0_9.index t = ![t.val, 0] ∧ win0_10.index t = ![0, 0] :=
  (by decide +kernel : ∀ t : Fin grid0.N, _)

/-- The point's coordinate. -/
theorem coord : ∀ t : Fin cfg0.N, (grid0.coords t 0).val = t.val :=
  (by decide +kernel : ∀ t : Fin grid0.N, _)

variable (m : (ℓ : Loc nD τ sig) → Buf (Elt Ideal) ℓ)

/-- The gradient of the rows at point `t`. -/
theorem blk_dy (c : Dev nD) (t : Fin cfg0.N) (p : Fin 512) (l : Fin 512) :
    (show FVec Ideal S512x512 .bf16 from iblk m c 0 t) (ix2 p l) = (m ((c : Thread nD τ).loc main_arg0)) (ix2 (row t p) l) := by
  blk_point [iblk, V, idx t]

/-- The gate of the rows at point `t`. -/
theorem blk_cb (c : Dev nD) (t : Fin cfg0.N) (p : Fin 512) (l : Fin 512) :
    (X0_1 m c t : FVec Ideal S512x512 .bf16) (ix2 p l)
      = (m ((c : Thread nD τ).loc main_arg1)) (ix2 (row t p) (⟨3584 + l.val, by omega⟩ : Fin 5888)) := by
  unfold X0_1 Pipeline.Window.fill
  rw [dif_pos (moved0_1 t _)]
  refine congrArg (m ((c : Thread nD τ).loc main_arg1)) ?_
  blk_ext [iblk, V, idx t]

/-- The first factor of the rows at point `t`. -/
theorem blk_cc (c : Dev nD) (t : Fin cfg0.N) (p : Fin 512) (l : Fin 512) :
    (X0_2 m c t : FVec Ideal S512x512 .bf16) (ix2 p l)
      = (m ((c : Thread nD τ).loc main_arg1)) (ix2 (row t p) (⟨4096 + l.val, by omega⟩ : Fin 5888)) := by
  unfold X0_2 Pipeline.Window.fill
  rw [dif_pos (moved0_2 t _)]
  refine congrArg (m ((c : Thread nD τ).loc main_arg1)) ?_
  blk_ext [iblk, V, idx t]

/-- The second factor of the rows at point `t`. -/
theorem blk_cx (c : Dev nD) (t : Fin cfg0.N) (p : Fin 512) (l : Fin 512) :
    (X0_3 m c t : FVec Ideal S512x512 .bf16) (ix2 p l)
      = (m ((c : Thread nD τ).loc main_arg1)) (ix2 (row t p) (⟨4608 + l.val, by omega⟩ : Fin 5888)) := by
  unfold X0_3 Pipeline.Window.fill
  rw [dif_pos (moved0_3 t _)]
  refine congrArg (m ((c : Thread nD τ).loc main_arg1)) ?_
  blk_ext [iblk, V, idx t]

/-- The first factor of the eight rows before. -/
theorem blk_pc (c : Dev nD) (t : Fin cfg0.N) (p : Fin 8) (l : Fin 512) :
    (X0_4 m c t : FVec Ideal S8x512 .bf16) (ix2 p l)
      = (m ((c : Thread nD τ).loc main_arg1)) (ix2 (⟨(t.val * 64 - 1) * 8 + p.val, by have h : t.val < 16 := lt_of_lt_of_eq t.isLt N_0; omega⟩ : Fin 8192) (⟨4096 + l.val, by omega⟩ : Fin 5888)) := by
  unfold X0_4 Pipeline.Window.fill
  rw [dif_pos (moved0_4 t _)]
  refine congrArg (m ((c : Thread nD τ).loc main_arg1)) ?_
  blk_ext [iblk, V, idx t]

/-- The second factor of the eight rows before. -/
theorem blk_px (c : Dev nD) (t : Fin cfg0.N) (p : Fin 8) (l : Fin 512) :
    (X0_5 m c t : FVec Ideal S8x512 .bf16) (ix2 p l)
      = (m ((c : Thread nD τ).loc main_arg1)) (ix2 (⟨(t.val * 64 - 1) * 8 + p.val, by have h : t.val < 16 := lt_of_lt_of_eq t.isLt N_0; omega⟩ : Fin 8192) (⟨4608 + l.val, by omega⟩ : Fin 5888)) := by
  unfold X0_5 Pipeline.Window.fill
  rw [dif_pos (moved0_5 t _)]
  refine congrArg (m ((c : Thread nD τ).loc main_arg1)) ?_
  blk_ext [iblk, V, idx t]

/-- The gradient of the eight rows after. -/
theorem blk_nd (c : Dev nD) (t : Fin cfg0.N) (ht : t.val ≠ 15) (p : Fin 8) (l : Fin 512) :
    (show FVec Ideal S8x512 .bf16 from iblk m c 6 t) (ix2 p l) = (m ((c : Thread nD τ).loc main_arg0)) (ix2 (⟨(t.val * 512 + 512) + p.val, by have h : t.val < 16 := lt_of_lt_of_eq t.isLt N_0; omega⟩ : Fin 8192) l) := by
  have h : t.val < 16 := lt_of_lt_of_eq t.isLt N_0
  blk_point [iblk, V, idx t]

/-- The gate of the eight rows after. -/
theorem blk_nb (c : Dev nD) (t : Fin cfg0.N) (ht : t.val ≠ 15) (p : Fin 8) (l : Fin 512) :
    (X0_7 m c t : FVec Ideal S8x512 .bf16) (ix2 p l)
      = (m ((c : Thread nD τ).loc main_arg1)) (ix2 (⟨(t.val * 512 + 512) + p.val, by have h : t.val < 16 := lt_of_lt_of_eq t.isLt N_0; omega⟩ : Fin 8192) (⟨3584 + l.val, by omega⟩ : Fin 5888)) := by
  have h : t.val < 16 := lt_of_lt_of_eq t.isLt N_0
  unfold X0_7 Pipeline.Window.fill
  rw [dif_pos (moved0_7 t _)]
  refine congrArg (m ((c : Thread nD τ).loc main_arg1)) ?_
  blk_ext [iblk, V, idx t]

/-- The taps. -/
theorem blk_w (c : Dev nD) (t : Fin cfg0.N) (p : Fin 3) (l : Fin 512) :
    (show FVec Ideal S3x512 .f32 from iblk m c 8 t) (ix2 p l) = (m ((c : Thread nD τ).loc main_arg2)) (ix2 (p) l) := by
  blk_point [iblk, V, idx t]

/-- A product of two entries. -/
abbrev term (a b : EReal) : EReal := a * b

/-- The product of the two factors at row `r`, column `k` of the convolution's input. -/
def vIn (x1 : FVec Ideal S8192x5888 .bf16) (k : Fin 512) (r : ℕ) : EReal :=
  if h : r < 8192 then x1 (ix2 (⟨r, h⟩ : Fin 8192) (⟨4096 + k.val, by omega⟩ : Fin 5888)) * x1 (ix2 (⟨r, h⟩ : Fin 8192) (⟨4608 + k.val, by omega⟩ : Fin 5888)) else 0

/-- The gradient of the taps' sum at row `r`, column `k`: the gradient of the result times the gate. -/
def dC (x0 : FVec Ideal S8192x512 .bf16) (x1 : FVec Ideal S8192x5888 .bf16) (k : Fin 512) (r : ℕ) : EReal :=
  if h : r < 8192 then x0 (ix2 (⟨r, h⟩ : Fin 8192) k) * x1 (ix2 (⟨r, h⟩ : Fin 8192) (⟨3584 + k.val, by omega⟩ : Fin 5888)) else 0

/-- The product of the two factors at point `t`. -/
theorem v_blk (c : Dev nD) (t : Fin cfg0.N) (k p : Fin 512) :
    term ((X0_2 m c t : FVec Ideal S512x512 .bf16) (ix2 p k)) ((X0_3 m c t : FVec Ideal S512x512 .bf16) (ix2 p k)) = vIn (m ((c : Thread nD τ).loc main_arg1)) k (t.val * 512 + p.val) := by
  have h : t.val < 16 := lt_of_lt_of_eq t.isLt N_0
  unfold vIn term
  rw [dif_pos (by omega), blk_cc m c t p k, blk_cx m c t p k]

/-- The product of the two factors in the eight rows before. -/
theorem h_blk (c : Dev nD) (t : Fin cfg0.N) (k : Fin 512) (p : Fin 8) :
    term ((X0_4 m c t : FVec Ideal S8x512 .bf16) (ix2 p k)) ((X0_5 m c t : FVec Ideal S8x512 .bf16) (ix2 p k)) = vIn (m ((c : Thread nD τ).loc main_arg1)) k ((t.val * 64 - 1) * 8 + p.val) := by
  have h : t.val < 16 := lt_of_lt_of_eq t.isLt N_0
  unfold vIn term
  rw [dif_pos (by omega), blk_pc m c t p k, blk_px m c t p k]

/-- The gate times the gradient at point `t`. -/
theorem d_blk (c : Dev nD) (t : Fin cfg0.N) (k p : Fin 512) :
    term ((iblk m c 0 t : FVec Ideal S512x512 .bf16) (ix2 p k)) ((X0_1 m c t : FVec Ideal S512x512 .bf16) (ix2 p k)) = dC (m ((c : Thread nD τ).loc main_arg0)) (m ((c : Thread nD τ).loc main_arg1)) k (t.val * 512 + p.val) := by
  have h : t.val < 16 := lt_of_lt_of_eq t.isLt N_0
  unfold dC term
  rw [dif_pos (by omega), blk_cb m c t p k, show (iblk m c 0 t : FVec Ideal S512x512 .bf16) (ix2 p k) = _ from blk_dy m c t p k]

/-- The gate times the gradient in the eight rows after. -/
theorem e_blk (c : Dev nD) (t : Fin cfg0.N) (ht : t.val ≠ 15) (k : Fin 512) (p : Fin 8) :
    term ((iblk m c 6 t : FVec Ideal S8x512 .bf16) (ix2 p k)) ((X0_7 m c t : FVec Ideal S8x512 .bf16) (ix2 p k)) = dC (m ((c : Thread nD τ).loc main_arg0)) (m ((c : Thread nD τ).loc main_arg1)) k (t.val * 512 + 512 + p.val) := by
  have h : t.val < 16 := lt_of_lt_of_eq t.isLt N_0
  unfold dC term
  rw [dif_pos (by omega), blk_nb m c t ht p k, show (iblk m c 6 t : FVec Ideal S8x512 .bf16) (ix2 p k) = _ from blk_nd m c t ht p k]

/-- The kernel's product moved down by one row. -/
theorem pay8_at (i : grid0.Coords) (a b : FVec Ideal S512x512 .bf16) (e f : FVec Ideal S8x512 .bf16) (V : ℕ → EReal) (p k : Fin 512) (t : ℕ) (hi : (i 0).val = t) (ht : t < 16)
    (hv : ∀ q : Fin 512, a (ix2 q k) * b (ix2 q k) = V (t * 512 + q.val)) (hh : t ≠ 0 → ∀ q : Fin 8, e (ix2 q k) * f (ix2 q k) = V ((t * 64 - 1) * 8 + q.val)) :
    k0_pay8 (F := Ideal) i a b e f (ix2 p k) = back V 1 (t * 512 + p.val) := by
  subst hi
  refine Eq.trans ?_ (shift1 V _ ht (fun q => a (ix2 q k) * b (ix2 q k)) (fun q => e (ix2 q k) * f (ix2 q k)) hv hh p)
  pointwise [k0_pay8, k0_pay6, k0_pay7, k0_pay3, k0_pay4]

/-- The kernel's product moved down by two rows. -/
theorem pay12_at (i : grid0.Coords) (a b : FVec Ideal S512x512 .bf16) (e f : FVec Ideal S8x512 .bf16) (V : ℕ → EReal) (p k : Fin 512) (t : ℕ) (hi : (i 0).val = t) (ht : t < 16)
    (hv : ∀ q : Fin 512, a (ix2 q k) * b (ix2 q k) = V (t * 512 + q.val)) (hh : t ≠ 0 → ∀ q : Fin 8, e (ix2 q k) * f (ix2 q k) = V ((t * 64 - 1) * 8 + q.val)) :
    k0_pay12 (F := Ideal) (k0_pay9 (F := Ideal) a b) (iota .tc S512x512 32 [0] iota_S512x512_d0_w32) (k0_pay10 (F := Ideal) i e f) k0_pay11 (ix2 p k) = back V 2 (t * 512 + p.val) := by
  subst hi
  refine Eq.trans ?_ (shift2 V _ ht (fun q => a (ix2 q k) * b (ix2 q k)) (fun q => e (ix2 q k) * f (ix2 q k)) hv hh p)
  pointwise [k0_pay12, k0_pay9, k0_pay10, k0_pay11, k0_pay6, k0_pay7, k0_pay3, k0_pay4]

/-- The kernel's sum of the three taps. -/
theorem pay13_at (v v1 v2 : FVec Ideal S512x512 .f32) (n : IVec S512x512 32) (u : FVec Ideal S512x512 .f32) (q : IVec S512x512 32) (w : FVec Ideal S3x512 .f32) (p k : Fin 512) :
    k0_pay13 (F := Ideal) v v1 v2 n u q w (ix2 p k) = w (ix2 2 k) * v (ix2 p k) + w (ix2 1 k) * v1 (ix2 p k) + w (ix2 0 k) * k0_pay12 (F := Ideal) v2 n u q (ix2 p k) := by
  pointwise [k0_pay13]

/-- The kernel's last two taps of the gradient of the product. -/
theorem pay16_at (b : BitVec 32) (cb dy : FVec Ideal S512x512 .bf16) (w : FVec Ideal S3x512 .f32) (nd nb : FVec Ideal S8x512 .bf16) (V : ℕ → EReal) (p k : Fin 512) (t : ℕ) (hi : b = BitVec.ofNat 32 t) (ht : t < 16)
    (hv : ∀ q : Fin 512, dy (ix2 q k) * cb (ix2 q k) = V (t * 512 + q.val)) (hh : t ≠ 15 → ∀ q : Fin 8, nd (ix2 q k) * nb (ix2 q k) = V (t * 512 + 512 + q.val)) :
    k0_pay16 (F := Ideal) b (k0_pay2 (F := Ideal) cb) (k0_pay5 (F := Ideal) dy) w nd nb (ix2 p k) = w (ix2 2 k) * V (t * 512 + p.val) + w (ix2 1 k) * ahead V 1 (t * 512 + p.val) := by
  subst hi
  rw [← shiftUp1 V _ ht (fun q => dy (ix2 q k) * cb (ix2 q k)) (fun q => nd (ix2 q k) * nb (ix2 q k)) hv hh p, ← hv p]
  pointwise [k0_pay16, k0_pay14, k0_pay15, k0_pay2, k0_pay5]

/-- The kernel's gradient of the product of the two factors. -/
theorem pay20_at (u : FVec Ideal S512x512 .f32) (b : BitVec 32) (cb dy : FVec Ideal S512x512 .bf16) (w : FVec Ideal S3x512 .f32) (nd nb : FVec Ideal S8x512 .bf16) (V : ℕ → EReal) (p k : Fin 512) (t : ℕ) (hi : b = BitVec.ofNat 32 t) (ht : t < 16)
    (hv : ∀ q : Fin 512, dy (ix2 q k) * cb (ix2 q k) = V (t * 512 + q.val)) (hh : t ≠ 15 → ∀ q : Fin 8, nd (ix2 q k) * nb (ix2 q k) = V (t * 512 + 512 + q.val)) :
    k0_pay20 (F := Ideal) u (k0_pay17 (F := Ideal) w) (k0_pay18 (F := Ideal) (k0_pay2 (F := Ideal) cb) (k0_pay5 (F := Ideal) dy)) (iota .tc S512x512 32 [0] iota_S512x512_d0_w32) (k0_pay19 (F := Ideal) b nd nb) 510#32 (ix2 p k)
      = u (ix2 p k) + w (ix2 0 k) * ahead V 2 (t * 512 + p.val) := by
  subst hi
  rw [← shiftUp2 V _ ht (fun q => dy (ix2 q k) * cb (ix2 q k)) (fun q => nd (ix2 q k) * nb (ix2 q k)) hv hh p]
  pointwise [k0_pay20, k0_pay17, k0_pay18, k0_pay19, k0_pay14, k0_pay15, k0_pay2, k0_pay5]

/-- The kernel's gradient of the gate. -/
theorem pay21_at (v u : FVec Ideal S512x512 .f32) (p k : Fin 512) : k0_pay21 (F := Ideal) v u (ix2 p k) = v (ix2 p k) * u (ix2 p k) := by
  pointwise [k0_pay21]

/-- The kernel's gradient of the first factor. -/
theorem pay23_at (b : FVec Ideal S512x512 .bf16) (u : FVec Ideal S512x512 .f32) (d : FVec Ideal S1x512 .f32) (v : FVec Ideal S512x512 .f32) (n : IVec S512x512 32) (f : FVec Ideal S512x512 .f32) (q : BitVec 32) (p k : Fin 512) :
    k0_pay23 (F := Ideal) (k0_pay3 (F := Ideal) b) u d v n f q (ix2 p k) = k0_pay20 (F := Ideal) u d v n f q (ix2 p k) * b (ix2 p k) := by
  pointwise [k0_pay23, k0_pay3]

/-- The kernel's gradient of the second factor. -/
theorem pay22_at (b : FVec Ideal S512x512 .bf16) (u : FVec Ideal S512x512 .f32) (d : FVec Ideal S1x512 .f32) (v : FVec Ideal S512x512 .f32) (n : IVec S512x512 32) (f : FVec Ideal S512x512 .f32) (q : BitVec 32) (p k : Fin 512) :
    k0_pay22 (F := Ideal) (k0_pay4 (F := Ideal) b) u d v n f q (ix2 p k) = k0_pay20 (F := Ideal) u d v n f q (ix2 p k) * b (ix2 p k) := by
  pointwise [k0_pay22, k0_pay4]

/-- A point's addition to the first tap's gradient: the rows of its tile, eight apart. -/
theorem pay24_at (v d : FVec Ideal S512x512 .f32) (u : FVec Ideal S8x512 .f32) (s : Fin 8) (k : Fin 512) :
    k0_pay24 (F := Ideal) v d u (ix2 s k)
      = u (ix2 s k) + ∑ a : Fin 64, d (ix2 (⟨a.val * 8 + s.val, by omega⟩ : Fin 512) k) * v (ix2 (⟨a.val * 8 + s.val, by omega⟩ : Fin 512) k) := by
  pointwise [k0_pay24]

/-- A point's addition to the second tap's gradient: the rows of its tile, eight apart. -/
theorem pay25_at (v d : FVec Ideal S512x512 .f32) (u : FVec Ideal S8x512 .f32) (s : Fin 8) (k : Fin 512) :
    k0_pay25 (F := Ideal) v d u (ix2 s k)
      = u (ix2 s k) + ∑ a : Fin 64, d (ix2 (⟨a.val * 8 + s.val, by omega⟩ : Fin 512) k) * v (ix2 (⟨a.val * 8 + s.val, by omega⟩ : Fin 512) k) := by
  pointwise [k0_pay25]

/-- A point's addition to the third tap's gradient: the rows of its tile, eight apart. -/
theorem pay26_at (v d : FVec Ideal S512x512 .f32) (u : FVec Ideal S8x512 .f32) (s : Fin 8) (k : Fin 512) :
    k0_pay26 (F := Ideal) v d u (ix2 s k)
      = u (ix2 s k) + ∑ a : Fin 64, d (ix2 (⟨a.val * 8 + s.val, by omega⟩ : Fin 512) k) * v (ix2 (⟨a.val * 8 + s.val, by omega⟩ : Fin 512) k) := by
  pointwise [k0_pay26]

/-- The kernel's gradient of the taps' sum. -/
theorem pay14_at (cb dy : FVec Ideal S512x512 .bf16) (p k : Fin 512) :
    k0_pay14 (F := Ideal) (k0_pay2 (F := Ideal) cb) (k0_pay5 (F := Ideal) dy) (ix2 p k) = dy (ix2 p k) * cb (ix2 p k) := by
  pointwise [k0_pay14, k0_pay2, k0_pay5]

/-- The sums before the first point are zero. -/
theorem pay1_at (y : S24x512.Idx) : k0_pay1 (F := Ideal) y = 0 := by
  pointwise [k0_pay1]

/-- Three stores of eight rows fill the buffer, whatever was stored before. -/
theorem three (P0 P1 P2 : FVec Ideal S8x512 .f32) (L : List (View.Piece (Elt Ideal) S24x512 .f32)) (G : S24x512.Idx → EReal)
    (h0 : ∀ (s : Fin 8) (k : Fin 512), P0 (ix2 s k) = G (ix2 (⟨s.val, by omega⟩ : Fin 24) k))
    (h1 : ∀ (s : Fin 8) (k : Fin 512), P1 (ix2 s k) = G (ix2 (⟨8 + s.val, by omega⟩ : Fin 24) k))
    (h2 : ∀ (s : Fin 8) (k : Fin 512), P2 (ix2 s k) = G (ix2 (⟨16 + s.val, by omega⟩ : Fin 24) k)) (y : S24x512.Idx) :
    View.canon (⟨Rect.unit (s := S24x512) ![16, 0] ![8, 512] inb_S24x512_S8x512_16_0, P2⟩ :: ⟨Rect.unit (s := S24x512) ![8, 0] ![8, 512] inb_S24x512_S8x512_8_0, P1⟩
      :: ⟨Rect.unit (s := S24x512) ![0, 0] ![8, 512] inb_S24x512_S8x512_0_0, P0⟩ :: L) y = G y := by
  have hy0 : (y 0).val < 24 := (y 0).isLt
  have hy1 : (y 1).val < 512 := (y 1).isLt
  refine View.canon_append_of_pieces G L [⟨Rect.unit (s := S24x512) ![16, 0] ![8, 512] inb_S24x512_S8x512_16_0, P2⟩, ⟨Rect.unit (s := S24x512) ![8, 0] ![8, 512] inb_S24x512_S8x512_8_0, P1⟩,
    ⟨Rect.unit (s := S24x512) ![0, 0] ![8, 512] inb_S24x512_S8x512_0_0, P0⟩] (View.PiecesOf.mem ⟨fun x => ?_, fun x => ?_, fun x => ?_, trivial⟩) y ?_
  · refine (congrArg P2 (show x = ix2 (x 0) (x 1) from ?_)).trans ((h2 _ _).trans (congrArg G ?_)) <;> blk_ext []
  · refine (congrArg P1 (show x = ix2 (x 0) (x 1) from ?_)).trans ((h1 _ _).trans (congrArg G ?_)) <;> blk_ext []
  · refine (congrArg P0 (show x = ix2 (x 0) (x 1) from ?_)).trans ((h0 _ _).trans (congrArg G ?_)) <;> blk_ext []
  · by_cases g2 : 16 ≤ (y 0).val
    · refine ⟨_, List.mem_cons_self, (Rect.mem_set_unit (inb := inb_S24x512_S8x512_16_0)).2 fun a => ?_⟩
      match a with
      | ⟨0, _⟩ => exact ⟨g2, hy0⟩
      | ⟨1, _⟩ => exact ⟨Nat.zero_le _, by show (y 1).val < 0 + 512; omega⟩
    by_cases g1 : 8 ≤ (y 0).val
    · refine ⟨_, List.mem_cons_of_mem _ List.mem_cons_self, (Rect.mem_set_unit (inb := inb_S24x512_S8x512_8_0)).2 fun a => ?_⟩
      match a with
      | ⟨0, _⟩ => exact ⟨g1, by show (y 0).val < 8 + 8; omega⟩
      | ⟨1, _⟩ => exact ⟨Nat.zero_le _, by show (y 1).val < 0 + 512; omega⟩
    · refine ⟨_, List.mem_cons_of_mem _ (List.mem_cons_of_mem _ List.mem_cons_self), (Rect.mem_set_unit (inb := inb_S24x512_S8x512_0_0)).2 fun a => ?_⟩
      match a with
      | ⟨0, _⟩ => exact ⟨Nat.zero_le _, by show (y 0).val < 0 + 8; omega⟩
      | ⟨1, _⟩ => exact ⟨Nat.zero_le _, by show (y 1).val < 0 + 512; omega⟩

/-- A buffer of zeros. -/
abbrev none0 : Vec Ideal S24x512 .f32 := fun _ => (0 : EReal)

section Loads
variable {κ : Kind} {sp : Space} (v : View sig κ sp S24x512 .f32) (P0 P1 : FVec Ideal S8x512 .f32)

theorem load0 : View.readCov (Val := Elt Ideal) v [⟨Rect.unit (s := S24x512) ![0, 0] ![24, 512] inb_S24x512_S24x512_0_0, k0_pay1 (F := Ideal)⟩]
    (Rect.unit (s := S24x512) ![0, 0] ![8, 512] inb_S24x512_S8x512_0_0).toLoadRect = View.ld (Val := Elt Ideal) none0 (Rect.unit (s := S24x512) ![0, 0] ![8, 512] inb_S24x512_S8x512_0_0) := by
  refine (View.readCov_fill v (s := S24x512) inb_S24x512_S24x512_0_0 _ _ _ (by decide)).trans (funext fun y => ?_)
  exact pay1_at _

theorem load1 : View.readCov (Val := Elt Ideal) v [⟨Rect.unit (s := S24x512) ![0, 0] ![8, 512] inb_S24x512_S8x512_0_0, P0⟩, ⟨Rect.unit (s := S24x512) ![0, 0] ![24, 512] inb_S24x512_S24x512_0_0, k0_pay1 (F := Ideal)⟩]
    (Rect.unit (s := S24x512) ![8, 0] ![8, 512] inb_S24x512_S8x512_8_0).toLoadRect = View.ld (Val := Elt Ideal) none0 (Rect.unit (s := S24x512) ![8, 0] ![8, 512] inb_S24x512_S8x512_8_0) := by
  rw [View.readCov_skip _ _ _ _ _ rfl]
  refine (View.readCov_fill v (s := S24x512) inb_S24x512_S24x512_0_0 _ _ _ (by decide)).trans (funext fun y => ?_)
  exact pay1_at _

theorem load2 : View.readCov (Val := Elt Ideal) v [⟨Rect.unit (s := S24x512) ![8, 0] ![8, 512] inb_S24x512_S8x512_8_0, P1⟩, ⟨Rect.unit (s := S24x512) ![0, 0] ![8, 512] inb_S24x512_S8x512_0_0, P0⟩,
      ⟨Rect.unit (s := S24x512) ![0, 0] ![24, 512] inb_S24x512_S24x512_0_0, k0_pay1 (F := Ideal)⟩]
    (Rect.unit (s := S24x512) ![16, 0] ![8, 512] inb_S24x512_S8x512_16_0).toLoadRect = View.ld (Val := Elt Ideal) none0 (Rect.unit (s := S24x512) ![16, 0] ![8, 512] inb_S24x512_S8x512_16_0) := by
  rw [View.readCov_skip _ _ _ _ _ rfl, View.readCov_skip _ _ _ _ _ rfl]
  refine (View.readCov_fill v (s := S24x512) inb_S24x512_S24x512_0_0 _ _ _ (by decide)).trans (funext fun y => ?_)
  exact pay1_at _

end Loads

/-- What tap `j` of the convolution multiplies at row `r`, column `k`. -/
def tap (x1 : FVec Ideal S8192x5888 .bf16) (k : Fin 512) (j r : ℕ) : EReal :=
  if j = 0 then back (vIn x1 k) 2 r else if j = 1 then back (vIn x1 k) 1 r else vIn x1 k r

/-- What point `t` adds to the taps' gradients. -/
def part (c : Dev nD) (t : Fin cfg0.N) (y : S24x512.Idx) : EReal :=
  ∑ a : Fin 64, dC (m ((c : Thread nD τ).loc main_arg0)) (m ((c : Thread nD τ).loc main_arg1)) (y 1) (t.val * 512 + (a.val * 8 + (y 0).val % 8)) * tap (m ((c : Thread nD τ).loc main_arg1)) (y 1) ((y 0).val / 8) (t.val * 512 + (a.val * 8 + (y 0).val % 8))

section Step
variable (c : Dev nD) (t : Fin cfg0.N)

theorem lt16 : t.val < 16 := lt_of_lt_of_eq t.isLt N_0

/-- The kernel's product moved down by two rows, at point `t`. -/
abbrev s2 : FVec Ideal S512x512 .f32 := k0_pay12 (F := Ideal) (k0_pay9 (F := Ideal) (X0_2 m c t) (X0_3 m c t)) (iota .tc S512x512 32 [0] iota_S512x512_d0_w32) (k0_pay10 (F := Ideal) (grid0.coords t) (X0_4 m c t) (X0_5 m c t)) k0_pay11
/-- The kernel's product moved down by one row, at point `t`. -/
abbrev s1 : FVec Ideal S512x512 .f32 := k0_pay8 (F := Ideal) (grid0.coords t) (X0_2 m c t) (X0_3 m c t) (X0_4 m c t) (X0_5 m c t)
/-- The kernel's product, at point `t`. -/
abbrev s0 : FVec Ideal S512x512 .f32 := k0_pay6 (F := Ideal) (X0_2 m c t) (X0_3 m c t)
/-- The kernel's gradient of the taps' sum, at point `t`. -/
abbrev dc : FVec Ideal S512x512 .f32 := k0_pay14 (F := Ideal) (k0_pay2 (F := Ideal) (X0_1 m c t)) (k0_pay5 (F := Ideal) (iblk m c 0 t))

theorem s2_at (p k : Fin 512) : s2 m c t (ix2 p k) = back (vIn (m ((c : Thread nD τ).loc main_arg1)) k) 2 (t.val * 512 + p.val) :=
  pay12_at (grid0.coords t) _ _ _ _ (vIn (m ((c : Thread nD τ).loc main_arg1)) k) p k t.val (coord t) (lt16 t) (fun q => v_blk m c t k q) (fun _ q => h_blk m c t k q)
theorem s1_at (p k : Fin 512) : s1 m c t (ix2 p k) = back (vIn (m ((c : Thread nD τ).loc main_arg1)) k) 1 (t.val * 512 + p.val) :=
  pay8_at (grid0.coords t) _ _ _ _ (vIn (m ((c : Thread nD τ).loc main_arg1)) k) p k t.val (coord t) (lt16 t) (fun q => v_blk m c t k q) (fun _ q => h_blk m c t k q)
theorem s0_at (p k : Fin 512) : s0 m c t (ix2 p k) = vIn (m ((c : Thread nD τ).loc main_arg1)) k (t.val * 512 + p.val) := by
  refine Eq.trans ?_ (v_blk m c t k p)
  pointwise [k0_pay6, k0_pay3, k0_pay4, term]
theorem dc_at (p k : Fin 512) : dc m c t (ix2 p k) = dC (m ((c : Thread nD τ).loc main_arg0)) (m ((c : Thread nD τ).loc main_arg1)) k (t.val * 512 + p.val) :=
  (pay14_at _ _ _ _).trans (d_blk m c t k p)

/-- One point's three updates add its part to what the buffer held. -/
theorem step (Z : Vec Ideal S24x512 .f32) (L : List (View.Piece (Elt Ideal) S24x512 .f32)) (y : S24x512.Idx) :
    View.canon (⟨Rect.unit (s := S24x512) ![16, 0] ![8, 512] inb_S24x512_S8x512_16_0, k0_pay26 (F := Ideal) (s0 m c t) (dc m c t) (View.ld Z (Rect.unit (s := S24x512) ![16, 0] ![8, 512] inb_S24x512_S8x512_16_0))⟩
      :: ⟨Rect.unit (s := S24x512) ![8, 0] ![8, 512] inb_S24x512_S8x512_8_0, k0_pay25 (F := Ideal) (s1 m c t) (dc m c t) (View.ld Z (Rect.unit (s := S24x512) ![8, 0] ![8, 512] inb_S24x512_S8x512_8_0))⟩
      :: ⟨Rect.unit (s := S24x512) ![0, 0] ![8, 512] inb_S24x512_S8x512_0_0, k0_pay24 (F := Ideal) (s2 m c t) (dc m c t) (View.ld Z (Rect.unit (s := S24x512) ![0, 0] ![8, 512] inb_S24x512_S8x512_0_0))⟩ :: L) y
      = Z y + part m c t y := by
  refine three _ _ _ L (fun y => Z y + part m c t y) (fun s k => ?_) (fun s k => ?_) (fun s k => ?_) y
  · refine (pay24_at _ _ _ _ _).trans (congr (congrArg (fun a b : EReal => a + b) ?_) (Finset.sum_congr rfl fun a _ => ?_))
    · refine View.ld_unit_apply_of _ _ _ _ (ix2 s k) (ix2 (⟨s.val, by omega⟩ : Fin 24) k) fun a => ?_
      match a with
      | ⟨0, _⟩ => exact (Nat.zero_add s.val).symm
      | ⟨1, _⟩ => exact (Nat.zero_add k.val).symm
    · rw [s2_at, dc_at]
      have e1 : (0 + s.val) / 8 = 0 := by omega
      have e2 : (0 + s.val) % 8 = s.val := by omega
      show _ = dC _ _ k (t.val * 512 + (a.val * 8 + s.val % 8)) * tap _ k (s.val / 8) (t.val * 512 + (a.val * 8 + s.val % 8))
      rw [Nat.div_eq_of_lt s.isLt, Nat.mod_eq_of_lt s.isLt]
      rfl
  · refine (pay25_at _ _ _ _ _).trans (congr (congrArg (fun a b : EReal => a + b) ?_) (Finset.sum_congr rfl fun a _ => ?_))
    · refine View.ld_unit_apply_of _ _ _ _ (ix2 s k) (ix2 (⟨8 + s.val, by omega⟩ : Fin 24) k) fun a => ?_
      match a with
      | ⟨0, _⟩ => rfl
      | ⟨1, _⟩ => exact (Nat.zero_add k.val).symm
    · rw [s1_at, dc_at]
      have e1 : (8 + s.val) / 8 = 1 := by omega
      have e2 : (8 + s.val) % 8 = s.val := by omega
      show _ = dC _ _ k (t.val * 512 + (a.val * 8 + (8 + s.val) % 8)) * tap _ k ((8 + s.val) / 8) (t.val * 512 + (a.val * 8 + (8 + s.val) % 8))
      rw [e1, e2]
      rfl
  · refine (pay26_at _ _ _ _ _).trans (congr (congrArg (fun a b : EReal => a + b) ?_) (Finset.sum_congr rfl fun a _ => ?_))
    · refine View.ld_unit_apply_of _ _ _ _ (ix2 s k) (ix2 (⟨16 + s.val, by omega⟩ : Fin 24) k) fun a => ?_
      match a with
      | ⟨0, _⟩ => rfl
      | ⟨1, _⟩ => exact (Nat.zero_add k.val).symm
    · rw [s0_at, dc_at]
      have e1 : (16 + s.val) / 8 = 2 := by omega
      have e2 : (16 + s.val) % 8 = s.val := by omega
      show _ = dC _ _ k (t.val * 512 + (a.val * 8 + (16 + s.val) % 8)) * tap _ k ((16 + s.val) / 8) (t.val * 512 + (a.val * 8 + (16 + s.val) % 8))
      rw [e1, e2]
      rfl

end Step

section Reference
variable (x0 : FVec Ideal S8192x512 .bf16) (x1 : FVec Ideal S8192x5888 .bf16) (w : FVec Ideal S3x512 .f32)

/-- The reference's gradient of the taps' sum. -/
theorem v40_at (i : Fin 8192) (k : Fin 512) : val_main_v40 (F := Ideal) x0 x1 (ix2 i k) = dC x0 x1 k i.val := by
  unfold dC
  rw [dif_pos i.isLt, EReal.mul_comm]
  pointwise [val_main_v40, val_main_v1, val_main_v0, val_main_v39]

/-- The reference's padded product, moved down by two rows. -/
theorem v15_at (a : Fin 1024) (s : Fin 8) (k : Fin 512) : val_main_v15 (F := Ideal) x1 (ix3 a s k) = back (vIn x1 k) 2 (a.val * 8 + s.val) := by
  refine Eq.trans (b := if h : a.val * 8 + s.val < 2 then (0 : EReal) else x1 (ix2 (⟨a.val * 8 + s.val - 2, by omega⟩ : Fin 8192) (⟨4096 + k.val, by omega⟩ : Fin 5888)) * x1 (ix2 (⟨a.val * 8 + s.val - 2, by omega⟩ : Fin 8192) (⟨4608 + k.val, by omega⟩ : Fin 5888))) ?_ ?_
  · pointwise [val_main_v15, val_main_v14, val_main_v10, val_main_v8, val_main_v3, val_main_v2, val_main_v5, val_main_v4, val_main_v9, val_main_cst]
  · unfold back vIn
    by_cases h : a.val * 8 + s.val < 2
    · rw [dif_pos h, if_neg (by omega)]
    · rw [dif_neg h, if_pos (by omega), dif_pos (by omega)]

/-- The reference's padded product, moved down by one row. -/
theorem v23_at (a : Fin 1024) (s : Fin 8) (k : Fin 512) : val_main_v23 (F := Ideal) x1 (ix3 a s k) = back (vIn x1 k) 1 (a.val * 8 + s.val) := by
  refine Eq.trans (b := if h : 1 + (a.val * 8 + s.val) < 2 then (0 : EReal) else x1 (ix2 (⟨1 + (a.val * 8 + s.val) - 2, by omega⟩ : Fin 8192) (⟨4096 + k.val, by omega⟩ : Fin 5888)) * x1 (ix2 (⟨1 + (a.val * 8 + s.val) - 2, by omega⟩ : Fin 8192) (⟨4608 + k.val, by omega⟩ : Fin 5888))) ?_ ?_
  · pointwise [val_main_v23, val_main_v22, val_main_v10, val_main_v8, val_main_v3, val_main_v2, val_main_v5, val_main_v4, val_main_v9, val_main_cst]
  · have e : 1 + (a.val * 8 + s.val) - 2 = a.val * 8 + s.val - 1 := by omega
    unfold back vIn
    by_cases h : 1 + (a.val * 8 + s.val) < 2
    · rw [dif_pos h, if_neg (by omega)]
    · rw [dif_neg h, if_pos (by omega), dif_pos (by omega)]
      simp only [e]

/-- The reference's product. -/
theorem v32_at (a : Fin 1024) (s : Fin 8) (k : Fin 512) : val_main_v32 (F := Ideal) x1 (ix3 a s k) = vIn x1 k (a.val * 8 + s.val) := by
  unfold vIn
  rw [dif_pos (by omega)]
  pointwise [val_main_v32, val_main_v31, val_main_v10, val_main_v8, val_main_v3, val_main_v2, val_main_v5, val_main_v4, val_main_v9, val_main_cst]

/-- The reference's sum of the taps. -/
theorem v37_at (i : Fin 8192) (k : Fin 512) : val_main_v37 (F := Ideal) x1 w (ix2 i k)
    = w (ix2 2 k) * vIn x1 k i.val + w (ix2 1 k) * back (vIn x1 k) 1 i.val + w (ix2 0 k) * back (vIn x1 k) 2 i.val := by
  have e : i.val / 8 * 8 + i.val % 8 = i.val := by omega
  refine Eq.trans (b := w (ix2 0 k) * val_main_v15 (F := Ideal) x1 (ix3 (⟨i.val / 8, by omega⟩ : Fin 1024) (⟨i.val % 8, by omega⟩ : Fin 8) k)
    + w (ix2 1 k) * val_main_v23 (F := Ideal) x1 (ix3 (⟨i.val / 8, by omega⟩ : Fin 1024) (⟨i.val % 8, by omega⟩ : Fin 8) k)
    + w (ix2 2 k) * val_main_v32 (F := Ideal) x1 (ix3 (⟨i.val / 8, by omega⟩ : Fin 1024) (⟨i.val % 8, by omega⟩ : Fin 8) k)) ?_ ?_
  · pointwise [val_main_v37, val_main_v28, val_main_v19, val_main_v18, val_main_v17, val_main_v16, val_main_v13, val_main_v12, val_main_v7, val_main_v6, val_main_v27, val_main_v26, val_main_v25, val_main_v24, val_main_v21, val_main_v20, val_main_v36, val_main_v35, val_main_v34, val_main_v33, val_main_v30, val_main_v29]
  · rw [v15_at, v23_at, v32_at]
    simp only [e]
    exact swap3 _ _ _

/-- The reference's gradient of the product. -/
theorem v80_at (i : Fin 8192) (k : Fin 512) : val_main_v80 (F := Ideal) x0 x1 w (ix2 i k)
    = w (ix2 2 k) * dC x0 x1 k i.val + w (ix2 1 k) * ahead (dC x0 x1 k) 1 i.val + w (ix2 0 k) * ahead (dC x0 x1 k) 2 i.val := by
  refine Eq.trans (b := val_main_v49 (F := Ideal) x0 x1 w (ix2 i k)
    + (if h : 1 ≤ 2 + i.val ∧ 2 + i.val - 1 < 8192 then val_main_v60 (F := Ideal) x0 x1 w (ix2 (⟨2 + i.val - 1, h.2⟩ : Fin 8192) k) else (0 : EReal))
    + (if h : 2 + i.val < 8192 then val_main_v73 (F := Ideal) x0 x1 w (ix2 (⟨2 + i.val, h⟩ : Fin 8192) k) else (0 : EReal))) ?_ ?_
  · pointwise [val_main_v80, val_main_v75, val_main_v62, val_main_v50, val_main_cst_3, val_main_v61, val_main_cst_7, val_main_v74, val_main_cst_11]
  have h49 : ∀ j : Fin 8192, val_main_v49 (F := Ideal) x0 x1 w (ix2 j k) = w (ix2 2 k) * dC x0 x1 k j.val := fun j => by
    rw [← v40_at x0 x1 j k]
    pointwise [val_main_v49, val_main_v44, val_main_v42, val_main_v43, val_main_v33, val_main_v30, val_main_v29, val_main_v7, val_main_v6]
  have h60 : ∀ j : Fin 8192, val_main_v60 (F := Ideal) x0 x1 w (ix2 j k) = w (ix2 1 k) * dC x0 x1 k j.val := fun j => by
    rw [← v40_at x0 x1 j k]
    pointwise [val_main_v60, val_main_v55, val_main_v53, val_main_v54, val_main_v24, val_main_v21, val_main_v20, val_main_v7, val_main_v6]
  have h73 : ∀ j : Fin 8192, val_main_v73 (F := Ideal) x0 x1 w (ix2 j k) = w (ix2 0 k) * dC x0 x1 k j.val := fun j => by
    rw [← v40_at x0 x1 j k]
    pointwise [val_main_v73, val_main_v68, val_main_v66, val_main_v67, val_main_v16, val_main_v13, val_main_v12, val_main_v7, val_main_v6]
  simp only [h49, h60, h73]
  have e1 : (if h : 1 ≤ 2 + i.val ∧ 2 + i.val - 1 < 8192 then w (ix2 1 k) * dC x0 x1 k (2 + i.val - 1) else (0 : EReal)) = w (ix2 1 k) * ahead (dC x0 x1 k) 1 i.val := by
    unfold ahead
    by_cases h : i.val + 1 < 8192
    · rw [dif_pos ⟨by omega, by omega⟩, if_pos h]
      exact congrArg (fun n => w (ix2 1 k) * dC x0 x1 k n) (by omega)
    · rw [dif_neg (fun g => h (by omega)), if_neg h, mul_zero (M₀ := EReal)]
  have e2 : (if h : 2 + i.val < 8192 then w (ix2 0 k) * dC x0 x1 k (2 + i.val) else (0 : EReal)) = w (ix2 0 k) * ahead (dC x0 x1 k) 2 i.val := by
    unfold ahead
    by_cases h : i.val + 2 < 8192
    · rw [dif_pos (by omega), if_pos h]
      exact congrArg (fun n => w (ix2 0 k) * dC x0 x1 k n) (by omega)
    · rw [dif_neg (by omega), if_neg h, mul_zero (M₀ := EReal)]
  rw [e1, e2]

/-- The reference's gradient of the gate. -/
theorem ref_cb (i : Fin 8192) (k : Fin 512) : val_main_v84 (F := Ideal) x0 x1 w (ix2 i (⟨k.val, by omega⟩ : Fin 1536))
    = x0 (ix2 i k) * val_main_v37 (F := Ideal) x1 w (ix2 i k) := by
  pointwise [val_main_v84, val_main_v83, val_main_v41, val_main_v39, val_main_v81, val_main_v3, val_main_v2, val_main_v82, val_main_v5, val_main_v4]

/-- The reference's gradient of the first factor. -/
theorem ref_cc (i : Fin 8192) (k : Fin 512) : val_main_v84 (F := Ideal) x0 x1 w (ix2 i (⟨512 + k.val, by omega⟩ : Fin 1536))
    = val_main_v80 (F := Ideal) x0 x1 w (ix2 i k) * x1 (ix2 i (⟨4608 + k.val, by omega⟩ : Fin 5888)) := by
  pointwise [val_main_v84, val_main_v83, val_main_v41, val_main_v39, val_main_v81, val_main_v3, val_main_v2, val_main_v82, val_main_v5, val_main_v4]

/-- The reference's gradient of the second factor. -/
theorem ref_cx (i : Fin 8192) (k : Fin 512) : val_main_v84 (F := Ideal) x0 x1 w (ix2 i (⟨1024 + k.val, by omega⟩ : Fin 1536))
    = val_main_v80 (F := Ideal) x0 x1 w (ix2 i k) * x1 (ix2 i (⟨4096 + k.val, by omega⟩ : Fin 5888)) := by
  rw [EReal.mul_comm]
  pointwise [val_main_v84, val_main_v83, val_main_v41, val_main_v39, val_main_v81, val_main_v3, val_main_v2, val_main_v82, val_main_v5, val_main_v4]
  rw [dif_neg (by omega), dif_neg (by omega)]
  have e : 1024 + k.val - 512 - 512 = k.val := by omega
  simp only [e]

/-- The reference's gradient of the taps, in eight parts by the row's residue. -/
theorem ref_dw (r : Fin 24) (k : Fin 512) : val_main_v85 (F := Ideal) x0 x1 (ix2 r k)
    = ∑ a : Fin 1024, dC x0 x1 k (a.val * 8 + r.val % 8) * tap x1 k (r.val / 8) (a.val * 8 + r.val % 8) := by
  have h48 : ∀ s : Fin 8, val_main_v48 (F := Ideal) x0 x1 (ix2 s k) = ∑ a : Fin 1024, dC x0 x1 k (a.val * 8 + s.val) * vIn x1 k (a.val * 8 + s.val) := fun s => by
    refine Eq.trans (b := ∑ a : Fin 1024, val_main_v40 (F := Ideal) x0 x1 (ix2 (⟨a.val * 8 + s.val, by omega⟩ : Fin 8192) k) * val_main_v32 (F := Ideal) x1 (ix3 a s k)) ?_ ?_
    · pointwise [val_main_v48, val_main_cst_2, val_main_v47, val_main_v46, val_main_cst_1, val_main_v45, val_main_v42]
      simp only [Finset.univ_unique, Finset.sum_singleton]
    · simp only [v40_at, v32_at]
  have h59 : ∀ s : Fin 8, val_main_v59 (F := Ideal) x0 x1 (ix2 s k) = ∑ a : Fin 1024, dC x0 x1 k (a.val * 8 + s.val) * back (vIn x1 k) 1 (a.val * 8 + s.val) := fun s => by
    refine Eq.trans (b := ∑ a : Fin 1024, val_main_v40 (F := Ideal) x0 x1 (ix2 (⟨a.val * 8 + s.val, by omega⟩ : Fin 8192) k) * val_main_v23 (F := Ideal) x1 (ix3 a s k)) ?_ ?_
    · pointwise [val_main_v59, val_main_cst_6, val_main_v58, val_main_v57, val_main_cst_5, val_main_v56, val_main_v53]
      simp only [Finset.univ_unique, Finset.sum_singleton]
    · simp only [v40_at, v23_at]
  have h72 : ∀ s : Fin 8, val_main_v72 (F := Ideal) x0 x1 (ix2 s k) = ∑ a : Fin 1024, dC x0 x1 k (a.val * 8 + s.val) * back (vIn x1 k) 2 (a.val * 8 + s.val) := fun s => by
    refine Eq.trans (b := ∑ a : Fin 1024, val_main_v40 (F := Ideal) x0 x1 (ix2 (⟨a.val * 8 + s.val, by omega⟩ : Fin 8192) k) * val_main_v15 (F := Ideal) x1 (ix3 a s k)) ?_ ?_
    · pointwise [val_main_v72, val_main_cst_10, val_main_v71, val_main_v70, val_main_cst_9, val_main_v69, val_main_v66]
      simp only [Finset.univ_unique, Finset.sum_singleton]
    · simp only [v40_at, v15_at]
  refine Eq.trans (b := val_main_v78 (F := Ideal) x0 x1 (ix3 (⟨r.val / 8, by omega⟩ : Fin 3) (⟨r.val % 8, by omega⟩ : Fin 8) k)) ?_ ?_
  · pointwise [val_main_v85]
  have h78 : ∀ (a : Fin 3) (s : Fin 8), val_main_v78 (F := Ideal) x0 x1 (ix3 a s k) = ((if h : 2 ≤ a.val ∧ a.val - 2 < 1 then val_main_v48 (F := Ideal) x0 x1 (ix2 s k) else (0 : EReal))
      + (if h : 1 ≤ a.val ∧ a.val - 1 < 1 then val_main_v59 (F := Ideal) x0 x1 (ix2 s k) else (0 : EReal)))
      + (if h : a.val < 1 then val_main_v72 (F := Ideal) x0 x1 (ix2 s k) else (0 : EReal)) := fun a s => by
    pointwise [val_main_v78, val_main_v65, val_main_v52, val_main_cst_4, val_main_v51, val_main_v64, val_main_cst_8, val_main_v63, val_main_v77, val_main_cst_12, val_main_v76]
  refine Eq.trans (b := ((if h : 2 ≤ r.val / 8 ∧ r.val / 8 - 2 < 1 then val_main_v48 (F := Ideal) x0 x1 (ix2 (⟨r.val % 8, by omega⟩ : Fin 8) k) else (0 : EReal))
    + (if h : 1 ≤ r.val / 8 ∧ r.val / 8 - 1 < 1 then val_main_v59 (F := Ideal) x0 x1 (ix2 (⟨r.val % 8, by omega⟩ : Fin 8) k) else (0 : EReal)))
    + (if h : r.val / 8 < 1 then val_main_v72 (F := Ideal) x0 x1 (ix2 (⟨r.val % 8, by omega⟩ : Fin 8) k) else (0 : EReal))) (h78 _ _) ?_
  unfold tap
  simp only [h48, h59, h72]
  obtain h | h | h : r.val / 8 = 0 ∨ r.val / 8 = 1 ∨ r.val / 8 = 2 := by omega
  · rw [dif_neg (by omega), dif_neg (by omega), dif_pos (by omega), zero_add (M := EReal), zero_add (M := EReal)]
    simp only [h, if_true]
  · rw [dif_neg (by omega), dif_pos (by omega), dif_neg (by omega), zero_add (M := EReal), add_zero (M := EReal)]
    simp only [h]
    rfl
  · rw [dif_pos (by omega), dif_neg (by omega), dif_neg (by omega), add_zero (M := EReal), add_zero (M := EReal)]
    simp only [h]
    rfl

end Reference

section Final
variable (c : Dev nD)

/-- The kernel's gradient of the product at point `t`. -/
theorem g_at (t : Fin cfg0.N) (p k : Fin 512) :
    k0_pay20 (F := Ideal) (k0_pay16 (F := Ideal) (BitVec.ofNat 32 (grid0.coords t 0).val) (k0_pay2 (F := Ideal) (X0_1 m c t)) (k0_pay5 (F := Ideal) (iblk m c 0 t)) (iblk m c 8 t) (iblk m c 6 t) (X0_7 m c t))
        (k0_pay17 (F := Ideal) (iblk m c 8 t)) (k0_pay18 (F := Ideal) (k0_pay2 (F := Ideal) (X0_1 m c t)) (k0_pay5 (F := Ideal) (iblk m c 0 t))) (iota .tc S512x512 32 [0] iota_S512x512_d0_w32)
        (k0_pay19 (F := Ideal) (BitVec.ofNat 32 (grid0.coords t 0).val) (iblk m c 6 t) (X0_7 m c t)) 510#32 (ix2 p k)
      = val_main_v80 (F := Ideal) (m ((c : Thread nD τ).loc main_arg0)) (m ((c : Thread nD τ).loc main_arg1)) (m ((c : Thread nD τ).loc main_arg2)) (ix2 (row t p) k) := by
  have hb : (BitVec.ofNat 32 (grid0.coords t 0).val) = BitVec.ofNat 32 t.val := congrArg (BitVec.ofNat 32) (coord t)
  refine (pay20_at _ _ _ _ _ _ _ (dC (m ((c : Thread nD τ).loc main_arg0)) (m ((c : Thread nD τ).loc main_arg1)) k) p k t.val hb (lt16 t) (fun q => d_blk m c t k q) (fun h q => e_blk m c t h k q)).trans ?_
  rw [pay16_at _ _ _ _ _ _ (dC (m ((c : Thread nD τ).loc main_arg0)) (m ((c : Thread nD τ).loc main_arg1)) k) p k t.val hb (lt16 t) (fun q => d_blk m c t k q) (fun h q => e_blk m c t h k q), v80_at,
    show iblk m c 8 t (ix2 2 k) = _ from blk_w m c t 2 k, show iblk m c 8 t (ix2 1 k) = _ from blk_w m c t 1 k, show iblk m c 8 t (ix2 0 k) = _ from blk_w m c t 0 k]

/-- The kernel's sum of the taps at point `t`. -/
theorem conv_at (t : Fin cfg0.N) (p k : Fin 512) :
    k0_pay13 (F := Ideal) (s0 m c t) (s1 m c t) (k0_pay9 (F := Ideal) (X0_2 m c t) (X0_3 m c t)) (iota .tc S512x512 32 [0] iota_S512x512_d0_w32) (k0_pay10 (F := Ideal) (grid0.coords t) (X0_4 m c t) (X0_5 m c t)) k0_pay11 (iblk m c 8 t) (ix2 p k)
      = val_main_v37 (F := Ideal) (m ((c : Thread nD τ).loc main_arg1)) (m ((c : Thread nD τ).loc main_arg2)) (ix2 (row t p) k) := by
  refine (pay13_at _ _ _ _ _ _ _ _ _).trans ?_
  rw [s0_at, s1_at, show k0_pay12 (F := Ideal) _ _ _ _ (ix2 p k) = _ from s2_at m c t p k, v37_at,
    show iblk m c 8 t (ix2 2 k) = _ from blk_w m c t 2 k, show iblk m c 8 t (ix2 1 k) = _ from blk_w m c t 1 k, show iblk m c 8 t (ix2 0 k) = _ from blk_w m c t 0 k]

/-- The contents of the first result's buffer at point `t`, whichever way the point updates the second. -/
theorem tile_at (t : Fin cfg0.N) (y : S512x1536.Idx) :
    (outsAt0 m c t.val t.isLt).1 y = val_main_v84 (F := Ideal) (m ((c : Thread nD τ).loc main_arg0)) (m ((c : Thread nD τ).loc main_arg1)) (m ((c : Thread nD τ).loc main_arg2)) (ix2 (row t (y 0)) (y 1)) := by
  by_cases h : t.val % 16 = 0
  · rw [outsAt0_A m c t h]
    dsimp only
    frame_out
    canon_tiles x h
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨1024 + k.val, by omega⟩ : Fin 1536)) :=
        congr (congrArg ix2 (Fin.ext (congrArg (fun n => t.val * 512 + n) h0))) (Fin.ext h1)
      refine Eq.trans ?_ ((congrArg _ e).trans (ref_cx _ _ _ _ _)).symm
      refine (pay23_at _ _ _ _ _ _ _ _ _).trans (congr (congrArg (fun a b : EReal => a * b) ?_) ?_)
      · exact g_at m c t p k
      · exact blk_cc m c t p k
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨512 + k.val, by omega⟩ : Fin 1536)) :=
        congr (congrArg ix2 (Fin.ext (congrArg (fun n => t.val * 512 + n) h0))) (Fin.ext h1)
      refine Eq.trans ?_ ((congrArg _ e).trans (ref_cc _ _ _ _ _)).symm
      refine (pay22_at _ _ _ _ _ _ _ _ _).trans (congr (congrArg (fun a b : EReal => a * b) ?_) ?_)
      · exact g_at m c t p k
      · exact blk_cx m c t p k
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨k.val, by omega⟩ : Fin 1536)) :=
        congr (congrArg ix2 (Fin.ext (congrArg (fun n => t.val * 512 + n) h0))) (Fin.ext h1)
      refine Eq.trans ?_ ((congrArg _ e).trans (ref_cb _ _ _ _ _)).symm
      refine (pay21_at _ _ _ _).trans (congr (congrArg (fun a b : EReal => a * b) ?_) ?_)
      · exact blk_dy m c t p k
      · exact conv_at m c t p k
  · rw [outsAt0_B m c t h]
    dsimp only
    frame_out
    canon_tiles x h
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨1024 + k.val, by omega⟩ : Fin 1536)) :=
        congr (congrArg ix2 (Fin.ext (congrArg (fun n => t.val * 512 + n) h0))) (Fin.ext h1)
      refine Eq.trans ?_ ((congrArg _ e).trans (ref_cx _ _ _ _ _)).symm
      refine (pay23_at _ _ _ _ _ _ _ _ _).trans (congr (congrArg (fun a b : EReal => a * b) ?_) ?_)
      · exact g_at m c t p k
      · exact blk_cc m c t p k
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨512 + k.val, by omega⟩ : Fin 1536)) :=
        congr (congrArg ix2 (Fin.ext (congrArg (fun n => t.val * 512 + n) h0))) (Fin.ext h1)
      refine Eq.trans ?_ ((congrArg _ e).trans (ref_cc _ _ _ _ _)).symm
      refine (pay22_at _ _ _ _ _ _ _ _ _).trans (congr (congrArg (fun a b : EReal => a * b) ?_) ?_)
      · exact g_at m c t p k
      · exact blk_cx m c t p k
    · obtain ⟨p, k, rfl⟩ : ∃ (p k : Fin 512), x = ix2 p k := ⟨x 0, x 1, by funext a; match a with | ⟨0, _⟩ => rfl | ⟨1, _⟩ => rfl⟩
      have e : ix2 (row t (y 0)) (y 1) = (ix2 (row t p) (⟨k.val, by omega⟩ : Fin 1536)) :=
        congr (congrArg ix2 (Fin.ext (congrArg (fun n => t.val * 512 + n) h0))) (Fin.ext h1)
      refine Eq.trans ?_ ((congrArg _ e).trans (ref_cb _ _ _ _ _)).symm
      refine (pay21_at _ _ _ _).trans (congr (congrArg (fun a b : EReal => a * b) ?_) ?_)
      · exact blk_dy m c t p k
      · exact conv_at m c t p k

/-- The kernel's gradient of the convolution's input is the reference's. -/
theorem out9 (c : Dev nD) : (dats m 0 c).arrAt 9 cfg0.N
    = val_main_v84 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  have hy : ((View.whole main_v0_0).slice (win0_9.rect t)).emb y = ix2 (row t (y 0)) (y 1) := by
    blk_ext [idx t]
  rw [hy, after0_9]
  exact tile_at m c t _
/-- The kernel's gradient of the taps is the reference's. -/
theorem out10 : (dats m 0 c).arrAt 10 cfg0.N = val_main_v85 (F := Ideal) (m ((c : Thread nD τ).loc main_arg0)) (m ((c : Thread nD τ).loc main_arg1)) := by
  refine (dats m 0 c).arrAt_eq_of_covers 10 _ (by decide +kernel) fun t hf y => ?_
  blk_simp
  have hy : ((View.whole main_v0_1).slice (win0_10.rect t)).emb y = ix2 (y 0) (y 1) := by
    blk_ext [idx t]
  rw [hy]
  idx_vars y
  rw [after0_10, Pipeline.eq_sum_fin_of_reset_step_apply_of_flush (fun n h => (outsAt0 m c n h).2) 16 (fun _ => 0) (part m c)
    (fun t h j => by rw [outsAt0_A m c t h]; dsimp only; frame_out; rw [load2, load1, load0]; exact step m c t _ _ j)
    (fun t h j => by rw [outsAt0_B m c t h]; dsimp only; frame_out; exact step m c t _ _ j)
    t ((flush0_10 t).mp hf) _, zero_add]
  refine Eq.trans ?_ (ref_dw _ _ _ _).symm
  unfold part
  refine Fin.sum_mul_add_congr fun s a hl => ?_
  have ht : t.val < 16 := lt16 t
  have e : (16 * (t.val / 16) + s.val) * 512 + (a.val * 8 + y0.val % 8) = (s.val * 64 + a.val) * 8 + y0.val % 8 := by omega
  show dC _ _ y1 ((16 * (t.val / 16) + s.val) * 512 + (a.val * 8 + y0.val % 8)) * tap _ y1 (y0.val / 8) ((16 * (t.val / 16) + s.val) * 512 + (a.val * 8 + y0.val % 8)) = _
  rw [e]

end Final

end Cert.ConvIdeal.Value

end
-- ==== Proof.FwdConvValue.lean ====
/- The gated convolution over time, its result read element by element. -/
module

public import proofs.«01_k».proof.Proof.Gen.FwdConvIdeal.Value
public import proofs.«01_k».proof.Proof.Gen.FwdConvRefIdeal.Read
public import proofs.«01_k».proof.Proof.ConvShift
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FwdConvIdeal.Value

open Cert.FwdConvIdeal Cert.FwdConvIdeal.Gen Cert.FwdConvRefIdeal.Read Cert.ConvShift

/-- Row `p` of the row tile of point `t`. -/
abbrev row (t : Fin cfg0.N) (p : Fin 512) : Fin 8192 :=
  ⟨t.val * 512 + p.val, by have h : t.val < 16 := lt_of_lt_of_eq t.isLt N_0; omega⟩

/-- Where each window's block sits at point `t`, and the point's coordinate. -/
theorem idx : ∀ t : Fin cfg0.N, win0_0.index t = ![t.val, 7] ∧ win0_1.index t = ![t.val, 8] ∧ win0_2.index t = ![t.val, 9] ∧ win0_3.index t = ![t.val * 64 - 1, 8] ∧ win0_4.index t = ![t.val * 64 - 1, 9] ∧ win0_5.index t = ![0, 0] ∧ win0_6.index t = ![t.val, 0] ∧ (grid0.coords t 0).val = t.val :=
  (by decide +kernel : ∀ t : Fin grid0.N, _)

variable (m : (ℓ : Loc nD τ sig) → Buf (Elt Ideal) ℓ)

/-- The gate of the rows at point `t`. -/
theorem blk_cb (c : Dev nD) (t : Fin cfg0.N) (p : Fin 512) (l : Fin 512) :
    (X0_0 m c t : FVec Ideal S512x512 .bf16) (ix2 p l)
      = (m ((c : Thread nD τ).loc main_arg0)) (ix2 (row t p) (⟨3584 + l.val, by omega⟩ : Fin 5888)) := by
  unfold X0_0 Pipeline.Window.fill
  rw [dif_pos (moved0_0 t _)]
  refine congrArg (m ((c : Thread nD τ).loc main_arg0)) ?_
  blk_ext [iblk, V, idx t]

/-- The first factor of the rows at point `t`. -/
theorem blk_cc (c : Dev nD) (t : Fin cfg0.N) (p : Fin 512) (l : Fin 512) :
    (X0_1 m c t : FVec Ideal S512x512 .bf16) (ix2 p l)
      = (m ((c : Thread nD τ).loc main_arg0)) (ix2 (row t p) (⟨4096 + l.val, by omega⟩ : Fin 5888)) := by
  unfold X0_1 Pipeline.Window.fill
  rw [dif_pos (moved0_1 t _)]
  refine congrArg (m ((c : Thread nD τ).loc main_arg0)) ?_
  blk_ext [iblk, V, idx t]

/-- The second factor of the rows at point `t`. -/
theorem blk_cx (c : Dev nD) (t : Fin cfg0.N) (p : Fin 512) (l : Fin 512) :
    (X0_2 m c t : FVec Ideal S512x512 .bf16) (ix2 p l)
      = (m ((c : Thread nD τ).loc main_arg0)) (ix2 (row t p) (⟨4608 + l.val, by omega⟩ : Fin 5888)) := by
  unfold X0_2 Pipeline.Window.fill
  rw [dif_pos (moved0_2 t _)]
  refine congrArg (m ((c : Thread nD τ).loc main_arg0)) ?_
  blk_ext [iblk, V, idx t]

/-- The first factor of the eight rows before. -/
theorem blk_pc (c : Dev nD) (t : Fin cfg0.N) (p : Fin 8) (l : Fin 512) :
    (X0_3 m c t : FVec Ideal S8x512 .bf16) (ix2 p l)
      = (m ((c : Thread nD τ).loc main_arg0)) (ix2 (⟨(t.val * 64 - 1) * 8 + p.val, by have h : t.val < 16 := lt_of_lt_of_eq t.isLt N_0; omega⟩ : Fin 8192) (⟨4096 + l.val, by omega⟩ : Fin 5888)) := by
  unfold X0_3 Pipeline.Window.fill
  rw [dif_pos (moved0_3 t _)]
  refine congrArg (m ((c : Thread nD τ).loc main_arg0)) ?_
  blk_ext [iblk, V, idx t]

/-- The second factor of the eight rows before. -/
theorem blk_px (c : Dev nD) (t : Fin cfg0.N) (p : Fin 8) (l : Fin 512) :
    (X0_4 m c t : FVec Ideal S8x512 .bf16) (ix2 p l)
      = (m ((c : Thread nD τ).loc main_arg0)) (ix2 (⟨(t.val * 64 - 1) * 8 + p.val, by have h : t.val < 16 := lt_of_lt_of_eq t.isLt N_0; omega⟩ : Fin 8192) (⟨4608 + l.val, by omega⟩ : Fin 5888)) := by
  unfold X0_4 Pipeline.Window.fill
  rw [dif_pos (moved0_4 t _)]
  refine congrArg (m ((c : Thread nD τ).loc main_arg0)) ?_
  blk_ext [iblk, V, idx t]

/-- The taps. -/
theorem blk_w (c : Dev nD) (t : Fin cfg0.N) (p : Fin 3) (l : Fin 512) :
    (show FVec Ideal S3x512 .f32 from iblk m c 5 t) (ix2 p l) = (m ((c : Thread nD τ).loc main_arg1)) (ix2 (p) l) := by
  blk_point [iblk, V, idx t]

/-- A product of two entries. -/
abbrev term (a b : EReal) : EReal := a * b

/-- A gate times the sum of three taps. -/
abbrev gv (g a b c u v w : EReal) : EReal := g * (a * u + b * v + c * w)

/-- The product of the two factors at row `r`, column `k` of the convolution's input. -/
def vIn (x : FVec Ideal S8192x5888 .bf16) (k : Fin 512) (r : ℕ) : EReal :=
  if h : r < 8192 then x (ix2 (⟨r, h⟩ : Fin 8192) (⟨4096 + k.val, by omega⟩ : Fin 5888)) * x (ix2 (⟨r, h⟩ : Fin 8192) (⟨4608 + k.val, by omega⟩ : Fin 5888)) else 0

/-- The result at row `i`, column `k`: the gate times the three taps' sum. -/
abbrev gated (x : FVec Ideal S8192x5888 .bf16) (w : FVec Ideal S3x512 .f32) (i : Fin 8192) (k : Fin 512) : EReal :=
  x (ix2 i (⟨3584 + k.val, by omega⟩ : Fin 5888)) * (w (ix2 2 k) * vIn x k i.val + w (ix2 1 k) * back (vIn x k) 1 i.val + w (ix2 0 k) * back (vIn x k) 2 i.val)

/-- The product of the two factors at point `t`. -/
theorem v_blk (c : Dev nD) (t : Fin cfg0.N) (k p : Fin 512) :
    term ((X0_1 m c t : FVec Ideal S512x512 .bf16) (ix2 p k)) ((X0_2 m c t : FVec Ideal S512x512 .bf16) (ix2 p k)) = vIn (m ((c : Thread nD τ).loc main_arg0)) k (t.val * 512 + p.val) := by
  have h : t.val < 16 := lt_of_lt_of_eq t.isLt N_0
  unfold vIn term
  rw [dif_pos (by omega), blk_cc m c t p k, blk_cx m c t p k]

/-- The product of the two factors in the eight rows before. -/
theorem h_blk (c : Dev nD) (t : Fin cfg0.N) (k : Fin 512) (p : Fin 8) :
    term ((X0_3 m c t : FVec Ideal S8x512 .bf16) (ix2 p k)) ((X0_4 m c t : FVec Ideal S8x512 .bf16) (ix2 p k)) = vIn (m ((c : Thread nD τ).loc main_arg0)) k ((t.val * 64 - 1) * 8 + p.val) := by
  have h : t.val < 16 := lt_of_lt_of_eq t.isLt N_0
  unfold vIn term
  rw [dif_pos (by omega), blk_pc m c t p k, blk_px m c t p k]

/-- The kernel's product moved down by two rows. -/
theorem pay5_at (i : grid0.Coords) (a b : FVec Ideal S512x512 .bf16) (e f : FVec Ideal S8x512 .bf16) (V : ℕ → EReal) (p k : Fin 512) (hi : (i 0).val < 16)
    (hv : ∀ q : Fin 512, a (ix2 q k) * b (ix2 q k) = V ((i 0).val * 512 + q.val)) (hh : (i 0).val ≠ 0 → ∀ q : Fin 8, e (ix2 q k) * f (ix2 q k) = V (((i 0).val * 64 - 1) * 8 + q.val)) :
    k0_pay5 (F := Ideal) i a b e f (ix2 p k) = back V 2 ((i 0).val * 512 + p.val) := by
  refine Eq.trans ?_ (shift2 V (i 0).val hi (fun q => a (ix2 q k) * b (ix2 q k)) (fun q => e (ix2 q k) * f (ix2 q k)) hv hh p)
  pointwise [k0_pay5, k0_pay2, k0_pay3]

/-- The kernel's sum of the last two taps. -/
theorem pay4_at (i : grid0.Coords) (a b : FVec Ideal S512x512 .bf16) (e f : FVec Ideal S8x512 .bf16) (w : FVec Ideal S3x512 .f32) (V : ℕ → EReal) (p k : Fin 512) (hi : (i 0).val < 16)
    (hv : ∀ q : Fin 512, a (ix2 q k) * b (ix2 q k) = V ((i 0).val * 512 + q.val)) (hh : (i 0).val ≠ 0 → ∀ q : Fin 8, e (ix2 q k) * f (ix2 q k) = V (((i 0).val * 64 - 1) * 8 + q.val)) :
    k0_pay4 (F := Ideal) i a b e f w (ix2 p k) = w (ix2 2 k) * V ((i 0).val * 512 + p.val) + w (ix2 1 k) * back V 1 ((i 0).val * 512 + p.val) := by
  rw [← shift1 V (i 0).val hi (fun q => a (ix2 q k) * b (ix2 q k)) (fun q => e (ix2 q k) * f (ix2 q k)) hv hh p, ← hv p]
  pointwise [k0_pay4, k0_pay2, k0_pay3]

/-- The kernel's gated sum of the taps, its three taps given. -/
theorem pay1_at (u s w0 : FVec Ideal S512x512 .f32) (g : FVec Ideal S512x512 .bf16) (p k : Fin 512) :
    k0_pay1 (F := Ideal) u s w0 g (ix2 p k) = g (ix2 p k) * (u (ix2 p k) + w0 (ix2 p k) * s (ix2 p k)) := by
  pointwise [k0_pay1]

/-- The kernel's first tap. -/
theorem pay6_at (w : FVec Ideal S3x512 .f32) (p k : Fin 512) : k0_pay6 (F := Ideal) w (ix2 p k) = w (ix2 0 k) := by
  pointwise [k0_pay6]

/-- The reference's padded product, moved, is the product moved down. -/
theorem back_eq (x : FVec Ideal S8192x5888 .bf16) (k : Fin 512) (j r s : ℕ) (hr : r < 8192) (hs : s + j = r + 2) (z : EReal) (hz : z = 0) :
    (if h : 2 ≤ s ∧ s - 2 < 8192 then x (ix2 (⟨s - 2, h.2⟩ : Fin 8192) (⟨4096 + k.val, by omega⟩ : Fin 5888)) * x (ix2 (⟨s - 2, h.2⟩ : Fin 8192) (⟨4608 + k.val, by omega⟩ : Fin 5888)) else z)
      = back (vIn x k) j r := by
  unfold back vIn
  obtain rfl : s = r + 2 - j := by omega
  by_cases hj : j ≤ r
  · have e : r + 2 - j - 2 = r - j := by omega
    rw [dif_pos ⟨by omega, by omega⟩, if_pos hj, dif_pos (by omega)]
    simp only [e]
  · rw [dif_neg (fun h => hj (by omega)), if_neg hj, hz]

/-- The reference's result, read at an entry. -/
theorem ref_at (x : FVec Ideal S8192x5888 .bf16) (w : FVec Ideal S3x512 .f32) (i : Fin 8192) (k : Fin 512) :
    val_main_v29 (F := Ideal) x w (ix2 i k) = gated x w i k := by
  have h2 := back_eq x k 2 i.val i.val i.isLt rfl (FloatOps.sitofp (F := Ideal) .f32 (0#32 : BitVec 32)) (sitofp_zero (φ := FTy.f32))
  have h1 := back_eq x k 1 i.val (1 + i.val) i.isLt (by omega) (FloatOps.sitofp (F := Ideal) .f32 (0#32 : BitVec 32)) (sitofp_zero (φ := FTy.f32))
  have h0 : vIn x k i.val = x (ix2 i (⟨4096 + k.val, by omega⟩ : Fin 5888)) * x (ix2 i (⟨4608 + k.val, by omega⟩ : Fin 5888)) := by
    unfold vIn; rw [dif_pos i.isLt]
  show _ = x (ix2 i (⟨3584 + k.val, by omega⟩ : Fin 5888)) * (w (ix2 2 k) * vIn x k i.val + w (ix2 1 k) * back (vIn x k) 1 i.val + w (ix2 0 k) * back (vIn x k) 2 i.val)
  rw [← h2, ← h1, h0]
  pointwise [val_main_v29, val_main_v28, val_main_v1, val_main_v0, val_main_v27, val_main_v20, val_main_v13, val_main_v10, val_main_v7, val_main_call0_v0, val_main_c, val_main_v6, val_main_v3, val_main_v2, val_main_v5, val_main_v4, val_main_v12, val_main_v11, val_main_v9, val_main_v8, val_main_v19, val_main_v16, val_main_v18, val_main_v17, val_main_v15, val_main_v14, val_main_v26, val_main_v23, val_main_v25, val_main_v24, val_main_v22, val_main_v21]
  exact congrArg (fun e : EReal => x (ix2 i (⟨3584 + k.val, by omega⟩ : Fin 5888)) * e) (swap3 _ _ _)

/-- The kernel's gated convolution is the reference's. -/
theorem out6 (c : Dev nD) : (dats m 0 c).arrAt 6 cfg0.N
    = val_main_v29 (F := Ideal) (m ((c : Thread nD τ).loc main_arg0)) (m ((c : Thread nD τ).loc main_arg1)) := by
  refine (dats m 0 c).arrAt_eq_of_covers 6 _ (by decide +kernel) fun t hf y => ?_
  blk_simp
  have hy : ((View.whole main_v0).slice (win0_6.rect t)).emb y = ix2 (row t (y 0)) (y 1) := by
    blk_ext [idx t]
  rw [hy, after0_6]
  refine Eq.trans ?_ (ref_at _ _ _ _).symm
  idx_vars y
  unfold outsAt0
  frame_out
  have hc : (grid0.coords t 0).val = t.val := (idx t).2.2.2.2.2.2.2
  refine (pay1_at _ _ _ _ _ _).trans ?_
  rw [pay5_at (grid0.coords t) _ _ _ _ (vIn (m ((c : Thread nD τ).loc main_arg0)) y1) y0 y1 (by rw [hc]; exact lt_of_lt_of_eq t.isLt N_0) (by rw [hc]; exact fun q => v_blk m c t y1 q) (by rw [hc]; exact fun _ q => h_blk m c t y1 q),
    pay4_at (grid0.coords t) _ _ _ _ _ (vIn (m ((c : Thread nD τ).loc main_arg0)) y1) y0 y1 (by rw [hc]; exact lt_of_lt_of_eq t.isLt N_0) (by rw [hc]; exact fun q => v_blk m c t y1 q) (by rw [hc]; exact fun _ q => h_blk m c t y1 q), hc, pay6_at]
  show gv _ _ _ _ _ _ _ = gv _ _ _ _ _ _ _
  rw [blk_cb m c t y0 y1, show iblk m c 5 t (ix2 2 y1) = _ from blk_w m c t 2 y1, show iblk m c 5 t (ix2 1 y1) = _ from blk_w m c t 1 y1,
    show iblk m c 5 t (ix2 0 y1) = _ from blk_w m c t 0 y1]
end Cert.FwdConvIdeal.Value

end
-- ==== Proof.ConvClaims.lean ====
/- The gated convolution over time, forward and backward: the kernels' results are the references', with no precondition. -/
module

public import proofs.«01_k».proof.Defs
public import proofs.«01_k».proof.Proof.ConvValue
public import proofs.«01_k».proof.Proof.Gen.ConvRefIdeal.Run
public import proofs.«01_k».proof.Proof.FwdConvValue
public import proofs.«01_k».proof.Proof.Gen.FwdConvRefIdeal.Run
public import Idealize.ShloMosaic.Lib.Claim

@[expose] public section

set_option maxRecDepth 16384

noncomputable section

namespace Cert.Proof

open Idealize.ShloMosaic Idealize.ShloMosaic.TcCoe Idealize.SL.Sem

/-- From equal arguments both programs end with equal results: the gradient of the gated convolution. -/
theorem algebraic_conv : Cert.algebraic_ConvIdeal_ConvRefIdeal := by
  pair_intro
  · run_from Cert.ConvIdeal.Value.run_blocks m g
  · run_from Cert.ConvRefIdeal.Value.run m' g'
    · refine (Cert.ConvRefIdeal.Read.val_main_v84_eq m' c).trans (Eq.trans ?_ (Cert.ConvIdeal.Value.out9 m c).symm)
      rw [(hagree c).1, (hagree c).2.1, (hagree c).2.2]
    · rw [(hagree c).2.1]
      exact (Cert.ConvRefIdeal.Read.val_main_v85_eq _ _).trans (Cert.ConvIdeal.Value.out10 m c).symm

/-- The reference's run ends, with its arguments unchanged. -/
theorem frame_conv_ref : Cert.quiescent_ConvRefIdeal := fun m ρ _ =>
  (θ_run Cert.ConvRefIdeal.defs _ _).mono (fun r h => ⟨fun c => (h c).2.2,
      Idealize.ShloMosaic.sem_eq_zero_of_no_sems (by decide) r.2⟩)
    (Cert.ConvRefIdeal.Value.run (F := Ideal) m ρ)

/-- From equal arguments both programs end with equal results: the gated convolution. -/
theorem algebraic_fwd_conv : Cert.algebraic_FwdConvIdeal_FwdConvRefIdeal := by
  pair_intro
  · run_from Cert.FwdConvIdeal.Value.run_blocks m g
  · run_from Cert.FwdConvRefIdeal.Value.run m' g'
    exact (Cert.FwdConvIdeal.Value.out6 m c).symm

/-- The reference's run ends, with its arguments unchanged. -/
theorem frame_fwd_conv_ref : Cert.quiescent_FwdConvRefIdeal := fun m ρ _ =>
  (θ_run Cert.FwdConvRefIdeal.defs _ _).mono (fun r h => ⟨fun c => (h c).2,
      Idealize.ShloMosaic.sem_eq_zero_of_no_sems (by decide) r.2⟩)
    (Cert.FwdConvRefIdeal.Value.run (F := Ideal) m ρ)

end Cert.Proof

end
-- ==== Proof.WFfnInValue.lean ====
/- The weight gradient of either half of the feed-forward input, its result read element by element. -/
module

public import proofs.«01_k».proof.Proof.Gen.WFfnInIdeal.Value
public import proofs.«01_k».proof.Proof.Gen.WFfnInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WFfnInIdeal.Value

open Cert.WFfnInIdeal Cert.WFfnInIdeal.Gen Cert.WFfnInRefIdeal.Read

/-- Row `q` of the row tile of point `t`. -/
abbrev row (t : Fin cfg0.N) (q : Fin 1024) : Fin 8192 := ⟨t.val % 8 * 1024 + q.val, by omega⟩

/-- Column `n` of the result's tile at point `t`. -/
abbrev ncol (t : Fin cfg0.N) (n : Fin 1408) : Fin 2816 := ⟨t.val / 8 * 1408 + n.val, by have h : t.val < 16 := lt_of_lt_of_eq t.isLt N_0; omega⟩

/-- Where each window's block sits at point `t`. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1024) :
    (show FVec Ideal S1024x1024 .bf16 from iblk m c 0 t) (ix2 q k) = (m ((c : Thread nD τ).loc main_arg0)) (ix2 (row t q) k) := by
  blk_point [iblk, V, idx t]

/-- The tile of the gradient of the product at point `t`. -/
theorem blk_d (c : Dev nD) (t : Fin cfg0.N) (q : Fin 1024) (n : Fin 1408) :
    (show FVec Ideal S1024x1408 .bf16 from iblk m c 1 t) (ix2 q n) = (m ((c : Thread nD τ).loc main_arg1)) (ix2 (row t q) (ncol t n)) := by
  blk_point [iblk, V, idx t]

/-- One row tile's step: the product of the tiles is added to what was accumulated. -/
theorem step_at (x : FVec Ideal S1024x1024 .bf16) (d : FVec Ideal S1024x1408 .bf16) (acc : FVec Ideal S1024x1408 .f32) (k : Fin 1024) (n : Fin 1408) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x1024 .bf16) (d : FVec Ideal S8192x2816 .bf16) (i : Fin 8192) (k : Fin 1024) (n : Fin 2816) : EReal :=
  x (ix2 i k) * d (ix2 i n)

/-- What point `t` adds to the result. -/
def part (c : Dev nD) (t : Fin cfg0.N) (j : S1024x1408.Idx) : EReal :=
  ∑ q : Fin 1024, term (m ((c : Thread nD τ).loc main_arg0)) (m ((c : Thread nD τ).loc main_arg1)) (row t q) (j 0) (ncol t (j 1))

/-- One point's step of the result. -/
theorem point (c : Dev nD) (t : Fin cfg0.N) (acc : FVec Ideal S1024x1408 .f32) (j : S1024x1408.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S1024x1408.Idx) : k0_pay1 (F := Ideal) j = 0 := by
  pointwise [k0_pay1]

/-- The reference's weight gradient, read at an entry. -/
theorem ref_at (x0 : FVec Ideal S8192x1024 .bf16) (x1 : FVec Ideal S8192x2816 .bf16) (k : Fin 1024) (n : Fin 2816) :
    val_main_v7 (F := Ideal) x0 x1 (ix2 k n) = ∑ i : Fin 8192, x1 (ix2 i n) * x0 (ix2 i k) := by
  have hn : n.val < 2816 := n.isLt
  pointwise [val_main_v7, val_main_v5, val_main_v4, val_main_v0, val_main_v2]

/-- The kernel's array is the reference's weight gradient. -/
theorem dw2 (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (y 0) (ncol t (y 1)) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 16 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  have en : ∀ h1, ncol ⟨8 * (t.val / 8) + s.val, h1⟩ y1 = ncol t y1 := fun _ => Fin.ext (by
    show (8 * (t.val / 8) + s.val) / 8 * 1408 + y1.val = t.val / 8 * 1408 + y1.val
    omega)
  refine Eq.trans ?_ (EReal.mul_comm _ _)
  exact congr (congr (congrArg (term (m ((c : Thread nD τ).loc main_arg0)) (m ((c : Thread nD τ).loc main_arg1))) (er _)) rfl) (en _)

end Cert.WFfnInIdeal.Value

end
-- ==== Proof.WFfnOutValue.lean ====
/- The weight gradient of the feed-forward output, its result read element by element. -/
module

public import proofs.«01_k».proof.Proof.Gen.WFfnOutIdeal.Value
public import proofs.«01_k».proof.Proof.Gen.WFfnOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WFfnOutIdeal.Value

open Cert.WFfnOutIdeal Cert.WFfnOutIdeal.Gen Cert.WFfnOutRefIdeal.Read

/-- Row `q` of the row tile of point `t`. -/
abbrev row (t : Fin cfg0.N) (q : Fin 1024) : Fin 8192 := ⟨t.val % 8 * 1024 + q.val, by omega⟩

/-- Row `k` of the result's tile at point `t`. -/
abbrev kcol (t : Fin cfg0.N) (k : Fin 1408) : Fin 2816 := ⟨t.val / 8 * 1408 + k.val, by have h : t.val < 16 := lt_of_lt_of_eq t.isLt N_0; omega⟩

/-- Where each window's block sits at point `t`. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1408) :
    (show FVec Ideal S1024x1408 .bf16 from iblk m c 0 t) (ix2 q k) = (m ((c : Thread nD τ).loc main_arg0)) (ix2 (row t q) (kcol t k)) := by
  blk_point [iblk, V, idx t]

/-- The tile of the gradient of the product at point `t`. -/
theorem blk_d (c : Dev nD) (t : Fin cfg0.N) (q : Fin 1024) (n : Fin 1024) :
    (show FVec Ideal S1024x1024 .f32 from iblk m c 1 t) (ix2 q n) = (m ((c : Thread nD τ).loc main_arg1)) (ix2 (row t q) n) := by
  blk_point [iblk, V, idx t]

/-- One row tile's step: the product of the tiles is added to what was accumulated. -/
theorem step_at (x : FVec Ideal S1024x1408 .bf16) (d : FVec Ideal S1024x1024 .f32) (acc : FVec Ideal S1408x1024 .f32) (k : Fin 1408) (n : Fin 1024) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x2816 .bf16) (d : FVec Ideal S8192x1024 .f32) (i : Fin 8192) (k : Fin 2816) (n : Fin 1024) : EReal :=
  x (ix2 i k) * d (ix2 i n)

/-- What point `t` adds to the result. -/
def part (c : Dev nD) (t : Fin cfg0.N) (j : S1408x1024.Idx) : EReal :=
  ∑ q : Fin 1024, term (m ((c : Thread nD τ).loc main_arg0)) (m ((c : Thread nD τ).loc main_arg1)) (row t q) (kcol t (j 0)) (j 1)

/-- One point's step of the result. -/
theorem point (c : Dev nD) (t : Fin cfg0.N) (acc : FVec Ideal S1408x1024 .f32) (j : S1408x1024.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S1408x1024.Idx) : k0_pay1 (F := Ideal) j = 0 := by
  pointwise [k0_pay1]

/-- The reference's weight gradient, read at an entry. -/
theorem ref_at (x0 : FVec Ideal S8192x2816 .bf16) (x1 : FVec Ideal S8192x1024 .f32) (k : Fin 2816) (n : Fin 1024) :
    val_main_v6 (F := Ideal) x0 x1 (ix2 k n) = ∑ i : Fin 8192, x1 (ix2 i n) * x0 (ix2 i k) := by
  have hn : n.val < 1024 := n.isLt
  pointwise [val_main_v6, val_main_v4, val_main_v3, val_main_v1]

/-- The kernel's array is the reference's weight gradient. -/
theorem dw2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (kcol t (y 0)) (y 1) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 16 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  have ek : ∀ h1, kcol ⟨8 * (t.val / 8) + s.val, h1⟩ y0 = kcol t y0 := fun _ => Fin.ext (by
    show (8 * (t.val / 8) + s.val) / 8 * 1408 + y0.val = t.val / 8 * 1408 + y0.val
    omega)
  refine Eq.trans ?_ (EReal.mul_comm _ _)
  exact congr (congr (congrArg (term (m ((c : Thread nD τ).loc main_arg0)) (m ((c : Thread nD τ).loc main_arg1))) (er _)) (ek _)) rfl

end Cert.WFfnOutIdeal.Value

end
-- ==== Proof.WGatesValue.lean ====
/- The weight gradient of the three gates, its result read element by element. -/
module

public import proofs.«01_k».proof.Proof.Gen.WGatesIdeal.Value
public import proofs.«01_k».proof.Proof.Gen.WGatesRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WGatesIdeal.Value

open Cert.WGatesIdeal Cert.WGatesIdeal.Gen Cert.WGatesRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![t.val % 8, 0] ∧ win0_3.index t = ![t.val % 8, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1024) :
    (show FVec Ideal S1024x1024 .bf16 from iblk m c 0 t) (ix2 q k) = (m ((c : Thread nD τ).loc main_arg0)) (ix2 (row t q) k) := by
  blk_point [iblk, V, idx t]

/-- The tile of the gradient of the product 1 at point `t`. -/
theorem blk_d0 (c : Dev nD) (t : Fin cfg0.N) (q : Fin 1024) (n : Fin 1024) :
    (show FVec Ideal S1024x1024 .bf16 from iblk m c 1 t) (ix2 q n) = (m ((c : Thread nD τ).loc main_arg1)) (ix2 (row t q) n) := by
  blk_point [iblk, V, idx t]

/-- One row tile's step: the product of the tiles is added to what was accumulated. -/
theorem step0_at (x : FVec Ideal S1024x1024 .bf16) (d : FVec Ideal S1024x1024 .bf16) (acc : FVec Ideal S1024x1024 .f32) (k : Fin 1024) (n : Fin 1024) :
    k0_pay4 (F := Ideal) x acc d (ix2 k n) = acc (ix2 k n) + ∑ q : Fin 1024, x (ix2 q k) * d (ix2 q n) := by
  pointwise [k0_pay4]

/-- What row `i` adds to an entry of the result. -/
abbrev term0 (x : FVec Ideal S8192x1024 .bf16) (d : FVec Ideal S8192x1024 .bf16) (i : Fin 8192) (k : Fin 1024) (n : Fin 1024) : EReal :=
  x (ix2 i k) * d (ix2 i n)

/-- What point `t` adds to the result. -/
def part0 (c : Dev nD) (t : Fin cfg0.N) (j : S1024x1024.Idx) : EReal :=
  ∑ q : Fin 1024, term0 (m ((c : Thread nD τ).loc main_arg0)) (m ((c : Thread nD τ).loc main_arg1)) (row t q) (j 0) (j 1)

/-- One point's step of the result. -/
theorem point0 (c : Dev nD) (t : Fin cfg0.N) (acc : FVec Ideal S1024x1024 .f32) (j : S1024x1024.Idx) :
    k0_pay4 (F := Ideal) (iblk m c 0 t) acc (iblk m c 1 t) j = acc j + part0 m c t j := by
  idx_vars j
  exact (step0_at _ _ acc _ _).trans (congrArg _ (Finset.sum_congr rfl fun q _ =>
    congr (congrArg _ (blk_x m c t q _)) (blk_d0 m c t q _)))

/-- The accumulation starts at zero. -/
theorem zero0 (j : S1024x1024.Idx) : k0_pay1 (F := Ideal) j = 0 := by
  pointwise [k0_pay1]

/-- The reference's weight gradient, read at an entry. -/
theorem ref0_at (x0 x1 x2 x3 : FVec Ideal S8192x1024 .bf16) (k : Fin 1024) (n : Fin 1024) :
    val_main_v10 (F := Ideal) x0 x1 x2 x3 (ix2 k n) = ∑ i : Fin 8192, x1 (ix2 i n) * x0 (ix2 i k) := by
  have hn : n.val < 1024 := n.isLt
  pointwise [val_main_v10, val_main_v8, val_main_v7, val_main_v3, val_main_v0, val_main_v1, val_main_v2, val_main_v5]

/-- The kernel's array is the reference's weight gradient. -/
theorem dw4 (c : Dev nD) : (dats m 0 c).arrAt 4 cfg0.N
    = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have hy : ((View.whole main_v0_0).slice (win0_4.rect t)).emb y = ix2 (y 0) (y 1) := by
    blk_ext [idx t]
  rw [hy]
  idx_vars y
  rw [after0_4, Pipeline.eq_sum_fin_of_reset_step_apply_of_flush (fun n h => (outsAt0 m c n h).1) 8 (fun _ => 0) _
    (fun t h j => by rw [outsAt0_A m c t h]; frame_out; rw [point0 m c, zero0])
    (fun t h j => by rw [outsAt0_B m c t h]; frame_out; rw [point0 m c])
    t ((flush0_4 t).mp hf) _, zero_add]
  refine Eq.trans ?_ (ref0_at _ _ _ _ _ _).symm
  unfold part0
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term0 (m ((c : Thread nD τ).loc main_arg0)) (m ((c : Thread nD τ).loc main_arg1))) (er _)) rfl) rfl

/-- The tile of the gradient of the product 2 at point `t`. -/
theorem blk_d1 (c : Dev nD) (t : Fin cfg0.N) (q : Fin 1024) (n : Fin 1024) :
    (show FVec Ideal S1024x1024 .bf16 from iblk m c 2 t) (ix2 q n) = (m ((c : Thread nD τ).loc main_arg2)) (ix2 (row t q) n) := by
  blk_point [iblk, V, idx t]

/-- One row tile's step: the product of the tiles is added to what was accumulated. -/
theorem step1_at (x : FVec Ideal S1024x1024 .bf16) (d : FVec Ideal S1024x1024 .bf16) (acc : FVec Ideal S1024x1024 .f32) (k : Fin 1024) (n : Fin 1024) :
    k0_pay5 (F := Ideal) x acc d (ix2 k n) = acc (ix2 k n) + ∑ q : Fin 1024, x (ix2 q k) * d (ix2 q n) := by
  pointwise [k0_pay5]

/-- What row `i` adds to an entry of the result. -/
abbrev term1 (x : FVec Ideal S8192x1024 .bf16) (d : FVec Ideal S8192x1024 .bf16) (i : Fin 8192) (k : Fin 1024) (n : Fin 1024) : EReal :=
  x (ix2 i k) * d (ix2 i n)

/-- What point `t` adds to the result. -/
def part1 (c : Dev nD) (t : Fin cfg0.N) (j : S1024x1024.Idx) : EReal :=
  ∑ q : Fin 1024, term1 (m ((c : Thread nD τ).loc main_arg0)) (m ((c : Thread nD τ).loc main_arg2)) (row t q) (j 0) (j 1)

/-- One point's step of the result. -/
theorem point1 (c : Dev nD) (t : Fin cfg0.N) (acc : FVec Ideal S1024x1024 .f32) (j : S1024x1024.Idx) :
    k0_pay5 (F := Ideal) (iblk m c 0 t) acc (iblk m c 2 t) j = acc j + part1 m c t j := by
  idx_vars j
  exact (step1_at _ _ acc _ _).trans (congrArg _ (Finset.sum_congr rfl fun q _ =>
    congr (congrArg _ (blk_x m c t q _)) (blk_d1 m c t q _)))

/-- The accumulation starts at zero. -/
theorem zero1 (j : S1024x1024.Idx) : k0_pay2 (F := Ideal) j = 0 := by
  pointwise [k0_pay2]

/-- The reference's weight gradient, read at an entry. -/
theorem ref1_at (x0 x1 x2 x3 : FVec Ideal S8192x1024 .bf16) (k : Fin 1024) (n : Fin 1024) :
    val_main_v11 (F := Ideal) x0 x1 x2 x3 (ix2 k n) = ∑ i : Fin 8192, x2 (ix2 i n) * x0 (ix2 i k) := by
  have hn : n.val < 1024 := n.isLt
  pointwise [val_main_v11, val_main_v8, val_main_v7, val_main_v3, val_main_v0, val_main_v1, val_main_v2, val_main_v5]

/-- The kernel's array is the reference's weight gradient. -/
theorem dw5 (c : Dev nD) : (dats m 0 c).arrAt 5 cfg0.N
    = val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have hy : ((View.whole main_v0_1).slice (win0_5.rect t)).emb y = ix2 (y 0) (y 1) := by
    blk_ext [idx t]
  rw [hy]
  idx_vars y
  rw [after0_5, Pipeline.eq_sum_fin_of_reset_step_apply_of_flush (fun n h => (outsAt0 m c n h).2.1) 8 (fun _ => 0) _
    (fun t h j => by rw [outsAt0_A m c t h]; frame_out; rw [point1 m c, zero1])
    (fun t h j => by rw [outsAt0_B m c t h]; frame_out; rw [point1 m c])
    t ((flush0_5 t).mp hf) _, zero_add]
  refine Eq.trans ?_ (ref1_at _ _ _ _ _ _).symm
  unfold part1
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term1 (m ((c : Thread nD τ).loc main_arg0)) (m ((c : Thread nD τ).loc main_arg2))) (er _)) rfl) rfl

/-- The tile of the gradient of the product 3 at point `t`. -/
theorem blk_d2 (c : Dev nD) (t : Fin cfg0.N) (q : Fin 1024) (n : Fin 1024) :
    (show FVec Ideal S1024x1024 .bf16 from iblk m c 3 t) (ix2 q n) = (m ((c : Thread nD τ).loc main_arg3)) (ix2 (row t q) n) := by
  blk_point [iblk, V, idx t]

/-- One row tile's step: the product of the tiles is added to what was accumulated. -/
theorem step2_at (x : FVec Ideal S1024x1024 .bf16) (d : FVec Ideal S1024x1024 .bf16) (acc : FVec Ideal S1024x1024 .f32) (k : Fin 1024) (n : Fin 1024) :
    k0_pay6 (F := Ideal) x acc d (ix2 k n) = acc (ix2 k n) + ∑ q : Fin 1024, x (ix2 q k) * d (ix2 q n) := by
  pointwise [k0_pay6]

/-- What row `i` adds to an entry of the result. -/
abbrev term2 (x : FVec Ideal S8192x1024 .bf16) (d : FVec Ideal S8192x1024 .bf16) (i : Fin 8192) (k : Fin 1024) (n : Fin 1024) : EReal :=
  x (ix2 i k) * d (ix2 i n)

/-- What point `t` adds to the result. -/
def part2 (c : Dev nD) (t : Fin cfg0.N) (j : S1024x1024.Idx) : EReal :=
  ∑ q : Fin 1024, term2 (m ((c : Thread nD τ).loc main_arg0)) (m ((c : Thread nD τ).loc main_arg3)) (row t q) (j 0) (j 1)

/-- One point's step of the result. -/
theorem point2 (c : Dev nD) (t : Fin cfg0.N) (acc : FVec Ideal S1024x1024 .f32) (j : S1024x1024.Idx) :
    k0_pay6 (F := Ideal) (iblk m c 0 t) acc (iblk m c 3 t) j = acc j + part2 m c t j := by
  idx_vars j
  exact (step2_at _ _ acc _ _).trans (congrArg _ (Finset.sum_congr rfl fun q _ =>
    congr (congrArg _ (blk_x m c t q _)) (blk_d2 m c t q _)))

/-- The accumulation starts at zero. -/
theorem zero2 (j : S1024x1024.Idx) : k0_pay3 (F := Ideal) j = 0 := by
  pointwise [k0_pay3]

/-- The reference's weight gradient, read at an entry. -/
theorem ref2_at (x0 x1 x2 x3 : FVec Ideal S8192x1024 .bf16) (k : Fin 1024) (n : Fin 1024) :
    val_main_v12 (F := Ideal) x0 x1 x2 x3 (ix2 k n) = ∑ i : Fin 8192, x3 (ix2 i n) * x0 (ix2 i k) := by
  have hn : n.val < 1024 := n.isLt
  pointwise [val_main_v12, val_main_v8, val_main_v7, val_main_v3, val_main_v0, val_main_v1, val_main_v2, val_main_v5]
  refine Finset.sum_congr rfl fun i _ => ?_
  rw [dif_neg (by omega), dif_neg (by omega)]
  exact congrArg (fun l : Fin 1024 => x3 (ix2 i l) * x0 (ix2 i k)) (Fin.ext (by
    show 2048 + n.val - 1024 - 1024 = n.val
    omega))

/-- The kernel's array is the reference's weight gradient. -/
theorem dw6 (c : Dev nD) : (dats m 0 c).arrAt 6 cfg0.N
    = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have hy : ((View.whole main_v0_2).slice (win0_6.rect t)).emb y = ix2 (y 0) (y 1) := by
    blk_ext [idx t]
  rw [hy]
  idx_vars y
  rw [after0_6, Pipeline.eq_sum_fin_of_reset_step_apply_of_flush (fun n h => (outsAt0 m c n h).2.2) 8 (fun _ => 0) _
    (fun t h j => by rw [outsAt0_A m c t h]; frame_out; rw [point2 m c, zero2])
    (fun t h j => by rw [outsAt0_B m c t h]; frame_out; rw [point2 m c])
    t ((flush0_6 t).mp hf) _, zero_add]
  refine Eq.trans ?_ (ref2_at _ _ _ _ _ _).symm
  unfold part2
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term2 (m ((c : Thread nD τ).loc main_arg0)) (m ((c : Thread nD τ).loc main_arg3))) (er _)) rfl) rfl

end Cert.WGatesIdeal.Value

end
-- ==== Proof.WBranchesValue.lean ====
/- The weight gradient of the four branches' input projections, its result read element by element. -/
module

public import proofs.«01_k».proof.Proof.Gen.WBranchesIdeal.Value
public import proofs.«01_k».proof.Proof.Gen.WBranchesRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WBranchesIdeal.Value

open Cert.WBranchesIdeal Cert.WBranchesIdeal.Gen Cert.WBranchesRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![t.val % 8, 0] ∧ win0_3.index t = ![t.val % 8, 0] ∧ win0_4.index t = ![t.val % 8, 0] ∧ win0_5.index t = ![0, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1024) :
    (show FVec Ideal S1024x1024 .bf16 from iblk m c 0 t) (ix2 q k) = (m ((c : Thread nD τ).loc main_arg0)) (ix2 (row t q) k) := by
  blk_point [iblk, V, idx t]

/-- The tile of the gradient of the product 1 at point `t`. -/
theorem blk_d0 (c : Dev nD) (t : Fin cfg0.N) (q : Fin 1024) (n : Fin 512) :
    (show FVec Ideal S1024x512 .bf16 from iblk m c 1 t) (ix2 q n) = (m ((c : Thread nD τ).loc main_arg1)) (ix2 (row t q) n) := by
  blk_point [iblk, V, idx t]

/-- One row tile's step: the product of the tiles is added to what was accumulated. -/
theorem step0_at (x : FVec Ideal S1024x1024 .bf16) (d : FVec Ideal S1024x512 .bf16) (acc : FVec Ideal S1024x512 .f32) (k : Fin 1024) (n : Fin 512) :
    k0_pay6 (F := Ideal) x acc d (ix2 k n) = acc (ix2 k n) + ∑ q : Fin 1024, x (ix2 q k) * d (ix2 q n) := by
  pointwise [k0_pay6]

/-- What row `i` adds to an entry of the result. -/
abbrev term0 (x : FVec Ideal S8192x1024 .bf16) (d : FVec Ideal S8192x512 .bf16) (i : Fin 8192) (k : Fin 1024) (n : Fin 512) : EReal :=
  x (ix2 i k) * d (ix2 i n)

/-- What point `t` adds to the result. -/
def part0 (c : Dev nD) (t : Fin cfg0.N) (j : S1024x512.Idx) : EReal :=
  ∑ q : Fin 1024, term0 (m ((c : Thread nD τ).loc main_arg0)) (m ((c : Thread nD τ).loc main_arg1)) (row t q) (j 0) (j 1)

/-- One point's step of the result. -/
theorem point0 (c : Dev nD) (t : Fin cfg0.N) (acc : FVec Ideal S1024x512 .f32) (j : S1024x512.Idx) :
    k0_pay6 (F := Ideal) (iblk m c 0 t) acc (iblk m c 1 t) j = acc j + part0 m c t j := by
  idx_vars j
  exact (step0_at _ _ acc _ _).trans (congrArg _ (Finset.sum_congr rfl fun q _ =>
    congr (congrArg _ (blk_x m c t q _)) (blk_d0 m c t q _)))

/-- The accumulation starts at zero. -/
theorem zero0 (j : S1024x512.Idx) : k0_pay2 (F := Ideal) j = 0 := by
  pointwise [k0_pay2]

/-- The reference's weight gradient, read at an entry. -/
theorem ref0_at (x0 : FVec Ideal S8192x1024 .bf16) (x1 : FVec Ideal S8192x512 .bf16) (x2 : FVec Ideal S8192x1536 .bf16) (x3 : FVec Ideal S8192x512 .bf16) (x4 : FVec Ideal S8192x256 .f32) (k : Fin 1024) (n : Fin 512) :
    val_main_v10 (F := Ideal) x0 x1 x2 x3 x4 (ix2 k n) = ∑ i : Fin 8192, x1 (ix2 i n) * x0 (ix2 i k) := by
  have hn : n.val < 512 := n.isLt
  pointwise [val_main_v10, val_main_v8, val_main_v7, val_main_v3, val_main_v0, val_main_v1, val_main_v2, val_main_v5]

/-- The kernel's array is the reference's weight gradient. -/
theorem dw5 (c : Dev nD) : (dats m 0 c).arrAt 5 cfg0.N
    = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have hy : ((View.whole main_v0_0).slice (win0_5.rect t)).emb y = ix2 (y 0) (y 1) := by
    blk_ext [idx t]
  rw [hy]
  idx_vars y
  rw [after0_5, Pipeline.eq_sum_fin_of_reset_step_apply_of_flush (fun n h => (outsAt0 m c n h).1) 8 (fun _ => 0) _
    (fun t h j => by rw [outsAt0_A m c t h]; frame_out; rw [point0 m c, zero0])
    (fun t h j => by rw [outsAt0_B m c t h]; frame_out; rw [point0 m c])
    t ((flush0_5 t).mp hf) _, zero_add]
  refine Eq.trans ?_ (ref0_at _ _ _ _ _ _ _).symm
  unfold part0
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term0 (m ((c : Thread nD τ).loc main_arg0)) (m ((c : Thread nD τ).loc main_arg1))) (er _)) rfl) rfl

/-- The tile of the gradient of the product 2 at point `t`. -/
theorem blk_d1 (c : Dev nD) (t : Fin cfg0.N) (q : Fin 1024) (n : Fin 1536) :
    (show FVec Ideal S1024x1536 .bf16 from iblk m c 2 t) (ix2 q n) = (m ((c : Thread nD τ).loc main_arg2)) (ix2 (row t q) n) := by
  blk_point [iblk, V, idx t]

/-- One row tile's step: the product of the tiles is added to what was accumulated. -/
theorem step1_at (x : FVec Ideal S1024x1024 .bf16) (d : FVec Ideal S1024x1536 .bf16) (acc : FVec Ideal S1024x1536 .f32) (k : Fin 1024) (n : Fin 1536) :
    k0_pay7 (F := Ideal) x acc d (ix2 k n) = acc (ix2 k n) + ∑ q : Fin 1024, x (ix2 q k) * d (ix2 q n) := by
  pointwise [k0_pay7]

/-- What row `i` adds to an entry of the result. -/
abbrev term1 (x : FVec Ideal S8192x1024 .bf16) (d : FVec Ideal S8192x1536 .bf16) (i : Fin 8192) (k : Fin 1024) (n : Fin 1536) : EReal :=
  x (ix2 i k) * d (ix2 i n)

/-- What point `t` adds to the result. -/
def part1 (c : Dev nD) (t : Fin cfg0.N) (j : S1024x1536.Idx) : EReal :=
  ∑ q : Fin 1024, term1 (m ((c : Thread nD τ).loc main_arg0)) (m ((c : Thread nD τ).loc main_arg2)) (row t q) (j 0) (j 1)

/-- One point's step of the result. -/
theorem point1 (c : Dev nD) (t : Fin cfg0.N) (acc : FVec Ideal S1024x1536 .f32) (j : S1024x1536.Idx) :
    k0_pay7 (F := Ideal) (iblk m c 0 t) acc (iblk m c 2 t) j = acc j + part1 m c t j := by
  idx_vars j
  exact (step1_at _ _ acc _ _).trans (congrArg _ (Finset.sum_congr rfl fun q _ =>
    congr (congrArg _ (blk_x m c t q _)) (blk_d1 m c t q _)))

/-- The accumulation starts at zero. -/
theorem zero1 (j : S1024x1536.Idx) : k0_pay3 (F := Ideal) j = 0 := by
  pointwise [k0_pay3]

/-- The reference's weight gradient, read at an entry. -/
theorem ref1_at (x0 : FVec Ideal S8192x1024 .bf16) (x1 : FVec Ideal S8192x512 .bf16) (x2 : FVec Ideal S8192x1536 .bf16) (x3 : FVec Ideal S8192x512 .bf16) (x4 : FVec Ideal S8192x256 .f32) (k : Fin 1024) (n : Fin 1536) :
    val_main_v11 (F := Ideal) x0 x1 x2 x3 x4 (ix2 k n) = ∑ i : Fin 8192, x2 (ix2 i n) * x0 (ix2 i k) := by
  have hn : n.val < 1536 := n.isLt
  pointwise [val_main_v11, val_main_v8, val_main_v7, val_main_v3, val_main_v0, val_main_v1, val_main_v2, val_main_v5]

/-- The kernel's array is the reference's weight gradient. -/
theorem dw6 (c : Dev nD) : (dats m 0 c).arrAt 6 cfg0.N
    = val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have hy : ((View.whole main_v0_1).slice (win0_6.rect t)).emb y = ix2 (y 0) (y 1) := by
    blk_ext [idx t]
  rw [hy]
  idx_vars y
  rw [after0_6, Pipeline.eq_sum_fin_of_reset_step_apply_of_flush (fun n h => (outsAt0 m c n h).2.1) 8 (fun _ => 0) _
    (fun t h j => by rw [outsAt0_A m c t h]; frame_out; rw [point1 m c, zero1])
    (fun t h j => by rw [outsAt0_B m c t h]; frame_out; rw [point1 m c])
    t ((flush0_6 t).mp hf) _, zero_add]
  refine Eq.trans ?_ (ref1_at _ _ _ _ _ _ _).symm
  unfold part1
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term1 (m ((c : Thread nD τ).loc main_arg0)) (m ((c : Thread nD τ).loc main_arg2))) (er _)) rfl) rfl

/-- The tile of the gradient of the product 3 at point `t`. -/
theorem blk_d2 (c : Dev nD) (t : Fin cfg0.N) (q : Fin 1024) (n : Fin 512) :
    (show FVec Ideal S1024x512 .bf16 from iblk m c 3 t) (ix2 q n) = (m ((c : Thread nD τ).loc main_arg3)) (ix2 (row t q) n) := by
  blk_point [iblk, V, idx t]

/-- One row tile's step: the product of the tiles is added to what was accumulated. -/
theorem step2_at (x : FVec Ideal S1024x1024 .bf16) (d : FVec Ideal S1024x512 .bf16) (acc : FVec Ideal S1024x512 .f32) (k : Fin 1024) (n : Fin 512) :
    k0_pay8 (F := Ideal) x acc d (ix2 k n) = acc (ix2 k n) + ∑ q : Fin 1024, x (ix2 q k) * d (ix2 q n) := by
  pointwise [k0_pay8]

/-- What row `i` adds to an entry of the result. -/
abbrev term2 (x : FVec Ideal S8192x1024 .bf16) (d : FVec Ideal S8192x512 .bf16) (i : Fin 8192) (k : Fin 1024) (n : Fin 512) : EReal :=
  x (ix2 i k) * d (ix2 i n)

/-- What point `t` adds to the result. -/
def part2 (c : Dev nD) (t : Fin cfg0.N) (j : S1024x512.Idx) : EReal :=
  ∑ q : Fin 1024, term2 (m ((c : Thread nD τ).loc main_arg0)) (m ((c : Thread nD τ).loc main_arg3)) (row t q) (j 0) (j 1)

/-- One point's step of the result. -/
theorem point2 (c : Dev nD) (t : Fin cfg0.N) (acc : FVec Ideal S1024x512 .f32) (j : S1024x512.Idx) :
    k0_pay8 (F := Ideal) (iblk m c 0 t) acc (iblk m c 3 t) j = acc j + part2 m c t j := by
  idx_vars j
  exact (step2_at _ _ acc _ _).trans (congrArg _ (Finset.sum_congr rfl fun q _ =>
    congr (congrArg _ (blk_x m c t q _)) (blk_d2 m c t q _)))

/-- The accumulation starts at zero. -/
theorem zero2 (j : S1024x512.Idx) : k0_pay4 (F := Ideal) j = 0 := by
  pointwise [k0_pay4]

/-- The reference's weight gradient, read at an entry. -/
theorem ref2_at (x0 : FVec Ideal S8192x1024 .bf16) (x1 : FVec Ideal S8192x512 .bf16) (x2 : FVec Ideal S8192x1536 .bf16) (x3 : FVec Ideal S8192x512 .bf16) (x4 : FVec Ideal S8192x256 .f32) (k : Fin 1024) (n : Fin 512) :
    val_main_v12 (F := Ideal) x0 x1 x2 x3 x4 (ix2 k n) = ∑ i : Fin 8192, x3 (ix2 i n) * x0 (ix2 i k) := by
  have hn : n.val < 512 := n.isLt
  pointwise [val_main_v12, val_main_v8, val_main_v7, val_main_v3, val_main_v0, val_main_v1, val_main_v2, val_main_v5]
  refine Finset.sum_congr rfl fun i _ => ?_
  rw [dif_neg (by omega), dif_neg (by omega), dif_pos (by omega)]
  exact congrArg (fun l : Fin 512 => x3 (ix2 i l) * x0 (ix2 i k)) (Fin.ext (by
    show 2048 + n.val - 512 - 1536 = n.val
    omega))

/-- The kernel's array is the reference's weight gradient. -/
theorem dw7 (c : Dev nD) : (dats m 0 c).arrAt 7 cfg0.N
    = val_main_v12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  have hy : ((View.whole main_v0_2).slice (win0_7.rect t)).emb y = ix2 (y 0) (y 1) := by
    blk_ext [idx t]
  rw [hy]
  idx_vars y
  rw [after0_7, Pipeline.eq_sum_fin_of_reset_step_apply_of_flush (fun n h => (outsAt0 m c n h).2.2.1) 8 (fun _ => 0) _
    (fun t h j => by rw [outsAt0_A m c t h]; frame_out; rw [point2 m c, zero2])
    (fun t h j => by rw [outsAt0_B m c t h]; frame_out; rw [point2 m c])
    t ((flush0_7 t).mp hf) _, zero_add]
  refine Eq.trans ?_ (ref2_at _ _ _ _ _ _ _).symm
  unfold part2
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term2 (m ((c : Thread nD τ).loc main_arg0)) (m ((c : Thread nD τ).loc main_arg3))) (er _)) rfl) rfl

/-- The tile of the gradient of the product 4 at point `t`. -/
theorem blk_d3 (c : Dev nD) (t : Fin cfg0.N) (q : Fin 1024) (n : Fin 256) :
    (show FVec Ideal S1024x256 .f32 from iblk m c 4 t) (ix2 q n) = (m ((c : Thread nD τ).loc main_arg4)) (ix2 (row t q) n) := by
  blk_point [iblk, V, idx t]

/-- One row tile's step: the product of the tiles is added to what was accumulated. -/
theorem step3_at (x : FVec Ideal S1024x1024 .bf16) (d : FVec Ideal S1024x256 .f32) (acc : FVec Ideal S1024x256 .f32) (k : Fin 1024) (n : Fin 256) :
    k0_pay1 (F := Ideal) x (k0_pay9 acc) (k0_pay10 d) (ix2 k n) = acc (ix2 k n) + ∑ q : Fin 1024, x (ix2 q k) * d (ix2 q n) := by
  pointwise [k0_pay1, k0_pay9, k0_pay10]

/-- What row `i` adds to an entry of the result. -/
abbrev term3 (x : FVec Ideal S8192x1024 .bf16) (d : FVec Ideal S8192x256 .f32) (i : Fin 8192) (k : Fin 1024) (n : Fin 256) : EReal :=
  x (ix2 i k) * d (ix2 i n)

/-- What point `t` adds to the result. -/
def part3 (c : Dev nD) (t : Fin cfg0.N) (j : S1024x256.Idx) : EReal :=
  ∑ q : Fin 1024, term3 (m ((c : Thread nD τ).loc main_arg0)) (m ((c : Thread nD τ).loc main_arg4)) (row t q) (j 0) (j 1)

/-- One point's step of the result. -/
theorem point3 (c : Dev nD) (t : Fin cfg0.N) (acc : FVec Ideal S1024x256 .f32) (j : S1024x256.Idx) :
    k0_pay1 (F := Ideal) (iblk m c 0 t) (k0_pay9 acc) (k0_pay10 (iblk m c 4 t)) j = acc j + part3 m c t j := by
  idx_vars j
  exact (step3_at _ _ acc _ _).trans (congrArg _ (Finset.sum_congr rfl fun q _ =>
    congr (congrArg _ (blk_x m c t q _)) (blk_d3 m c t q _)))

/-- The accumulation starts at zero. -/
theorem zero3 (j : S1024x256.Idx) : k0_pay5 (F := Ideal) j = 0 := by
  pointwise [k0_pay5]

/-- The reference's weight gradient, read at an entry. -/
theorem ref3_at (x0 : FVec Ideal S8192x1024 .bf16) (x1 : FVec Ideal S8192x512 .bf16) (x2 : FVec Ideal S8192x1536 .bf16) (x3 : FVec Ideal S8192x512 .bf16) (x4 : FVec Ideal S8192x256 .f32) (k : Fin 1024) (n : Fin 256) :
    val_main_v13 (F := Ideal) x0 x1 x2 x3 x4 (ix2 k n) = ∑ i : Fin 8192, x4 (ix2 i n) * x0 (ix2 i k) := by
  have hn : n.val < 256 := n.isLt
  pointwise [val_main_v13, val_main_v8, val_main_v7, val_main_v3, val_main_v0, val_main_v1, val_main_v2, val_main_v5]
  refine Finset.sum_congr rfl fun i _ => ?_
  rw [dif_neg (by omega), dif_neg (by omega), dif_neg (by omega)]
  exact congrArg (fun l : Fin 256 => x4 (ix2 i l) * x0 (ix2 i k)) (Fin.ext (by
    show 2560 + n.val - 512 - 1536 - 512 = n.val
    omega))

/-- The kernel's array is the reference's weight gradient. -/
theorem dw8 (c : Dev nD) : (dats m 0 c).arrAt 8 cfg0.N
    = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have hy : ((View.whole main_v0_3).slice (win0_8.rect t)).emb y = ix2 (y 0) (y 1) := by
    blk_ext [idx t]
  rw [hy]
  idx_vars y
  rw [after0_8, Pipeline.eq_sum_fin_of_reset_step_apply_of_flush (fun n h => (outsAt0 m c n h).2.2.2) 8 (fun _ => 0) _
    (fun t h j => by rw [outsAt0_A m c t h]; frame_out; rw [point3 m c, zero3])
    (fun t h j => by rw [outsAt0_B m c t h]; frame_out; rw [point3 m c])
    t ((flush0_8 t).mp hf) _, zero_add]
  refine Eq.trans ?_ (ref3_at _ _ _ _ _ _ _).symm
  unfold part3
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term3 (m ((c : Thread nD τ).loc main_arg0)) (m ((c : Thread nD τ).loc main_arg4))) (er _)) rfl) rfl

end Cert.WBranchesIdeal.Value

end
-- ==== Proof.WOutValue.lean ====
/- The weight gradient of the output projection, its result read element by element. -/
module

public import proofs.«01_k».proof.Proof.Gen.WOutIdeal.Value
public import proofs.«01_k».proof.Proof.Gen.WOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WOutIdeal.Value

open Cert.WOutIdeal Cert.WOutIdeal.Gen Cert.WOutRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1024) :
    (show FVec Ideal S1024x1024 .bf16 from iblk m c 0 t) (ix2 q k) = (m ((c : Thread nD τ).loc main_arg0)) (ix2 (row t q) k) := by
  blk_point [iblk, V, idx t]

/-- The tile of the gradient of the product at point `t`. -/
theorem blk_d (c : Dev nD) (t : Fin cfg0.N) (q : Fin 1024) (n : Fin 1024) :
    (show FVec Ideal S1024x1024 .f32 from iblk m c 1 t) (ix2 q n) = (m ((c : Thread nD τ).loc main_arg1)) (ix2 (row t q) n) := by
  blk_point [iblk, V, idx t]

/-- One row tile's step: the product of the tiles is added to what was accumulated. -/
theorem step_at (x : FVec Ideal S1024x1024 .bf16) (d : FVec Ideal S1024x1024 .f32) (acc : FVec Ideal S1024x1024 .f32) (k : Fin 1024) (n : Fin 1024) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x1024 .bf16) (d : FVec Ideal S8192x1024 .f32) (i : Fin 8192) (k : Fin 1024) (n : Fin 1024) : EReal :=
  x (ix2 i k) * d (ix2 i n)

/-- What point `t` adds to the result. -/
def part (c : Dev nD) (t : Fin cfg0.N) (j : S1024x1024.Idx) : EReal :=
  ∑ q : Fin 1024, term (m ((c : Thread nD τ).loc main_arg0)) (m ((c : Thread nD τ).loc main_arg1)) (row t q) (j 0) (j 1)

/-- One point's step of the result. -/
theorem point (c : Dev nD) (t : Fin cfg0.N) (acc : FVec Ideal S1024x1024 .f32) (j : S1024x1024.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S1024x1024.Idx) : k0_pay1 (F := Ideal) j = 0 := by
  pointwise [k0_pay1]

/-- The reference's weight gradient, read at an entry. -/
theorem ref_at (x0 : FVec Ideal S8192x1024 .bf16) (x1 : FVec Ideal S8192x1024 .f32) (k : Fin 1024) (n : Fin 1024) :
    val_main_v6 (F := Ideal) x0 x1 (ix2 k n) = ∑ i : Fin 8192, x1 (ix2 i n) * x0 (ix2 i k) := by
  have hn : n.val < 1024 := n.isLt
  pointwise [val_main_v6, val_main_v4, val_main_v3, val_main_v1]

/-- The kernel's array is the reference's weight gradient. -/
theorem dw2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (y 0) (y 1) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term (m ((c : Thread nD τ).loc main_arg0)) (m ((c : Thread nD τ).loc main_arg1))) (er _)) rfl) rfl

end Cert.WOutIdeal.Value

end
-- ==== Proof.WPleGateValue.lean ====
/- The weight gradient of the per-layer gate, its result read element by element. -/
module

public import proofs.«01_k».proof.Proof.Gen.WPleGateIdeal.Value
public import proofs.«01_k».proof.Proof.Gen.WPleGateRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WPleGateIdeal.Value

open Cert.WPleGateIdeal Cert.WPleGateIdeal.Gen Cert.WPleGateRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 1024) :
    (show FVec Ideal S1024x1024 .bf16 from iblk m c 0 t) (ix2 q k) = (m ((c : Thread nD τ).loc main_arg0)) (ix2 (row t q) k) := by
  blk_point [iblk, V, idx t]

/-- The tile of the gradient of the product at point `t`. -/
theorem blk_d (c : Dev nD) (t : Fin cfg0.N) (q : Fin 1024) (n : Fin 1024) :
    (show FVec Ideal S1024x1024 .bf16 from iblk m c 1 t) (ix2 q n) = (m ((c : Thread nD τ).loc main_arg1)) (ix2 (row t q) n) := by
  blk_point [iblk, V, idx t]

/-- One row tile's step: the product of the tiles is added to what was accumulated. -/
theorem step_at (x : FVec Ideal S1024x1024 .bf16) (d : FVec Ideal S1024x1024 .bf16) (acc : FVec Ideal S1024x1024 .f32) (k : Fin 1024) (n : Fin 1024) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x1024 .bf16) (d : FVec Ideal S8192x1024 .bf16) (i : Fin 8192) (k : Fin 1024) (n : Fin 1024) : EReal :=
  x (ix2 i k) * d (ix2 i n)

/-- What point `t` adds to the result. -/
def part (c : Dev nD) (t : Fin cfg0.N) (j : S1024x1024.Idx) : EReal :=
  ∑ q : Fin 1024, term (m ((c : Thread nD τ).loc main_arg0)) (m ((c : Thread nD τ).loc main_arg1)) (row t q) (j 0) (j 1)

/-- One point's step of the result. -/
theorem point (c : Dev nD) (t : Fin cfg0.N) (acc : FVec Ideal S1024x1024 .f32) (j : S1024x1024.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S1024x1024.Idx) : k0_pay1 (F := Ideal) j = 0 := by
  pointwise [k0_pay1]

/-- The reference's weight gradient, read at an entry. -/
theorem ref_at (x0 : FVec Ideal S8192x1024 .bf16) (x1 : FVec Ideal S8192x1024 .bf16) (k : Fin 1024) (n : Fin 1024) :
    val_main_v7 (F := Ideal) x0 x1 (ix2 k n) = ∑ i : Fin 8192, x1 (ix2 i n) * x0 (ix2 i k) := by
  have hn : n.val < 1024 := n.isLt
  pointwise [val_main_v7, val_main_v5, val_main_v4, val_main_v0, val_main_v2]

/-- The kernel's array is the reference's weight gradient. -/
theorem dw2 (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (y 0) (y 1) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term (m ((c : Thread nD τ).loc main_arg0)) (m ((c : Thread nD τ).loc main_arg1))) (er _)) rfl) rfl

end Cert.WPleGateIdeal.Value

end
-- ==== Proof.WBranchValue.lean ====
/- The weight gradient of a branch's output projection, its result read element by element. -/
module

public import proofs.«01_k».proof.Proof.Gen.WBranchIdeal.Value
public import proofs.«01_k».proof.Proof.Gen.WBranchRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WBranchIdeal.Value

open Cert.WBranchIdeal Cert.WBranchIdeal.Gen Cert.WBranchRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 512) :
    (show FVec Ideal S1024x512 .bf16 from iblk m c 0 t) (ix2 q k) = (m ((c : Thread nD τ).loc main_arg0)) (ix2 (row t q) k) := by
  blk_point [iblk, V, idx t]

/-- The tile of the gradient of the product at point `t`. -/
theorem blk_d (c : Dev nD) (t : Fin cfg0.N) (q : Fin 1024) (n : Fin 1024) :
    (show FVec Ideal S1024x1024 .bf16 from iblk m c 1 t) (ix2 q n) = (m ((c : Thread nD τ).loc main_arg1)) (ix2 (row t q) n) := by
  blk_point [iblk, V, idx t]

/-- One row tile's step: the product of the tiles is added to what was accumulated. -/
theorem step_at (x : FVec Ideal S1024x512 .bf16) (d : FVec Ideal S1024x1024 .bf16) (acc : FVec Ideal S512x1024 .f32) (k : Fin 512) (n : Fin 1024) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x512 .bf16) (d : FVec Ideal S8192x1024 .bf16) (i : Fin 8192) (k : Fin 512) (n : Fin 1024) : EReal :=
  x (ix2 i k) * d (ix2 i n)

/-- What point `t` adds to the result. -/
def part (c : Dev nD) (t : Fin cfg0.N) (j : S512x1024.Idx) : EReal :=
  ∑ q : Fin 1024, term (m ((c : Thread nD τ).loc main_arg0)) (m ((c : Thread nD τ).loc main_arg1)) (row t q) (j 0) (j 1)

/-- One point's step of the result. -/
theorem point (c : Dev nD) (t : Fin cfg0.N) (acc : FVec Ideal S512x1024 .f32) (j : S512x1024.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S512x1024.Idx) : k0_pay1 (F := Ideal) j = 0 := by
  pointwise [k0_pay1]

/-- The reference's weight gradient, read at an entry. -/
theorem ref_at (x0 : FVec Ideal S8192x512 .bf16) (x1 : FVec Ideal S8192x1024 .bf16) (k : Fin 512) (n : Fin 1024) :
    val_main_v7 (F := Ideal) x0 x1 (ix2 k n) = ∑ i : Fin 8192, x1 (ix2 i n) * x0 (ix2 i k) := by
  have hn : n.val < 1024 := n.isLt
  pointwise [val_main_v7, val_main_v5, val_main_v4, val_main_v0, val_main_v2]

/-- The kernel's array is the reference's weight gradient. -/
theorem dw2 (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (y 0) (y 1) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term (m ((c : Thread nD τ).loc main_arg0)) (m ((c : Thread nD τ).loc main_arg1))) (er _)) rfl) rfl

end Cert.WBranchIdeal.Value

end
-- ==== Proof.WPleProjValue.lean ====
/- The weight gradient of the per-layer projection, its result read element by element. -/
module

public import proofs.«01_k».proof.Proof.Gen.WPleProjIdeal.Value
public import proofs.«01_k».proof.Proof.Gen.WPleProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WPleProjIdeal.Value

open Cert.WPleProjIdeal Cert.WPleProjIdeal.Gen Cert.WPleProjRefIdeal.Read

/-- Row `q` of the row tile of point `t`. -/
abbrev row (t : Fin cfg0.N) (q : Fin 1024) : Fin 8192 := ⟨t.val % 8 * 1024 + q.val, by omega⟩

/-- Where each window's block sits at point `t`. -/
theorem idx : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ)

/-- The tile of the product's input at point `t`. -/
theorem blk_x (c : Dev nD) (t : Fin cfg0.N) (q : Fin 1024) (k : Fin 256) :
    (show FVec Ideal S1024x256 .f32 from iblk m c 0 t) (ix2 q k) = (m ((c : Thread nD τ).loc main_arg0)) (ix2 (row t q) k) := by
  blk_point [iblk, V, idx t]

/-- The tile of the gradient of the product at point `t`. -/
theorem blk_d (c : Dev nD) (t : Fin cfg0.N) (q : Fin 1024) (n : Fin 1024) :
    (show FVec Ideal S1024x1024 .bf16 from iblk m c 1 t) (ix2 q n) = (m ((c : Thread nD τ).loc main_arg1)) (ix2 (row t q) n) := by
  blk_point [iblk, V, idx t]

/-- One row tile's step: the product of the tiles is added to what was accumulated. -/
theorem step_at (x : FVec Ideal S1024x256 .f32) (d : FVec Ideal S1024x1024 .bf16) (acc : FVec Ideal S256x1024 .f32) (k : Fin 256) (n : Fin 1024) :
    k0_pay2 (F := Ideal) acc x d (ix2 k n) = acc (ix2 k n) + ∑ q : Fin 1024, x (ix2 q k) * d (ix2 q n) := by
  pointwise [k0_pay2]

/-- What row `i` adds to an entry of the result. -/
abbrev term (x : FVec Ideal S8192x256 .f32) (d : FVec Ideal S8192x1024 .bf16) (i : Fin 8192) (k : Fin 256) (n : Fin 1024) : EReal :=
  x (ix2 i k) * d (ix2 i n)

/-- What point `t` adds to the result. -/
def part (c : Dev nD) (t : Fin cfg0.N) (j : S256x1024.Idx) : EReal :=
  ∑ q : Fin 1024, term (m ((c : Thread nD τ).loc main_arg0)) (m ((c : Thread nD τ).loc main_arg1)) (row t q) (j 0) (j 1)

/-- One point's step of the result. -/
theorem point (c : Dev nD) (t : Fin cfg0.N) (acc : FVec Ideal S256x1024 .f32) (j : S256x1024.Idx) :
    k0_pay2 (F := Ideal) acc (iblk m c 0 t) (iblk m c 1 t) j = acc j + part m c t j := by
  idx_vars j
  exact (step_at _ _ acc _ _).trans (congrArg _ (Finset.sum_congr rfl fun q _ =>
    congr (congrArg _ (blk_x m c t q _)) (blk_d m c t q _)))

/-- The accumulation starts at zero. -/
theorem zero (j : S256x1024.Idx) : k0_pay1 (F := Ideal) j = 0 := by
  pointwise [k0_pay1]

/-- The reference's weight gradient, read at an entry. -/
theorem ref_at (x0 : FVec Ideal S8192x256 .f32) (x1 : FVec Ideal S8192x1024 .bf16) (k : Fin 256) (n : Fin 1024) :
    val_main_v6 (F := Ideal) x0 x1 (ix2 k n) = ∑ i : Fin 8192, x1 (ix2 i n) * x0 (ix2 i k) := by
  have hn : n.val < 1024 := n.isLt
  pointwise [val_main_v6, val_main_v4, val_main_v3, val_main_v0]

/-- The kernel's array is the reference's weight gradient. -/
theorem dw2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (y 0) (y 1) := by
    blk_ext [idx t]
  rw [hy]
  idx_vars y
  rw [after0_2, Pipeline.eq_sum_fin_of_reset_step_apply_of_flush (fun n h => (outsAt0 m c n h)) 8 (fun _ => 0) _
    (fun t h j => by rw [outsAt0_A m c t h]; frame_out; rw [point m c, zero])
    (fun t h j => by rw [outsAt0_B m c t h]; frame_out; rw [point m c])
    t ((flush0_2 t).mp hf) _, zero_add]
  refine Eq.trans ?_ (ref_at _ _ _ _).symm
  unfold part
  refine Fin.sum_mul_add_congr fun s k hl => ?_
  have ht : t.val < 8 := lt_of_lt_of_eq t.isLt N_0
  have er : ∀ h1, row ⟨8 * (t.val / 8) + s.val, h1⟩ k = (⟨s.val * 1024 + k.val, hl⟩ : Fin 8192) := fun _ => Fin.ext (by
    show (8 * (t.val / 8) + s.val) % 8 * 1024 + k.val = s.val * 1024 + k.val
    omega)
  refine Eq.trans ?_ (EReal.mul_comm _ _)
  exact congr (congr (congrArg (term (m ((c : Thread nD τ).loc main_arg0)) (m ((c : Thread nD τ).loc main_arg1))) (er _)) rfl) rfl

end Cert.WPleProjIdeal.Value

end
-- ==== Proof.WeightGradClaims.lean ====
/- The weight gradients: the kernels' results are the references', with no precondition. -/
module

public import proofs.«01_k».proof.Defs
public import proofs.«01_k».proof.Proof.WFfnInValue
public import proofs.«01_k».proof.Proof.Gen.WFfnInRefIdeal.Run
public import proofs.«01_k».proof.Proof.WFfnOutValue
public import proofs.«01_k».proof.Proof.Gen.WFfnOutRefIdeal.Run
public import proofs.«01_k».proof.Proof.WGatesValue
public import proofs.«01_k».proof.Proof.Gen.WGatesRefIdeal.Run
public import proofs.«01_k».proof.Proof.WBranchesValue
public import proofs.«01_k».proof.Proof.Gen.WBranchesRefIdeal.Run
public import proofs.«01_k».proof.Proof.WOutValue
public import proofs.«01_k».proof.Proof.Gen.WOutRefIdeal.Run
public import proofs.«01_k».proof.Proof.WPleGateValue
public import proofs.«01_k».proof.Proof.Gen.WPleGateRefIdeal.Run
public import proofs.«01_k».proof.Proof.WBranchValue
public import proofs.«01_k».proof.Proof.Gen.WBranchRefIdeal.Run
public import proofs.«01_k».proof.Proof.WPleProjValue
public import proofs.«01_k».proof.Proof.Gen.WPleProjRefIdeal.Run
public import Idealize.ShloMosaic.Lib.Claim

@[expose] public section

set_option maxRecDepth 16384

noncomputable section

namespace Cert.Proof

open Idealize.ShloMosaic Idealize.ShloMosaic.TcCoe Idealize.SL.Sem

/-- From equal arguments both programs end with equal results: the weight gradient of either half of the feed-forward input. -/
theorem algebraic_ffn_in : Cert.algebraic_WFfnInIdeal_WFfnInRefIdeal := by
  pair_intro
  · run_from Cert.WFfnInIdeal.Value.run_blocks m g
  · run_from Cert.WFfnInRefIdeal.Value.run m' g'
    exact (Cert.WFfnInIdeal.Value.dw2 m c).symm

/-- The reference's run ends, with its arguments unchanged. -/
theorem frame_ffn_in_ref : Cert.quiescent_WFfnInRefIdeal := fun m ρ _ =>
  (θ_run Cert.WFfnInRefIdeal.defs _ _).mono (fun r h => ⟨fun c => (h c).2,
      Idealize.ShloMosaic.sem_eq_zero_of_no_sems (by decide) r.2⟩)
    (Cert.WFfnInRefIdeal.Value.run (F := Ideal) m ρ)

/-- From equal arguments both programs end with equal results: the weight gradient of the feed-forward output. -/
theorem algebraic_ffn_out : Cert.algebraic_WFfnOutIdeal_WFfnOutRefIdeal := by
  pair_intro
  · run_from Cert.WFfnOutIdeal.Value.run_blocks m g
  · run_from Cert.WFfnOutRefIdeal.Value.run m' g'
    exact (Cert.WFfnOutIdeal.Value.dw2 m c).symm

/-- The reference's run ends, with its arguments unchanged. -/
theorem frame_ffn_out_ref : Cert.quiescent_WFfnOutRefIdeal := fun m ρ _ =>
  (θ_run Cert.WFfnOutRefIdeal.defs _ _).mono (fun r h => ⟨fun c => (h c).2,
      Idealize.ShloMosaic.sem_eq_zero_of_no_sems (by decide) r.2⟩)
    (Cert.WFfnOutRefIdeal.Value.run (F := Ideal) m ρ)

/-- From equal arguments both programs end with equal results: the weight gradients of the three gates. -/
theorem algebraic_gates : Cert.algebraic_WGatesIdeal_WGatesRefIdeal := by
  pair_intro
  · run_from Cert.WGatesIdeal.Value.run_blocks m g
  · run_from Cert.WGatesRefIdeal.Value.run m' g'
    · obtain ⟨_, h1, h2, h3⟩ := hagree c
      rw [h1, h2, h3]
      exact (Cert.WGatesIdeal.Value.dw4 m c).symm
    · obtain ⟨_, h1, h2, h3⟩ := hagree c
      rw [h1, h2, h3]
      exact (Cert.WGatesIdeal.Value.dw5 m c).symm
    · obtain ⟨_, h1, h2, h3⟩ := hagree c
      rw [h1, h2, h3]
      exact (Cert.WGatesIdeal.Value.dw6 m c).symm

/-- The reference's run ends, with its arguments unchanged. -/
theorem frame_gates_ref : Cert.quiescent_WGatesRefIdeal := fun m ρ _ =>
  (θ_run Cert.WGatesRefIdeal.defs _ _).mono (fun r h => ⟨fun c => (h c).2.2.2,
      Idealize.ShloMosaic.sem_eq_zero_of_no_sems (by decide) r.2⟩)
    (Cert.WGatesRefIdeal.Value.run (F := Ideal) m ρ)

/-- From equal arguments both programs end with equal results: the weight gradients of the four branches' input projections. -/
theorem algebraic_branches : Cert.algebraic_WBranchesIdeal_WBranchesRefIdeal := by
  pair_intro
  · run_from Cert.WBranchesIdeal.Value.run_blocks m g
  · run_from Cert.WBranchesRefIdeal.Value.run m' g'
    · obtain ⟨_, h1, h2, h3, h4⟩ := hagree c
      rw [h1, h2, h3, h4]
      exact (Cert.WBranchesIdeal.Value.dw5 m c).symm
    · obtain ⟨_, h1, h2, h3, h4⟩ := hagree c
      rw [h1, h2, h3, h4]
      exact (Cert.WBranchesIdeal.Value.dw6 m c).symm
    · obtain ⟨_, h1, h2, h3, h4⟩ := hagree c
      rw [h1, h2, h3, h4]
      exact (Cert.WBranchesIdeal.Value.dw7 m c).symm
    · obtain ⟨_, h1, h2, h3, h4⟩ := hagree c
      rw [h1, h2, h3, h4]
      exact (Cert.WBranchesIdeal.Value.dw8 m c).symm

/-- The reference's run ends, with its arguments unchanged. -/
theorem frame_branches_ref : Cert.quiescent_WBranchesRefIdeal := fun m ρ _ =>
  (θ_run Cert.WBranchesRefIdeal.defs _ _).mono (fun r h => ⟨fun c => (h c).2.2.2.2,
      Idealize.ShloMosaic.sem_eq_zero_of_no_sems (by decide) r.2⟩)
    (Cert.WBranchesRefIdeal.Value.run (F := Ideal) m ρ)

/-- From equal arguments both programs end with equal results: the weight gradient of the output projection. -/
theorem algebraic_out : Cert.algebraic_WOutIdeal_WOutRefIdeal := by
  pair_intro
  · run_from Cert.WOutIdeal.Value.run_blocks m g
  · run_from Cert.WOutRefIdeal.Value.run m' g'
    exact (Cert.WOutIdeal.Value.dw2 m c).symm

/-- The reference's run ends, with its arguments unchanged. -/
theorem frame_out_ref : Cert.quiescent_WOutRefIdeal := fun m ρ _ =>
  (θ_run Cert.WOutRefIdeal.defs _ _).mono (fun r h => ⟨fun c => (h c).2,
      Idealize.ShloMosaic.sem_eq_zero_of_no_sems (by decide) r.2⟩)
    (Cert.WOutRefIdeal.Value.run (F := Ideal) m ρ)

/-- From equal arguments both programs end with equal results: the weight gradient of the per-layer gate. -/
theorem algebraic_ple_gate : Cert.algebraic_WPleGateIdeal_WPleGateRefIdeal := by
  pair_intro
  · run_from Cert.WPleGateIdeal.Value.run_blocks m g
  · run_from Cert.WPleGateRefIdeal.Value.run m' g'
    exact (Cert.WPleGateIdeal.Value.dw2 m c).symm

/-- The reference's run ends, with its arguments unchanged. -/
theorem frame_ple_gate_ref : Cert.quiescent_WPleGateRefIdeal := fun m ρ _ =>
  (θ_run Cert.WPleGateRefIdeal.defs _ _).mono (fun r h => ⟨fun c => (h c).2,
      Idealize.ShloMosaic.sem_eq_zero_of_no_sems (by decide) r.2⟩)
    (Cert.WPleGateRefIdeal.Value.run (F := Ideal) m ρ)

/-- From equal arguments both programs end with equal results: the weight gradient of a branch's output projection. -/
theorem algebraic_branch : Cert.algebraic_WBranchIdeal_WBranchRefIdeal := by
  pair_intro
  · run_from Cert.WBranchIdeal.Value.run_blocks m g
  · run_from Cert.WBranchRefIdeal.Value.run m' g'
    exact (Cert.WBranchIdeal.Value.dw2 m c).symm

/-- The reference's run ends, with its arguments unchanged. -/
theorem frame_branch_ref : Cert.quiescent_WBranchRefIdeal := fun m ρ _ =>
  (θ_run Cert.WBranchRefIdeal.defs _ _).mono (fun r h => ⟨fun c => (h c).2,
      Idealize.ShloMosaic.sem_eq_zero_of_no_sems (by decide) r.2⟩)
    (Cert.WBranchRefIdeal.Value.run (F := Ideal) m ρ)

/-- From equal arguments both programs end with equal results: the weight gradient of the per-layer projection. -/
theorem algebraic_ple_proj : Cert.algebraic_WPleProjIdeal_WPleProjRefIdeal := by
  pair_intro
  · run_from Cert.WPleProjIdeal.Value.run_blocks m g
  · run_from Cert.WPleProjRefIdeal.Value.run m' g'
    exact (Cert.WPleProjIdeal.Value.dw2 m c).symm

/-- The reference's run ends, with its arguments unchanged. -/
theorem frame_ple_proj_ref : Cert.quiescent_WPleProjRefIdeal := fun m ρ _ =>
  (θ_run Cert.WPleProjRefIdeal.defs _ _).mono (fun r h => ⟨fun c => (h c).2,
      Idealize.ShloMosaic.sem_eq_zero_of_no_sems (by decide) r.2⟩)
    (Cert.WPleProjRefIdeal.Value.run (F := Ideal) m ρ)

end Cert.Proof

end
-- ==== Proof.DFfnOutValue.lean ====
/- The gradient through the feed-forward output, its result read element by element. -/
module

public import proofs.«01_k».proof.Proof.Gen.DFfnOutIdeal.Value
public import proofs.«01_k».proof.Proof.Gen.DFfnOutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DFfnOutIdeal.Value

open Cert.DFfnOutIdeal Cert.DFfnOutIdeal.Gen Cert.DFfnOutRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- Where each window's block sits at point `t`. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The row tile of the gradient at point `t`. -/
theorem blk_d (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The weights at point `t`. -/
theorem blk_w (c : Dev nD) (t : Fin cfg0.N) (n : Fin 2816) (l : Fin 1024) :
    (show FVec Ideal S2816x1024 .bf16 from iblk m c 1 t) (ix2 n l) = (m ((c : Thread nD τ).loc main_arg1)) (ix2 n l) := by
  blk_point [iblk, V, idx t]

/-- The reference's gradient of the product's input, read at an entry. -/
theorem ref_at (x0 : FVec Ideal S8192x1024 .f32) (x1 : FVec Ideal S2816x1024 .bf16) (i : Fin 8192) (n : Fin 2816) :
    val_main_v6 (F := Ideal) x0 x1 (ix2 i n) = ∑ l : Fin 1024, x0 (ix2 i l) * x1 (ix2 n l) := by
  pointwise [val_main_v6, val_main_v5, val_main_v1]

/-- The kernel's product of a row of the gradient with a row of the weights. -/
theorem pay2_at (d : FVec Ideal S512x1024 .f32) (w : FVec Ideal S1408x1024 .bf16) (p : Fin 512) (n : Fin 1408) :
    k0_pay2 (F := Ideal) (k0_pay1 (F := Ideal) d) w (ix2 p n) = ∑ l : Fin 1024, d (ix2 p l) * w (ix2 n l) := by
  pointwise [k0_pay2, k0_pay1]

/-- The kernel's product of a row of the gradient with a row of the weights. -/
theorem pay3_at (d : FVec Ideal S512x1024 .f32) (w : FVec Ideal S1408x1024 .bf16) (p : Fin 512) (n : Fin 1408) :
    k0_pay3 (F := Ideal) (k0_pay1 (F := Ideal) d) w (ix2 p n) = ∑ l : Fin 1024, d (ix2 p l) * w (ix2 n l) := by
  pointwise [k0_pay3, k0_pay1]

/-- The kernel's array is the reference's gradient of the product's input. -/
theorem dy2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (row t (y 0)) (y 1) := by
    blk_ext [idx t]
  rw [hy, after0_2]
  refine Eq.trans ?_ (ref_at _ _ _ _).symm
  unfold outsAt0
  frame_out
  canon_tiles x h
  · have e0 : row t (y 0) = row t (x 0) := Fin.ext (by
      show t.val * 512 + (y 0).val = t.val * 512 + (x 0).val
      omega)
    have e1 : (show Fin 2816 from y 1) = ⟨1408 + (x 1).val, by omega⟩ := Fin.ext (by
      show (y 1).val = 1408 + (x 1).val
      omega)
    idx_vars x
    refine (pay3_at _ _ _ _).trans (Finset.sum_congr rfl fun l _ =>
      congr (congrArg (fun a b : EReal => a * b) ((blk_d m c t _ l).trans (congrArg (fun r => (m ((c : Thread nD τ).loc main_arg0)) (ix2 r l)) e0.symm)))
        ((View.ld_unit_apply_of _ _ _ _ (ix2 x1 l) (ix2 ⟨1408 + x1.val, by omega⟩ l) fun a => ?_).trans
          ((blk_w m c t _ l).trans (congrArg (fun r => (m ((c : Thread nD τ).loc main_arg1)) (ix2 r l)) e1.symm))))
    match a with
    | ⟨0, _⟩ => rfl
    | ⟨1, _⟩ => exact (Nat.zero_add l.val).symm
  · have e0 : row t (y 0) = row t (x 0) := Fin.ext (by
      show t.val * 512 + (y 0).val = t.val * 512 + (x 0).val
      omega)
    have e1 : (show Fin 2816 from y 1) = ⟨0 + (x 1).val, by omega⟩ := Fin.ext (by
      show (y 1).val = 0 + (x 1).val
      omega)
    idx_vars x
    refine (pay2_at _ _ _ _).trans (Finset.sum_congr rfl fun l _ =>
      congr (congrArg (fun a b : EReal => a * b) ((blk_d m c t _ l).trans (congrArg (fun r => (m ((c : Thread nD τ).loc main_arg0)) (ix2 r l)) e0.symm)))
        ((View.ld_unit_apply_of _ _ _ _ (ix2 x1 l) (ix2 ⟨0 + x1.val, by omega⟩ l) fun a => ?_).trans
          ((blk_w m c t _ l).trans (congrArg (fun r => (m ((c : Thread nD τ).loc main_arg1)) (ix2 r l)) e1.symm))))
    match a with
    | ⟨0, _⟩ => rfl
    | ⟨1, _⟩ => exact (Nat.zero_add l.val).symm

end Cert.DFfnOutIdeal.Value

end
-- ==== Proof.DOutProjValue.lean ====
/- The gradient through the output projection, its result read element by element. -/
module

public import proofs.«01_k».proof.Proof.Gen.DOutProjIdeal.Value
public import proofs.«01_k».proof.Proof.Gen.DOutProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DOutProjIdeal.Value

open Cert.DOutProjIdeal Cert.DOutProjIdeal.Gen Cert.DOutProjRefIdeal.Read

/-- Row `p` of the row tile of point `t`. -/
abbrev row (t : Fin cfg0.N) (p : Fin 512) : Fin 8192 :=
  ⟨t.val * 512 + p.val, by have h : t.val < 16 := lt_of_lt_of_eq t.isLt N_0; omega⟩

/-- Where each window's block sits at point `t`. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The row tile of the gradient at point `t`. -/
theorem blk_d (c : Dev nD) (t : Fin cfg0.N) (p : Fin 512) (l : Fin 1024) :
    (show FVec Ideal S512x1024 .f32 from iblk m c 0 t) (ix2 p l) = (m ((c : Thread nD τ).loc main_arg0)) (ix2 (row t p) l) := by
  blk_point [iblk, V, idx t]

/-- The weights at point `t`. -/
theorem blk_w (c : Dev nD) (t : Fin cfg0.N) (n : Fin 1024) (l : Fin 1024) :
    (show FVec Ideal S1024x1024 .bf16 from iblk m c 1 t) (ix2 n l) = (m ((c : Thread nD τ).loc main_arg1)) (ix2 n l) := by
  blk_point [iblk, V, idx t]

/-- The reference's gradient of the product's input, read at an entry. -/
theorem ref_at (x0 : FVec Ideal S8192x1024 .f32) (x1 : FVec Ideal S1024x1024 .bf16) (i : Fin 8192) (n : Fin 1024) :
    val_main_v6 (F := Ideal) x0 x1 (ix2 i n) = ∑ l : Fin 1024, x0 (ix2 i l) * x1 (ix2 n l) := by
  pointwise [val_main_v6, val_main_v5, val_main_v1]

/-- The kernel's product of a row of the gradient with a row of the weights. -/
theorem pay2_at (d : FVec Ideal S512x1024 .f32) (w : FVec Ideal S1024x1024 .bf16) (p : Fin 512) (n : Fin 1024) :
    k0_pay2 (F := Ideal) (k0_pay1 (F := Ideal) d) w (ix2 p n) = ∑ l : Fin 1024, d (ix2 p l) * w (ix2 n l) := by
  pointwise [k0_pay2, k0_pay1]

/-- The kernel's array is the reference's gradient of the product's input. -/
theorem dy2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  have hy : ((View.whole main_v0).slice (win0_2.rect t)).emb y = ix2 (row t (y 0)) (y 1) := by
    blk_ext [idx t]
  rw [hy, after0_2]
  refine Eq.trans ?_ (ref_at _ _ _ _).symm
  idx_vars y
  unfold outsAt0
  frame_out
  exact (pay2_at _ _ _ _).trans (Finset.sum_congr rfl fun l _ =>
    congr (congrArg (fun a b : EReal => a * b) (blk_d m c t _ l)) (blk_w m c t _ l))

end Cert.DOutProjIdeal.Value

end
-- ==== Proof.ProductGradClaims.lean ====
/- The gradients through two products: the kernels' results are the references', with no precondition. -/
module

public import proofs.«01_k».proof.Defs
public import proofs.«01_k».proof.Proof.DFfnOutValue
public import proofs.«01_k».proof.Proof.Gen.DFfnOutRefIdeal.Run
public import proofs.«01_k».proof.Proof.DOutProjValue
public import proofs.«01_k».proof.Proof.Gen.DOutProjRefIdeal.Run
public import Idealize.ShloMosaic.Lib.Claim

@[expose] public section

set_option maxRecDepth 16384

noncomputable section

namespace Cert.Proof

open Idealize.ShloMosaic Idealize.ShloMosaic.TcCoe Idealize.SL.Sem

/-- From equal arguments both programs end with equal results: the gradient through the feed-forward output. -/
theorem algebraic_d_ffn_out : Cert.algebraic_DFfnOutIdeal_DFfnOutRefIdeal := by
  pair_intro
  · run_from Cert.DFfnOutIdeal.Value.run_blocks m g
  · run_from Cert.DFfnOutRefIdeal.Value.run m' g'
    exact (Cert.DFfnOutIdeal.Value.dy2 m c).symm

/-- The reference's run ends, with its arguments unchanged. -/
theorem frame_d_ffn_out_ref : Cert.quiescent_DFfnOutRefIdeal := fun m ρ _ =>
  (θ_run Cert.DFfnOutRefIdeal.defs _ _).mono (fun r h => ⟨fun c => (h c).2,
      Idealize.ShloMosaic.sem_eq_zero_of_no_sems (by decide) r.2⟩)
    (Cert.DFfnOutRefIdeal.Value.run (F := Ideal) m ρ)

/-- From equal arguments both programs end with equal results: the gradient through the output projection. -/
theorem algebraic_d_out_proj : Cert.algebraic_DOutProjIdeal_DOutProjRefIdeal := by
  pair_intro
  · run_from Cert.DOutProjIdeal.Value.run_blocks m g
  · run_from Cert.DOutProjRefIdeal.Value.run m' g'
    exact (Cert.DOutProjIdeal.Value.dy2 m c).symm

/-- The reference's run ends, with its arguments unchanged. -/
theorem frame_d_out_proj_ref : Cert.quiescent_DOutProjRefIdeal := fun m ρ _ =>
  (θ_run Cert.DOutProjRefIdeal.defs _ _).mono (fun r h => ⟨fun c => (h c).2,
      Idealize.ShloMosaic.sem_eq_zero_of_no_sems (by decide) r.2⟩)
    (Cert.DOutProjRefIdeal.Value.run (F := Ideal) m ρ)

end Cert.Proof

end
-- ==== Proof.lean ====
/- `Cert.Claim`, assembled: the frames are the generated ones, the value claims of the gradients of the gated sum, of the
   feed-forward input, of the mixing layer's input and of the per-layer gate are `Proof/MergeClaim.lean`,
   `Proof/FfnClaim.lean`, `Proof/InProjClaim.lean` and `Proof/PleClaim.lean`. -/
module

public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.Pre_ffn_finite
public import proofs.«01_k».proof.Proof.Gen.Pre_inp_finite
public import proofs.«01_k».proof.Proof.Gen.Pre_ple_finite
public import proofs.«01_k».proof.Proof.Gen.FfnRefIdeal
public import proofs.«01_k».proof.Proof.Gen.InProjRefIdeal
public import proofs.«01_k».proof.Proof.Gen.PleRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.WFfnIn
public import proofs.«01_k».proof.Proof.Gen.WFfnIn.Skeleton
public import proofs.«01_k».proof.Proof.Gen.WFfnIn.Launch
public import proofs.«01_k».proof.Proof.Gen.WFfnIn.Points
public import proofs.«01_k».proof.Proof.Gen.WFfnIn.Frame
public import proofs.«01_k».proof.Proof.Gen.WFfnInIdeal.Value
public import proofs.«01_k».proof.Proof.Gen.WFfnInRefIdeal
public import proofs.«01_k».proof.Proof.Gen.WFfnInRefIdeal.Run
public import proofs.«01_k».proof.Proof.Gen.WFfnInRefIdeal.Read
public import proofs.«01_k».proof.Proof.Gen.WFfnOut
public import proofs.«01_k».proof.Proof.Gen.WFfnOut.Skeleton
public import proofs.«01_k».proof.Proof.Gen.WFfnOut.Launch
public import proofs.«01_k».proof.Proof.Gen.WFfnOut.Points
public import proofs.«01_k».proof.Proof.Gen.WFfnOut.Frame
public import proofs.«01_k».proof.Proof.Gen.WFfnOutIdeal.Value
public import proofs.«01_k».proof.Proof.Gen.WFfnOutRefIdeal
public import proofs.«01_k».proof.Proof.Gen.WFfnOutRefIdeal.Run
public import proofs.«01_k».proof.Proof.Gen.WFfnOutRefIdeal.Read
public import proofs.«01_k».proof.Proof.Gen.WGates
public import proofs.«01_k».proof.Proof.Gen.WGates.Skeleton
public import proofs.«01_k».proof.Proof.Gen.WGates.Launch
public import proofs.«01_k».proof.Proof.Gen.WGates.Points
public import proofs.«01_k».proof.Proof.Gen.WGates.Frame
public import proofs.«01_k».proof.Proof.Gen.WGatesIdeal.Value
public import proofs.«01_k».proof.Proof.Gen.WGatesRefIdeal
public import proofs.«01_k».proof.Proof.Gen.WGatesRefIdeal.Run
public import proofs.«01_k».proof.Proof.Gen.WGatesRefIdeal.Read
public import proofs.«01_k».proof.Proof.Gen.WBranches
public import proofs.«01_k».proof.Proof.Gen.WBranches.Skeleton
public import proofs.«01_k».proof.Proof.Gen.WBranches.Launch
public import proofs.«01_k».proof.Proof.Gen.WBranches.Points
public import proofs.«01_k».proof.Proof.Gen.WBranches.Frame
public import proofs.«01_k».proof.Proof.Gen.WBranchesIdeal.Value
public import proofs.«01_k».proof.Proof.Gen.WBranchesRefIdeal
public import proofs.«01_k».proof.Proof.Gen.WBranchesRefIdeal.Run
public import proofs.«01_k».proof.Proof.Gen.WBranchesRefIdeal.Read
public import proofs.«01_k».proof.Proof.Gen.WOut
public import proofs.«01_k».proof.Proof.Gen.WOut.Skeleton
public import proofs.«01_k».proof.Proof.Gen.WOut.Launch
public import proofs.«01_k».proof.Proof.Gen.WOut.Points
public import proofs.«01_k».proof.Proof.Gen.WOut.Frame
public import proofs.«01_k».proof.Proof.Gen.WOutIdeal.Value
public import proofs.«01_k».proof.Proof.Gen.WOutRefIdeal
public import proofs.«01_k».proof.Proof.Gen.WOutRefIdeal.Run
public import proofs.«01_k».proof.Proof.Gen.WOutRefIdeal.Read
public import proofs.«01_k».proof.Proof.Gen.WPleGate
public import proofs.«01_k».proof.Proof.Gen.WPleGate.Skeleton
public import proofs.«01_k».proof.Proof.Gen.WPleGate.Launch
public import proofs.«01_k».proof.Proof.Gen.WPleGate.Points
public import proofs.«01_k».proof.Proof.Gen.WPleGate.Frame
public import proofs.«01_k».proof.Proof.Gen.WPleGateIdeal.Value
public import proofs.«01_k».proof.Proof.Gen.WPleGateRefIdeal
public import proofs.«01_k».proof.Proof.Gen.WPleGateRefIdeal.Run
public import proofs.«01_k».proof.Proof.Gen.WPleGateRefIdeal.Read
public import proofs.«01_k».proof.Proof.Gen.WBranch
public import proofs.«01_k».proof.Proof.Gen.WBranch.Skeleton
public import proofs.«01_k».proof.Proof.Gen.WBranch.Launch
public import proofs.«01_k».proof.Proof.Gen.WBranch.Points
public import proofs.«01_k».proof.Proof.Gen.WBranch.Frame
public import proofs.«01_k».proof.Proof.Gen.WBranchIdeal.Value
public import proofs.«01_k».proof.Proof.Gen.WBranchRefIdeal
public import proofs.«01_k».proof.Proof.Gen.WBranchRefIdeal.Run
public import proofs.«01_k».proof.Proof.Gen.WBranchRefIdeal.Read
public import proofs.«01_k».proof.Proof.Gen.WPleProj
public import proofs.«01_k».proof.Proof.Gen.WPleProj.Skeleton
public import proofs.«01_k».proof.Proof.Gen.WPleProj.Launch
public import proofs.«01_k».proof.Proof.Gen.WPleProj.Points
public import proofs.«01_k».proof.Proof.Gen.WPleProj.Frame
public import proofs.«01_k».proof.Proof.Gen.WPleProjIdeal.Value
public import proofs.«01_k».proof.Proof.Gen.WPleProjRefIdeal
public import proofs.«01_k».proof.Proof.Gen.WPleProjRefIdeal.Run
public import proofs.«01_k».proof.Proof.Gen.WPleProjRefIdeal.Read
public import proofs.«01_k».proof.Proof.Gen.DFfnOut
public import proofs.«01_k».proof.Proof.Gen.DFfnOut.Skeleton
public import proofs.«01_k».proof.Proof.Gen.DFfnOut.Launch
public import proofs.«01_k».proof.Proof.Gen.DFfnOut.Points
public import proofs.«01_k».proof.Proof.Gen.DFfnOut.Frame
public import proofs.«01_k».proof.Proof.Gen.DFfnOutIdeal.Value
public import proofs.«01_k».proof.Proof.Gen.DFfnOutRefIdeal
public import proofs.«01_k».proof.Proof.Gen.DFfnOutRefIdeal.Run
public import proofs.«01_k».proof.Proof.Gen.DFfnOutRefIdeal.Read
public import proofs.«01_k».proof.Proof.Gen.DOutProj
public import proofs.«01_k».proof.Proof.Gen.DOutProj.Skeleton
public import proofs.«01_k».proof.Proof.Gen.DOutProj.Launch
public import proofs.«01_k».proof.Proof.Gen.DOutProj.Points
public import proofs.«01_k».proof.Proof.Gen.DOutProj.Frame
public import proofs.«01_k».proof.Proof.Gen.DOutProjIdeal.Value
public import proofs.«01_k».proof.Proof.Gen.DOutProjRefIdeal
public import proofs.«01_k».proof.Proof.Gen.DOutProjRefIdeal.Run
public import proofs.«01_k».proof.Proof.Gen.DOutProjRefIdeal.Read
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal.Value
public import proofs.«01_k».proof.Proof.Gen.FwdInRefIdeal
public import proofs.«01_k».proof.Proof.Gen.FwdInRefIdeal.Run
public import proofs.«01_k».proof.Proof.Gen.FwdInRefIdeal.Read
public import proofs.«01_k».proof.Proof.Gen.FwdFfnIn
public import proofs.«01_k».proof.Proof.Gen.FwdFfnIn.Skeleton
public import proofs.«01_k».proof.Proof.Gen.FwdFfnIn.Launch
public import proofs.«01_k».proof.Proof.Gen.FwdFfnIn.Points
public import proofs.«01_k».proof.Proof.Gen.FwdFfnIn.Frame
public import proofs.«01_k».proof.Proof.Gen.FwdFfnInIdeal.Value
public import proofs.«01_k».proof.Proof.Gen.FwdFfnInRefIdeal
public import proofs.«01_k».proof.Proof.Gen.FwdFfnInRefIdeal.Run
public import proofs.«01_k».proof.Proof.Gen.FwdFfnInRefIdeal.Read
public import proofs.«01_k».proof.Proof.Gen.FwdFfnOut
public import proofs.«01_k».proof.Proof.Gen.FwdFfnOut.Skeleton
public import proofs.«01_k».proof.Proof.Gen.FwdFfnOut.Launch
public import proofs.«01_k».proof.Proof.Gen.FwdFfnOut.Points
public import proofs.«01_k».proof.Proof.Gen.FwdFfnOut.Frame
public import proofs.«01_k».proof.Proof.Gen.FwdFfnOutIdeal.Value
public import proofs.«01_k».proof.Proof.Gen.FwdFfnOutRefIdeal
public import proofs.«01_k».proof.Proof.Gen.FwdFfnOutRefIdeal.Run
public import proofs.«01_k».proof.Proof.Gen.FwdFfnOutRefIdeal.Read
public import proofs.«01_k».proof.Proof.Gen.FwdGate
public import proofs.«01_k».proof.Proof.Gen.FwdGate.Skeleton
public import proofs.«01_k».proof.Proof.Gen.FwdGate.Launch
public import proofs.«01_k».proof.Proof.Gen.FwdGate.Points
public import proofs.«01_k».proof.Proof.Gen.FwdGate.Frame
public import proofs.«01_k».proof.Proof.Gen.FwdGateIdeal.Value
public import proofs.«01_k».proof.Proof.Gen.FwdGateRefIdeal
public import proofs.«01_k».proof.Proof.Gen.FwdGateRefIdeal.Run
public import proofs.«01_k».proof.Proof.Gen.FwdGateRefIdeal.Read
public import proofs.«01_k».proof.Proof.Gen.FwdPleOut
public import proofs.«01_k».proof.Proof.Gen.FwdPleOut.Skeleton
public import proofs.«01_k».proof.Proof.Gen.FwdPleOut.Launch
public import proofs.«01_k».proof.Proof.Gen.FwdPleOut.Points
public import proofs.«01_k».proof.Proof.Gen.FwdPleOut.Frame
public import proofs.«01_k».proof.Proof.Gen.FwdPleOutIdeal.Value
public import proofs.«01_k».proof.Proof.Gen.FwdPleOutRefIdeal
public import proofs.«01_k».proof.Proof.Gen.FwdPleOutRefIdeal.Run
public import proofs.«01_k».proof.Proof.Gen.FwdPleOutRefIdeal.Read
public import proofs.«01_k».proof.Proof.Gen.FwdMerge
public import proofs.«01_k».proof.Proof.Gen.FwdMerge.Skeleton
public import proofs.«01_k».proof.Proof.Gen.FwdMerge.Launch
public import proofs.«01_k».proof.Proof.Gen.FwdMerge.Points
public import proofs.«01_k».proof.Proof.Gen.FwdMerge.Frame
public import proofs.«01_k».proof.Proof.Gen.FwdMergeIdeal.Value
public import proofs.«01_k».proof.Proof.Gen.FwdMergeRefIdeal
public import proofs.«01_k».proof.Proof.Gen.FwdMergeRefIdeal.Run
public import proofs.«01_k».proof.Proof.Gen.FwdMergeRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.FwdConv
public import proofs.«01_k».proof.Proof.Gen.FwdConv.Skeleton
public import proofs.«01_k».proof.Proof.Gen.FwdConv.Launch
public import proofs.«01_k».proof.Proof.Gen.FwdConv.Points
public import proofs.«01_k».proof.Proof.Gen.FwdConv.Frame
public import proofs.«01_k».proof.Proof.Gen.FwdConvIdeal.Value
public import proofs.«01_k».proof.Proof.Gen.FwdConvRefIdeal
public import proofs.«01_k».proof.Proof.Gen.FwdConvRefIdeal.Run
public import proofs.«01_k».proof.Proof.Gen.FwdConvRefIdeal.Read
public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.FfnClaim
public import proofs.«01_k».proof.Proof.InProjClaim
public import proofs.«01_k».proof.Proof.PleClaim
public import proofs.«01_k».proof.Proof.MergeClaim
public import proofs.«01_k».proof.Proof.ForwardClaims
public import proofs.«01_k».proof.Proof.ConvClaims
public import proofs.«01_k».proof.Proof.WeightGradClaims
public import proofs.«01_k».proof.Proof.ProductGradClaims
public import Idealize.ShloMosaic.Adequacy
public import Idealize.ShloMosaic.Init

@[expose] public section

noncomputable section

namespace Cert.Proof

open Idealize.ShloMosaic Idealize.SL.Sem Cert.Merge

/-- The frames of the programs, the idealizations (they rewrite nothing) and the value claims. -/
theorem claim : Cert.Claim := ⟨Cert.Merge.Gen.facts, Cert.MergeIdeal.Gen.facts, Cert.MergeRefIdeal.Gen.facts,
  Cert.Ffn.Gen.facts, Cert.FfnIdeal.Gen.facts, Cert.FfnRefIdeal.Gen.facts,
  Cert.InProj.Gen.facts, Cert.InProjIdeal.Gen.facts, Cert.InProjRefIdeal.Gen.facts,
  Cert.Ple.Gen.facts, Cert.PleIdeal.Gen.facts, Cert.PleRefIdeal.Gen.facts,
  Cert.WFfnIn.Gen.facts, Cert.WFfnInIdeal.Gen.facts, Cert.WFfnInRefIdeal.Gen.facts,
  Cert.WFfnOut.Gen.facts, Cert.WFfnOutIdeal.Gen.facts, Cert.WFfnOutRefIdeal.Gen.facts,
  Cert.WGates.Gen.facts, Cert.WGatesIdeal.Gen.facts, Cert.WGatesRefIdeal.Gen.facts,
  Cert.WBranches.Gen.facts, Cert.WBranchesIdeal.Gen.facts, Cert.WBranchesRefIdeal.Gen.facts,
  Cert.WOut.Gen.facts, Cert.WOutIdeal.Gen.facts, Cert.WOutRefIdeal.Gen.facts,
  Cert.WPleGate.Gen.facts, Cert.WPleGateIdeal.Gen.facts, Cert.WPleGateRefIdeal.Gen.facts,
  Cert.WBranch.Gen.facts, Cert.WBranchIdeal.Gen.facts, Cert.WBranchRefIdeal.Gen.facts,
  Cert.WPleProj.Gen.facts, Cert.WPleProjIdeal.Gen.facts, Cert.WPleProjRefIdeal.Gen.facts,
  Cert.DFfnOut.Gen.facts, Cert.DFfnOutIdeal.Gen.facts, Cert.DFfnOutRefIdeal.Gen.facts,
  Cert.DOutProj.Gen.facts, Cert.DOutProjIdeal.Gen.facts, Cert.DOutProjRefIdeal.Gen.facts,
  Cert.FwdIn.Gen.facts, Cert.FwdInIdeal.Gen.facts, Cert.FwdInRefIdeal.Gen.facts,
  Cert.FwdFfnIn.Gen.facts, Cert.FwdFfnInIdeal.Gen.facts, Cert.FwdFfnInRefIdeal.Gen.facts,
  Cert.FwdFfnOut.Gen.facts, Cert.FwdFfnOutIdeal.Gen.facts, Cert.FwdFfnOutRefIdeal.Gen.facts,
  Cert.FwdGate.Gen.facts, Cert.FwdGateIdeal.Gen.facts, Cert.FwdGateRefIdeal.Gen.facts,
  Cert.FwdPleOut.Gen.facts, Cert.FwdPleOutIdeal.Gen.facts, Cert.FwdPleOutRefIdeal.Gen.facts,
  Cert.FwdMerge.Gen.facts, Cert.FwdMergeIdeal.Gen.facts, Cert.FwdMergeRefIdeal.Gen.facts,
  Cert.Conv.Gen.facts, Cert.ConvIdeal.Gen.facts, Cert.ConvRefIdeal.Gen.facts,
  Cert.FwdConv.Gen.facts, Cert.FwdConvIdeal.Gen.facts, Cert.FwdConvRefIdeal.Gen.facts,
  Cert.Pre_ffn_finite.Gen.facts, Cert.Pre_inp_finite.Gen.facts, Cert.Pre_ple_finite.Gen.facts,
  fun m ρ _ => Cert.Merge.Gen.frame m ρ, fun m ρ _ => Cert.MergeIdeal.Gen.frame m ρ, frame_merge_ref,
  fun m ρ _ => Cert.Ffn.Gen.frame m ρ, fun m ρ _ => Cert.FfnIdeal.Gen.frame m ρ, frame_ffn_pre, frame_ffn_ref, frame_ffn_ref_pre,
  fun m ρ _ => Cert.InProj.Gen.frame m ρ, fun m ρ _ => Cert.InProjIdeal.Gen.frame m ρ, frame_inp_pre, frame_inp_ref, frame_inp_ref_pre,
  fun m ρ _ => Cert.Ple.Gen.frame m ρ, fun m ρ _ => Cert.PleIdeal.Gen.frame m ρ, frame_ple_pre, frame_ple_ref, frame_ple_ref_pre,
  fun m ρ _ => Cert.WFfnIn.Gen.frame m ρ, fun m ρ _ => Cert.WFfnInIdeal.Gen.frame m ρ, frame_ffn_in_ref,
  fun m ρ _ => Cert.WFfnOut.Gen.frame m ρ, fun m ρ _ => Cert.WFfnOutIdeal.Gen.frame m ρ, frame_ffn_out_ref,
  fun m ρ _ => Cert.WGates.Gen.frame m ρ, fun m ρ _ => Cert.WGatesIdeal.Gen.frame m ρ, frame_gates_ref,
  fun m ρ _ => Cert.WBranches.Gen.frame m ρ, fun m ρ _ => Cert.WBranchesIdeal.Gen.frame m ρ, frame_branches_ref,
  fun m ρ _ => Cert.WOut.Gen.frame m ρ, fun m ρ _ => Cert.WOutIdeal.Gen.frame m ρ, frame_out_ref,
  fun m ρ _ => Cert.WPleGate.Gen.frame m ρ, fun m ρ _ => Cert.WPleGateIdeal.Gen.frame m ρ, frame_ple_gate_ref,
  fun m ρ _ => Cert.WBranch.Gen.frame m ρ, fun m ρ _ => Cert.WBranchIdeal.Gen.frame m ρ, frame_branch_ref,
  fun m ρ _ => Cert.WPleProj.Gen.frame m ρ, fun m ρ _ => Cert.WPleProjIdeal.Gen.frame m ρ, frame_ple_proj_ref,
  fun m ρ _ => Cert.DFfnOut.Gen.frame m ρ, fun m ρ _ => Cert.DFfnOutIdeal.Gen.frame m ρ, frame_d_ffn_out_ref,
  fun m ρ _ => Cert.DOutProj.Gen.frame m ρ, fun m ρ _ => Cert.DOutProjIdeal.Gen.frame m ρ, frame_d_out_proj_ref,
  fun m ρ _ => Cert.FwdIn.Gen.frame m ρ, fun m ρ _ => Cert.FwdInIdeal.Gen.frame m ρ, frame_fwd_in_ref,
  fun m ρ _ => Cert.FwdFfnIn.Gen.frame m ρ, fun m ρ _ => Cert.FwdFfnInIdeal.Gen.frame m ρ, frame_fwd_ffn_in_ref,
  fun m ρ _ => Cert.FwdFfnOut.Gen.frame m ρ, fun m ρ _ => Cert.FwdFfnOutIdeal.Gen.frame m ρ, frame_fwd_ffn_out_ref,
  fun m ρ _ => Cert.FwdGate.Gen.frame m ρ, fun m ρ _ => Cert.FwdGateIdeal.Gen.frame m ρ, frame_fwd_gate_ref,
  fun m ρ _ => Cert.FwdPleOut.Gen.frame m ρ, fun m ρ _ => Cert.FwdPleOutIdeal.Gen.frame m ρ, frame_fwd_ple_out_ref,
  fun m ρ _ => Cert.FwdMerge.Gen.frame m ρ, fun m ρ _ => Cert.FwdMergeIdeal.Gen.frame m ρ, frame_fwd_merge_ref,
  fun m ρ _ => Cert.Conv.Gen.frame m ρ, fun m ρ _ => Cert.ConvIdeal.Gen.frame m ρ, frame_conv_ref,
  fun m ρ _ => Cert.FwdConv.Gen.frame m ρ, fun m ρ _ => Cert.FwdConvIdeal.Gen.frame m ρ, frame_fwd_conv_ref,
  trivial, algebraic_merge, trivial, algebraic_ffn, trivial, algebraic_inp, trivial, algebraic_ple,
  trivial, algebraic_ffn_in,
  trivial, algebraic_ffn_out,
  trivial, algebraic_gates,
  trivial, algebraic_branches,
  trivial, algebraic_out,
  trivial, algebraic_ple_gate,
  trivial, algebraic_branch,
  trivial, algebraic_ple_proj,
  trivial, algebraic_d_ffn_out,
  trivial, algebraic_d_out_proj,
  trivial, algebraic_fwd_in,
  trivial, algebraic_fwd_ffn_in,
  trivial, algebraic_fwd_ffn_out,
  trivial, algebraic_fwd_gate,
  trivial, algebraic_fwd_ple_out,
  trivial, algebraic_fwd_merge,
  trivial, algebraic_conv,
  trivial, algebraic_fwd_conv⟩

end Cert.Proof

end
